-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v5)) (v3 : (c : Dev Cert.Kernel2Ideal.nD) → Buf (Elt Ideal) ((c.tc : Thread Cert.Kernel2Ideal.nD Cert.Kernel2Ideal.τ).loc Cert.Kernel2Ideal.main_v3)) (v4 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v5) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_v7) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v28) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v11)) (v4 : (c : Dev Cert.Kernel3Ideal.nD) → Buf (Elt Ideal) ((c.tc : Thread Cert.Kernel3Ideal.nD Cert.Kernel3Ideal.τ).loc Cert.Kernel3Ideal.main_v12)) (v5 : (c : Dev Cert.Kernel3Ideal.nD) → Buf (Elt Ideal) ((c.tc : Thread Cert.Kernel3Ideal.nD Cert.Kernel3Ideal.τ).loc Cert.Kernel3Ideal.main_v13)) (v6 : (c : Dev Cert.Kernel3Ideal.nD) → Buf (Elt Ideal) ((c.tc : Thread Cert.Kernel3Ideal.nD Cert.Kernel3Ideal.τ).loc Cert.Kernel3Ideal.main_v14)) (v7 : (c : Dev Cert.Kernel3Ideal.nD) → Buf (Elt Ideal) ((c.tc : Thread Cert.Kernel3Ideal.nD Cert.Kernel3Ideal.τ).loc Cert.Kernel3Ideal.main_v15)) (v8 : (c : Dev Cert.Kernel3Ideal.nD) → Buf (Elt Ideal) ((c.tc : Thread Cert.Kernel3Ideal.nD Cert.Kernel3Ideal.τ).loc Cert.Kernel3Ideal.main_v16)) (v9 : (c : Dev Cert.Kernel3Ideal.nD) → Buf (Elt Ideal) ((c.tc : Thread Cert.Kernel3Ideal.nD Cert.Kernel3Ideal.τ).loc Cert.Kernel3Ideal.main_v17)) (v10 : (c : Dev Cert.Kernel3Ideal.nD) → Buf (Elt Ideal) ((c.tc : Thread Cert.Kernel3Ideal.nD Cert.Kernel3Ideal.τ).loc Cert.Kernel3Ideal.main_v18)) (v11 : (c : Dev Cert.Kernel3Ideal.nD) → Buf (Elt Ideal) ((c.tc : Thread Cert.Kernel3Ideal.nD Cert.Kernel3Ideal.τ).loc Cert.Kernel3Ideal.main_v19_0)) (v12 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v11) = v3 c
          ∧ r.2.mem ((c.tc : Thread Cert.Kernel3Ideal.nD Cert.Kernel3Ideal.τ).loc Cert.Kernel3Ideal.main_v12) = v4 c
          ∧ r.2.mem ((c.tc : Thread Cert.Kernel3Ideal.nD Cert.Kernel3Ideal.τ).loc Cert.Kernel3Ideal.main_v13) = v5 c
          ∧ r.2.mem ((c.tc : Thread Cert.Kernel3Ideal.nD Cert.Kernel3Ideal.τ).loc Cert.Kernel3Ideal.main_v14) = v6 c
          ∧ r.2.mem ((c.tc : Thread Cert.Kernel3Ideal.nD Cert.Kernel3Ideal.τ).loc Cert.Kernel3Ideal.main_v15) = v7 c
          ∧ r.2.mem ((c.tc : Thread Cert.Kernel3Ideal.nD Cert.Kernel3Ideal.τ).loc Cert.Kernel3Ideal.main_v16) = v8 c
          ∧ r.2.mem ((c.tc : Thread Cert.Kernel3Ideal.nD Cert.Kernel3Ideal.τ).loc Cert.Kernel3Ideal.main_v17) = v9 c
          ∧ r.2.mem ((c.tc : Thread Cert.Kernel3Ideal.nD Cert.Kernel3Ideal.τ).loc Cert.Kernel3Ideal.main_v18) = v10 c
          ∧ r.2.mem ((c.tc : Thread Cert.Kernel3Ideal.nD Cert.Kernel3Ideal.τ).loc Cert.Kernel3Ideal.main_v19_0) = v11 c
          ∧ r.2.mem ((c.tc : Thread Cert.Kernel3Ideal.nD Cert.Kernel3Ideal.τ).loc Cert.Kernel3Ideal.main_v20) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_v10) = v4 c
          ∧ r.2.mem ((c.tc : Thread Cert.Reference3Ideal.nD Cert.Reference3Ideal.τ).loc Cert.Reference3Ideal.main_v62) = v5 c
          ∧ r.2.mem ((c.tc : Thread Cert.Reference3Ideal.nD Cert.Reference3Ideal.τ).loc Cert.Reference3Ideal.main_v63) = v6 c
          ∧ r.2.mem ((c.tc : Thread Cert.Reference3Ideal.nD Cert.Reference3Ideal.τ).loc Cert.Reference3Ideal.main_v64) = v7 c
          ∧ r.2.mem ((c.tc : Thread Cert.Reference3Ideal.nD Cert.Reference3Ideal.τ).loc Cert.Reference3Ideal.main_v65) = v8 c
          ∧ r.2.mem ((c.tc : Thread Cert.Reference3Ideal.nD Cert.Reference3Ideal.τ).loc Cert.Reference3Ideal.main_v66) = v9 c
          ∧ r.2.mem ((c.tc : Thread Cert.Reference3Ideal.nD Cert.Reference3Ideal.τ).loc Cert.Reference3Ideal.main_v34) = v10 c
          ∧ r.2.mem ((c.tc : Thread Cert.Reference3Ideal.nD Cert.Reference3Ideal.τ).loc Cert.Reference3Ideal.main_v67) = v11 c
          ∧ r.2.mem ((c.tc : Thread Cert.Reference3Ideal.nD Cert.Reference3Ideal.τ).loc Cert.Reference3Ideal.main_v70) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_inputs.lean ====
abbrev S8192x1024 : Shape := ⟨2, ![8192, 1024]⟩
abbrev S1024x3072 : Shape := ⟨2, ![1024, 3072]⟩
abbrev S3072x1024 : Shape := ⟨2, ![3072, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x3072 : S_.BroadcastsInDim S1024x3072 (![] : Fin 0 → Fin S1024x3072.rank)
  bcast_S_S3072x1024 : S_.BroadcastsInDim S3072x1024 (![] : Fin 0 → Fin S3072x1024.rank)

variable [Facts]

def fn_part1 {F : FTy → Type} [FloatOps F] (main_arg4 : FVec F S8192x1024 .f32) (main_v7 : IVec S8192x1024 1) (main_v12 : IVec S1024x3072 1) (main_v17 : IVec S3072x1024 1) : IVec S8192x1024 1 × IVec S1024x3072 1 × IVec S3072x1024 1 × IVec S8192x1024 1 :=
  let main_cst_5 : FVec F S_ .f32 := constant S_ .f32 0xFF800000#32
  let main_v18 : FVec F S8192x1024 .f32 := broadcastInDim S8192x1024 ![] bcast_S_S8192x1024 main_cst_5
  let main_v19 : IVec S8192x1024 1 := cmpf .ogt main_arg4 main_v18
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_arg4 main_v20
  let main_v22 : IVec S8192x1024 1 := andi main_v19 main_v21
  (main_v7, main_v12, main_v17, main_v22)

def fn {F : FTy → Type} [FloatOps F] (main_arg0 : FVec F S8192x1024 .bf16) (main_arg1 : FVec F S1024x3072 .bf16) (main_arg2 : FVec F S1024x3072 .bf16) (main_arg3 : FVec F S3072x1024 .bf16) (main_arg4 : FVec F S8192x1024 .f32) (main_arg5 : FVec F S8192x1024 .f32) : IVec S8192x1024 1 × IVec S1024x3072 1 × IVec S3072x1024 1 × IVec S8192x1024 1 :=
  let main_v0 : FVec F S8192x1024 .f32 := (extf .f32 · bitsLt_bf16_f32) main_arg0
  let main_v1 : FVec F S1024x3072 .f32 := (extf .f32 · bitsLt_bf16_f32) main_arg2
  let main_v2 : FVec F S3072x1024 .f32 := (extf .f32 · bitsLt_bf16_f32) main_arg3
  let main_cst : FVec F S_ .f32 := constant S_ .f32 0xFF800000#32
  let main_v3 : FVec F S8192x1024 .f32 := broadcastInDim S8192x1024 ![] bcast_S_S8192x1024 main_cst
  let main_v4 : IVec S8192x1024 1 := cmpf .ogt main_v0 main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v0 main_v5
  let main_v7 : IVec S8192x1024 1 := andi main_v4 main_v6
  let main_cst_1 : FVec F S_ .f32 := constant S_ .f32 0xFF800000#32
  let main_v8 : FVec F S1024x3072 .f32 := broadcastInDim S1024x3072 ![] bcast_S_S1024x3072 main_cst_1
  let main_v9 : IVec S1024x3072 1 := cmpf .ogt main_v1 main_v8
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v1 main_v10
  let main_v12 : IVec S1024x3072 1 := andi main_v9 main_v11
  let main_cst_3 : FVec F S_ .f32 := constant S_ .f32 0xFF800000#32
  let main_v13 : FVec F S3072x1024 .f32 := broadcastInDim S3072x1024 ![] bcast_S_S3072x1024 main_cst_3
  let main_v14 : IVec S3072x1024 1 := cmpf .ogt main_v2 main_v13
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v2 main_v15
  let main_v17 : IVec S3072x1024 1 := andi main_v14 main_v16
  fn_part1 (F := F) main_arg4 main_v7 main_v12 main_v17
-- ==== Kernel.lean ====
abbrev S8192x256 : Shape := ⟨2, ![8192, 256]⟩
abbrev S8192x4096 : Shape := ⟨2, ![8192, 4096]⟩
abbrev S256x1024 : Shape := ⟨2, ![256, 1024]⟩
abbrev S1024x1024 : Shape := ⟨2, ![1024, 1024]⟩
abbrev S8192x1024 : Shape := ⟨2, ![8192, 1024]⟩
abbrev S1x256x1024 : Shape := ⟨3, ![1, 256, 1024]⟩
abbrev S4x256x1024 : Shape := ⟨3, ![4, 256, 1024]⟩
abbrev S256x256 : Shape := ⟨2, ![256, 256]⟩
abbrev S256x4096 : Shape := ⟨2, ![256, 4096]⟩

abbrev nBuf : Space → Nat
  | .hbm => 25
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S4x256x1024, .bf16⟩
  | .hbm, ⟨17, _⟩ => ⟨S8192x1024, .bf16⟩
  | .hbm, ⟨18, _⟩ => ⟨S1024x1024, .bf16⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x4096, .bf16⟩
  | .hbm, ⟨24, _⟩ => ⟨S4x256x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4x256x1024, .bf16⟩
  | .local _ .vmem, ⟨13, _⟩ => ⟨S1024x1024, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x4096, .bf16⟩
  | .local _ .vmem, ⟨23, _⟩ => ⟨S256x4096, .bf16⟩
  | .local _ .vmem, ⟨24, _⟩ => ⟨S4x256x1024, .bf16⟩
  | .local _ .vmem, ⟨25, _⟩ => ⟨S4x256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v116 : BitVec 1 := Scalar.cmpi .eq arg0 c31_i32
  let v117 : BitVec 32 := Scalar.extui v116
  let c0_i32_94 : BitVec 32 := 0#32
  let v118 : BitVec 1 := Scalar.cmpi .ne v117 c0_i32_94
  v118

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x256 : Shape := ⟨2, ![8192, 256]⟩
abbrev S8192x4096 : Shape := ⟨2, ![8192, 4096]⟩
abbrev S256x1024 : Shape := ⟨2, ![256, 1024]⟩
abbrev S1024x1024 : Shape := ⟨2, ![1024, 1024]⟩
abbrev S8192x1024 : Shape := ⟨2, ![8192, 1024]⟩
abbrev S_ : Shape := ⟨0, ![]⟩
abbrev S8192x4x1024 : Shape := ⟨3, ![8192, 4, 1024]⟩
abbrev S8192x1x1024 : Shape := ⟨3, ![8192, 1, 1024]⟩
abbrev S1024x256 : Shape := ⟨2, ![1024, 256]⟩
abbrev S1x256x1024 : Shape := ⟨3, ![1, 256, 1024]⟩
abbrev S4x256x1024 : Shape := ⟨3, ![4, 256, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1x1024, .f32⟩
  | .hbm, ⟨50, _⟩ => ⟨S_, .f32⟩
  | .hbm, ⟨51, _⟩ => ⟨S8192x4x1024, .f32⟩
  | .hbm, ⟨52, _⟩ => ⟨S8192x1024, .f32⟩
  | .hbm, ⟨53, _⟩ => ⟨S8192x1024, .f32⟩
  | .hbm, ⟨54, _⟩ => ⟨S8192x1x1024, .f32⟩
  | .hbm, ⟨55, _⟩ => ⟨S_, .f32⟩
  | .hbm, ⟨56, _⟩ => ⟨S8192x4x1024, .f32⟩
  | .hbm, ⟨57, _⟩ => ⟨S8192x4x1024, .f32⟩
  | .hbm, ⟨58, _⟩ => ⟨S8192x1024, .f32⟩
  | .hbm, ⟨59, _⟩ => ⟨S8192x1024, .f32⟩
  | .hbm, ⟨60, _⟩ => ⟨S8192x1x1024, .f32⟩
  | .hbm, ⟨61, _⟩ => ⟨S_, .f32⟩
  | .hbm, ⟨62, _⟩ => ⟨S8192x4x1024, .f32⟩
  | .hbm, ⟨63, _⟩ => ⟨S8192x4x1024, .f32⟩
  | .hbm, ⟨64, _⟩ => ⟨S8192x1024, .f32⟩
  | .hbm, ⟨65, _⟩ => ⟨S8192x1024, .f32⟩
  | .hbm, ⟨66, _⟩ => ⟨S8192x1x1024, .f32⟩
  | .hbm, ⟨67, _⟩ => ⟨S_, .f32⟩
  | .hbm, ⟨68, _⟩ => ⟨S8192x4x1024, .f32⟩
  | .hbm, ⟨69, _⟩ => ⟨S8192x4x1024, .f32⟩
  | .hbm, ⟨70, _⟩ => ⟨S8192x4096, .f32⟩
  | .hbm, ⟨71, _⟩ => ⟨S8192x4096, .f32⟩
  | .hbm, ⟨72, _⟩ => ⟨S1024x256, .f32⟩
  | .hbm, ⟨73, _⟩ => ⟨S256x1024, .f32⟩
  | .hbm, ⟨74, _⟩ => ⟨S8192x256, .f32⟩
  | .hbm, ⟨75, _⟩ => ⟨S1024x256, .f32⟩
  | .hbm, ⟨76, _⟩ => ⟨S256x1024, .f32⟩
  | .hbm, ⟨77, _⟩ => ⟨S8192x256, .f32⟩
  | .hbm, ⟨78, _⟩ => ⟨S1024x256, .f32⟩
  | .hbm, ⟨79, _⟩ => ⟨S256x1024, .f32⟩
  | .hbm, ⟨80, _⟩ => ⟨S8192x256, .f32⟩
  | .hbm, ⟨81, _⟩ => ⟨S1024x256, .f32⟩
  | .hbm, ⟨82, _⟩ => ⟨S256x1024, .f32⟩
  | .hbm, ⟨83, _⟩ => ⟨S8192x256, .f32⟩
  | .hbm, ⟨84, _⟩ => ⟨S8192x4096, .bf16⟩
  | .hbm, ⟨85, _⟩ => ⟨S1x256x1024, .f32⟩
  | .hbm, ⟨86, _⟩ => ⟨S1x256x1024, .f32⟩
  | .hbm, ⟨87, _⟩ => ⟨S1x256x1024, .f32⟩
  | .hbm, ⟨88, _⟩ => ⟨S1x256x1024, .f32⟩
  | .hbm, ⟨89, _⟩ => ⟨S4x256x1024, .f32⟩
  | .hbm, ⟨90, _⟩ => ⟨S4x256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S1024x3072 : Shape := ⟨2, ![1024, 3072]⟩
abbrev S3072x1024 : Shape := ⟨2, ![3072, 1024]⟩
abbrev S8192x3072 : Shape := ⟨2, ![8192, 3072]⟩
abbrev S512x1024 : Shape := ⟨2, ![512, 1024]⟩
abbrev S1024x768 : Shape := ⟨2, ![1024, 768]⟩
abbrev S512x768 : Shape := ⟨2, ![512, 768]⟩
abbrev S768x1024 : Shape := ⟨2, ![768, 1024]⟩
abbrev S2048x1024 : Shape := ⟨2, ![2048, 1024]⟩
abbrev S1024x1024 : Shape := ⟨2, ![1024, 1024]⟩

abbrev nBuf : Space → Nat
  | .hbm => 17
  | .vmem => 65
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S3072x1024, .bf16⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x3072, .bf16⟩
  | .hbm, ⟨8, _⟩ => ⟨S8192x3072, .bf16⟩
  | .hbm, ⟨9, _⟩ => ⟨S8192x3072, .bf16⟩
  | .hbm, ⟨10, _⟩ => ⟨S8192x3072, .bf16⟩
  | .hbm, ⟨11, _⟩ => ⟨S8192x3072, .bf16⟩
  | .hbm, ⟨12, _⟩ => ⟨S3072x1024, .bf16⟩
  | .hbm, ⟨13, _⟩ => ⟨S1024x3072, .bf16⟩
  | .hbm, ⟨14, _⟩ => ⟨S1024x3072, .bf16⟩
  | .hbm, ⟨15, _⟩ => ⟨S8192x1024, .f32⟩
  | .hbm, ⟨16, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x1024, .bf16⟩
  | .local _ .vmem, ⟨13, _⟩ => ⟨S512x1024, .bf16⟩
  | .local _ .vmem, ⟨14, _⟩ => ⟨S768x1024, .bf16⟩
  | .local _ .vmem, ⟨15, _⟩ => ⟨S768x1024, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S2048x1024, .bf16⟩
  | .local _ .vmem, ⟨25, _⟩ => ⟨S2048x1024, .bf16⟩
  | .local _ .vmem, ⟨26, _⟩ => ⟨S2048x1024, .bf16⟩
  | .local _ .vmem, ⟨27, _⟩ => ⟨S2048x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .f32⟩
  | .local _ .vmem, ⟨38, _⟩ => ⟨S2048x1024, .bf16⟩
  | .local _ .vmem, ⟨39, _⟩ => ⟨S2048x1024, .bf16⟩
  | .local _ .vmem, ⟨40, _⟩ => ⟨S2048x1024, .bf16⟩
  | .local _ .vmem, ⟨41, _⟩ => ⟨S2048x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x1024, .f32⟩
  | .local _ .vmem, ⟨45, _⟩ => ⟨S1024x1024, .bf16⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1024x1024, .bf16⟩
  | .local _ .vmem, ⟨51, _⟩ => ⟨S1024x1024, .bf16⟩
  | .local _ .vmem, ⟨52, _⟩ => ⟨S1024x1024, .bf16⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S1024x1024, .bf16⟩
  | .local _ .vmem, ⟨57, _⟩ => ⟨S1024x1024, .bf16⟩
  | .local _ .vmem, ⟨58, _⟩ => ⟨S1024x1024, .bf16⟩
  | .local _ .vmem, ⟨59, _⟩ => ⟨S1024x1024, .bf16⟩
  | .local _ .vmem, ⟨60, _⟩ => ⟨S1024x1024, .f32⟩
  | .local _ .vmem, ⟨61, _⟩ => ⟨S1024x1024, .f32⟩
  | .local _ .vmem, ⟨62, _⟩ => ⟨S1024x1024, .f32⟩
  | .local _ .vmem, ⟨63, _⟩ => ⟨S1024x1024, .f32⟩
  | .local _ .vmem, ⟨64, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_scratch0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_scratch0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S768x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![3, 1, 4], ![false, false, false]⟩

def k2_cond3 (i : grid2.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 3, 4], ![false, false, false]⟩

def k3_cond3 (i : grid3.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 3, 4], ![false, false, false]⟩

def k4_cond3 (i : grid4.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 6], ![false, false, false]⟩

def k5_cond4 (i : grid5.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_5 : BitVec 32 := 0#32
  let v15 : BitVec 1 := Scalar.cmpi .ne v14 c0_i32_5
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg1.toNat, v2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg1.toNat, v2.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true]

abbrev stage5_3 : Fin 2 → Memref sig .tc .vmem S1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, true]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev grid6 : Pipeline.Grid := ⟨3, ![8, 1, 3], ![false, false, false]⟩

def k6_cond3 (i : grid6.Coords) : BitVec 1 :=
  let arg2 : BitVec 32 := BitVec.ofNat 32 (i 2).val
  let c2_i32 : BitVec 32 := 2#32
  let v8 : BitVec 1 := Scalar.cmpi .eq arg2 c2_i32
  let v9 : BitVec 32 := Scalar.extui v8
  let c0_i32_3 : BitVec 32 := 0#32
  let v10 : BitVec 1 := Scalar.cmpi .ne v9 c0_i32_3
  v10

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![v2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]
-- ==== Reference2Ideal.lean ====
abbrev S8192x1024 : Shape := ⟨2, ![8192, 1024]⟩
abbrev S1024x3072 : Shape := ⟨2, ![1024, 3072]⟩
abbrev S3072x1024 : Shape := ⟨2, ![3072, 1024]⟩
abbrev S8192x3072 : Shape := ⟨2, ![8192, 3072]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S3072x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S1024x3072, .f32⟩
  | .hbm, ⟨9, _⟩ => ⟨S3072x1024, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S1024x3072, .f32⟩
  | .hbm, ⟨34, _⟩ => ⟨S3072x1024, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S3072x1024, .f32⟩
  | .hbm, ⟨39, _⟩ => ⟨S1024x3072, .f32⟩
  | .hbm, ⟨40, _⟩ => ⟨S8192x1024, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S3072x1024, .f32⟩
  | .hbm, ⟨46, _⟩ => ⟨S1024x3072, .f32⟩
  | .hbm, ⟨47, _⟩ => ⟨S8192x1024, .f32⟩
  | .hbm, ⟨48, _⟩ => ⟨S8192x1024, .f32⟩
  | .hbm, ⟨49, _⟩ => ⟨S1024x3072, .bf16⟩
  | .hbm, ⟨50, _⟩ => ⟨S1024x3072, .bf16⟩
  | .hbm, ⟨51, _⟩ => ⟨S3072x1024, .bf16⟩
  | .hbm, ⟨52, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S1024x512 : Shape := ⟨2, ![1024, 512]⟩
abbrev S1024x768 : Shape := ⟨2, ![1024, 768]⟩
abbrev S1024x896 : Shape := ⟨2, ![1024, 896]⟩
abbrev S8192x4096 : Shape := ⟨2, ![8192, 4096]⟩
abbrev S8192x512 : Shape := ⟨2, ![8192, 512]⟩
abbrev S8192x768 : Shape := ⟨2, ![8192, 768]⟩
abbrev S8192x896 : Shape := ⟨2, ![8192, 896]⟩
abbrev S8192x256 : Shape := ⟨2, ![8192, 256]⟩
abbrev S256x1024 : Shape := ⟨2, ![256, 1024]⟩
abbrev S1024x1024 : Shape := ⟨2, ![1024, 1024]⟩
abbrev S1x256x1024 : Shape := ⟨3, ![1, 256, 1024]⟩
abbrev S4x256x1024 : Shape := ⟨3, ![4, 256, 1024]⟩
abbrev S2048x1024 : Shape := ⟨2, ![2048, 1024]⟩
abbrev S2048x512 : Shape := ⟨2, ![2048, 512]⟩
abbrev S2048x768 : Shape := ⟨2, ![2048, 768]⟩
abbrev S2048x896 : Shape := ⟨2, ![2048, 896]⟩
abbrev S512x1024 : Shape := ⟨2, ![512, 1024]⟩
abbrev S512x512 : Shape := ⟨2, ![512, 512]⟩
abbrev S512x768 : Shape := ⟨2, ![512, 768]⟩
abbrev S512x896 : Shape := ⟨2, ![512, 896]⟩
abbrev S256x256 : Shape := ⟨2, ![256, 256]⟩
abbrev S256x4096 : Shape := ⟨2, ![256, 4096]⟩

abbrev nBuf : Space → Nat
  | .hbm => 44
  | .vmem => 109
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x512, .bf16⟩
  | .hbm, ⟨3, _⟩ => ⟨S1024x768, .bf16⟩
  | .hbm, ⟨4, _⟩ => ⟨S1024x512, .bf16⟩
  | .hbm, ⟨5, _⟩ => ⟨S1024x896, .bf16⟩
  | .hbm, ⟨6, _⟩ => ⟨S8192x4096, .bf16⟩
  | .hbm, ⟨7, _⟩ => ⟨S8192x512, .bf16⟩
  | .hbm, ⟨8, _⟩ => ⟨S8192x768, .bf16⟩
  | .hbm, ⟨9, _⟩ => ⟨S8192x512, .bf16⟩
  | .hbm, ⟨10, _⟩ => ⟨S8192x896, .bf16⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S4x256x1024, .f32⟩
  | .hbm, ⟨27, _⟩ => ⟨S4x256x1024, .bf16⟩
  | .hbm, ⟨28, _⟩ => ⟨S1024x1024, .bf16⟩
  | .hbm, ⟨29, _⟩ => ⟨S8192x1024, .bf16⟩
  | .hbm, ⟨30, _⟩ => ⟨S8192x4096, .f32⟩
  | .hbm, ⟨31, _⟩ => ⟨S8192x512, .f32⟩
  | .hbm, ⟨32, _⟩ => ⟨S8192x768, .f32⟩
  | .hbm, ⟨33, _⟩ => ⟨S8192x512, .f32⟩
  | .hbm, ⟨34, _⟩ => ⟨S8192x896, .f32⟩
  | .hbm, ⟨35, _⟩ => ⟨S1024x4096, .bf16⟩
  | .hbm, ⟨36, _⟩ => ⟨S1024x512, .bf16⟩
  | .hbm, ⟨37, _⟩ => ⟨S1024x768, .bf16⟩
  | .hbm, ⟨38, _⟩ => ⟨S1024x512, .bf16⟩
  | .hbm, ⟨39, _⟩ => ⟨S1024x896, .bf16⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S1024x768, .bf16⟩
  | .local _ .vmem, ⟨16, _⟩ => ⟨S1024x768, .f32⟩
  | .local _ .vmem, ⟨17, _⟩ => ⟨S1024x768, .f32⟩
  | .local _ .vmem, ⟨18, _⟩ => ⟨S1024x768, .f32⟩
  | .local _ .vmem, ⟨19, _⟩ => ⟨S1024x1024, .bf16⟩
  | .local _ .vmem, ⟨20, _⟩ => ⟨S1024x1024, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x1024, .bf16⟩
  | .local _ .vmem, ⟨26, _⟩ => ⟨S1024x1024, .bf16⟩
  | .local _ .vmem, ⟨27, _⟩ => ⟨S1024x896, .bf16⟩
  | .local _ .vmem, ⟨28, _⟩ => ⟨S1024x896, .f32⟩
  | .local _ .vmem, ⟨29, _⟩ => ⟨S1024x896, .f32⟩
  | .local _ .vmem, ⟨30, _⟩ => ⟨S1024x896, .f32⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .f32⟩
  | .local _ .vmem, ⟨38, _⟩ => ⟨S2048x1024, .bf16⟩
  | .local _ .vmem, ⟨39, _⟩ => ⟨S2048x1024, .bf16⟩
  | .local _ .vmem, ⟨40, _⟩ => ⟨S2048x512, .bf16⟩
  | .local _ .vmem, ⟨41, _⟩ => ⟨S2048x512, .bf16⟩
  | .local _ .vmem, ⟨42, _⟩ => ⟨S1024x512, .bf16⟩
  | .local _ .vmem, ⟨43, _⟩ => ⟨S1024x512, .f32⟩
  | .local _ .vmem, ⟨44, _⟩ => ⟨S2048x1024, .bf16⟩
  | .local _ .vmem, ⟨45, _⟩ => ⟨S2048x1024, .bf16⟩
  | .local _ .vmem, ⟨46, _⟩ => ⟨S2048x768, .bf16⟩
  | .local _ .vmem, ⟨47, _⟩ => ⟨S2048x768, .bf16⟩
  | .local _ .vmem, ⟨48, _⟩ => ⟨S1024x768, .bf16⟩
  | .local _ .vmem, ⟨49, _⟩ => ⟨S1024x768, .f32⟩
  | .local _ .vmem, ⟨50, _⟩ => ⟨S2048x1024, .bf16⟩
  | .local _ .vmem, ⟨51, _⟩ => ⟨S2048x1024, .bf16⟩
  | .local _ .vmem, ⟨52, _⟩ => ⟨S2048x512, .bf16⟩
  | .local _ .vmem, ⟨53, _⟩ => ⟨S2048x512, .bf16⟩
  | .local _ .vmem, ⟨54, _⟩ => ⟨S1024x512, .bf16⟩
  | .local _ .vmem, ⟨55, _⟩ => ⟨S1024x512, .f32⟩
  | .local _ .vmem, ⟨56, _⟩ => ⟨S2048x1024, .bf16⟩
  | .local _ .vmem, ⟨57, _⟩ => ⟨S2048x1024, .bf16⟩
  | .local _ .vmem, ⟨58, _⟩ => ⟨S2048x896, .bf16⟩
  | .local _ .vmem, ⟨59, _⟩ => ⟨S2048x896, .bf16⟩
  | .local _ .vmem, ⟨60, _⟩ => ⟨S1024x896, .bf16⟩
  | .local _ .vmem, ⟨61, _⟩ => ⟨S1024x896, .f32⟩
  | .local _ .vmem, ⟨62, _⟩ => ⟨S512x1024, .bf16⟩
  | .local _ .vmem, ⟨63, _⟩ => ⟨S512x1024, .bf16⟩
  | .local _ .vmem, ⟨64, _⟩ => ⟨S1024x1024, .bf16⟩
  | .local _ .vmem, ⟨65, _⟩ => ⟨S1024x1024, .bf16⟩
  | .local _ .vmem, ⟨66, _⟩ => ⟨S512x512, .bf16⟩
  | .local _ .vmem, ⟨67, _⟩ => ⟨S512x512, .bf16⟩
  | .local _ .vmem, ⟨68, _⟩ => ⟨S1024x512, .bf16⟩
  | .local _ .vmem, ⟨69, _⟩ => ⟨S1024x512, .bf16⟩
  | .local _ .vmem, ⟨70, _⟩ => ⟨S512x768, .bf16⟩
  | .local _ .vmem, ⟨71, _⟩ => ⟨S512x768, .bf16⟩
  | .local _ .vmem, ⟨72, _⟩ => ⟨S1024x768, .bf16⟩
  | .local _ .vmem, ⟨73, _⟩ => ⟨S1024x768, .bf16⟩
  | .local _ .vmem, ⟨74, _⟩ => ⟨S512x512, .bf16⟩
  | .local _ .vmem, ⟨75, _⟩ => ⟨S512x512, .bf16⟩
  | .local _ .vmem, ⟨76, _⟩ => ⟨S1024x512, .bf16⟩
  | .local _ .vmem, ⟨77, _⟩ => ⟨S1024x512, .bf16⟩
  | .local _ .vmem, ⟨78, _⟩ => ⟨S512x896, .bf16⟩
  | .local _ .vmem, ⟨79, _⟩ => ⟨S512x896, .bf16⟩
  | .local _ .vmem, ⟨80, _⟩ => ⟨S1024x896, .bf16⟩
  | .local _ .vmem, ⟨81, _⟩ => ⟨S1024x896, .bf16⟩
  | .local _ .vmem, ⟨82, _⟩ => ⟨S512x1024, .f32⟩
  | .local _ .vmem, ⟨83, _⟩ => ⟨S512x1024, .f32⟩
  | .local _ .vmem, ⟨84, _⟩ => ⟨S512x1024, .f32⟩
  | .local _ .vmem, ⟨85, _⟩ => ⟨S256x256, .f32⟩
  | .local _ .vmem, ⟨86, _⟩ => ⟨S256x256, .f32⟩
  | .local _ .vmem, ⟨87, _⟩ => ⟨S256x256, .f32⟩
  | .local _ .vmem, ⟨88, _⟩ => ⟨S256x256, .f32⟩
  | .local _ .vmem, ⟨89, _⟩ => ⟨S256x256, .f32⟩
  | .local _ .vmem, ⟨90, _⟩ => ⟨S256x256, .f32⟩
  | .local _ .vmem, ⟨91, _⟩ => ⟨S256x256, .f32⟩
  | .local _ .vmem, ⟨92, _⟩ => ⟨S256x256, .f32⟩
  | .local _ .vmem, ⟨93, _⟩ => ⟨S256x4096, .f32⟩
  | .local _ .vmem, ⟨94, _⟩ => ⟨S256x4096, .f32⟩
  | .local _ .vmem, ⟨95, _⟩ => ⟨S4x256x1024, .bf16⟩
  | .local _ .vmem, ⟨96, _⟩ => ⟨S1024x1024, .bf16⟩
  | .local _ .vmem, ⟨97, _⟩ => ⟨S256x1024, .f32⟩
  | .local _ .vmem, ⟨98, _⟩ => ⟨S256x1024, .f32⟩
  | .local _ .vmem, ⟨99, _⟩ => ⟨S256x1024, .f32⟩
  | .local _ .vmem, ⟨100, _⟩ => ⟨S256x1024, .f32⟩
  | .local _ .vmem, ⟨101, _⟩ => ⟨S256x1024, .bf16⟩
  | .local _ .vmem, ⟨102, _⟩ => ⟨S256x1024, .bf16⟩
  | .local _ .vmem, ⟨103, _⟩ => ⟨S2048x1024, .bf16⟩
  | .local _ .vmem, ⟨104, _⟩ => ⟨S2048x1024, .bf16⟩
  | .local _ .vmem, ⟨105, _⟩ => ⟨S2048x1024, .bf16⟩
  | .local _ .vmem, ⟨106, _⟩ => ⟨S2048x1024, .bf16⟩
  | .local _ .vmem, ⟨107, _⟩ => ⟨S1024x1024, .bf16⟩
  | .local _ .vmem, ⟨108, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v20 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_scratch0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_scratch0 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_scratch0 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc10_stg3_0 : Ref sig .tc := ⟨.vmem, 68, rfl⟩
abbrev cc10_stg3_1 : Ref sig .tc := ⟨.vmem, 69, rfl⟩
abbrev cc10_stg4_0 : Ref sig .tc := ⟨.vmem, 70, rfl⟩
abbrev cc10_stg4_1 : Ref sig .tc := ⟨.vmem, 71, rfl⟩
abbrev cc10_stg5_0 : Ref sig .tc := ⟨.vmem, 72, rfl⟩
abbrev cc10_stg5_1 : Ref sig .tc := ⟨.vmem, 73, rfl⟩
abbrev cc10_stg6_0 : Ref sig .tc := ⟨.vmem, 74, rfl⟩
abbrev cc10_stg6_1 : Ref sig .tc := ⟨.vmem, 75, rfl⟩
abbrev cc10_stg7_0 : Ref sig .tc := ⟨.vmem, 76, rfl⟩
abbrev cc10_stg7_1 : Ref sig .tc := ⟨.vmem, 77, rfl⟩
abbrev cc10_stg8_0 : Ref sig .tc := ⟨.vmem, 78, rfl⟩
abbrev cc10_stg8_1 : Ref sig .tc := ⟨.vmem, 79, rfl⟩
abbrev cc10_stg9_0 : Ref sig .tc := ⟨.vmem, 80, rfl⟩
abbrev cc10_stg9_1 : Ref sig .tc := ⟨.vmem, 81, rfl⟩
abbrev cc10_stg10_0 : Ref sig .tc := ⟨.vmem, 82, rfl⟩
abbrev cc10_stg10_1 : Ref sig .tc := ⟨.vmem, 83, rfl⟩
abbrev cc10_scratch0 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg1_1 : Ref sig .tc := ⟨.vmem, 88, rfl⟩
abbrev cc11_stg2_0 : Ref sig .tc := ⟨.vmem, 89, rfl⟩
abbrev cc11_stg2_1 : Ref sig .tc := ⟨.vmem, 90, rfl⟩
abbrev cc11_stg3_0 : Ref sig .tc := ⟨.vmem, 91, rfl⟩
abbrev cc11_stg3_1 : Ref sig .tc := ⟨.vmem, 92, rfl⟩
abbrev cc11_stg4_0 : Ref sig .tc := ⟨.vmem, 93, rfl⟩
abbrev cc11_stg4_1 : Ref sig .tc := ⟨.vmem, 94, rfl⟩
abbrev cc11_stg5_0 : Ref sig .tc := ⟨.vmem, 95, rfl⟩
abbrev cc11_stg6_0 : Ref sig .tc := ⟨.vmem, 96, rfl⟩
abbrev cc11_stg7_0 : Ref sig .tc := ⟨.vmem, 97, rfl⟩
abbrev cc11_stg7_1 : Ref sig .tc := ⟨.vmem, 98, rfl⟩
abbrev cc11_stg8_0 : Ref sig .tc := ⟨.vmem, 99, rfl⟩
abbrev cc11_stg8_1 : Ref sig .tc := ⟨.vmem, 100, rfl⟩
abbrev cc11_stg9_0 : Ref sig .tc := ⟨.vmem, 101, rfl⟩
abbrev cc11_stg9_1 : Ref sig .tc := ⟨.vmem, 102, rfl⟩
abbrev cc12_stg0_0 : Ref sig .tc := ⟨.vmem, 103, rfl⟩
abbrev cc12_stg0_1 : Ref sig .tc := ⟨.vmem, 104, rfl⟩
abbrev cc12_stg1_0 : Ref sig .tc := ⟨.vmem, 105, rfl⟩
abbrev cc12_stg1_1 : Ref sig .tc := ⟨.vmem, 106, rfl⟩
abbrev cc12_stg2_0 : Ref sig .tc := ⟨.vmem, 107, rfl⟩
abbrev cc12_scratch0 : Ref sig .tc := ⟨.vmem, 108, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc8_sem0_0 : DmaSem sig := 42
abbrev cc8_sem0_1 : DmaSem sig := 43
abbrev cc8_sem1_0 : DmaSem sig := 44
abbrev cc8_sem1_1 : DmaSem sig := 45
abbrev cc8_sem2_0 : DmaSem sig := 46
abbrev cc9_sem0_0 : DmaSem sig := 47
abbrev cc9_sem0_1 : DmaSem sig := 48
abbrev cc9_sem1_0 : DmaSem sig := 49
abbrev cc9_sem1_1 : DmaSem sig := 50
abbrev cc9_sem2_0 : DmaSem sig := 51
abbrev cc10_sem0_0 : DmaSem sig := 52
abbrev cc10_sem0_1 : DmaSem sig := 53
abbrev cc10_sem1_0 : DmaSem sig := 54
abbrev cc10_sem1_1 : DmaSem sig := 55
abbrev cc10_sem2_0 : DmaSem sig := 56
abbrev cc10_sem2_1 : DmaSem sig := 57
abbrev cc10_sem3_0 : DmaSem sig := 58
abbrev cc10_sem3_1 : DmaSem sig := 59
abbrev cc10_sem4_0 : DmaSem sig := 60
abbrev cc10_sem4_1 : DmaSem sig := 61
abbrev cc10_sem5_0 : DmaSem sig := 62
abbrev cc10_sem5_1 : DmaSem sig := 63
abbrev cc10_sem6_0 : DmaSem sig := 64
abbrev cc10_sem6_1 : DmaSem sig := 65
abbrev cc10_sem7_0 : DmaSem sig := 66
abbrev cc10_sem7_1 : DmaSem sig := 67
abbrev cc10_sem8_0 : DmaSem sig := 68
abbrev cc10_sem8_1 : DmaSem sig := 69
abbrev cc10_sem9_0 : DmaSem sig := 70
abbrev cc10_sem9_1 : DmaSem sig := 71
abbrev cc10_sem10_0 : DmaSem sig := 72
abbrev cc10_sem10_1 : DmaSem sig := 73
abbrev cc11_sem0_0 : DmaSem sig := 74
abbrev cc11_sem0_1 : DmaSem sig := 75
abbrev cc11_sem1_0 : DmaSem sig := 76
abbrev cc11_sem1_1 : DmaSem sig := 77
abbrev cc11_sem2_0 : DmaSem sig := 78
abbrev cc11_sem2_1 : DmaSem sig := 79
abbrev cc11_sem3_0 : DmaSem sig := 80
abbrev cc11_sem3_1 : DmaSem sig := 81
abbrev cc11_sem4_0 : DmaSem sig := 82
abbrev cc11_sem4_1 : DmaSem sig := 83
abbrev cc11_sem5_0 : DmaSem sig := 84
abbrev cc11_sem6_0 : DmaSem sig := 85
abbrev cc11_sem7_0 : DmaSem sig := 86
abbrev cc11_sem7_1 : DmaSem sig := 87
abbrev cc11_sem8_0 : DmaSem sig := 88
abbrev cc11_sem8_1 : DmaSem sig := 89
abbrev cc11_sem9_0 : DmaSem sig := 90
abbrev cc11_sem9_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x896 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x896 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 4], ![false, false, false]⟩

def k5_cond3 (i : grid5.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 1, 4], ![false, false, false]⟩

def k6_cond3 (i : grid6.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 1 → Memref sig .tc .vmem S1024x512 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![1, 1, 4], ![false, false, false]⟩

def k7_cond3 (i : grid7.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x768 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 1 → Memref sig .tc .vmem S1024x768 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true, false]

abbrev grid8 : Pipeline.Grid := ⟨3, ![1, 1, 4], ![false, false, false]⟩

def k8_cond3 (i : grid8.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 1 → Memref sig .tc .vmem S1024x512 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

abbrev grid9 : Pipeline.Grid := ⟨3, ![1, 1, 4], ![false, false, false]⟩

def k9_cond3 (i : grid9.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S2048x896 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 1 → Memref sig .tc .vmem S1024x896 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![16, 1, 8], ![false, false, false]⟩

def k10_cond7 (i : grid10.Coords) : BitVec 1 :=
  let arg2 : BitVec 32 := BitVec.ofNat 32 (i 2).val
  let c7_i32_11 : BitVec 32 := 7#32
  let v28 : BitVec 1 := Scalar.cmpi .eq arg2 c7_i32_11
  let v29 : BitVec 32 := Scalar.extui v28
  let c0_i32_12 : BitVec 32 := 0#32
  let v30 : BitVec 1 := Scalar.cmpi .ne v29 c0_i32_12
  v30

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc10_transform_4 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc10_transform_5 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc10_transform_6 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc10_transform_7 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc10_transform_8 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc10_transform_9 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc10_transform_10 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false, true]

abbrev stage10_3 : Fin 2 → Memref sig .tc .vmem S1024x512 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![false, true, true]

abbrev stage10_4 : Fin 2 → Memref sig .tc .vmem S512x768 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false, true]

abbrev stage10_5 : Fin 2 → Memref sig .tc .vmem S1024x768 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![false, true, true]

abbrev stage10_6 : Fin 2 → Memref sig .tc .vmem S512x512 .bf16 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, false, true]

abbrev stage10_7 : Fin 2 → Memref sig .tc .vmem S1024x512 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![false, true, true]

abbrev stage10_8 : Fin 2 → Memref sig .tc .vmem S512x896 .bf16 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true, false, true]

abbrev stage10_9 : Fin 2 → Memref sig .tc .vmem S1024x896 .bf16 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![false, true, true]

abbrev stage10_10 : Fin 2 → Memref sig .tc .vmem S512x1024 .f32 := fun | 0 => Memref.whole cc10_stg10_0 | 1 => Memref.whole cc10_stg10_1 | ⟨_ + 2, h⟩ => absurd h (Nat.not_lt.2 (Nat.le_add_left _ _))
abbrev sem10_10 : Fin 2 → DmaSem sig := fun | 0 => cc10_sem10_0 | 1 => cc10_sem10_1 | ⟨_ + 2, h⟩ => absurd h (Nat.not_lt.2 (Nat.le_add_left _ _))
abbrev reads10_10 : Fin grid10.rank → Bool := ![true, true, false]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S256x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S256x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S256x4096 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S4x256x1024 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1024x1024 .bf16 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S256x1024 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S256x1024 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S256x1024 .bf16 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev grid12 : Pipeline.Grid := ⟨3, ![1, 1, 4], ![false, false, false]⟩

def k12_cond3 (i : grid12.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S2048x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S2048x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 1 → Memref sig .tc .vmem S1024x1024 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, true, false]
-- ==== Reference3Ideal.lean ====
abbrev S8192x1024 : Shape := ⟨2, ![8192, 1024]⟩
abbrev S1024x4096 : Shape := ⟨2, ![1024, 4096]⟩
abbrev S1024x512 : Shape := ⟨2, ![1024, 512]⟩
abbrev S1024x768 : Shape := ⟨2, ![1024, 768]⟩
abbrev S1024x896 : Shape := ⟨2, ![1024, 896]⟩
abbrev S8192x4096 : Shape := ⟨2, ![8192, 4096]⟩
abbrev S8192x512 : Shape := ⟨2, ![8192, 512]⟩
abbrev S8192x768 : Shape := ⟨2, ![8192, 768]⟩
abbrev S8192x896 : Shape := ⟨2, ![8192, 896]⟩
abbrev S8192x256 : Shape := ⟨2, ![8192, 256]⟩
abbrev S256x1024 : Shape := ⟨2, ![256, 1024]⟩
abbrev S1024x1024 : Shape := ⟨2, ![1024, 1024]⟩
abbrev S896x1024 : Shape := ⟨2, ![896, 1024]⟩
abbrev S512x1024 : Shape := ⟨2, ![512, 1024]⟩
abbrev S768x1024 : Shape := ⟨2, ![768, 1024]⟩
abbrev S4096x1024 : Shape := ⟨2, ![4096, 1024]⟩
abbrev S_ : Shape := ⟨0, ![]⟩
abbrev S8192x4x1024 : Shape := ⟨3, ![8192, 4, 1024]⟩
abbrev S8192x1x1024 : Shape := ⟨3, ![8192, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x512, .bf16⟩
  | .hbm, ⟨3, _⟩ => ⟨S1024x768, .bf16⟩
  | .hbm, ⟨4, _⟩ => ⟨S1024x512, .bf16⟩
  | .hbm, ⟨5, _⟩ => ⟨S1024x896, .bf16⟩
  | .hbm, ⟨6, _⟩ => ⟨S8192x4096, .bf16⟩
  | .hbm, ⟨7, _⟩ => ⟨S8192x512, .bf16⟩
  | .hbm, ⟨8, _⟩ => ⟨S8192x768, .bf16⟩
  | .hbm, ⟨9, _⟩ => ⟨S8192x512, .bf16⟩
  | .hbm, ⟨10, _⟩ => ⟨S8192x896, .bf16⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x4096, .f32⟩
  | .hbm, ⟨24, _⟩ => ⟨S1024x512, .f32⟩
  | .hbm, ⟨25, _⟩ => ⟨S1024x768, .f32⟩
  | .hbm, ⟨26, _⟩ => ⟨S1024x512, .f32⟩
  | .hbm, ⟨27, _⟩ => ⟨S1024x896, .f32⟩
  | .hbm, ⟨28, _⟩ => ⟨S8192x4096, .f32⟩
  | .hbm, ⟨29, _⟩ => ⟨S8192x512, .f32⟩
  | .hbm, ⟨30, _⟩ => ⟨S8192x768, .f32⟩
  | .hbm, ⟨31, _⟩ => ⟨S8192x512, .f32⟩
  | .hbm, ⟨32, _⟩ => ⟨S8192x896, .f32⟩
  | .hbm, ⟨33, _⟩ => ⟨S8192x4096, .f32⟩
  | .hbm, ⟨34, _⟩ => ⟨S8192x512, .f32⟩
  | .hbm, ⟨35, _⟩ => ⟨S8192x768, .f32⟩
  | .hbm, ⟨36, _⟩ => ⟨S8192x512, .f32⟩
  | .hbm, ⟨37, _⟩ => ⟨S8192x896, .f32⟩
  | .hbm, ⟨38, _⟩ => ⟨S896x1024, .f32⟩
  | .hbm, ⟨39, _⟩ => ⟨S1024x896, .f32⟩
  | .hbm, ⟨40, _⟩ => ⟨S8192x1024, .f32⟩
  | .hbm, ⟨41, _⟩ => ⟨S512x1024, .f32⟩
  | .hbm, ⟨42, _⟩ => ⟨S1024x512, .f32⟩
  | .hbm, ⟨43, _⟩ => ⟨S8192x1024, .f32⟩
  | .hbm, ⟨44, _⟩ => ⟨S8192x1024, .f32⟩
  | .hbm, ⟨45, _⟩ => ⟨S768x1024, .f32⟩
  | .hbm, ⟨46, _⟩ => ⟨S1024x768, .f32⟩
  | .hbm, ⟨47, _⟩ => ⟨S8192x1024, .f32⟩
  | .hbm, ⟨48, _⟩ => ⟨S8192x1024, .f32⟩
  | .hbm, ⟨49, _⟩ => ⟨S512x1024, .f32⟩
  | .hbm, ⟨50, _⟩ => ⟨S1024x512, .f32⟩
  | .hbm, ⟨51, _⟩ => ⟨S8192x1024, .f32⟩
  | .hbm, ⟨52, _⟩ => ⟨S8192x1024, .f32⟩
  | .hbm, ⟨53, _⟩ => ⟨S4096x1024, .f32⟩
  | .hbm, ⟨54, _⟩ => ⟨S1024x4096, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S8192x4x1024, .f32⟩
  | .hbm, ⟨70, _⟩ => ⟨S8192x1x1024, .f32⟩
  | .hbm, ⟨71, _⟩ => ⟨S8192x1024, .f32⟩
  | .hbm, ⟨72, _⟩ => ⟨S8192x1024, .f32⟩
  | .hbm, ⟨73, _⟩ => ⟨S8192x1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1024x4096, .bf16⟩
  | .hbm, ⟨87, _⟩ => ⟨S1024x512, .bf16⟩
  | .hbm, ⟨88, _⟩ => ⟨S1024x768, .bf16⟩
  | .hbm, ⟨89, _⟩ => ⟨S1024x512, .bf16⟩
  | .hbm, ⟨90, _⟩ => ⟨S1024x896, .bf16⟩
  | .hbm, ⟨91, _⟩ => ⟨S8192x1024, .f32⟩
  | .hbm, ⟨92, _⟩ => ⟨S1024x1024, .f32⟩
  | .hbm, ⟨93, _⟩ => ⟨S1024x1024, .f32⟩
  | .hbm, ⟨94, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_v42 : Ref sig .tc := ⟨.hbm, 65, rfl⟩
abbrev main_cst_0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel4.lean ====
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x128x1024 : Shape := ⟨3, ![2, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S8192x768 : Shape := ⟨2, ![8192, 768]⟩
abbrev S8x256 : Shape := ⟨2, ![8, 256]⟩
abbrev S8192x256 : Shape := ⟨2, ![8192, 256]⟩
abbrev S512x768 : Shape := ⟨2, ![512, 768]⟩
abbrev S8x768 : Shape := ⟨2, ![8, 768]⟩
abbrev S512x256 : Shape := ⟨2, ![512, 256]⟩
abbrev S520x256 : Shape := ⟨2, ![520, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8x256, .f32⟩
  | .hbm, ⟨2, _⟩ => ⟨S8192x256, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S8x256, .f32⟩
  | .local _ .vmem, ⟨5, _⟩ => ⟨S512x256, .f32⟩
  | .local _ .vmem, ⟨6, _⟩ => ⟨S512x256, .f32⟩
  | .local _ .vmem, ⟨7, _⟩ => ⟨S520x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x768 : Shape := ⟨2, ![8192, 768]⟩
abbrev S8x256 : Shape := ⟨2, ![8, 256]⟩
abbrev S8192x256 : Shape := ⟨2, ![8192, 256]⟩
abbrev S3x256 : Shape := ⟨2, ![3, 256]⟩
abbrev S_ : Shape := ⟨0, ![]⟩
abbrev S8194x256 : Shape := ⟨2, ![8194, 256]⟩
abbrev S1x256 : Shape := ⟨2, ![1, 256]⟩
abbrev S256 : Shape := ⟨1, ![256]⟩

abbrev nBuf : Space → Nat
  | .hbm => 34
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S3x256, .f32⟩
  | .hbm, ⟨7, _⟩ => ⟨S_, .i32⟩
  | .hbm, ⟨8, _⟩ => ⟨S_, .f32⟩
  | .hbm, ⟨9, _⟩ => ⟨S8194x256, .f32⟩
  | .hbm, ⟨10, _⟩ => ⟨S1x256, .f32⟩
  | .hbm, ⟨11, _⟩ => ⟨S256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S256, .f32⟩
  | .hbm, ⟨28, _⟩ => ⟨S8192x256, .f32⟩
  | .hbm, ⟨29, _⟩ => ⟨S1x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.Products.lean ====
/- Matrix products over the extended reals, read at one element: the three ways in which a product of two matrices is
   contracted (rows by columns, rows by rows, columns by columns), for the unit's product into a zero accumulator and for
   the host's product. The extents are variables. -/
module

public import Idealize.ShloMosaic.PureOps.Ideal.Laws
public import Idealize.ShloMosaic.Lib.ValueIdxCore

@[expose] public section

noncomputable section

namespace Cert.Products

open Idealize.ShloMosaic Idealize.ShloMosaic.ValueIdx
open scoped BigOperators

variable {M K N : ℕ} {φ₁ φ₂ : FTy}

/-- The shape of a matrix of `a` rows and `b` columns. -/
abbrev Mat (a b : ℕ) : Shape := ⟨2, ![a, b]⟩

/-- Rows of the left factor against columns of the right one: the sum over the contraction index is the sum over the
    common extent. -/
theorem sum_nn (w : DotDims.WF (Mat M K) (Mat K N) (Mat M N) [1] [0] [0] [1] [] []) (l : (Mat M K).Idx → EReal)
    (r : (Mat K N).Idx → EReal) (i : Fin M) (j : Fin N) :
    (∑ q : (DotDims.mk [1] [0] [0] [1] [] [] w).contr.Idx, l ((DotDims.mk [1] [0] [0] [1] [] [] w).lhsIdx (ix2 i j) q)
      * r ((DotDims.mk [1] [0] [0] [1] [] [] w).rhsIdx (ix2 i j) q)) = ∑ k : Fin K, l (ix2 i k) * r (ix2 k j) := by
  rw [← Equiv.sum_comp (contrEquiv1 (DotDims.mk [1] [0] [0] [1] [] [] w) K rfl rfl).symm]
  refine Finset.sum_congr rfl fun k _ => ?_
  have hk := contrEquiv1_symm_val (DotDims.mk [1] [0] [0] [1] [] [] w) K rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-- Rows of the left factor against rows of the right one. -/
theorem sum_nt (w : DotDims.WF (Mat M K) (Mat N K) (Mat M N) [1] [1] [0] [0] [] []) (l : (Mat M K).Idx → EReal)
    (r : (Mat N K).Idx → EReal) (i : Fin M) (j : Fin N) :
    (∑ q : (DotDims.mk [1] [1] [0] [0] [] [] w).contr.Idx, l ((DotDims.mk [1] [1] [0] [0] [] [] w).lhsIdx (ix2 i j) q)
      * r ((DotDims.mk [1] [1] [0] [0] [] [] w).rhsIdx (ix2 i j) q)) = ∑ k : Fin K, l (ix2 i k) * r (ix2 j k) := by
  rw [← Equiv.sum_comp (contrEquiv1 (DotDims.mk [1] [1] [0] [0] [] [] w) K rfl rfl).symm]
  refine Finset.sum_congr rfl fun k _ => ?_
  have hk := contrEquiv1_symm_val (DotDims.mk [1] [1] [0] [0] [] [] w) K rfl rfl k
  congr 2
  · funext a; apply Fin.ext
    match a with
    | ⟨0, _⟩ => rfl
    | ⟨1, _⟩ => exact hk
  · funext a; apply Fin.ext
    match a with
    | ⟨0, _⟩ => rfl
    | ⟨1, _⟩ => exact hk

/-- Columns of the left factor against columns of the right one. -/
theorem sum_tn (w : DotDims.WF (Mat K M) (Mat K N) (Mat M N) [0] [0] [1] [1] [] []) (l : (Mat K M).Idx → EReal)
    (r : (Mat K N).Idx → EReal) (i : Fin M) (j : Fin N) :
    (∑ q : (DotDims.mk [0] [0] [1] [1] [] [] w).contr.Idx, l ((DotDims.mk [0] [0] [1] [1] [] [] w).lhsIdx (ix2 i j) q)
      * r ((DotDims.mk [0] [0] [1] [1] [] [] w).rhsIdx (ix2 i j) q)) = ∑ k : Fin K, l (ix2 k i) * r (ix2 k j) := by
  rw [← Equiv.sum_comp (contrEquiv1 (DotDims.mk [0] [0] [1] [1] [] [] w) K rfl rfl).symm]
  refine Finset.sum_congr rfl fun k _ => ?_
  have hk := contrEquiv1_symm_val (DotDims.mk [0] [0] [1] [1] [] [] w) K rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

/-- The unit's product, rows by columns, into zeros, at (i, j). -/
theorem mm_nn (w : DotDims.WF (Mat M K) (Mat K N) (Mat M N) [1] [0] [0] [1] [] []) (p : Option ContractPrecision)
    (l : FVec Ideal (Mat M K) φ₁) (r : FVec Ideal (Mat K N) φ₂) (i : Fin M) (j : Fin N) :
    matmul (F := Ideal) (DotDims.mk [1] [0] [0] [1] [] [] w) p l r (constant (Mat M N) .f32 0x00000000#32) (ix2 i j)
      = ∑ k : Fin K, l (ix2 i k) * r (ix2 k j) :=
  (Ideal.matmul_constant_zero_apply (φ₁ := φ₁) (φ₂ := φ₂) _ p l r _).trans (sum_nn w l r i j)

/-- The unit's product, rows by rows, into zeros, at (i, j). -/
theorem mm_nt (w : DotDims.WF (Mat M K) (Mat N K) (Mat M N) [1] [1] [0] [0] [] []) (p : Option ContractPrecision)
    (l : FVec Ideal (Mat M K) φ₁) (r : FVec Ideal (Mat N K) φ₂) (i : Fin M) (j : Fin N) :
    matmul (F := Ideal) (DotDims.mk [1] [1] [0] [0] [] [] w) p l r (constant (Mat M N) .f32 0x00000000#32) (ix2 i j)
      = ∑ k : Fin K, l (ix2 i k) * r (ix2 j k) :=
  (Ideal.matmul_constant_zero_apply (φ₁ := φ₁) (φ₂ := φ₂) _ p l r _).trans (sum_nt w l r i j)

/-- The unit's product, columns by columns, into zeros, at (i, j). -/
theorem mm_tn (w : DotDims.WF (Mat K M) (Mat K N) (Mat M N) [0] [0] [1] [1] [] []) (p : Option ContractPrecision)
    (l : FVec Ideal (Mat K M) φ₁) (r : FVec Ideal (Mat K N) φ₂) (i : Fin M) (j : Fin N) :
    matmul (F := Ideal) (DotDims.mk [0] [0] [1] [1] [] [] w) p l r (constant (Mat M N) .f32 0x00000000#32) (ix2 i j)
      = ∑ k : Fin K, l (ix2 k i) * r (ix2 k j) :=
  (Ideal.matmul_constant_zero_apply (φ₁ := φ₁) (φ₂ := φ₂) _ p l r _).trans (sum_tn w l r i j)

/-- A sum over `n` blocks of `b` consecutive positions each is the sum over all `n * b` positions. -/
theorem sum_blocks {n b : ℕ} (f : Fin (n * b) → EReal) :
    ∑ t : Fin n, ∑ s : Fin b, f ⟨t.val * b + s.val, by
      have h1 := t.isLt; have h2 := s.isLt
      calc t.val * b + s.val < t.val * b + b := by omega
        _ = (t.val + 1) * b := by ring
        _ ≤ n * b := Nat.mul_le_mul_right _ h1⟩ = ∑ i, f i := by
  rw [← Fintype.sum_prod_type', ← Equiv.sum_comp finProdFinEquiv]
  refine Finset.sum_congr rfl fun x _ => congrArg f (Fin.ext ?_)
  simp [finProdFinEquiv]; ring

end Cert.Products

end
-- ==== Proof.MergeSpec.lean ====
/- The backward pass of a gated merge of four token mixers, entry by entry over the extended reals. A matrix is a function
   of its row and its column, so that a block of rows of an operand gives the same block of rows of the result. -/
module

public import Idealize.ShloMosaic.PureOps.Ideal

@[expose] public section

noncomputable section

namespace Cert.MergeSpec

open Idealize.ShloMosaic
open scoped BigOperators

variable {R : Type} (x : R → Fin 1024 → EReal) (wo : Fin 1024 → Fin 1024 → EReal) (a : R → Fin 256 → EReal)
  (z : R → Fin 1024 → EReal) (w : Fin 256 → Fin 1024 → EReal)

/-- The gradient of the merged sum: the incoming gradient times the transposed output weight. -/
def dm (r : R) (e : Fin 1024) : EReal := ∑ k : Fin 1024, x r k * wo e k

/-- The gradient of one gated branch product: the gate times the gradient of the merged sum. -/
def dp (r : R) (e : Fin 1024) : EReal := dm x wo r e * Ideal.logistic (z r e)

/-- The gradient of one branch's activations. -/
def da (r : R) (k : Fin 256) : EReal := ∑ e : Fin 1024, dp x wo z r e * w k e

/-- The gradient of one branch's gate before its sigmoid. -/
def dz (r : R) (e : Fin 1024) : EReal :=
  dm x wo r e * (∑ k : Fin 256, a r k * w k e) * (Ideal.logistic (z r e) * (1 - Ideal.logistic (z r e)))

/-- The gradient of one branch's weight, summed over the rows. -/
def dw [Fintype R] (k : Fin 256) (e : Fin 1024) : EReal := ∑ r : R, a r k * dp x wo z r e

end Cert.MergeSpec

end
-- ==== Proof.MergePay.lean ====
/- What the merge's backward pass computes from the blocks of one grid point, read at one element: the gradient of the
   merged sum, and for each branch the gradients of its activations and gates and the step of its weight's accumulator. -/
module

public import proofs.«01_k».proof.Proof.Gen.KernelIdeal.Value
public import proofs.«01_k».proof.Proof.Products
public import proofs.«01_k».proof.Proof.MergeSpec

@[expose] public section

noncomputable section

open Idealize.ShloMosaic Idealize.ShloMosaic.ValueIdx

namespace Cert.KernelIdeal.Merge
open Cert.KernelIdeal Cert.KernelIdeal.Gen

variable (x : FVec Ideal S256x1024 .bf16) (wo : FVec Ideal S1024x1024 .bf16) (m : FVec Ideal S256x1024 .f32)
  (a : FVec Ideal S256x256 .f32) (z : FVec Ideal S256x1024 .f32) (w : FVec Ideal S1x256x1024 .bf16)
  (s : FVec Ideal S1x256x1024 .f32)

/-- One branch's activation gradient from the gradient `m` of the merged sum. -/
def tD : FVec Ideal S256x256 .f32 :=
  matmul dot_S256x1024_S256x1024_S256x256_1_1_0_0_n_n none (truncf .bf16 (mulf m (logistic z)) bitsLt_bf16_f32)
    (shapeCast S256x1024 w shapeCasts_S1x256x1024_S256x1024) (constant S256x256 .f32 0x00000000#32)

/-- One branch's gate gradient from the gradient `m` of the merged sum. -/
def tZ : FVec Ideal S256x1024 .bf16 :=
  truncf .bf16 (mulf (mulf m (matmul dot_S256x256_S256x1024_S256x1024_1_0_0_1_n_n none (truncf .bf16 a bitsLt_bf16_f32)
      (shapeCast S256x1024 w shapeCasts_S1x256x1024_S256x1024) (constant S256x1024 .f32 0x00000000#32)))
    (mulf (logistic z) (subf (broadcast S256x1024 (Scalar.ofBits .f32 0x3F800000#32)) (logistic z)))) bitsLt_bf16_f32

/-- One branch's weight accumulator after a point: before it, plus the block's product. -/
def tW : FVec Ideal S1x256x1024 .f32 :=
  shapeCast S1x256x1024 (addf (shapeCast S256x1024 s shapeCasts_S1x256x1024_S256x1024)
    (matmul dot_S256x256_S256x1024_S256x1024_0_0_1_1_n_n none (truncf .bf16 a bitsLt_bf16_f32)
      (truncf .bf16 (mulf m (logistic z)) bitsLt_bf16_f32) (constant S256x1024 .f32 0x00000000#32)))
    shapeCasts_S256x1024_S1x256x1024

/-! The printed terms of the four branches are these three. -/
theorem pay8_eq : k0_pay8 (F := Ideal) x wo z w = tD (k0_pay3 x wo) z w := rfl
theorem pay14_eq : k0_pay14 (F := Ideal) m z w = tD m z w := rfl
theorem pay21_eq : k0_pay21 (F := Ideal) m z w = tD m z w := rfl
theorem pay27_eq : k0_pay27 (F := Ideal) m z w = tD m z w := rfl
theorem pay6_eq : k0_pay6 (F := Ideal) x wo a z w = tZ (k0_pay3 x wo) a z w := rfl
theorem pay12_eq : k0_pay12 (F := Ideal) m a z w = tZ m a z w := rfl
theorem pay19_eq : k0_pay19 (F := Ideal) m a z w = tZ m a z w := rfl
theorem pay25_eq : k0_pay25 (F := Ideal) m a z w = tZ m a z w := rfl
theorem pay9_eq : k0_pay9 (F := Ideal) (k0_pay4 a) (k0_pay7 x wo z) s = tW (k0_pay3 x wo) a z s := rfl
theorem pay16_eq : k0_pay16 (F := Ideal) (k0_pay15 m a z s) = tW m a z s := rfl
theorem pay22_eq : k0_pay22 (F := Ideal) m a z s = tW m a z s := rfl
theorem pay28_eq : k0_pay28 (F := Ideal) m a z s = tW m a z s := rfl

/-- The constant one of the gate's derivative is the extended real one. -/
theorem one_bits : Scalar.ofBits (F := Ideal) .f32 0x3F800000#32 = (1 : EReal) := by
  show Ideal.ofBits .f32 0x3F800000#32 = 1
  simp [Ideal.ofBits, Ideal.ieee, -EReal.coe_mul]; norm_num

/-- A slab `[1, 256, 1024]` cast to a matrix, at an element. -/
theorem drop_apply {α : Type} (v : S1x256x1024.Idx → α) (h : S1x256x1024.ShapeCasts S256x1024) (k : Fin 256) (e : Fin 1024) :
    shapeCast S256x1024 v h (ix2 k e) = v (ix3 0 k e) :=
  (shapeCast_dropUnit_apply ![256, 1024] v h (ix2 k e)).trans (congrArg v (eq_ix3 _))

/-- A matrix cast to a slab `[1, 256, 1024]`, at an element. -/
theorem add_apply {α : Type} (v : S256x1024.Idx → α) (h : S256x1024.ShapeCasts S1x256x1024) (k : Fin 256) (e : Fin 1024) :
    shapeCast S1x256x1024 v h (ix3 0 k e) = v (ix2 k e) :=
  (shapeCast_addUnit_apply ![256, 1024] v h (ix3 0 k e)).trans (congrArg v (eq_ix2 _))

/-- The gradient of the merged sum at (r, e). -/
theorem pay3_apply (r : Fin 256) (e : Fin 1024) :
    k0_pay3 (F := Ideal) x wo (ix2 r e) = MergeSpec.dm (fun r k => x (ix2 r k)) (fun e k => wo (ix2 e k)) r e := by
  unfold k0_pay3
  rw [shapeCast_self, shapeCast_self]
  exact Products.mm_nt _ none x wo r e

/-- One branch's activation gradient at (r, k). -/
theorem tD_apply (r k : Fin 256) :
    tD (k0_pay3 (F := Ideal) x wo) z w (ix2 r k) = MergeSpec.da (fun r k => x (ix2 r k)) (fun e k => wo (ix2 e k))
      (fun r e => z (ix2 r e)) (fun k e => w (ix3 0 k e)) r k := by
  unfold tD
  refine (Products.mm_nt _ none _ _ r k).trans (Finset.sum_congr rfl fun e _ => ?_)
  rw [drop_apply]
  exact congrArg (· * Ideal.logistic (z (ix2 r e)) * w (ix3 0 k e)) (pay3_apply x wo r e)

/-- One branch's gate gradient at (r, e). -/
theorem tZ_apply (r : Fin 256) (e : Fin 1024) :
    tZ (k0_pay3 (F := Ideal) x wo) a z w (ix2 r e) = MergeSpec.dz (fun r k => x (ix2 r k)) (fun e k => wo (ix2 e k))
      (fun r k => a (ix2 r k)) (fun r e => z (ix2 r e)) (fun k e => w (ix3 0 k e)) r e := by
  have h := Products.mm_nn (φ₁ := .bf16) (φ₂ := .bf16) dot_S256x256_S256x1024_S256x1024_1_0_0_1_n_n_wf none
    (truncf .bf16 a bitsLt_bf16_f32) (shapeCast S256x1024 w shapeCasts_S1x256x1024_S256x1024) r e
  simp only [drop_apply] at h
  show k0_pay3 (F := Ideal) x wo (ix2 r e) * _ * (Ideal.logistic (z (ix2 r e)) * (Scalar.ofBits (F := Ideal) .f32 0x3F800000#32 - Ideal.logistic (z (ix2 r e)))) = _
  rw [one_bits, pay3_apply]
  exact congrArg (fun q => MergeSpec.dm (fun r k => x (ix2 r k)) (fun e k => wo (ix2 e k)) r e * q
    * (Ideal.logistic (z (ix2 r e)) * (1 - Ideal.logistic (z (ix2 r e))))) h

/-- One branch's accumulator after a point, at (k, e). -/
theorem tW_apply (k : Fin 256) (e : Fin 1024) :
    tW (k0_pay3 (F := Ideal) x wo) a z s (ix3 0 k e) = s (ix3 0 k e) + MergeSpec.dw (fun r k => x (ix2 r k))
      (fun e k => wo (ix2 e k)) (fun r k => a (ix2 r k)) (fun r e => z (ix2 r e)) k e := by
  unfold tW
  rw [add_apply]
  show shapeCast S256x1024 s _ (ix2 k e) + _ = _
  rw [drop_apply]
  refine congrArg (s (ix3 0 k e) + ·) ((Products.mm_tn _ none _ _ k e).trans (Finset.sum_congr rfl fun r _ => ?_))
  exact congrArg (fun q => a (ix2 r k) * (q * Ideal.logistic (z (ix2 r e)))) (pay3_apply x wo r e)

end Cert.KernelIdeal.Merge

end
-- ==== Proof.MergeSlabs.lean ====
/- The four slabs [1, 256, 1024] of a [4, 256, 1024] buffer and the four blocks of 1024 columns of a [256, 4096] buffer:
   stores and loads of them at one element. And the blocks of one grid point of the merge's backward pass, by row and
   column. -/
module

public import proofs.«01_k».proof.Proof.MergePay
public import Idealize.ShloMosaic.Lib.Tactic

@[expose] public section

set_option maxHeartbeats 1000000

noncomputable section

open Idealize.ShloMosaic Idealize.ShloMosaic.TcCoe Idealize.ShloMosaic.ValueIdx Idealize.SL.Sem
open Idealize.ShloMosaic.Pipeline (Dat)

namespace Cert.KernelIdeal.Merge
open Cert.KernelIdeal Cert.KernelIdeal.Gen Cert.KernelIdeal.Value

theorem hz2 : (![0, 0] : Fin 2 → Nat) = fun _ => 0 := funext fun a => by fin_cases a <;> rfl
theorem hz3 : (![0, 0, 0] : Fin 3 → Nat) = fun _ => 0 := funext fun a => by fin_cases a <;> rfl

section Slabs

variable {Val : EltTy → Type} [∀ e, Nonempty (Val e)] {η : EltTy}

/-- Under a newest store of slab `b`, slab `b` is the stored one. -/
theorem canon_slab (b : Fin 4) (n : Nat) (hn : n = b.val) (inb : ∀ a, (![n, 0, 0] : Fin 3 → Nat) a + (![1, 256, 1024] : Fin 3 → Nat) a ≤ S4x256x1024.size a)
    (w : S1x256x1024.Idx → Val η) (L : List (View.Piece Val S4x256x1024 η)) (k : Fin 256) (e : Fin 1024) :
    View.canon ((⟨Rect.unit ![n, 0, 0] ![1, 256, 1024] inb, w⟩ : View.Piece Val S4x256x1024 η) :: L) (ix3 b k e) = w (ix3 0 k e) := by
  have h : (Rect.unit (s := S4x256x1024) ![n, 0, 0] ![1, 256, 1024] inb).emb (ix3 (0 : Fin 1) k e) = ix3 b k e := by
    funext a; apply Fin.ext
    match a with
    | ⟨0, _⟩ => show n + 1 * 0 = b.val; omega
    | ⟨1, _⟩ => show 0 + 1 * k.val = k.val; omega
    | ⟨2, _⟩ => show 0 + 1 * e.val = e.val; omega
  rw [← h]
  exact View.canon_cons_emb (Rect.unit (s := S4x256x1024) ![n, 0, 0] ![1, 256, 1024] inb) w L _

/-- A newest store of another slab is passed over. -/
theorem canon_slab_ne (b : Fin 4) (n : Nat) (hn : b.val ≠ n) (inb : ∀ a, (![n, 0, 0] : Fin 3 → Nat) a + (![1, 256, 1024] : Fin 3 → Nat) a ≤ S4x256x1024.size a)
    (w : S1x256x1024.Idx → Val η) (L : List (View.Piece Val S4x256x1024 η)) (k : Fin 256) (e : Fin 1024) :
    View.canon ((⟨Rect.unit ![n, 0, 0] ![1, 256, 1024] inb, w⟩ : View.Piece Val S4x256x1024 η) :: L) (ix3 b k e) = View.canon L (ix3 b k e) := by
  refine View.canon_cons_of_not_mem _ L fun hm => ?_
  obtain ⟨x, hx⟩ := LoadRect.exists_idx_of_mem _ hm
  have h0 : (ix3 b k e (0 : Fin 3)).val = n + 1 * (x 0).val := by rw [← hx]; rfl
  have hx0 : (x 0).val < 1 := (x 0).isLt
  have h1 : (ix3 b k e (0 : Fin 3)).val = b.val := rfl
  omega

/-- A load of slab `b`, at an element. -/
theorem ld_slab (b : Fin 4) (inb : ∀ a, (![b.val, 0, 0] : Fin 3 → Nat) a + (![1, 256, 1024] : Fin 3 → Nat) a ≤ S4x256x1024.size a)
    (v : S4x256x1024.Idx → Val η) (k : Fin 256) (e : Fin 1024) :
    View.ld (Val := Val) (e' := η) v (Rect.unit (s := S4x256x1024) ![b.val, 0, 0] ![1, 256, 1024] inb) (ix3 (0 : Fin 1) k e) = v (ix3 b k e) := by
  refine congrArg v ?_
  funext a; apply Fin.ext
  match a with
  | ⟨0, _⟩ => show b.val + 1 * 0 = b.val; omega
  | ⟨1, _⟩ => show 0 + 1 * k.val = k.val; omega
  | ⟨2, _⟩ => show 0 + 1 * e.val = e.val; omega

/-- Column `e` of the `b`-th block of 1024 columns. -/
def col (b : Fin 4) (e : Fin 1024) : Fin 4096 := ⟨b.val * 1024 + e.val, by have := b.isLt; have := e.isLt; omega⟩

/-- Under a newest store of the `b`-th 1024 columns, they are the stored ones. -/
theorem canon_cols (b : Fin 4) (n : Nat) (hn : n = b.val * 1024) (inb : ∀ a, (![0, n] : Fin 2 → Nat) a + (![256, 1024] : Fin 2 → Nat) a ≤ S256x4096.size a)
    (w : S256x1024.Idx → Val η) (L : List (View.Piece Val S256x4096 η)) (r : Fin 256) (e : Fin 1024) :
    View.canon ((⟨Rect.unit ![0, n] ![256, 1024] inb, w⟩ : View.Piece Val S256x4096 η) :: L) (ix2 r (col b e)) = w (ix2 r e) := by
  have h : (Rect.unit (s := S256x4096) ![0, n] ![256, 1024] inb).emb (ix2 r e) = ix2 r (col b e) := by
    funext a; apply Fin.ext
    match a with
    | ⟨0, _⟩ => show 0 + 1 * r.val = r.val; omega
    | ⟨1, _⟩ => show n + 1 * e.val = b.val * 1024 + e.val; omega
  rw [← h]
  exact View.canon_cons_emb (Rect.unit (s := S256x4096) ![0, n] ![256, 1024] inb) w L _

/-- A newest store of other columns is passed over. -/
theorem canon_cols_ne (b : Fin 4) (n : Nat) (hn : b.val * 1024 + 1024 ≤ n ∨ n + 1024 ≤ b.val * 1024) (inb : ∀ a, (![0, n] : Fin 2 → Nat) a + (![256, 1024] : Fin 2 → Nat) a ≤ S256x4096.size a)
    (w : S256x1024.Idx → Val η) (L : List (View.Piece Val S256x4096 η)) (r : Fin 256) (e : Fin 1024) :
    View.canon ((⟨Rect.unit ![0, n] ![256, 1024] inb, w⟩ : View.Piece Val S256x4096 η) :: L) (ix2 r (col b e)) = View.canon L (ix2 r (col b e)) := by
  refine View.canon_cons_of_not_mem _ L fun hm => ?_
  obtain ⟨x, hx⟩ := LoadRect.exists_idx_of_mem _ hm
  have h0 : (ix2 r (col b e) (1 : Fin 2)).val = n + 1 * (x 1).val := by rw [← hx]; rfl
  have hx0 : (x 1).val < 1024 := (x 1).isLt
  have h1 : (ix2 r (col b e) (1 : Fin 2)).val = b.val * 1024 + e.val := rfl
  have := e.isLt
  omega

/-- A load of the `b`-th 1024 columns, at an element. -/
theorem ld_cols (b : Fin 4) (n : Nat) (hn : n = b.val * 1024) (inb : ∀ a, (![0, n] : Fin 2 → Nat) a + (![256, 1024] : Fin 2 → Nat) a ≤ S256x4096.size a)
    (v : S256x4096.Idx → Val η) (r : Fin 256) (e : Fin 1024) :
    View.ld (Val := Val) (e' := η) v (Rect.unit (s := S256x4096) ![0, n] ![256, 1024] inb) (ix2 r e) = v (ix2 r (col b e)) := by
  refine congrArg v ?_
  funext a; apply Fin.ext
  match a with
  | ⟨0, _⟩ => show 0 + 1 * r.val = r.val; omega
  | ⟨1, _⟩ => show n + 1 * e.val = b.val * 1024 + e.val; omega

end Slabs

variable (m : (ℓ : Loc nD τ sig) → Buf (Elt Ideal) ℓ)

/-- The block of branch `b`'s activations at point `t`. -/
def actB (c : Dev nD) (t : Fin cfg0.N) (b : Fin 4) : FVec Ideal S256x256 .f32 :=
  match b with
  | 0 => iblk m c 1 t
  | 1 => iblk m c 2 t
  | 2 => iblk m c 3 t
  | 3 => iblk m c 4 t

/-- The incoming gradient's block by row and column. -/
def bx (c : Dev nD) (t : Fin cfg0.N) : Fin 256 → Fin 1024 → EReal := fun r k => (iblk m c 0 t : FVec Ideal S256x1024 .bf16) (ix2 r k)
/-- The output weight. -/
def bwo (c : Dev nD) (t : Fin cfg0.N) : Fin 1024 → Fin 1024 → EReal := fun e k => (iblk m c 7 t : FVec Ideal S1024x1024 .bf16) (ix2 e k)
/-- Branch `b`'s activations. -/
def ba (c : Dev nD) (t : Fin cfg0.N) (b : Fin 4) : Fin 256 → Fin 256 → EReal := fun r k => actB m c t b (ix2 r k)
/-- Branch `b`'s gates before the sigmoid. -/
def bz (c : Dev nD) (t : Fin cfg0.N) (b : Fin 4) : Fin 256 → Fin 1024 → EReal := fun r e => (iblk m c 5 t : FVec Ideal S256x4096 .f32) (ix2 r (col b e))
/-- Branch `b`'s weight. -/
def bw (c : Dev nD) (t : Fin cfg0.N) (b : Fin 4) : Fin 256 → Fin 1024 → EReal := fun k e => (iblk m c 6 t : FVec Ideal S4x256x1024 .bf16) (ix3 b k e)

end Cert.KernelIdeal.Merge

end
-- ==== Proof.MergeOutD.lean ====
/- The blocks of the four activation gradients that one grid point of the merge's backward pass leaves. -/
module

public import proofs.«01_k».proof.Proof.MergeSlabs
public import Idealize.ShloMosaic.Lib.Pipeline.ReadBack

@[expose] public section

set_option maxHeartbeats 1000000

noncomputable section

open Idealize.ShloMosaic Idealize.ShloMosaic.TcCoe Idealize.ShloMosaic.ValueIdx Idealize.SL.Sem
open Idealize.ShloMosaic.Pipeline (Dat)

namespace Cert.KernelIdeal.Merge
open Cert.KernelIdeal Cert.KernelIdeal.Gen Cert.KernelIdeal.Value

variable (m : (ℓ : Loc nD τ sig) → Buf (Elt Ideal) ℓ)

/-- The block of branch 0's activation gradient. -/
theorem out8 (c : Dev nD) (t : Fin cfg0.N) :
    (outsAt0 m c t.val t.isLt).1 = tD (k0_pay3 (F := Ideal) (iblk m c 0 t) (iblk m c 7 t))
      (View.ld (Val := Elt Ideal) (e' := .f32) (iblk m c 5 t) (Rect.unit (s := S256x4096) ![0, 0] ![256, 1024] inb_S256x4096_S256x1024_0_0))
      (View.ld (Val := Elt Ideal) (e' := .bf16) (iblk m c 6 t) (Rect.unit (s := S4x256x1024) ![0, 0, 0] ![1, 256, 1024] inb_S4x256x1024_S1x256x1024_0_0_0)) := by
  have hN : t.val < 32 := t.isLt
  by_cases h0 : t.val % 32 = 0
  · have h1 : ¬t.val % 32 = 31 := by omega
    rw [outsAt0_A m c t h0 h1]
    dsimp only
    unfold out0_A_8
    rw [View.read_writes_eq_canon _ _ _ (fun y => cover0_A_8 (y := y) ..)]
    unfold kernelRun0_A
    dsimp only
    sl_unfold_words
    rw [View.canon_unit_zero hz2]
    simp only [View.readAt_eq_ld, Memref.IsWhole.read_unread, View.ld_unit_zero (S := S256x1024) hz2, View.ld_unit_zero (S := S1024x1024) hz2, View.ld_unit_zero (S := S256x256) hz2]
    rfl
  · by_cases h1 : t.val % 32 = 31
    · rw [outsAt0_C m c t h0 h1]
      dsimp only
      unfold out0_C_8
      rw [View.read_writes_eq_canon _ _ _ (fun y => cover0_C_8 (y := y) ..)]
      unfold kernelRun0_C
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl
    · rw [outsAt0_B m c t h0 h1]
      dsimp only
      unfold out0_B_8
      rw [View.read_writes_eq_canon _ _ _ (fun y => cover0_B_8 (y := y) ..)]
      unfold kernelRun0_B
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl

/-- The block of branch 1's activation gradient. -/
theorem out9 (c : Dev nD) (t : Fin cfg0.N) :
    (outsAt0 m c t.val t.isLt).2.1 = tD (k0_pay3 (F := Ideal) (iblk m c 0 t) (iblk m c 7 t))
      (View.ld (Val := Elt Ideal) (e' := .f32) (iblk m c 5 t) (Rect.unit (s := S256x4096) ![0, 1024] ![256, 1024] inb_S256x4096_S256x1024_0_1024))
      (View.ld (Val := Elt Ideal) (e' := .bf16) (iblk m c 6 t) (Rect.unit (s := S4x256x1024) ![1, 0, 0] ![1, 256, 1024] inb_S4x256x1024_S1x256x1024_1_0_0)) := by
  have hN : t.val < 32 := t.isLt
  by_cases h0 : t.val % 32 = 0
  · have h1 : ¬t.val % 32 = 31 := by omega
    rw [outsAt0_A m c t h0 h1]
    dsimp only
    unfold out0_A_9
    rw [View.read_writes_eq_canon _ _ _ (fun y => cover0_A_9 (y := y) ..)]
    unfold kernelRun0_A
    dsimp only
    sl_unfold_words
    rw [View.canon_unit_zero hz2]
    simp only [View.readAt_eq_ld, Memref.IsWhole.read_unread, View.ld_unit_zero (S := S256x1024) hz2, View.ld_unit_zero (S := S1024x1024) hz2, View.ld_unit_zero (S := S256x256) hz2]
    rfl
  · by_cases h1 : t.val % 32 = 31
    · rw [outsAt0_C m c t h0 h1]
      dsimp only
      unfold out0_C_9
      rw [View.read_writes_eq_canon _ _ _ (fun y => cover0_C_9 (y := y) ..)]
      unfold kernelRun0_C
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl
    · rw [outsAt0_B m c t h0 h1]
      dsimp only
      unfold out0_B_9
      rw [View.read_writes_eq_canon _ _ _ (fun y => cover0_B_9 (y := y) ..)]
      unfold kernelRun0_B
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl

/-- The block of branch 2's activation gradient. -/
theorem out10 (c : Dev nD) (t : Fin cfg0.N) :
    (outsAt0 m c t.val t.isLt).2.2.1 = tD (k0_pay3 (F := Ideal) (iblk m c 0 t) (iblk m c 7 t))
      (View.ld (Val := Elt Ideal) (e' := .f32) (iblk m c 5 t) (Rect.unit (s := S256x4096) ![0, 2048] ![256, 1024] inb_S256x4096_S256x1024_0_2048))
      (View.ld (Val := Elt Ideal) (e' := .bf16) (iblk m c 6 t) (Rect.unit (s := S4x256x1024) ![2, 0, 0] ![1, 256, 1024] inb_S4x256x1024_S1x256x1024_2_0_0)) := by
  have hN : t.val < 32 := t.isLt
  by_cases h0 : t.val % 32 = 0
  · have h1 : ¬t.val % 32 = 31 := by omega
    rw [outsAt0_A m c t h0 h1]
    dsimp only
    unfold out0_A_10
    rw [View.read_writes_eq_canon _ _ _ (fun y => cover0_A_10 (y := y) ..)]
    unfold kernelRun0_A
    dsimp only
    sl_unfold_words
    rw [View.canon_unit_zero hz2]
    simp only [View.readAt_eq_ld, Memref.IsWhole.read_unread, View.ld_unit_zero (S := S256x1024) hz2, View.ld_unit_zero (S := S1024x1024) hz2, View.ld_unit_zero (S := S256x256) hz2]
    rfl
  · by_cases h1 : t.val % 32 = 31
    · rw [outsAt0_C m c t h0 h1]
      dsimp only
      unfold out0_C_10
      rw [View.read_writes_eq_canon _ _ _ (fun y => cover0_C_10 (y := y) ..)]
      unfold kernelRun0_C
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl
    · rw [outsAt0_B m c t h0 h1]
      dsimp only
      unfold out0_B_10
      rw [View.read_writes_eq_canon _ _ _ (fun y => cover0_B_10 (y := y) ..)]
      unfold kernelRun0_B
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl

/-- The block of branch 3's activation gradient. -/
theorem out11 (c : Dev nD) (t : Fin cfg0.N) :
    (outsAt0 m c t.val t.isLt).2.2.2.1 = tD (k0_pay3 (F := Ideal) (iblk m c 0 t) (iblk m c 7 t))
      (View.ld (Val := Elt Ideal) (e' := .f32) (iblk m c 5 t) (Rect.unit (s := S256x4096) ![0, 3072] ![256, 1024] inb_S256x4096_S256x1024_0_3072))
      (View.ld (Val := Elt Ideal) (e' := .bf16) (iblk m c 6 t) (Rect.unit (s := S4x256x1024) ![3, 0, 0] ![1, 256, 1024] inb_S4x256x1024_S1x256x1024_3_0_0)) := by
  have hN : t.val < 32 := t.isLt
  by_cases h0 : t.val % 32 = 0
  · have h1 : ¬t.val % 32 = 31 := by omega
    rw [outsAt0_A m c t h0 h1]
    dsimp only
    unfold out0_A_11
    rw [View.read_writes_eq_canon _ _ _ (fun y => cover0_A_11 (y := y) ..)]
    unfold kernelRun0_A
    dsimp only
    sl_unfold_words
    rw [View.canon_unit_zero hz2]
    simp only [View.readAt_eq_ld, Memref.IsWhole.read_unread, View.ld_unit_zero (S := S256x1024) hz2, View.ld_unit_zero (S := S1024x1024) hz2, View.ld_unit_zero (S := S256x256) hz2]
    rfl
  · by_cases h1 : t.val % 32 = 31
    · rw [outsAt0_C m c t h0 h1]
      dsimp only
      unfold out0_C_11
      rw [View.read_writes_eq_canon _ _ _ (fun y => cover0_C_11 (y := y) ..)]
      unfold kernelRun0_C
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl
    · rw [outsAt0_B m c t h0 h1]
      dsimp only
      unfold out0_B_11
      rw [View.read_writes_eq_canon _ _ _ (fun y => cover0_B_11 (y := y) ..)]
      unfold kernelRun0_B
      dsimp only
      sl_unfold_words
      rw [View.canon_unit_zero hz2]
      simp only [View.readAt_eq_ld, Memref.IsWhole.read_unread, View.ld_unit_zero (S := S256x1024) hz2, View.ld_unit_zero (S := S1024x1024) hz2, View.ld_unit_zero (S := S256x256) hz2]
      rfl

/-- Branch 0's activation gradient's block at (r, k). -/
theorem out8_apply (c : Dev nD) (t : Fin cfg0.N) (r k : Fin 256) :
    (outsAt0 m c t.val t.isLt).1 (ix2 r k) = MergeSpec.da (bx m c t) (bwo m c t) (bz m c t 0) (bw m c t 0) r k := by
  rw [out8, tD_apply]
  congr 1
  · funext r e; exact ld_cols 0 _ rfl _ _ r e
  · funext k e; exact ld_slab 0 _ _ k e

/-- Branch 1's activation gradient's block at (r, k). -/
theorem out9_apply (c : Dev nD) (t : Fin cfg0.N) (r k : Fin 256) :
    (outsAt0 m c t.val t.isLt).2.1 (ix2 r k) = MergeSpec.da (bx m c t) (bwo m c t) (bz m c t 1) (bw m c t 1) r k := by
  rw [out9, tD_apply]
  congr 1
  · funext r e; exact ld_cols 1 _ rfl _ _ r e
  · funext k e; exact ld_slab 1 _ _ k e

/-- Branch 2's activation gradient's block at (r, k). -/
theorem out10_apply (c : Dev nD) (t : Fin cfg0.N) (r k : Fin 256) :
    (outsAt0 m c t.val t.isLt).2.2.1 (ix2 r k) = MergeSpec.da (bx m c t) (bwo m c t) (bz m c t 2) (bw m c t 2) r k := by
  rw [out10, tD_apply]
  congr 1
  · funext r e; exact ld_cols 2 _ rfl _ _ r e
  · funext k e; exact ld_slab 2 _ _ k e

/-- Branch 3's activation gradient's block at (r, k). -/
theorem out11_apply (c : Dev nD) (t : Fin cfg0.N) (r k : Fin 256) :
    (outsAt0 m c t.val t.isLt).2.2.2.1 (ix2 r k) = MergeSpec.da (bx m c t) (bwo m c t) (bz m c t 3) (bw m c t 3) r k := by
  rw [out11, tD_apply]
  congr 1
  · funext r e; exact ld_cols 3 _ rfl _ _ r e
  · funext k e; exact ld_slab 3 _ _ k e

end Cert.KernelIdeal.Merge

end
-- ==== Proof.MergeOutZ.lean ====
/- The block of the gate gradient that one grid point of the merge's backward pass leaves. -/
module

public import proofs.«01_k».proof.Proof.MergeSlabs
public import Idealize.ShloMosaic.Lib.Pipeline.ReadBack

@[expose] public section

set_option maxHeartbeats 1000000

noncomputable section

open Idealize.ShloMosaic Idealize.ShloMosaic.TcCoe Idealize.ShloMosaic.ValueIdx Idealize.SL.Sem
open Idealize.ShloMosaic.Pipeline (Dat)

namespace Cert.KernelIdeal.Merge
open Cert.KernelIdeal Cert.KernelIdeal.Gen Cert.KernelIdeal.Value

variable (m : (ℓ : Loc nD τ sig) → Buf (Elt Ideal) ℓ)

/-- Branch 0's columns of the block of the gate gradient. -/
theorem out12_0 (c : Dev nD) (t : Fin cfg0.N) (r : Fin 256) (e : Fin 1024) :
    (outsAt0 m c t.val t.isLt).2.2.2.2.1 (ix2 r (col 0 e)) = tZ (k0_pay3 (F := Ideal) (iblk m c 0 t) (iblk m c 7 t)) (iblk m c 1 t)
      (View.ld (Val := Elt Ideal) (e' := .f32) (iblk m c 5 t) (Rect.unit (s := S256x4096) ![0, 0] ![256, 1024] inb_S256x4096_S256x1024_0_0))
      (View.ld (Val := Elt Ideal) (e' := .bf16) (iblk m c 6 t) (Rect.unit (s := S4x256x1024) ![0, 0, 0] ![1, 256, 1024] inb_S4x256x1024_S1x256x1024_0_0_0)) (ix2 r e) := by
  have hN : t.val < 32 := t.isLt
  by_cases h0 : t.val % 32 = 0
  · have h1 : ¬t.val % 32 = 31 := by omega
    rw [outsAt0_A m c t h0 h1]
    dsimp only
    unfold out0_A_12
    rw [View.read_writes_eq_canon _ _ _ (fun y => cover0_A_12 (y := y) ..)]
    unfold kernelRun0_A
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_cols_ne 0 3072 (by decide)]
    rw [canon_cols_ne 0 2048 (by decide)]
    rw [canon_cols_ne 0 1024 (by decide)]
    rw [canon_cols 0 0 rfl]
    rfl
  · by_cases h1 : t.val % 32 = 31
    · rw [outsAt0_C m c t h0 h1]
      dsimp only
      unfold out0_C_12
      rw [View.read_writes_eq_canon _ _ _ (fun y => cover0_C_12 (y := y) ..)]
      unfold kernelRun0_C
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 0 3072 (by decide)]
      rw [canon_cols_ne 0 2048 (by decide)]
      rw [canon_cols_ne 0 1024 (by decide)]
      rw [canon_cols 0 0 rfl]
      rfl
    · rw [outsAt0_B m c t h0 h1]
      dsimp only
      unfold out0_B_12
      rw [View.read_writes_eq_canon _ _ _ (fun y => cover0_B_12 (y := y) ..)]
      unfold kernelRun0_B
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 0 3072 (by decide)]
      rw [canon_cols_ne 0 2048 (by decide)]
      rw [canon_cols_ne 0 1024 (by decide)]
      rw [canon_cols 0 0 rfl]
      rfl

/-- Branch 1's columns of the block of the gate gradient. -/
theorem out12_1 (c : Dev nD) (t : Fin cfg0.N) (r : Fin 256) (e : Fin 1024) :
    (outsAt0 m c t.val t.isLt).2.2.2.2.1 (ix2 r (col 1 e)) = tZ (k0_pay3 (F := Ideal) (iblk m c 0 t) (iblk m c 7 t)) (iblk m c 2 t)
      (View.ld (Val := Elt Ideal) (e' := .f32) (iblk m c 5 t) (Rect.unit (s := S256x4096) ![0, 1024] ![256, 1024] inb_S256x4096_S256x1024_0_1024))
      (View.ld (Val := Elt Ideal) (e' := .bf16) (iblk m c 6 t) (Rect.unit (s := S4x256x1024) ![1, 0, 0] ![1, 256, 1024] inb_S4x256x1024_S1x256x1024_1_0_0)) (ix2 r e) := by
  have hN : t.val < 32 := t.isLt
  by_cases h0 : t.val % 32 = 0
  · have h1 : ¬t.val % 32 = 31 := by omega
    rw [outsAt0_A m c t h0 h1]
    dsimp only
    unfold out0_A_12
    rw [View.read_writes_eq_canon _ _ _ (fun y => cover0_A_12 (y := y) ..)]
    unfold kernelRun0_A
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_cols_ne 1 3072 (by decide)]
    rw [canon_cols_ne 1 2048 (by decide)]
    rw [canon_cols 1 1024 rfl]
    rfl
  · by_cases h1 : t.val % 32 = 31
    · rw [outsAt0_C m c t h0 h1]
      dsimp only
      unfold out0_C_12
      rw [View.read_writes_eq_canon _ _ _ (fun y => cover0_C_12 (y := y) ..)]
      unfold kernelRun0_C
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 1 3072 (by decide)]
      rw [canon_cols_ne 1 2048 (by decide)]
      rw [canon_cols 1 1024 rfl]
      rfl
    · rw [outsAt0_B m c t h0 h1]
      dsimp only
      unfold out0_B_12
      rw [View.read_writes_eq_canon _ _ _ (fun y => cover0_B_12 (y := y) ..)]
      unfold kernelRun0_B
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 1 3072 (by decide)]
      rw [canon_cols_ne 1 2048 (by decide)]
      rw [canon_cols 1 1024 rfl]
      rfl

/-- Branch 2's columns of the block of the gate gradient. -/
theorem out12_2 (c : Dev nD) (t : Fin cfg0.N) (r : Fin 256) (e : Fin 1024) :
    (outsAt0 m c t.val t.isLt).2.2.2.2.1 (ix2 r (col 2 e)) = tZ (k0_pay3 (F := Ideal) (iblk m c 0 t) (iblk m c 7 t)) (iblk m c 3 t)
      (View.ld (Val := Elt Ideal) (e' := .f32) (iblk m c 5 t) (Rect.unit (s := S256x4096) ![0, 2048] ![256, 1024] inb_S256x4096_S256x1024_0_2048))
      (View.ld (Val := Elt Ideal) (e' := .bf16) (iblk m c 6 t) (Rect.unit (s := S4x256x1024) ![2, 0, 0] ![1, 256, 1024] inb_S4x256x1024_S1x256x1024_2_0_0)) (ix2 r e) := by
  have hN : t.val < 32 := t.isLt
  by_cases h0 : t.val % 32 = 0
  · have h1 : ¬t.val % 32 = 31 := by omega
    rw [outsAt0_A m c t h0 h1]
    dsimp only
    unfold out0_A_12
    rw [View.read_writes_eq_canon _ _ _ (fun y => cover0_A_12 (y := y) ..)]
    unfold kernelRun0_A
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_cols_ne 2 3072 (by decide)]
    rw [canon_cols 2 2048 rfl]
    rfl
  · by_cases h1 : t.val % 32 = 31
    · rw [outsAt0_C m c t h0 h1]
      dsimp only
      unfold out0_C_12
      rw [View.read_writes_eq_canon _ _ _ (fun y => cover0_C_12 (y := y) ..)]
      unfold kernelRun0_C
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 2 3072 (by decide)]
      rw [canon_cols 2 2048 rfl]
      rfl
    · rw [outsAt0_B m c t h0 h1]
      dsimp only
      unfold out0_B_12
      rw [View.read_writes_eq_canon _ _ _ (fun y => cover0_B_12 (y := y) ..)]
      unfold kernelRun0_B
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols_ne 2 3072 (by decide)]
      rw [canon_cols 2 2048 rfl]
      rfl

/-- Branch 3's columns of the block of the gate gradient. -/
theorem out12_3 (c : Dev nD) (t : Fin cfg0.N) (r : Fin 256) (e : Fin 1024) :
    (outsAt0 m c t.val t.isLt).2.2.2.2.1 (ix2 r (col 3 e)) = tZ (k0_pay3 (F := Ideal) (iblk m c 0 t) (iblk m c 7 t)) (iblk m c 4 t)
      (View.ld (Val := Elt Ideal) (e' := .f32) (iblk m c 5 t) (Rect.unit (s := S256x4096) ![0, 3072] ![256, 1024] inb_S256x4096_S256x1024_0_3072))
      (View.ld (Val := Elt Ideal) (e' := .bf16) (iblk m c 6 t) (Rect.unit (s := S4x256x1024) ![3, 0, 0] ![1, 256, 1024] inb_S4x256x1024_S1x256x1024_3_0_0)) (ix2 r e) := by
  have hN : t.val < 32 := t.isLt
  by_cases h0 : t.val % 32 = 0
  · have h1 : ¬t.val % 32 = 31 := by omega
    rw [outsAt0_A m c t h0 h1]
    dsimp only
    unfold out0_A_12
    rw [View.read_writes_eq_canon _ _ _ (fun y => cover0_A_12 (y := y) ..)]
    unfold kernelRun0_A
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_cols 3 3072 rfl]
    rfl
  · by_cases h1 : t.val % 32 = 31
    · rw [outsAt0_C m c t h0 h1]
      dsimp only
      unfold out0_C_12
      rw [View.read_writes_eq_canon _ _ _ (fun y => cover0_C_12 (y := y) ..)]
      unfold kernelRun0_C
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols 3 3072 rfl]
      rfl
    · rw [outsAt0_B m c t h0 h1]
      dsimp only
      unfold out0_B_12
      rw [View.read_writes_eq_canon _ _ _ (fun y => cover0_B_12 (y := y) ..)]
      unfold kernelRun0_B
      dsimp only
      sl_unfold_words
      simp only [View.readAt_eq_ld, Memref.IsWhole.read_unread, View.ld_unit_zero (S := S256x1024) hz2, View.ld_unit_zero (S := S1024x1024) hz2, View.ld_unit_zero (S := S256x256) hz2]
      rw [canon_cols 3 3072 rfl]
      rfl

/-- The block of the gate gradient at branch `b`'s column `e`. -/
theorem out12_apply (c : Dev nD) (t : Fin cfg0.N) (b : Fin 4) (r : Fin 256) (e : Fin 1024) :
    (outsAt0 m c t.val t.isLt).2.2.2.2.1 (ix2 r (col b e)) =
      MergeSpec.dz (bx m c t) (bwo m c t) (ba m c t b) (bz m c t b) (bw m c t b) r e := by
  match b with
  | 0 =>
    refine (out12_0 m c t r e).trans ((tZ_apply ..).trans ?_)
    congr 1
    · funext r e; exact ld_cols 0 _ rfl _ _ r e
    · funext k e; exact ld_slab 0 _ _ k e
  | 1 =>
    refine (out12_1 m c t r e).trans ((tZ_apply ..).trans ?_)
    congr 1
    · funext r e; exact ld_cols 1 _ rfl _ _ r e
    · funext k e; exact ld_slab 1 _ _ k e
  | 2 =>
    refine (out12_2 m c t r e).trans ((tZ_apply ..).trans ?_)
    congr 1
    · funext r e; exact ld_cols 2 _ rfl _ _ r e
    · funext k e; exact ld_slab 2 _ _ k e
  | 3 =>
    refine (out12_3 m c t r e).trans ((tZ_apply ..).trans ?_)
    congr 1
    · funext r e; exact ld_cols 3 _ rfl _ _ r e
    · funext k e; exact ld_slab 3 _ _ k e

end Cert.KernelIdeal.Merge

end
-- ==== Proof.MergeOutW.lean ====
/- The accumulator of the four weight gradients over the grid points of the merge's backward pass. -/
module

public import proofs.«01_k».proof.Proof.MergeSlabs
public import Idealize.ShloMosaic.Lib.Pipeline.ReadBack

@[expose] public section

set_option maxHeartbeats 1000000

noncomputable section

open Idealize.ShloMosaic Idealize.ShloMosaic.TcCoe Idealize.ShloMosaic.ValueIdx Idealize.SL.Sem
open Idealize.ShloMosaic.Pipeline (Dat)

namespace Cert.KernelIdeal.Merge
open Cert.KernelIdeal Cert.KernelIdeal.Gen Cert.KernelIdeal.Value

variable (m : (ℓ : Loc nD τ sig) → Buf (Elt Ideal) ℓ)

/-- A load of writes over unknown contents is the load of what the writes leave. -/
theorem readCov_ld {sig : RefSig} {κ : Kind} {sp : Space} {s : Shape} {e : EltTy} {Val : EltTy → Type} [∀ e, Nonempty (Val e)]
    (v : View sig κ sp s e) (L : List (View.Piece Val s e)) (r : Rect s) : v.readCov L r.toLoadRect = View.ld (View.canon L) r :=
  View.readCov_eq_canon' v L r.toLoadRect

/-- The accumulator's first value is zero everywhere. -/
theorem pay2_apply (i : S4x256x1024.Idx) : k0_pay2 (F := Ideal) i = (0 : EReal) := by
  unfold k0_pay2
  rw [shapeCast_self]
  exact Ideal.ofBits_zero_f32

/-- Slab 0 of the accumulator after the first point: the step from a slab of zeros. -/
theorem acc0_first (c : Dev nD) (t : Fin cfg0.N) (h0 : t.val % 32 = 0) (k : Fin 256) (e : Fin 1024) :
    ∃ s : FVec Ideal S1x256x1024 .f32, (∀ k e, s (ix3 0 k e) = (0 : EReal)) ∧
      (outsAt0 m c t.val t.isLt).2.2.2.2.2.2 (ix3 0 k e) = tW (k0_pay3 (F := Ideal) (iblk m c 0 t) (iblk m c 7 t)) (iblk m c 1 t) (View.ld (Val := Elt Ideal) (e' := .f32) (iblk m c 5 t) (Rect.unit (s := S256x4096) ![0, 0] ![256, 1024] inb_S256x4096_S256x1024_0_0)) s (ix3 0 k e) := by
  have h1 : ¬t.val % 32 = 31 := by omega
  rw [outsAt0_A m c t h0 h1]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread, View.ld_unit_zero (S := S256x1024) hz2, View.ld_unit_zero (S := S1024x1024) hz2, View.ld_unit_zero (S := S256x256) hz2]
  rw [canon_slab_ne 0 3 (by decide)]
  rw [canon_slab_ne 0 2 (by decide)]
  rw [canon_slab_ne 0 1 (by decide)]
  rw [canon_slab 0 0 rfl]
  refine ⟨_, ?_, rfl⟩
  intro k e
  rw [readCov_ld]
  refine (ld_slab 0 _ _ k e).trans ?_
  rw [View.canon_unit_zero hz3]
  exact pay2_apply _

/-- Slab 0 of the accumulator after a later point: the step from the slab the point before left. -/
theorem acc0_next (c : Dev nD) (t : Fin cfg0.N) (h0 : ¬t.val % 32 = 0) (k : Fin 256) (e : Fin 1024) :
    (outsAt0 m c t.val t.isLt).2.2.2.2.2.2 (ix3 0 k e) = tW (k0_pay3 (F := Ideal) (iblk m c 0 t) (iblk m c 7 t)) (iblk m c 1 t) (View.ld (Val := Elt Ideal) (e' := .f32) (iblk m c 5 t) (Rect.unit (s := S256x4096) ![0, 0] ![256, 1024] inb_S256x4096_S256x1024_0_0))
      (View.ld (Val := Elt Ideal) (e' := .f32) (outsAt0 m c (t.val - 1) (by omega)).2.2.2.2.2.2 (Rect.unit (s := S4x256x1024) ![0, 0, 0] ![1, 256, 1024] inb_S4x256x1024_S1x256x1024_0_0_0)) (ix3 0 k e) := by
  by_cases h1 : t.val % 32 = 31
  · rw [outsAt0_C m c t h0 h1]
    dsimp only
    unfold sout0_C_0
    rw [View.read_writes_eq_canon _ _ _ (fun y => scover0_C_0 (y := y) ..)]
    unfold kernelRun0_C
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 0 3 (by decide)]
    rw [canon_slab_ne 0 2 (by decide)]
    rw [canon_slab_ne 0 1 (by decide)]
    rw [canon_slab 0 0 rfl]
    rw [read_unread_whole]
    rfl
  · rw [outsAt0_B m c t h0 h1]
    dsimp only
    unfold sout0_B_0
    rw [View.read_writes_eq_canon _ _ _ (fun y => scover0_B_0 (y := y) ..)]
    unfold kernelRun0_B
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 0 3 (by decide)]
    rw [canon_slab_ne 0 2 (by decide)]
    rw [canon_slab_ne 0 1 (by decide)]
    rw [canon_slab 0 0 rfl]
    rw [read_unread_whole]
    rfl

/-- Slab 1 of the accumulator after the first point: the step from a slab of zeros. -/
theorem acc1_first (c : Dev nD) (t : Fin cfg0.N) (h0 : t.val % 32 = 0) (k : Fin 256) (e : Fin 1024) :
    ∃ s : FVec Ideal S1x256x1024 .f32, (∀ k e, s (ix3 0 k e) = (0 : EReal)) ∧
      (outsAt0 m c t.val t.isLt).2.2.2.2.2.2 (ix3 1 k e) = tW (k0_pay3 (F := Ideal) (iblk m c 0 t) (iblk m c 7 t)) (iblk m c 2 t) (View.ld (Val := Elt Ideal) (e' := .f32) (iblk m c 5 t) (Rect.unit (s := S256x4096) ![0, 1024] ![256, 1024] inb_S256x4096_S256x1024_0_1024)) s (ix3 0 k e) := by
  have h1 : ¬t.val % 32 = 31 := by omega
  rw [outsAt0_A m c t h0 h1]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread, View.ld_unit_zero (S := S256x1024) hz2, View.ld_unit_zero (S := S1024x1024) hz2, View.ld_unit_zero (S := S256x256) hz2]
  rw [canon_slab_ne 1 3 (by decide)]
  rw [canon_slab_ne 1 2 (by decide)]
  rw [canon_slab 1 1 rfl]
  refine ⟨_, ?_, rfl⟩
  intro k e
  rw [readCov_ld]
  refine (ld_slab 1 _ _ k e).trans ?_
  rw [canon_slab_ne 1 0 (by decide)]
  rw [View.canon_unit_zero hz3]
  exact pay2_apply _

/-- Slab 1 of the accumulator after a later point: the step from the slab the point before left. -/
theorem acc1_next (c : Dev nD) (t : Fin cfg0.N) (h0 : ¬t.val % 32 = 0) (k : Fin 256) (e : Fin 1024) :
    (outsAt0 m c t.val t.isLt).2.2.2.2.2.2 (ix3 1 k e) = tW (k0_pay3 (F := Ideal) (iblk m c 0 t) (iblk m c 7 t)) (iblk m c 2 t) (View.ld (Val := Elt Ideal) (e' := .f32) (iblk m c 5 t) (Rect.unit (s := S256x4096) ![0, 1024] ![256, 1024] inb_S256x4096_S256x1024_0_1024))
      (View.ld (Val := Elt Ideal) (e' := .f32) (outsAt0 m c (t.val - 1) (by omega)).2.2.2.2.2.2 (Rect.unit (s := S4x256x1024) ![1, 0, 0] ![1, 256, 1024] inb_S4x256x1024_S1x256x1024_1_0_0)) (ix3 0 k e) := by
  by_cases h1 : t.val % 32 = 31
  · rw [outsAt0_C m c t h0 h1]
    dsimp only
    unfold sout0_C_0
    rw [View.read_writes_eq_canon _ _ _ (fun y => scover0_C_0 (y := y) ..)]
    unfold kernelRun0_C
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 1 3 (by decide)]
    rw [canon_slab_ne 1 2 (by decide)]
    rw [canon_slab 1 1 rfl]
    rw [read_unread_whole]
    rfl
  · rw [outsAt0_B m c t h0 h1]
    dsimp only
    unfold sout0_B_0
    rw [View.read_writes_eq_canon _ _ _ (fun y => scover0_B_0 (y := y) ..)]
    unfold kernelRun0_B
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 1 3 (by decide)]
    rw [canon_slab_ne 1 2 (by decide)]
    rw [canon_slab 1 1 rfl]
    rw [read_unread_whole]
    rfl

/-- Slab 2 of the accumulator after the first point: the step from a slab of zeros. -/
theorem acc2_first (c : Dev nD) (t : Fin cfg0.N) (h0 : t.val % 32 = 0) (k : Fin 256) (e : Fin 1024) :
    ∃ s : FVec Ideal S1x256x1024 .f32, (∀ k e, s (ix3 0 k e) = (0 : EReal)) ∧
      (outsAt0 m c t.val t.isLt).2.2.2.2.2.2 (ix3 2 k e) = tW (k0_pay3 (F := Ideal) (iblk m c 0 t) (iblk m c 7 t)) (iblk m c 3 t) (View.ld (Val := Elt Ideal) (e' := .f32) (iblk m c 5 t) (Rect.unit (s := S256x4096) ![0, 2048] ![256, 1024] inb_S256x4096_S256x1024_0_2048)) s (ix3 0 k e) := by
  have h1 : ¬t.val % 32 = 31 := by omega
  rw [outsAt0_A m c t h0 h1]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread, View.ld_unit_zero (S := S256x1024) hz2, View.ld_unit_zero (S := S1024x1024) hz2, View.ld_unit_zero (S := S256x256) hz2]
  rw [canon_slab_ne 2 3 (by decide)]
  rw [canon_slab 2 2 rfl]
  refine ⟨_, ?_, rfl⟩
  intro k e
  rw [readCov_ld]
  refine (ld_slab 2 _ _ k e).trans ?_
  rw [canon_slab_ne 2 1 (by decide)]
  rw [canon_slab_ne 2 0 (by decide)]
  rw [View.canon_unit_zero hz3]
  exact pay2_apply _

/-- Slab 2 of the accumulator after a later point: the step from the slab the point before left. -/
theorem acc2_next (c : Dev nD) (t : Fin cfg0.N) (h0 : ¬t.val % 32 = 0) (k : Fin 256) (e : Fin 1024) :
    (outsAt0 m c t.val t.isLt).2.2.2.2.2.2 (ix3 2 k e) = tW (k0_pay3 (F := Ideal) (iblk m c 0 t) (iblk m c 7 t)) (iblk m c 3 t) (View.ld (Val := Elt Ideal) (e' := .f32) (iblk m c 5 t) (Rect.unit (s := S256x4096) ![0, 2048] ![256, 1024] inb_S256x4096_S256x1024_0_2048))
      (View.ld (Val := Elt Ideal) (e' := .f32) (outsAt0 m c (t.val - 1) (by omega)).2.2.2.2.2.2 (Rect.unit (s := S4x256x1024) ![2, 0, 0] ![1, 256, 1024] inb_S4x256x1024_S1x256x1024_2_0_0)) (ix3 0 k e) := by
  by_cases h1 : t.val % 32 = 31
  · rw [outsAt0_C m c t h0 h1]
    dsimp only
    unfold sout0_C_0
    rw [View.read_writes_eq_canon _ _ _ (fun y => scover0_C_0 (y := y) ..)]
    unfold kernelRun0_C
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 2 3 (by decide)]
    rw [canon_slab 2 2 rfl]
    rw [read_unread_whole]
    rfl
  · rw [outsAt0_B m c t h0 h1]
    dsimp only
    unfold sout0_B_0
    rw [View.read_writes_eq_canon _ _ _ (fun y => scover0_B_0 (y := y) ..)]
    unfold kernelRun0_B
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab_ne 2 3 (by decide)]
    rw [canon_slab 2 2 rfl]
    rw [read_unread_whole]
    rfl

/-- Slab 3 of the accumulator after the first point: the step from a slab of zeros. -/
theorem acc3_first (c : Dev nD) (t : Fin cfg0.N) (h0 : t.val % 32 = 0) (k : Fin 256) (e : Fin 1024) :
    ∃ s : FVec Ideal S1x256x1024 .f32, (∀ k e, s (ix3 0 k e) = (0 : EReal)) ∧
      (outsAt0 m c t.val t.isLt).2.2.2.2.2.2 (ix3 3 k e) = tW (k0_pay3 (F := Ideal) (iblk m c 0 t) (iblk m c 7 t)) (iblk m c 4 t) (View.ld (Val := Elt Ideal) (e' := .f32) (iblk m c 5 t) (Rect.unit (s := S256x4096) ![0, 3072] ![256, 1024] inb_S256x4096_S256x1024_0_3072)) s (ix3 0 k e) := by
  have h1 : ¬t.val % 32 = 31 := by omega
  rw [outsAt0_A m c t h0 h1]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread, View.ld_unit_zero (S := S256x1024) hz2, View.ld_unit_zero (S := S1024x1024) hz2, View.ld_unit_zero (S := S256x256) hz2]
  rw [canon_slab 3 3 rfl]
  refine ⟨_, ?_, rfl⟩
  intro k e
  rw [readCov_ld]
  refine (ld_slab 3 _ _ k e).trans ?_
  rw [canon_slab_ne 3 2 (by decide)]
  rw [canon_slab_ne 3 1 (by decide)]
  rw [canon_slab_ne 3 0 (by decide)]
  rw [View.canon_unit_zero hz3]
  exact pay2_apply _

/-- Slab 3 of the accumulator after a later point: the step from the slab the point before left. -/
theorem acc3_next (c : Dev nD) (t : Fin cfg0.N) (h0 : ¬t.val % 32 = 0) (k : Fin 256) (e : Fin 1024) :
    (outsAt0 m c t.val t.isLt).2.2.2.2.2.2 (ix3 3 k e) = tW (k0_pay3 (F := Ideal) (iblk m c 0 t) (iblk m c 7 t)) (iblk m c 4 t) (View.ld (Val := Elt Ideal) (e' := .f32) (iblk m c 5 t) (Rect.unit (s := S256x4096) ![0, 3072] ![256, 1024] inb_S256x4096_S256x1024_0_3072))
      (View.ld (Val := Elt Ideal) (e' := .f32) (outsAt0 m c (t.val - 1) (by omega)).2.2.2.2.2.2 (Rect.unit (s := S4x256x1024) ![3, 0, 0] ![1, 256, 1024] inb_S4x256x1024_S1x256x1024_3_0_0)) (ix3 0 k e) := by
  by_cases h1 : t.val % 32 = 31
  · rw [outsAt0_C m c t h0 h1]
    dsimp only
    unfold sout0_C_0
    rw [View.read_writes_eq_canon _ _ _ (fun y => scover0_C_0 (y := y) ..)]
    unfold kernelRun0_C
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab 3 3 rfl]
    rw [read_unread_whole]
    rfl
  · rw [outsAt0_B m c t h0 h1]
    dsimp only
    unfold sout0_B_0
    rw [View.read_writes_eq_canon _ _ _ (fun y => scover0_B_0 (y := y) ..)]
    unfold kernelRun0_B
    dsimp only
    sl_unfold_words
    simp only [View.readAt_eq_ld, Memref.IsWhole.read_unread, View.ld_unit_zero (S := S256x1024) hz2, View.ld_unit_zero (S := S1024x1024) hz2, View.ld_unit_zero (S := S256x256) hz2]
    rw [canon_slab 3 3 rfl]
    rw [read_unread_whole]
    rfl

/-- The accumulator after the first point. -/
theorem acc_first (c : Dev nD) (t : Fin cfg0.N) (h0 : t.val % 32 = 0) (b : Fin 4) (k : Fin 256) (e : Fin 1024) :
    (outsAt0 m c t.val t.isLt).2.2.2.2.2.2 (ix3 b k e) =
      0 + MergeSpec.dw (bx m c t) (bwo m c t) (ba m c t b) (bz m c t b) k e := by
  match b with
  | 0 =>
    obtain ⟨s, hs, h⟩ := acc0_first m c t h0 k e
    refine h.trans ((tW_apply ..).trans ?_)
    rw [hs]
    exact congrArg (fun z => (0 : EReal) + MergeSpec.dw (bx m c t) (bwo m c t) (ba m c t 0) z k e) (funext fun r => funext fun e => ld_cols 0 _ rfl _ _ r e)
  | 1 =>
    obtain ⟨s, hs, h⟩ := acc1_first m c t h0 k e
    refine h.trans ((tW_apply ..).trans ?_)
    rw [hs]
    exact congrArg (fun z => (0 : EReal) + MergeSpec.dw (bx m c t) (bwo m c t) (ba m c t 1) z k e) (funext fun r => funext fun e => ld_cols 1 _ rfl _ _ r e)
  | 2 =>
    obtain ⟨s, hs, h⟩ := acc2_first m c t h0 k e
    refine h.trans ((tW_apply ..).trans ?_)
    rw [hs]
    exact congrArg (fun z => (0 : EReal) + MergeSpec.dw (bx m c t) (bwo m c t) (ba m c t 2) z k e) (funext fun r => funext fun e => ld_cols 2 _ rfl _ _ r e)
  | 3 =>
    obtain ⟨s, hs, h⟩ := acc3_first m c t h0 k e
    refine h.trans ((tW_apply ..).trans ?_)
    rw [hs]
    exact congrArg (fun z => (0 : EReal) + MergeSpec.dw (bx m c t) (bwo m c t) (ba m c t 3) z k e) (funext fun r => funext fun e => ld_cols 3 _ rfl _ _ r e)

/-- The accumulator after a later point. -/
theorem acc_next (c : Dev nD) (t : Fin cfg0.N) (h0 : ¬t.val % 32 = 0) (b : Fin 4) (k : Fin 256) (e : Fin 1024) :
    (outsAt0 m c t.val t.isLt).2.2.2.2.2.2 (ix3 b k e) = (outsAt0 m c (t.val - 1) (by omega)).2.2.2.2.2.2 (ix3 b k e)
      + MergeSpec.dw (bx m c t) (bwo m c t) (ba m c t b) (bz m c t b) k e := by
  match b with
  | 0 =>
    refine (acc0_next m c t h0 k e).trans ((tW_apply ..).trans ?_)
    refine congrArg₂ (· + ·) (ld_slab 0 _ _ k e) ?_
    exact congrArg (fun z => MergeSpec.dw (bx m c t) (bwo m c t) (ba m c t 0) z k e) (funext fun r => funext fun e => ld_cols 0 _ rfl _ _ r e)
  | 1 =>
    refine (acc1_next m c t h0 k e).trans ((tW_apply ..).trans ?_)
    refine congrArg₂ (· + ·) (ld_slab 1 _ _ k e) ?_
    exact congrArg (fun z => MergeSpec.dw (bx m c t) (bwo m c t) (ba m c t 1) z k e) (funext fun r => funext fun e => ld_cols 1 _ rfl _ _ r e)
  | 2 =>
    refine (acc2_next m c t h0 k e).trans ((tW_apply ..).trans ?_)
    refine congrArg₂ (· + ·) (ld_slab 2 _ _ k e) ?_
    exact congrArg (fun z => MergeSpec.dw (bx m c t) (bwo m c t) (ba m c t 2) z k e) (funext fun r => funext fun e => ld_cols 2 _ rfl _ _ r e)
  | 3 =>
    refine (acc3_next m c t h0 k e).trans ((tW_apply ..).trans ?_)
    refine congrArg₂ (· + ·) (ld_slab 3 _ _ k e) ?_
    exact congrArg (fun z => MergeSpec.dw (bx m c t) (bwo m c t) (ba m c t 3) z k e) (funext fun r => funext fun e => ld_cols 3 _ rfl _ _ r e)

/-- The accumulator's sixteen-bit copy is the accumulator. -/
theorem pay1_apply (s : FVec Ideal S4x256x1024 .f32) (i : S4x256x1024.Idx) : k0_pay1 (F := Ideal) s i = s i := rfl

/-- Slab 0 of the weight gradients written at the last point. -/
theorem out13_0 (c : Dev nD) (t : Fin cfg0.N) (h1 : t.val % 32 = 31) (k : Fin 256) (e : Fin 1024) :
    (outsAt0 m c t.val t.isLt).2.2.2.2.2.1 (ix3 0 k e) = tW (k0_pay3 (F := Ideal) (iblk m c 0 t) (iblk m c 7 t)) (iblk m c 1 t) (View.ld (Val := Elt Ideal) (e' := .f32) (iblk m c 5 t) (Rect.unit (s := S256x4096) ![0, 0] ![256, 1024] inb_S256x4096_S256x1024_0_0))
      (View.ld (Val := Elt Ideal) (e' := .f32) (outsAt0 m c (t.val - 1) (by omega)).2.2.2.2.2.2 (Rect.unit (s := S4x256x1024) ![0, 0, 0] ![1, 256, 1024] inb_S4x256x1024_S1x256x1024_0_0_0)) (ix3 0 k e) := by
  have h0 : ¬t.val % 32 = 0 := by omega
  rw [outsAt0_C m c t h0 h1]
  dsimp only
  unfold out0_C_13
  rw [View.read_writes_eq_canon _ _ _ (fun y => cover0_C_13 (y := y) ..)]
  unfold kernelRun0_C
  dsimp only
  sl_unfold_words
  rw [View.canon_unit_zero hz3, pay1_apply, readCov_ld, View.ld_unit_zero (S := S4x256x1024) hz3]
  simp only [View.readAt_eq_ld, Memref.IsWhole.read_unread, View.ld_unit_zero (S := S256x1024) hz2, View.ld_unit_zero (S := S1024x1024) hz2, View.ld_unit_zero (S := S256x256) hz2]
  rw [canon_slab_ne 0 3 (by decide)]
  rw [canon_slab_ne 0 2 (by decide)]
  rw [canon_slab_ne 0 1 (by decide)]
  rw [canon_slab 0 0 rfl]
  rw [read_unread_whole]
  rfl

/-- Slab 1 of the weight gradients written at the last point. -/
theorem out13_1 (c : Dev nD) (t : Fin cfg0.N) (h1 : t.val % 32 = 31) (k : Fin 256) (e : Fin 1024) :
    (outsAt0 m c t.val t.isLt).2.2.2.2.2.1 (ix3 1 k e) = tW (k0_pay3 (F := Ideal) (iblk m c 0 t) (iblk m c 7 t)) (iblk m c 2 t) (View.ld (Val := Elt Ideal) (e' := .f32) (iblk m c 5 t) (Rect.unit (s := S256x4096) ![0, 1024] ![256, 1024] inb_S256x4096_S256x1024_0_1024))
      (View.ld (Val := Elt Ideal) (e' := .f32) (outsAt0 m c (t.val - 1) (by omega)).2.2.2.2.2.2 (Rect.unit (s := S4x256x1024) ![1, 0, 0] ![1, 256, 1024] inb_S4x256x1024_S1x256x1024_1_0_0)) (ix3 0 k e) := by
  have h0 : ¬t.val % 32 = 0 := by omega
  rw [outsAt0_C m c t h0 h1]
  dsimp only
  unfold out0_C_13
  rw [View.read_writes_eq_canon _ _ _ (fun y => cover0_C_13 (y := y) ..)]
  unfold kernelRun0_C
  dsimp only
  sl_unfold_words
  rw [View.canon_unit_zero hz3, pay1_apply, readCov_ld, View.ld_unit_zero (S := S4x256x1024) hz3]
  simp only [View.readAt_eq_ld, Memref.IsWhole.read_unread, View.ld_unit_zero (S := S256x1024) hz2, View.ld_unit_zero (S := S1024x1024) hz2, View.ld_unit_zero (S := S256x256) hz2]
  rw [canon_slab_ne 1 3 (by decide)]
  rw [canon_slab_ne 1 2 (by decide)]
  rw [canon_slab 1 1 rfl]
  rw [read_unread_whole]
  rfl

/-- Slab 2 of the weight gradients written at the last point. -/
theorem out13_2 (c : Dev nD) (t : Fin cfg0.N) (h1 : t.val % 32 = 31) (k : Fin 256) (e : Fin 1024) :
    (outsAt0 m c t.val t.isLt).2.2.2.2.2.1 (ix3 2 k e) = tW (k0_pay3 (F := Ideal) (iblk m c 0 t) (iblk m c 7 t)) (iblk m c 3 t) (View.ld (Val := Elt Ideal) (e' := .f32) (iblk m c 5 t) (Rect.unit (s := S256x4096) ![0, 2048] ![256, 1024] inb_S256x4096_S256x1024_0_2048))
      (View.ld (Val := Elt Ideal) (e' := .f32) (outsAt0 m c (t.val - 1) (by omega)).2.2.2.2.2.2 (Rect.unit (s := S4x256x1024) ![2, 0, 0] ![1, 256, 1024] inb_S4x256x1024_S1x256x1024_2_0_0)) (ix3 0 k e) := by
  have h0 : ¬t.val % 32 = 0 := by omega
  rw [outsAt0_C m c t h0 h1]
  dsimp only
  unfold out0_C_13
  rw [View.read_writes_eq_canon _ _ _ (fun y => cover0_C_13 (y := y) ..)]
  unfold kernelRun0_C
  dsimp only
  sl_unfold_words
  rw [View.canon_unit_zero hz3, pay1_apply, readCov_ld, View.ld_unit_zero (S := S4x256x1024) hz3]
  simp only [View.readAt_eq_ld, Memref.IsWhole.read_unread, View.ld_unit_zero (S := S256x1024) hz2, View.ld_unit_zero (S := S1024x1024) hz2, View.ld_unit_zero (S := S256x256) hz2]
  rw [canon_slab_ne 2 3 (by decide)]
  rw [canon_slab 2 2 rfl]
  rw [read_unread_whole]
  rfl

/-- Slab 3 of the weight gradients written at the last point. -/
theorem out13_3 (c : Dev nD) (t : Fin cfg0.N) (h1 : t.val % 32 = 31) (k : Fin 256) (e : Fin 1024) :
    (outsAt0 m c t.val t.isLt).2.2.2.2.2.1 (ix3 3 k e) = tW (k0_pay3 (F := Ideal) (iblk m c 0 t) (iblk m c 7 t)) (iblk m c 4 t) (View.ld (Val := Elt Ideal) (e' := .f32) (iblk m c 5 t) (Rect.unit (s := S256x4096) ![0, 3072] ![256, 1024] inb_S256x4096_S256x1024_0_3072))
      (View.ld (Val := Elt Ideal) (e' := .f32) (outsAt0 m c (t.val - 1) (by omega)).2.2.2.2.2.2 (Rect.unit (s := S4x256x1024) ![3, 0, 0] ![1, 256, 1024] inb_S4x256x1024_S1x256x1024_3_0_0)) (ix3 0 k e) := by
  have h0 : ¬t.val % 32 = 0 := by omega
  rw [outsAt0_C m c t h0 h1]
  dsimp only
  unfold out0_C_13
  rw [View.read_writes_eq_canon _ _ _ (fun y => cover0_C_13 (y := y) ..)]
  unfold kernelRun0_C
  dsimp only
  sl_unfold_words
  rw [View.canon_unit_zero hz3, pay1_apply, readCov_ld, View.ld_unit_zero (S := S4x256x1024) hz3]
  simp only [View.readAt_eq_ld, Memref.IsWhole.read_unread, View.ld_unit_zero (S := S256x1024) hz2, View.ld_unit_zero (S := S1024x1024) hz2, View.ld_unit_zero (S := S256x256) hz2]
  rw [canon_slab 3 3 rfl]
  rw [read_unread_whole]
  rfl

/-- The weight gradients written at the last point are the accumulator. -/
theorem out13_eq (c : Dev nD) (t : Fin cfg0.N) (h1 : t.val % 32 = 31) (b : Fin 4) (k : Fin 256) (e : Fin 1024) :
    (outsAt0 m c t.val t.isLt).2.2.2.2.2.1 (ix3 b k e) = (outsAt0 m c t.val t.isLt).2.2.2.2.2.2 (ix3 b k e) := by
  have h0 : ¬t.val % 32 = 0 := by omega
  match b with
  | 0 => exact (out13_0 m c t h1 k e).trans (acc0_next m c t h0 k e).symm
  | 1 => exact (out13_1 m c t h1 k e).trans (acc1_next m c t h0 k e).symm
  | 2 => exact (out13_2 m c t h1 k e).trans (acc2_next m c t h0 k e).symm
  | 3 => exact (out13_3 m c t h1 k e).trans (acc3_next m c t h0 k e).symm

end Cert.KernelIdeal.Merge

end
-- ==== Proof.Stack.lean ====
/- A stack of four [256, 1024] arrays read at an index. -/
module

public import Idealize.ShloMosaic.Lib.ValueIdx
public import Idealize.ShloMosaic.Lib.Pipeline.Value

@[expose] public section

namespace Cert.Stack
open Idealize.ShloMosaic Idealize.ShloMosaic.ValueIdx

variable {α : Type} (x0 x1 x2 x3 : (⟨3, ![1, 256, 1024]⟩ : Shape).Idx → α)
  (h : Shape.Concatenates [⟨3, ![1, 256, 1024]⟩, ⟨3, ![1, 256, 1024]⟩, ⟨3, ![1, 256, 1024]⟩, ⟨3, ![1, 256, 1024]⟩] ⟨3, ![4, 256, 1024]⟩ 0)
  (k : Fin 256) (e : Fin 1024)

/-- Slab 0 of the stack is the array 0. -/
theorem stack0 : concatenate ⟨3, ![4, 256, 1024]⟩ 0 [⟨_, x0⟩, ⟨_, x1⟩, ⟨_, x2⟩, ⟨_, x3⟩] h (ix3 0 k e) = x0 (ix3 0 k e) := by
  refine concatenate_apply_piece _ _ _ _ 0 ?_ ⟨3, ![1, 256, 1024]⟩ x0 ?_ ?_ 0 ?_ _ ?_ ?_
  · show 0 < 4
    decide
  · rfl
  · rfl
  · rfl
  · intro a ha
    match a with
    | ⟨0, _⟩ => exact absurd rfl ha
    | ⟨1, _⟩ => rfl
    | ⟨2, _⟩ => rfl
  · rfl

/-- Slab 1 of the stack is the array 1. -/
theorem stack1 : concatenate ⟨3, ![4, 256, 1024]⟩ 0 [⟨_, x0⟩, ⟨_, x1⟩, ⟨_, x2⟩, ⟨_, x3⟩] h (ix3 1 k e) = x1 (ix3 0 k e) := by
  refine concatenate_apply_piece _ _ _ _ 1 ?_ ⟨3, ![1, 256, 1024]⟩ x1 ?_ ?_ 1 ?_ _ ?_ ?_
  · show 1 < 4
    decide
  · rfl
  · rfl
  · rfl
  · intro a ha
    match a with
    | ⟨0, _⟩ => exact absurd rfl ha
    | ⟨1, _⟩ => rfl
    | ⟨2, _⟩ => rfl
  · rfl

/-- Slab 2 of the stack is the array 2. -/
theorem stack2 : concatenate ⟨3, ![4, 256, 1024]⟩ 0 [⟨_, x0⟩, ⟨_, x1⟩, ⟨_, x2⟩, ⟨_, x3⟩] h (ix3 2 k e) = x2 (ix3 0 k e) := by
  refine concatenate_apply_piece _ _ _ _ 2 ?_ ⟨3, ![1, 256, 1024]⟩ x2 ?_ ?_ 2 ?_ _ ?_ ?_
  · show 2 < 4
    decide
  · rfl
  · rfl
  · rfl
  · intro a ha
    match a with
    | ⟨0, _⟩ => exact absurd rfl ha
    | ⟨1, _⟩ => rfl
    | ⟨2, _⟩ => rfl
  · rfl

/-- Slab 3 of the stack is the array 3. -/
theorem stack3 : concatenate ⟨3, ![4, 256, 1024]⟩ 0 [⟨_, x0⟩, ⟨_, x1⟩, ⟨_, x2⟩, ⟨_, x3⟩] h (ix3 3 k e) = x3 (ix3 0 k e) := by
  refine concatenate_apply_piece _ _ _ _ 3 ?_ ⟨3, ![1, 256, 1024]⟩ x3 ?_ ?_ 3 ?_ _ ?_ ?_
  · show 3 < 4
    decide
  · rfl
  · rfl
  · rfl
  · intro a ha
    match a with
    | ⟨0, _⟩ => exact absurd rfl ha
    | ⟨1, _⟩ => rfl
    | ⟨2, _⟩ => rfl
  · rfl

end Cert.Stack

end
-- ==== Proof.MergeFold.lean ====
/- From the grid points of the merge's backward pass to its result arrays: what each window's block reads of the arguments,
   the weight accumulators as sums over all the rows, and the six result arrays entry by entry. -/
module

public import proofs.«01_k».proof.Proof.MergeOutD
public import proofs.«01_k».proof.Proof.MergeOutZ
public import proofs.«01_k».proof.Proof.MergeOutW
public import proofs.«01_k».proof.Proof.Stack

@[expose] public section

set_option maxHeartbeats 1000000

noncomputable section

open Idealize.ShloMosaic Idealize.ShloMosaic.TcCoe Idealize.ShloMosaic.ValueIdx Idealize.SL.Sem
open Idealize.ShloMosaic.Pipeline (Dat)
open scoped BigOperators

namespace Cert.KernelIdeal.Merge
open Cert.KernelIdeal Cert.KernelIdeal.Gen Cert.KernelIdeal.Value

variable (m : (ℓ : Loc nD τ sig) → Buf (Elt Ideal) ℓ)

/-- Row `r` of the `t`-th block of 256 rows. -/
def row (t : Fin cfg0.N) (r : Fin 256) : Fin 8192 := ⟨t.val * 256 + r.val, by have h : t.val < 32 := t.isLt; have := r.isLt; omega⟩

/-- The incoming gradient by row and column. -/
def aX (c : Dev nD) : Fin 8192 → Fin 1024 → EReal := fun r k => (m ((c : Thread nD τ).loc main_arg10) : FVec Ideal S8192x1024 .f32) (ix2 r k)
/-- The output weight by row and column. -/
def aWo (c : Dev nD) : Fin 1024 → Fin 1024 → EReal := fun e k => (m ((c : Thread nD τ).loc main_arg9) : FVec Ideal S1024x1024 .f32) (ix2 e k)
/-- Branch `b`'s activations by row and column. -/
def aA (c : Dev nD) (b : Fin 4) : Fin 8192 → Fin 256 → EReal := fun r k =>
  match b with
  | 0 => (m ((c : Thread nD τ).loc main_arg0) : FVec Ideal S8192x256 .f32) (ix2 r k)
  | 1 => (m ((c : Thread nD τ).loc main_arg1) : FVec Ideal S8192x256 .f32) (ix2 r k)
  | 2 => (m ((c : Thread nD τ).loc main_arg2) : FVec Ideal S8192x256 .f32) (ix2 r k)
  | 3 => (m ((c : Thread nD τ).loc main_arg3) : FVec Ideal S8192x256 .f32) (ix2 r k)
/-- Branch `b`'s gates before the sigmoid by row and column. -/
def aZ (c : Dev nD) (b : Fin 4) : Fin 8192 → Fin 1024 → EReal := fun r e => (m ((c : Thread nD τ).loc main_arg4) : FVec Ideal S8192x4096 .f32) (ix2 r (col b e))
/-- Branch `b`'s weight by row and column. -/
def aW (c : Dev nD) (b : Fin 4) : Fin 256 → Fin 1024 → EReal := fun k e =>
  match b with
  | 0 => (m ((c : Thread nD τ).loc main_arg5) : FVec Ideal S256x1024 .f32) (ix2 k e)
  | 1 => (m ((c : Thread nD τ).loc main_arg6) : FVec Ideal S256x1024 .f32) (ix2 k e)
  | 2 => (m ((c : Thread nD τ).loc main_arg7) : FVec Ideal S256x1024 .f32) (ix2 k e)
  | 3 => (m ((c : Thread nD τ).loc main_arg8) : FVec Ideal S256x1024 .f32) (ix2 k e)

/-- The call's incoming gradient is the argument, its cast the identity. -/
theorem V_v6 (c : Dev nD) (i : S8192x1024.Idx) : (V m c main_v6 : FVec Ideal S8192x1024 .bf16) i = (m ((c : Thread nD τ).loc main_arg10) : FVec Ideal S8192x1024 .f32) i := by
  unfold V hostOps0
  after_results
  rfl

/-- The call's output weight is the argument, its cast the identity. -/
theorem V_v7 (c : Dev nD) (i : S1024x1024.Idx) : (V m c main_v7 : FVec Ideal S1024x1024 .bf16) i = (m ((c : Thread nD τ).loc main_arg9) : FVec Ideal S1024x1024 .f32) i := by
  unfold V hostOps0
  after_results
  rfl

/-- The call's stacked weights as a stack of four slabs. -/
theorem V_v5_stack (c : Dev nD) : @Eq (FVec Ideal S4x256x1024 .bf16) (V m c main_v5)
    (truncf .bf16 (concatenate S4x256x1024 0 [
      ⟨S1x256x1024, (broadcastInDim S1x256x1024 ![1, 2] bcast_S256x1024_S1x256x1024_1_2 (m ((c : Thread nD τ).loc main_arg5) : FVec Ideal S256x1024 .f32) : FVec Ideal S1x256x1024 .f32)⟩,
      ⟨S1x256x1024, (broadcastInDim S1x256x1024 ![1, 2] bcast_S256x1024_S1x256x1024_1_2 (m ((c : Thread nD τ).loc main_arg6) : FVec Ideal S256x1024 .f32) : FVec Ideal S1x256x1024 .f32)⟩,
      ⟨S1x256x1024, (broadcastInDim S1x256x1024 ![1, 2] bcast_S256x1024_S1x256x1024_1_2 (m ((c : Thread nD τ).loc main_arg7) : FVec Ideal S256x1024 .f32) : FVec Ideal S1x256x1024 .f32)⟩,
      ⟨S1x256x1024, (broadcastInDim S1x256x1024 ![1, 2] bcast_S256x1024_S1x256x1024_1_2 (m ((c : Thread nD τ).loc main_arg8) : FVec Ideal S256x1024 .f32) : FVec Ideal S1x256x1024 .f32)⟩]
      concatenates_S1x256x1024_S1x256x1024_S1x256x1024_S1x256x1024_S4x256x1024_d0) bitsLt_bf16_f32) := by
  unfold V hostOps0
  after_results_simp <;> (try dsimp only [Matrix.cons_val]) <;> (try after_results_simp) <;> rfl

/-- The call's stacked weights are the four arguments, one a slab. -/
theorem V_v5 (c : Dev nD) (b : Fin 4) (k : Fin 256) (e : Fin 1024) : (V m c main_v5 : FVec Ideal S4x256x1024 .bf16) (ix3 b k e) = aW m c b k e := by
  rw [V_v5_stack]
  refine (truncf_apply (φ := .f32) (ψ := .bf16) _ bitsLt_bf16_f32 _).trans ?_
  unfold aW
  match b with
  | 0 =>
    refine (Cert.Stack.stack0 _ _ _ _ _ k e).trans ?_
    exact broadcastInDim_apply _ _ _ _ (ix2 k e) (fun a => match a with | ⟨0, _⟩ => rfl | ⟨1, _⟩ => rfl)
  | 1 =>
    refine (Cert.Stack.stack1 _ _ _ _ _ k e).trans ?_
    exact broadcastInDim_apply _ _ _ _ (ix2 k e) (fun a => match a with | ⟨0, _⟩ => rfl | ⟨1, _⟩ => rfl)
  | 2 =>
    refine (Cert.Stack.stack2 _ _ _ _ _ k e).trans ?_
    exact broadcastInDim_apply _ _ _ _ (ix2 k e) (fun a => match a with | ⟨0, _⟩ => rfl | ⟨1, _⟩ => rfl)
  | 3 =>
    refine (Cert.Stack.stack3 _ _ _ _ _ k e).trans ?_
    exact broadcastInDim_apply _ _ _ _ (ix2 k e) (fun a => match a with | ⟨0, _⟩ => rfl | ⟨1, _⟩ => rfl)

/-- The block of window 0 at a point. -/
theorem idx0 : ∀ t : Fin cfg0.N, win0_0.index t 0 = t.val ∧ win0_0.index t 1 = 0 := (by decide +kernel : ∀ t : Fin grid0.N, _)

/-- The block of window 1 at a point. -/
theorem idx1 : ∀ t : Fin cfg0.N, win0_1.index t 0 = t.val ∧ win0_1.index t 1 = 0 := (by decide +kernel : ∀ t : Fin grid0.N, _)

/-- The block of window 2 at a point. -/
theorem idx2 : ∀ t : Fin cfg0.N, win0_2.index t 0 = t.val ∧ win0_2.index t 1 = 0 := (by decide +kernel : ∀ t : Fin grid0.N, _)

/-- The block of window 3 at a point. -/
theorem idx3 : ∀ t : Fin cfg0.N, win0_3.index t 0 = t.val ∧ win0_3.index t 1 = 0 := (by decide +kernel : ∀ t : Fin grid0.N, _)

/-- The block of window 4 at a point. -/
theorem idx4 : ∀ t : Fin cfg0.N, win0_4.index t 0 = t.val ∧ win0_4.index t 1 = 0 := (by decide +kernel : ∀ t : Fin grid0.N, _)

/-- The block of window 5 at a point. -/
theorem idx5 : ∀ t : Fin cfg0.N, win0_5.index t 0 = t.val ∧ win0_5.index t 1 = 0 := (by decide +kernel : ∀ t : Fin grid0.N, _)

/-- The whole weights are read at every point. -/
theorem idx6 : ∀ t : Fin cfg0.N, win0_6.index t 0 = 0 ∧ win0_6.index t 1 = 0 ∧ win0_6.index t 2 = 0 := (by decide +kernel : ∀ t : Fin grid0.N, _)

/-- The whole output weight is read at every point. -/
theorem idx7 : ∀ t : Fin cfg0.N, win0_7.index t 0 = 0 ∧ win0_7.index t 1 = 0 := (by decide +kernel : ∀ t : Fin grid0.N, _)

/-- A point's block of the incoming gradient is the argument's block of rows. -/
theorem bx_eq (c : Dev nD) (t : Fin cfg0.N) : bx m c t = fun r k => aX m c (row t r) k := by
  funext r k
  unfold bx iblk
  rw [View.read_apply]
  refine Eq.trans ?_ (V_v6 m c (ix2 (row t r) k))
  refine congrArg (V m c main_v6 : FVec Ideal S8192x1024 .bf16) ?_
  funext a; apply Fin.ext
  match a with
  | ⟨0, _⟩ => show win0_0.index t 0 * 256 + 1 * r.val = t.val * 256 + r.val; rw [(idx0 t).1]; omega
  | ⟨1, _⟩ => show win0_0.index t 1 * 1024 + 1 * k.val = k.val; rw [(idx0 t).2]; omega

/-- A point's output weight is the argument. -/
theorem bwo_eq (c : Dev nD) (t : Fin cfg0.N) : bwo m c t = aWo m c := by
  funext r k
  unfold bwo iblk
  rw [View.read_apply]
  refine Eq.trans ?_ (V_v7 m c (ix2 r k))
  refine congrArg (V m c main_v7 : FVec Ideal S1024x1024 .bf16) ?_
  funext a; apply Fin.ext
  match a with
  | ⟨0, _⟩ => show win0_7.index t 0 * 1024 + 1 * r.val = r.val; rw [(idx7 t).1]; omega
  | ⟨1, _⟩ => show win0_7.index t 1 * 1024 + 1 * k.val = k.val; rw [(idx7 t).2]; omega

/-- A point's block of a branch's gates is the argument's block of rows. -/
theorem bz_eq (c : Dev nD) (t : Fin cfg0.N) (b : Fin 4) : bz m c t b = fun r e => aZ m c b (row t r) e := by
  funext r e
  unfold bz iblk
  rw [View.read_apply]
  refine Eq.trans ?_ (congrFun (V_main_arg4 m c) (ix2 (row t r) (col b e)))
  refine congrArg (V m c main_arg4 : FVec Ideal S8192x4096 .f32) ?_
  funext a; apply Fin.ext
  match a with
  | ⟨0, _⟩ => show win0_5.index t 0 * 256 + 1 * r.val = t.val * 256 + r.val; rw [(idx5 t).1]; omega
  | ⟨1, _⟩ => show win0_5.index t 1 * 4096 + 1 * (col b e).val = (col b e).val; rw [(idx5 t).2]; omega

/-- A point's weight of a branch is the argument. -/
theorem bw_eq (c : Dev nD) (t : Fin cfg0.N) (b : Fin 4) : bw m c t b = aW m c b := by
  funext k e
  unfold bw iblk
  rw [View.read_apply]
  refine Eq.trans ?_ (V_v5 m c b k e)
  refine congrArg (V m c main_v5 : FVec Ideal S4x256x1024 .bf16) ?_
  funext a; apply Fin.ext
  match a with
  | ⟨0, _⟩ => show win0_6.index t 0 * 4 + 1 * b.val = b.val; rw [(idx6 t).1]; omega
  | ⟨1, _⟩ => show win0_6.index t 1 * 256 + 1 * k.val = k.val; rw [(idx6 t).2.1]; omega
  | ⟨2, _⟩ => show win0_6.index t 2 * 1024 + 1 * e.val = e.val; rw [(idx6 t).2.2]; omega

/-- A point's block of branch 0's activations is the argument's block of rows. -/
theorem ba_eq0 (c : Dev nD) (t : Fin cfg0.N) : ba m c t 0 = fun r k => aA m c 0 (row t r) k := by
  funext r k
  unfold ba actB
  dsimp only
  unfold iblk
  rw [View.read_apply]
  refine Eq.trans ?_ (congrFun (V_main_arg0 m c) (ix2 (row t r) k))
  refine congrArg (V m c main_arg0 : FVec Ideal S8192x256 .f32) ?_
  funext a; apply Fin.ext
  match a with
  | ⟨0, _⟩ => show win0_1.index t 0 * 256 + 1 * r.val = t.val * 256 + r.val; rw [(idx1 t).1]; omega
  | ⟨1, _⟩ => show win0_1.index t 1 * 256 + 1 * k.val = k.val; rw [(idx1 t).2]; omega

/-- A point's block of branch 1's activations is the argument's block of rows. -/
theorem ba_eq1 (c : Dev nD) (t : Fin cfg0.N) : ba m c t 1 = fun r k => aA m c 1 (row t r) k := by
  funext r k
  unfold ba actB
  dsimp only
  unfold iblk
  rw [View.read_apply]
  refine Eq.trans ?_ (congrFun (V_main_arg1 m c) (ix2 (row t r) k))
  refine congrArg (V m c main_arg1 : FVec Ideal S8192x256 .f32) ?_
  funext a; apply Fin.ext
  match a with
  | ⟨0, _⟩ => show win0_2.index t 0 * 256 + 1 * r.val = t.val * 256 + r.val; rw [(idx2 t).1]; omega
  | ⟨1, _⟩ => show win0_2.index t 1 * 256 + 1 * k.val = k.val; rw [(idx2 t).2]; omega

/-- A point's block of branch 2's activations is the argument's block of rows. -/
theorem ba_eq2 (c : Dev nD) (t : Fin cfg0.N) : ba m c t 2 = fun r k => aA m c 2 (row t r) k := by
  funext r k
  unfold ba actB
  dsimp only
  unfold iblk
  rw [View.read_apply]
  refine Eq.trans ?_ (congrFun (V_main_arg2 m c) (ix2 (row t r) k))
  refine congrArg (V m c main_arg2 : FVec Ideal S8192x256 .f32) ?_
  funext a; apply Fin.ext
  match a with
  | ⟨0, _⟩ => show win0_3.index t 0 * 256 + 1 * r.val = t.val * 256 + r.val; rw [(idx3 t).1]; omega
  | ⟨1, _⟩ => show win0_3.index t 1 * 256 + 1 * k.val = k.val; rw [(idx3 t).2]; omega

/-- A point's block of branch 3's activations is the argument's block of rows. -/
theorem ba_eq3 (c : Dev nD) (t : Fin cfg0.N) : ba m c t 3 = fun r k => aA m c 3 (row t r) k := by
  funext r k
  unfold ba actB
  dsimp only
  unfold iblk
  rw [View.read_apply]
  refine Eq.trans ?_ (congrFun (V_main_arg3 m c) (ix2 (row t r) k))
  refine congrArg (V m c main_arg3 : FVec Ideal S8192x256 .f32) ?_
  funext a; apply Fin.ext
  match a with
  | ⟨0, _⟩ => show win0_4.index t 0 * 256 + 1 * r.val = t.val * 256 + r.val; rw [(idx4 t).1]; omega
  | ⟨1, _⟩ => show win0_4.index t 1 * 256 + 1 * k.val = k.val; rw [(idx4 t).2]; omega

/-- A point's block of a branch's activations is the argument's block of rows. -/
theorem ba_eq (c : Dev nD) (t : Fin cfg0.N) (b : Fin 4) : ba m c t b = fun r k => aA m c b (row t r) k :=
  match b with
  | 0 => ba_eq0 m c t
  | 1 => ba_eq1 m c t
  | 2 => ba_eq2 m c t
  | 3 => ba_eq3 m c t

/-- The array of branch 0's activation gradient. -/
theorem G8_apply (c : Dev nD) (i : S8192x256.Idx) :
    G8 m c i = MergeSpec.da (aX m c) (aWo m c) (aZ m c 0) (aW m c 0) (i 0) (i 1) := by
  have h0 : (i 0).val < 8192 := (i 0).isLt
  have h1 : (i 1).val < 256 := (i 1).isLt
  have hp : pt8Of i = (i 0).val / 256 := by show 1 * ((i 0).val / 256 - 0) + 1 * ((i 1).val / 256 - 0) = _; omega
  have hN : pt8Of i < cfg0.N := by rw [hp]; show _ < 32; omega
  unfold G8
  rw [dif_pos hN, ← outsAt0_sweep m c _ hN]
  have hl : loc8Of i = ix2 ⟨(i 0).val % 256, Nat.mod_lt _ (by decide)⟩ (i 1) := by
    funext a; apply Fin.ext
    match a with
    | ⟨0, _⟩ => rfl
    | ⟨1, _⟩ => show (i 1).val % 256 = (i 1).val; omega
  rw [hl]
  refine (out8_apply m c ⟨_, hN⟩ _ _).trans ?_
  rw [bx_eq, bwo_eq, bz_eq, bw_eq]
  have hr : row ⟨pt8Of i, hN⟩ ⟨(i 0).val % 256, Nat.mod_lt _ (by decide)⟩ = i 0 := by
    apply Fin.ext; show pt8Of i * 256 + (i 0).val % 256 = (i 0).val; rw [hp]; omega
  exact congrArg (fun r => MergeSpec.da (aX m c) (aWo m c) (aZ m c 0) (aW m c 0) r (i 1)) hr

/-- The array of branch 1's activation gradient. -/
theorem G9_apply (c : Dev nD) (i : S8192x256.Idx) :
    G9 m c i = MergeSpec.da (aX m c) (aWo m c) (aZ m c 1) (aW m c 1) (i 0) (i 1) := by
  have h0 : (i 0).val < 8192 := (i 0).isLt
  have h1 : (i 1).val < 256 := (i 1).isLt
  have hp : pt9Of i = (i 0).val / 256 := by show 1 * ((i 0).val / 256 - 0) + 1 * ((i 1).val / 256 - 0) = _; omega
  have hN : pt9Of i < cfg0.N := by rw [hp]; show _ < 32; omega
  unfold G9
  rw [dif_pos hN, ← outsAt0_sweep m c _ hN]
  have hl : loc9Of i = ix2 ⟨(i 0).val % 256, Nat.mod_lt _ (by decide)⟩ (i 1) := by
    funext a; apply Fin.ext
    match a with
    | ⟨0, _⟩ => rfl
    | ⟨1, _⟩ => show (i 1).val % 256 = (i 1).val; omega
  rw [hl]
  refine (out9_apply m c ⟨_, hN⟩ _ _).trans ?_
  rw [bx_eq, bwo_eq, bz_eq, bw_eq]
  have hr : row ⟨pt9Of i, hN⟩ ⟨(i 0).val % 256, Nat.mod_lt _ (by decide)⟩ = i 0 := by
    apply Fin.ext; show pt9Of i * 256 + (i 0).val % 256 = (i 0).val; rw [hp]; omega
  exact congrArg (fun r => MergeSpec.da (aX m c) (aWo m c) (aZ m c 1) (aW m c 1) r (i 1)) hr

/-- The array of branch 2's activation gradient. -/
theorem G10_apply (c : Dev nD) (i : S8192x256.Idx) :
    G10 m c i = MergeSpec.da (aX m c) (aWo m c) (aZ m c 2) (aW m c 2) (i 0) (i 1) := by
  have h0 : (i 0).val < 8192 := (i 0).isLt
  have h1 : (i 1).val < 256 := (i 1).isLt
  have hp : pt10Of i = (i 0).val / 256 := by show 1 * ((i 0).val / 256 - 0) + 1 * ((i 1).val / 256 - 0) = _; omega
  have hN : pt10Of i < cfg0.N := by rw [hp]; show _ < 32; omega
  unfold G10
  rw [dif_pos hN, ← outsAt0_sweep m c _ hN]
  have hl : loc10Of i = ix2 ⟨(i 0).val % 256, Nat.mod_lt _ (by decide)⟩ (i 1) := by
    funext a; apply Fin.ext
    match a with
    | ⟨0, _⟩ => rfl
    | ⟨1, _⟩ => show (i 1).val % 256 = (i 1).val; omega
  rw [hl]
  refine (out10_apply m c ⟨_, hN⟩ _ _).trans ?_
  rw [bx_eq, bwo_eq, bz_eq, bw_eq]
  have hr : row ⟨pt10Of i, hN⟩ ⟨(i 0).val % 256, Nat.mod_lt _ (by decide)⟩ = i 0 := by
    apply Fin.ext; show pt10Of i * 256 + (i 0).val % 256 = (i 0).val; rw [hp]; omega
  exact congrArg (fun r => MergeSpec.da (aX m c) (aWo m c) (aZ m c 2) (aW m c 2) r (i 1)) hr

/-- The array of branch 3's activation gradient. -/
theorem G11_apply (c : Dev nD) (i : S8192x256.Idx) :
    G11 m c i = MergeSpec.da (aX m c) (aWo m c) (aZ m c 3) (aW m c 3) (i 0) (i 1) := by
  have h0 : (i 0).val < 8192 := (i 0).isLt
  have h1 : (i 1).val < 256 := (i 1).isLt
  have hp : pt11Of i = (i 0).val / 256 := by show 1 * ((i 0).val / 256 - 0) + 1 * ((i 1).val / 256 - 0) = _; omega
  have hN : pt11Of i < cfg0.N := by rw [hp]; show _ < 32; omega
  unfold G11
  rw [dif_pos hN, ← outsAt0_sweep m c _ hN]
  have hl : loc11Of i = ix2 ⟨(i 0).val % 256, Nat.mod_lt _ (by decide)⟩ (i 1) := by
    funext a; apply Fin.ext
    match a with
    | ⟨0, _⟩ => rfl
    | ⟨1, _⟩ => show (i 1).val % 256 = (i 1).val; omega
  rw [hl]
  refine (out11_apply m c ⟨_, hN⟩ _ _).trans ?_
  rw [bx_eq, bwo_eq, bz_eq, bw_eq]
  have hr : row ⟨pt11Of i, hN⟩ ⟨(i 0).val % 256, Nat.mod_lt _ (by decide)⟩ = i 0 := by
    apply Fin.ext; show pt11Of i * 256 + (i 0).val % 256 = (i 0).val; rw [hp]; omega
  exact congrArg (fun r => MergeSpec.da (aX m c) (aWo m c) (aZ m c 3) (aW m c 3) r (i 1)) hr

/-- The array of the gate gradient, at branch `b`'s column `e`. -/
theorem G12_apply (c : Dev nD) (r : Fin 8192) (b : Fin 4) (e : Fin 1024) :
    G12 m c (ix2 r (col b e)) = MergeSpec.dz (aX m c) (aWo m c) (aA m c b) (aZ m c b) (aW m c b) r e := by
  have h0 := r.isLt
  have h1 := (col b e).isLt
  have hp : pt12Of (ix2 r (col b e)) = r.val / 256 := by show 1 * (r.val / 256 - 0) + 1 * ((col b e).val / 4096 - 0) = _; omega
  have hN : pt12Of (ix2 r (col b e)) < cfg0.N := by rw [hp]; show _ < 32; omega
  unfold G12
  rw [dif_pos hN, ← outsAt0_sweep m c _ hN]
  have hl : loc12Of (ix2 r (col b e)) = ix2 ⟨r.val % 256, Nat.mod_lt _ (by decide)⟩ (col b e) := by
    funext a; apply Fin.ext
    match a with
    | ⟨0, _⟩ => rfl
    | ⟨1, _⟩ => show (col b e).val % 4096 = (col b e).val; omega
  rw [hl]
  refine (out12_apply m c ⟨_, hN⟩ _ _ _).trans ?_
  rw [bx_eq, bwo_eq, bz_eq, bw_eq, ba_eq]
  have hr : row ⟨pt12Of (ix2 r (col b e)), hN⟩ ⟨r.val % 256, Nat.mod_lt _ (by decide)⟩ = r := by
    apply Fin.ext; show pt12Of (ix2 r (col b e)) * 256 + r.val % 256 = r.val; rw [hp]; omega
  exact congrArg (fun r => MergeSpec.dz (aX m c) (aWo m c) (aA m c b) (aZ m c b) (aW m c b) r e) hr

/-- One row's term of a branch's weight gradient. -/
def term (c : Dev nD) (b : Fin 4) (k : Fin 256) (e : Fin 1024) (r : Fin 8192) : EReal :=
  aA m c b r k * MergeSpec.dp (aX m c) (aWo m c) (aZ m c b) r e

/-- After a point the accumulator is the sum over the blocks up to it. -/
theorem acc_sum (c : Dev nD) (b : Fin 4) (k : Fin 256) (e : Fin 1024) : ∀ (n : ℕ) (hn : n < cfg0.N),
    (outsAt0 m c n hn).2.2.2.2.2.2 (ix3 b k e) = ∑ t : Fin (n + 1), ∑ r : Fin 256, term m c b k e (row ⟨t.val, by have := t.isLt; omega⟩ r)
  | 0, hn => by
    refine (acc_first m c ⟨0, hn⟩ rfl b k e).trans ?_
    rw [bx_eq, bwo_eq, bz_eq, ba_eq, zero_add, Fin.sum_univ_one]
    rfl
  | n + 1, hn => by
    have hN : n + 1 < 32 := hn
    refine (acc_next m c ⟨n + 1, hn⟩ (by show ¬(n + 1) % 32 = 0; omega) b k e).trans ?_
    rw [Fin.sum_univ_castSucc]
    refine congrArg₂ (· + ·) (acc_sum c b k e n (by omega)) ?_
    rw [bx_eq, bwo_eq, bz_eq, ba_eq]
    rfl

/-- The array of the weight gradients, at branch `b`. -/
theorem G13_apply (c : Dev nD) (b : Fin 4) (k : Fin 256) (e : Fin 1024) :
    G13 m c (ix3 b k e) = MergeSpec.dw (aX m c) (aWo m c) (aA m c b) (aZ m c b) k e := by
  have hN : 31 < cfg0.N := by decide
  rw [G13_last, ← outsAt0_sweep m c 31 hN]
  refine (out13_eq m c ⟨31, hN⟩ rfl b k e).trans ((acc_sum m c b k e 31 hN).trans ?_)
  exact Products.sum_blocks (n := 32) (b := 256) (term m c b k e)

end Cert.KernelIdeal.Merge

end
-- ==== Proof.MergeRef.lean ====
/- The reference's results, entry by entry: the gradients `jax.vjp` gives of the gated merge are those of MergeSpec, the
   products and sums in another order. -/
module

public import proofs.«01_k».proof.Proof.Gen.ReferenceIdeal.Read
public import proofs.«01_k».proof.Proof.MergeSpec
public import proofs.«01_k».proof.Proof.Stack
public import Idealize.ShloMosaic.Lib.ValueIdx
public import Idealize.ShloMosaic.Lib.KernelVsHost
public import Idealize.ShloMosaic.Lib.Pipeline.Value

@[expose] public section

set_option maxHeartbeats 1000000

noncomputable section

open Idealize.ShloMosaic Idealize.ShloMosaic.TcCoe Idealize.ShloMosaic.ValueIdx Idealize.SL.Sem
open scoped BigOperators

namespace Cert.ReferenceIdeal.Merge
open Cert.ReferenceIdeal Cert.ReferenceIdeal.Gen Cert.ReferenceIdeal.Read

/-- An index of two axes is given by its two coordinates. -/
theorem ext2 {n0 n1 : Nat} (i : (⟨2, ![n0, n1]⟩ : Shape).Idx) (r : Fin n0) (k : Fin n1) (h0 : (i 0).val = r.val)
    (h1 : (i 1).val = k.val) : i = ix2 r k := by
  funext a; apply Fin.ext
  match a with
  | ⟨0, _⟩ => exact h0
  | ⟨1, _⟩ => exact h1

/-- An index of three axes is given by its three coordinates. -/
theorem ext3 {n0 n1 n2 : Nat} (i : (⟨3, ![n0, n1, n2]⟩ : Shape).Idx) (r : Fin n0) (k : Fin n1) (l : Fin n2)
    (h0 : (i 0).val = r.val) (h1 : (i 1).val = k.val) (h2 : (i 2).val = l.val) : i = ix3 r k l := by
  funext a; apply Fin.ext
  match a with
  | ⟨0, _⟩ => exact h0
  | ⟨1, _⟩ => exact h1
  | ⟨2, _⟩ => exact h2

/-- The word of one in f32. -/
theorem one_word : Ideal.ofBits .f32 0x3F800000#32 = 1 := by
  simp [Ideal.ofBits, Ideal.ieee, -EReal.coe_mul]; norm_num

/-- The word of zero in f32. -/
theorem zero_word : Ideal.ofBits .f32 0x00000000#32 = 0 := by
  simp [Ideal.ofBits, Ideal.ieee]

/-- Column `e` of the `b`-th block of 1024 columns. -/
def rcol (b : Fin 4) (e : Fin 1024) : Fin 4096 := ⟨b.val * 1024 + e.val, by have := b.isLt; have := e.isLt; omega⟩

variable (x0 x1 x2 x3 : (⟨S8192x256, .f32⟩ : BufTy).Contents (Elt Ideal)) (x4 : (⟨S8192x4096, .f32⟩ : BufTy).Contents (Elt Ideal))
  (x5 x6 x7 x8 : (⟨S256x1024, .f32⟩ : BufTy).Contents (Elt Ideal)) (x9 : (⟨S1024x1024, .f32⟩ : BufTy).Contents (Elt Ideal))
  (x10 : (⟨S8192x1024, .f32⟩ : BufTy).Contents (Elt Ideal))

/-- The incoming gradient by row and column. -/
abbrev rX : Fin 8192 → Fin 1024 → EReal := fun r k => x10 (ix2 r k)
/-- The output weight by row and column. -/
abbrev rWo : Fin 1024 → Fin 1024 → EReal := fun e k => x9 (ix2 e k)
/-- The gates of the branch `b` before the sigmoid by row and column. -/
abbrev rZ (b : Fin 4) : Fin 8192 → Fin 1024 → EReal := fun r e => x4 (ix2 r (rcol b e))
/-- A branch's activations by row and column. -/
abbrev rA (x : (⟨S8192x256, .f32⟩ : BufTy).Contents (Elt Ideal)) : Fin 8192 → Fin 256 → EReal := fun r k => x (ix2 r k)
/-- A branch's weight by row and column. -/
abbrev rW (x : (⟨S256x1024, .f32⟩ : BufTy).Contents (Elt Ideal)) : Fin 256 → Fin 1024 → EReal := fun k e => x (ix2 k e)

/-- The quotient 1 / (1 + exp (-z)) is the sigmoid. -/
theorem gates (i : S8192x4096.Idx) : val_main_v9 (F := Ideal) x4 i = Ideal.logistic (x4 i) := by
  rw [val_main_v9_apply, val_main_v8_apply, val_main_cst_0_apply, val_main_v7_apply, val_main_v6_apply, val_main_cst_apply,
    val_main_v5_apply, val_main_v4_apply]
  show Ideal.div (Ideal.ofBits .f32 0x3F800000#32) (Ideal.ofBits .f32 0x3F800000#32 + Ideal.exp (-(x4 i))) = _
  rw [one_word]
  rfl

/-- The sigmoid's derivative. -/
theorem slopes (i : S8192x4096.Idx) : val_main_v12 (F := Ideal) x4 i = Ideal.logistic (x4 i) * (1 - Ideal.logistic (x4 i)) := by
  rw [val_main_v12_apply, val_main_v11_apply, val_main_v10_apply, val_main_cst_1_apply, gates]
  show Ideal.logistic (x4 i) * (Ideal.ofBits .f32 0x3F800000#32 - Ideal.logistic (x4 i)) = _
  rw [one_word]

/-- The gradient of the merged sum. -/
theorem merged (r : Fin 8192) (e : Fin 1024) : val_main_v32 (F := Ideal) x9 x10 (ix2 r e) = MergeSpec.dm (rX x10) (rWo x9) r e := by
  rw [val_main_v32_apply]
  exact Finset.sum_congr rfl fun k _ => congrArg₂ (· * ·) (congrArg x10 (ext2 _ r k rfl rfl)) (congrArg x9 (ext2 _ e k rfl rfl))

/-- Branch 0's gate. -/
theorem gate0 (r : Fin 8192) (e : Fin 1024) : val_main_v15 (F := Ideal) x4 (ix2 r e) = Ideal.logistic (rZ x4 0 r e) := by
  rw [val_main_v15_apply, val_main_v14_apply, val_main_v13_apply, gates]
  refine congrArg (fun j => Ideal.logistic (x4 j)) (ext2 _ r (rcol 0 e) ?_ ?_)
  · show ((((r.val * 1024 + e.val) / 1024) * 4 + (0 + 0)) * 1024 + (r.val * 1024 + e.val) % 1024) / 4096 = r.val
    have := e.isLt; omega
  · show ((((r.val * 1024 + e.val) / 1024) * 4 + (0 + 0)) * 1024 + (r.val * 1024 + e.val) % 1024) % 4096 = 0 * 1024 + e.val
    have := e.isLt; omega

/-- Branch 0's product. -/
theorem prod0 (r : Fin 8192) (e : Fin 1024) : val_main_v0 (F := Ideal) x0 x5 (ix2 r e) = ∑ k : Fin 256, rA x0 r k * rW x5 k e := by
  rw [val_main_v0_apply]
  exact Finset.sum_congr rfl fun k _ => congrArg₂ (· * ·) (congrArg x0 (ext2 _ r k rfl rfl)) (congrArg x5 (ext2 _ k e rfl rfl))

/-- The gradient of branch 0's product. -/
theorem dprod0 (r : Fin 8192) (e : Fin 1024) : val_main_v47 (F := Ideal) x4 x9 x10 (ix2 r e) = MergeSpec.dp (rX x10) (rWo x9) (rZ x4 0) r e := by
  rw [val_main_v47_apply, gate0, merged]
  exact mul_comm _ _

/-- The gradient of branch 0's activations. -/
theorem act0 (i : S8192x256.Idx) : val_main_v65 (F := Ideal) x4 x5 x9 x10 i = MergeSpec.da (rX x10) (rWo x9) (rZ x4 0) (rW x5) (i 0) (i 1) := by
  rw [val_main_v65_apply]
  exact Finset.sum_congr rfl fun k _ => congrArg₂ (· * ·)
    ((congrArg _ (ext2 _ (i 0) k rfl rfl)).trans (dprod0 x4 x9 x10 (i 0) k)) (congrArg x5 (ext2 _ (i 1) k rfl rfl))

/-- The gradient of branch 0's weight. -/
theorem weight0 (k : Fin 256) (e : Fin 1024) : val_main_v64 (F := Ideal) x0 x4 x9 x10 (ix2 k e) = MergeSpec.dw (rX x10) (rWo x9) (rA x0) (rZ x4 0) k e := by
  rw [val_main_v64_apply, val_main_v63_apply]
  exact Finset.sum_congr rfl fun r _ => (congrArg₂ (· * ·)
    ((congrArg _ (ext2 _ r e rfl rfl)).trans (dprod0 x4 x9 x10 r e)) (congrArg x0 (ext2 _ r k rfl rfl))).trans (mul_comm _ _)

/-- The row 0 of the padded gradient of branch 0's gate is that gradient. -/
theorem padIn0 (r : Fin 8192) (e : Fin 1024) : val_main_v50 (F := Ideal) x0 x5 x9 x10 (ix3 r 0 e) =
    MergeSpec.dm (rX x10) (rWo x9) r e * ∑ k : Fin 256, rA x0 r k * rW x5 k e := by
  unfold val_main_v50
  rw [pad_apply_of_inside _ _ _ _ _ _ _ (ix3 r 0 e) (ix3 r (0 : Fin 1) e) (fun a => by
    match a with
    | ⟨0, _⟩ => show r.val = 0 + r.val * (0 + 1); omega
    | ⟨1, _⟩ => rfl
    | ⟨2, _⟩ => show e.val = 0 + e.val * (0 + 1); omega)]
  rw [val_main_v49_apply]
  refine (congrArg _ (ext2 _ r e rfl rfl)).trans ?_
  rw [val_main_v48_apply, merged, prod0]
  rfl

/-- The other rows of it are zero. -/
theorem padOut0 (r : Fin 8192) (b : Fin 4) (hb : b.val ≠ 0) (e : Fin 1024) : val_main_v50 (F := Ideal) x0 x5 x9 x10 (ix3 r b e) = 0 := by
  unfold val_main_v50
  rw [pad_apply_of_not_inside _ _ _ _ _ _ _ (ix3 r b e) (1 : Fin 3) (fun h => by
    have h1 : 0 ≤ b.val := h.1
    have h2 : (b.val - 0) / (0 + 1) < 1 := h.2.2
    have h3 : (b.val - 0) / (0 + 1) = b.val - 0 := by simp
    omega)]
  exact zero_word

/-- Branch 1's gate. -/
theorem gate1 (r : Fin 8192) (e : Fin 1024) : val_main_v18 (F := Ideal) x4 (ix2 r e) = Ideal.logistic (rZ x4 1 r e) := by
  rw [val_main_v18_apply, val_main_v17_apply, val_main_v13_apply, gates]
  refine congrArg (fun j => Ideal.logistic (x4 j)) (ext2 _ r (rcol 1 e) ?_ ?_)
  · show ((((r.val * 1024 + e.val) / 1024) * 4 + (1 + 0)) * 1024 + (r.val * 1024 + e.val) % 1024) / 4096 = r.val
    have := e.isLt; omega
  · show ((((r.val * 1024 + e.val) / 1024) * 4 + (1 + 0)) * 1024 + (r.val * 1024 + e.val) % 1024) % 4096 = 1 * 1024 + e.val
    have := e.isLt; omega

/-- Branch 1's product. -/
theorem prod1 (r : Fin 8192) (e : Fin 1024) : val_main_v1 (F := Ideal) x1 x6 (ix2 r e) = ∑ k : Fin 256, rA x1 r k * rW x6 k e := by
  rw [val_main_v1_apply]
  exact Finset.sum_congr rfl fun k _ => congrArg₂ (· * ·) (congrArg x1 (ext2 _ r k rfl rfl)) (congrArg x6 (ext2 _ k e rfl rfl))

/-- The gradient of branch 1's product. -/
theorem dprod1 (r : Fin 8192) (e : Fin 1024) : val_main_v42 (F := Ideal) x4 x9 x10 (ix2 r e) = MergeSpec.dp (rX x10) (rWo x9) (rZ x4 1) r e := by
  rw [val_main_v42_apply, gate1, merged]
  exact mul_comm _ _

/-- The gradient of branch 1's activations. -/
theorem act1 (i : S8192x256.Idx) : val_main_v62 (F := Ideal) x4 x6 x9 x10 i = MergeSpec.da (rX x10) (rWo x9) (rZ x4 1) (rW x6) (i 0) (i 1) := by
  rw [val_main_v62_apply]
  exact Finset.sum_congr rfl fun k _ => congrArg₂ (· * ·)
    ((congrArg _ (ext2 _ (i 0) k rfl rfl)).trans (dprod1 x4 x9 x10 (i 0) k)) (congrArg x6 (ext2 _ (i 1) k rfl rfl))

/-- The gradient of branch 1's weight. -/
theorem weight1 (k : Fin 256) (e : Fin 1024) : val_main_v61 (F := Ideal) x1 x4 x9 x10 (ix2 k e) = MergeSpec.dw (rX x10) (rWo x9) (rA x1) (rZ x4 1) k e := by
  rw [val_main_v61_apply, val_main_v60_apply]
  exact Finset.sum_congr rfl fun r _ => (congrArg₂ (· * ·)
    ((congrArg _ (ext2 _ r e rfl rfl)).trans (dprod1 x4 x9 x10 r e)) (congrArg x1 (ext2 _ r k rfl rfl))).trans (mul_comm _ _)

/-- The row 1 of the padded gradient of branch 1's gate is that gradient. -/
theorem padIn1 (r : Fin 8192) (e : Fin 1024) : val_main_v45 (F := Ideal) x1 x6 x9 x10 (ix3 r 1 e) =
    MergeSpec.dm (rX x10) (rWo x9) r e * ∑ k : Fin 256, rA x1 r k * rW x6 k e := by
  unfold val_main_v45
  rw [pad_apply_of_inside _ _ _ _ _ _ _ (ix3 r 1 e) (ix3 r (0 : Fin 1) e) (fun a => by
    match a with
    | ⟨0, _⟩ => show r.val = 0 + r.val * (0 + 1); omega
    | ⟨1, _⟩ => rfl
    | ⟨2, _⟩ => show e.val = 0 + e.val * (0 + 1); omega)]
  rw [val_main_v44_apply]
  refine (congrArg _ (ext2 _ r e rfl rfl)).trans ?_
  rw [val_main_v43_apply, merged, prod1]
  rfl

/-- The other rows of it are zero. -/
theorem padOut1 (r : Fin 8192) (b : Fin 4) (hb : b.val ≠ 1) (e : Fin 1024) : val_main_v45 (F := Ideal) x1 x6 x9 x10 (ix3 r b e) = 0 := by
  unfold val_main_v45
  rw [pad_apply_of_not_inside _ _ _ _ _ _ _ (ix3 r b e) (1 : Fin 3) (fun h => by
    have h1 : 1 ≤ b.val := h.1
    have h2 : (b.val - 1) / (0 + 1) < 1 := h.2.2
    have h3 : (b.val - 1) / (0 + 1) = b.val - 1 := by simp
    omega)]
  exact zero_word

/-- Branch 2's gate. -/
theorem gate2 (r : Fin 8192) (e : Fin 1024) : val_main_v22 (F := Ideal) x4 (ix2 r e) = Ideal.logistic (rZ x4 2 r e) := by
  rw [val_main_v22_apply, val_main_v21_apply, val_main_v13_apply, gates]
  refine congrArg (fun j => Ideal.logistic (x4 j)) (ext2 _ r (rcol 2 e) ?_ ?_)
  · show ((((r.val * 1024 + e.val) / 1024) * 4 + (2 + 0)) * 1024 + (r.val * 1024 + e.val) % 1024) / 4096 = r.val
    have := e.isLt; omega
  · show ((((r.val * 1024 + e.val) / 1024) * 4 + (2 + 0)) * 1024 + (r.val * 1024 + e.val) % 1024) % 4096 = 2 * 1024 + e.val
    have := e.isLt; omega

/-- Branch 2's product. -/
theorem prod2 (r : Fin 8192) (e : Fin 1024) : val_main_v2 (F := Ideal) x2 x7 (ix2 r e) = ∑ k : Fin 256, rA x2 r k * rW x7 k e := by
  rw [val_main_v2_apply]
  exact Finset.sum_congr rfl fun k _ => congrArg₂ (· * ·) (congrArg x2 (ext2 _ r k rfl rfl)) (congrArg x7 (ext2 _ k e rfl rfl))

/-- The gradient of branch 2's product. -/
theorem dprod2 (r : Fin 8192) (e : Fin 1024) : val_main_v37 (F := Ideal) x4 x9 x10 (ix2 r e) = MergeSpec.dp (rX x10) (rWo x9) (rZ x4 2) r e := by
  rw [val_main_v37_apply, gate2, merged]
  exact mul_comm _ _

/-- The gradient of branch 2's activations. -/
theorem act2 (i : S8192x256.Idx) : val_main_v59 (F := Ideal) x4 x7 x9 x10 i = MergeSpec.da (rX x10) (rWo x9) (rZ x4 2) (rW x7) (i 0) (i 1) := by
  rw [val_main_v59_apply]
  exact Finset.sum_congr rfl fun k _ => congrArg₂ (· * ·)
    ((congrArg _ (ext2 _ (i 0) k rfl rfl)).trans (dprod2 x4 x9 x10 (i 0) k)) (congrArg x7 (ext2 _ (i 1) k rfl rfl))

/-- The gradient of branch 2's weight. -/
theorem weight2 (k : Fin 256) (e : Fin 1024) : val_main_v58 (F := Ideal) x2 x4 x9 x10 (ix2 k e) = MergeSpec.dw (rX x10) (rWo x9) (rA x2) (rZ x4 2) k e := by
  rw [val_main_v58_apply, val_main_v57_apply]
  exact Finset.sum_congr rfl fun r _ => (congrArg₂ (· * ·)
    ((congrArg _ (ext2 _ r e rfl rfl)).trans (dprod2 x4 x9 x10 r e)) (congrArg x2 (ext2 _ r k rfl rfl))).trans (mul_comm _ _)

/-- The row 2 of the padded gradient of branch 2's gate is that gradient. -/
theorem padIn2 (r : Fin 8192) (e : Fin 1024) : val_main_v40 (F := Ideal) x2 x7 x9 x10 (ix3 r 2 e) =
    MergeSpec.dm (rX x10) (rWo x9) r e * ∑ k : Fin 256, rA x2 r k * rW x7 k e := by
  unfold val_main_v40
  rw [pad_apply_of_inside _ _ _ _ _ _ _ (ix3 r 2 e) (ix3 r (0 : Fin 1) e) (fun a => by
    match a with
    | ⟨0, _⟩ => show r.val = 0 + r.val * (0 + 1); omega
    | ⟨1, _⟩ => rfl
    | ⟨2, _⟩ => show e.val = 0 + e.val * (0 + 1); omega)]
  rw [val_main_v39_apply]
  refine (congrArg _ (ext2 _ r e rfl rfl)).trans ?_
  rw [val_main_v38_apply, merged, prod2]
  rfl

/-- The other rows of it are zero. -/
theorem padOut2 (r : Fin 8192) (b : Fin 4) (hb : b.val ≠ 2) (e : Fin 1024) : val_main_v40 (F := Ideal) x2 x7 x9 x10 (ix3 r b e) = 0 := by
  unfold val_main_v40
  rw [pad_apply_of_not_inside _ _ _ _ _ _ _ (ix3 r b e) (1 : Fin 3) (fun h => by
    have h1 : 2 ≤ b.val := h.1
    have h2 : (b.val - 2) / (0 + 1) < 1 := h.2.2
    have h3 : (b.val - 2) / (0 + 1) = b.val - 2 := by simp
    omega)]
  exact zero_word

/-- Branch 3's gate. -/
theorem gate3 (r : Fin 8192) (e : Fin 1024) : val_main_v26 (F := Ideal) x4 (ix2 r e) = Ideal.logistic (rZ x4 3 r e) := by
  rw [val_main_v26_apply, val_main_v25_apply, val_main_v13_apply, gates]
  refine congrArg (fun j => Ideal.logistic (x4 j)) (ext2 _ r (rcol 3 e) ?_ ?_)
  · show ((((r.val * 1024 + e.val) / 1024) * 4 + (3 + 0)) * 1024 + (r.val * 1024 + e.val) % 1024) / 4096 = r.val
    have := e.isLt; omega
  · show ((((r.val * 1024 + e.val) / 1024) * 4 + (3 + 0)) * 1024 + (r.val * 1024 + e.val) % 1024) % 4096 = 3 * 1024 + e.val
    have := e.isLt; omega

/-- Branch 3's product. -/
theorem prod3 (r : Fin 8192) (e : Fin 1024) : val_main_v3 (F := Ideal) x3 x8 (ix2 r e) = ∑ k : Fin 256, rA x3 r k * rW x8 k e := by
  rw [val_main_v3_apply]
  exact Finset.sum_congr rfl fun k _ => congrArg₂ (· * ·) (congrArg x3 (ext2 _ r k rfl rfl)) (congrArg x8 (ext2 _ k e rfl rfl))

/-- The gradient of branch 3's product. -/
theorem dprod3 (r : Fin 8192) (e : Fin 1024) : val_main_v33 (F := Ideal) x4 x9 x10 (ix2 r e) = MergeSpec.dp (rX x10) (rWo x9) (rZ x4 3) r e := by
  rw [val_main_v33_apply, gate3, merged]
  exact mul_comm _ _

/-- The gradient of branch 3's activations. -/
theorem act3 (i : S8192x256.Idx) : val_main_v56 (F := Ideal) x4 x8 x9 x10 i = MergeSpec.da (rX x10) (rWo x9) (rZ x4 3) (rW x8) (i 0) (i 1) := by
  rw [val_main_v56_apply]
  exact Finset.sum_congr rfl fun k _ => congrArg₂ (· * ·)
    ((congrArg _ (ext2 _ (i 0) k rfl rfl)).trans (dprod3 x4 x9 x10 (i 0) k)) (congrArg x8 (ext2 _ (i 1) k rfl rfl))

/-- The gradient of branch 3's weight. -/
theorem weight3 (k : Fin 256) (e : Fin 1024) : val_main_v55 (F := Ideal) x3 x4 x9 x10 (ix2 k e) = MergeSpec.dw (rX x10) (rWo x9) (rA x3) (rZ x4 3) k e := by
  rw [val_main_v55_apply, val_main_v54_apply]
  exact Finset.sum_congr rfl fun r _ => (congrArg₂ (· * ·)
    ((congrArg _ (ext2 _ r e rfl rfl)).trans (dprod3 x4 x9 x10 r e)) (congrArg x3 (ext2 _ r k rfl rfl))).trans (mul_comm _ _)

/-- The row 3 of the padded gradient of branch 3's gate is that gradient. -/
theorem padIn3 (r : Fin 8192) (e : Fin 1024) : val_main_v36 (F := Ideal) x3 x8 x9 x10 (ix3 r 3 e) =
    MergeSpec.dm (rX x10) (rWo x9) r e * ∑ k : Fin 256, rA x3 r k * rW x8 k e := by
  unfold val_main_v36
  rw [pad_apply_of_inside _ _ _ _ _ _ _ (ix3 r 3 e) (ix3 r (0 : Fin 1) e) (fun a => by
    match a with
    | ⟨0, _⟩ => show r.val = 0 + r.val * (0 + 1); omega
    | ⟨1, _⟩ => rfl
    | ⟨2, _⟩ => show e.val = 0 + e.val * (0 + 1); omega)]
  rw [val_main_v35_apply]
  refine (congrArg _ (ext2 _ r e rfl rfl)).trans ?_
  rw [val_main_v34_apply, merged, prod3]
  rfl

/-- The other rows of it are zero. -/
theorem padOut3 (r : Fin 8192) (b : Fin 4) (hb : b.val ≠ 3) (e : Fin 1024) : val_main_v36 (F := Ideal) x3 x8 x9 x10 (ix3 r b e) = 0 := by
  unfold val_main_v36
  rw [pad_apply_of_not_inside _ _ _ _ _ _ _ (ix3 r b e) (1 : Fin 3) (fun h => by
    have h1 : 3 ≤ b.val := h.1
    have h2 : (b.val - 3) / (0 + 1) < 1 := h.2.2
    have h3 : (b.val - 3) / (0 + 1) = b.val - 3 := by simp
    omega)]
  exact zero_word

/-- The gradient of the gates before the sigmoid, one branch's columns. -/
theorem gateGrad0 (r : Fin 8192) (e : Fin 1024) : val_main_v66 (F := Ideal) x0 x1 x2 x3 x4 x5 x6 x7 x8 x9 x10 (ix2 r (rcol 0 e)) =
    MergeSpec.dz (rX x10) (rWo x9) (rA x0) (rZ x4 0) (rW x5) r e := by
  rw [val_main_v66_apply, Ideal.truncf_def, val_main_v53_apply, slopes, val_main_v52_apply]
  have hj : idx_main_v52 (ix2 r (rcol 0 e)) = ix3 r 0 e := ext3 _ _ _ _
    (by show (r.val * 4096 + (0 * 1024 + e.val)) / 4096 = r.val; have := e.isLt; omega)
    (by show (r.val * 4096 + (0 * 1024 + e.val)) / 1024 % 4 = 0; have := e.isLt; omega)
    (by show (r.val * 4096 + (0 * 1024 + e.val)) % 1024 = e.val; have := e.isLt; omega)
  rw [hj, val_main_v51_apply, val_main_v46_apply, val_main_v41_apply, padIn0, padOut1 _ _ _ _ r 0 (by decide) e, padOut2 _ _ _ _ r 0 (by decide) e, padOut3 _ _ _ _ r 0 (by decide) e]
  show ((((0 : EReal) + 0) + 0) + (MergeSpec.dm (rX x10) (rWo x9) r e * ∑ k : Fin 256, rA x0 r k * rW x5 k e)) * _ = _
  simp only [zero_add, add_zero]
  rfl
/-- The same of the next branch. -/
theorem gateGrad1 (r : Fin 8192) (e : Fin 1024) : val_main_v66 (F := Ideal) x0 x1 x2 x3 x4 x5 x6 x7 x8 x9 x10 (ix2 r (rcol 1 e)) =
    MergeSpec.dz (rX x10) (rWo x9) (rA x1) (rZ x4 1) (rW x6) r e := by
  rw [val_main_v66_apply, Ideal.truncf_def, val_main_v53_apply, slopes, val_main_v52_apply]
  have hj : idx_main_v52 (ix2 r (rcol 1 e)) = ix3 r 1 e := ext3 _ _ _ _
    (by show (r.val * 4096 + (1 * 1024 + e.val)) / 4096 = r.val; have := e.isLt; omega)
    (by show (r.val * 4096 + (1 * 1024 + e.val)) / 1024 % 4 = 1; have := e.isLt; omega)
    (by show (r.val * 4096 + (1 * 1024 + e.val)) % 1024 = e.val; have := e.isLt; omega)
  rw [hj, val_main_v51_apply, val_main_v46_apply, val_main_v41_apply, padOut0 _ _ _ _ r 1 (by decide) e, padIn1, padOut2 _ _ _ _ r 1 (by decide) e, padOut3 _ _ _ _ r 1 (by decide) e]
  show ((((0 : EReal) + 0) + (MergeSpec.dm (rX x10) (rWo x9) r e * ∑ k : Fin 256, rA x1 r k * rW x6 k e)) + 0) * _ = _
  simp only [zero_add, add_zero]
  rfl
/-- The same of the next branch. -/
theorem gateGrad2 (r : Fin 8192) (e : Fin 1024) : val_main_v66 (F := Ideal) x0 x1 x2 x3 x4 x5 x6 x7 x8 x9 x10 (ix2 r (rcol 2 e)) =
    MergeSpec.dz (rX x10) (rWo x9) (rA x2) (rZ x4 2) (rW x7) r e := by
  rw [val_main_v66_apply, Ideal.truncf_def, val_main_v53_apply, slopes, val_main_v52_apply]
  have hj : idx_main_v52 (ix2 r (rcol 2 e)) = ix3 r 2 e := ext3 _ _ _ _
    (by show (r.val * 4096 + (2 * 1024 + e.val)) / 4096 = r.val; have := e.isLt; omega)
    (by show (r.val * 4096 + (2 * 1024 + e.val)) / 1024 % 4 = 2; have := e.isLt; omega)
    (by show (r.val * 4096 + (2 * 1024 + e.val)) % 1024 = e.val; have := e.isLt; omega)
  rw [hj, val_main_v51_apply, val_main_v46_apply, val_main_v41_apply, padOut0 _ _ _ _ r 2 (by decide) e, padOut1 _ _ _ _ r 2 (by decide) e, padIn2, padOut3 _ _ _ _ r 2 (by decide) e]
  show ((((0 : EReal) + (MergeSpec.dm (rX x10) (rWo x9) r e * ∑ k : Fin 256, rA x2 r k * rW x7 k e)) + 0) + 0) * _ = _
  simp only [zero_add, add_zero]
  rfl
/-- The same of the next branch. -/
theorem gateGrad3 (r : Fin 8192) (e : Fin 1024) : val_main_v66 (F := Ideal) x0 x1 x2 x3 x4 x5 x6 x7 x8 x9 x10 (ix2 r (rcol 3 e)) =
    MergeSpec.dz (rX x10) (rWo x9) (rA x3) (rZ x4 3) (rW x8) r e := by
  rw [val_main_v66_apply, Ideal.truncf_def, val_main_v53_apply, slopes, val_main_v52_apply]
  have hj : idx_main_v52 (ix2 r (rcol 3 e)) = ix3 r 3 e := ext3 _ _ _ _
    (by show (r.val * 4096 + (3 * 1024 + e.val)) / 4096 = r.val; have := e.isLt; omega)
    (by show (r.val * 4096 + (3 * 1024 + e.val)) / 1024 % 4 = 3; have := e.isLt; omega)
    (by show (r.val * 4096 + (3 * 1024 + e.val)) % 1024 = e.val; have := e.isLt; omega)
  rw [hj, val_main_v51_apply, val_main_v46_apply, val_main_v41_apply, padOut0 _ _ _ _ r 3 (by decide) e, padOut1 _ _ _ _ r 3 (by decide) e, padOut2 _ _ _ _ r 3 (by decide) e, padIn3]
  show ((((MergeSpec.dm (rX x10) (rWo x9) r e * ∑ k : Fin 256, rA x3 r k * rW x8 k e : EReal) + 0) + 0) + 0) * _ = _
  simp only [zero_add, add_zero]
  rfl

/-- The stacked weight gradients' slab 0. -/
theorem slab0 (k : Fin 256) (e : Fin 1024) : val_main_v72 (F := Ideal) x0 x1 x2 x3 x4 x9 x10 (ix3 0 k e) =
    MergeSpec.dw (rX x10) (rWo x9) (rA x0) (rZ x4 0) k e := by
  refine (val_main_v72_apply (F := Ideal) x0 x1 x2 x3 x4 x9 x10 _).trans ?_
  show val_main_v71 (F := Ideal) x0 x1 x2 x3 x4 x9 x10 _ = _
  unfold val_main_v71
  refine (Cert.Stack.stack0 _ _ _ _ _ k e).trans ?_
  refine (val_main_v67_apply _ _ _ _ _).trans ?_
  exact (congrArg _ (ext2 _ k e rfl rfl)).trans (weight0 _ _ _ _ k e)

/-- The stacked weight gradients' slab 1. -/
theorem slab1 (k : Fin 256) (e : Fin 1024) : val_main_v72 (F := Ideal) x0 x1 x2 x3 x4 x9 x10 (ix3 1 k e) =
    MergeSpec.dw (rX x10) (rWo x9) (rA x1) (rZ x4 1) k e := by
  refine (val_main_v72_apply (F := Ideal) x0 x1 x2 x3 x4 x9 x10 _).trans ?_
  show val_main_v71 (F := Ideal) x0 x1 x2 x3 x4 x9 x10 _ = _
  unfold val_main_v71
  refine (Cert.Stack.stack1 _ _ _ _ _ k e).trans ?_
  refine (val_main_v68_apply _ _ _ _ _).trans ?_
  exact (congrArg _ (ext2 _ k e rfl rfl)).trans (weight1 _ _ _ _ k e)

/-- The stacked weight gradients' slab 2. -/
theorem slab2 (k : Fin 256) (e : Fin 1024) : val_main_v72 (F := Ideal) x0 x1 x2 x3 x4 x9 x10 (ix3 2 k e) =
    MergeSpec.dw (rX x10) (rWo x9) (rA x2) (rZ x4 2) k e := by
  refine (val_main_v72_apply (F := Ideal) x0 x1 x2 x3 x4 x9 x10 _).trans ?_
  show val_main_v71 (F := Ideal) x0 x1 x2 x3 x4 x9 x10 _ = _
  unfold val_main_v71
  refine (Cert.Stack.stack2 _ _ _ _ _ k e).trans ?_
  refine (val_main_v69_apply _ _ _ _ _).trans ?_
  exact (congrArg _ (ext2 _ k e rfl rfl)).trans (weight2 _ _ _ _ k e)

/-- The stacked weight gradients' slab 3. -/
theorem slab3 (k : Fin 256) (e : Fin 1024) : val_main_v72 (F := Ideal) x0 x1 x2 x3 x4 x9 x10 (ix3 3 k e) =
    MergeSpec.dw (rX x10) (rWo x9) (rA x3) (rZ x4 3) k e := by
  refine (val_main_v72_apply (F := Ideal) x0 x1 x2 x3 x4 x9 x10 _).trans ?_
  show val_main_v71 (F := Ideal) x0 x1 x2 x3 x4 x9 x10 _ = _
  unfold val_main_v71
  refine (Cert.Stack.stack3 _ _ _ _ _ k e).trans ?_
  refine (val_main_v70_apply _ _ _ _ _).trans ?_
  exact (congrArg _ (ext2 _ k e rfl rfl)).trans (weight3 _ _ _ _ k e)

end Cert.ReferenceIdeal.Merge

end
-- ==== Proof.MergeClaims.lean ====
/- The gated merge's backward pass: the kernel's six results are the reference's. -/
module

public import proofs.«01_k».proof.Defs
public import proofs.«01_k».proof.Proof.MergeFold
public import proofs.«01_k».proof.Proof.MergeRef
public import proofs.«01_k».proof.Proof.Gen.ReferenceIdeal.Run
public import Idealize.ShloMosaic.Lib.StableHlo.Run

@[expose] public section

set_option maxHeartbeats 1000000

noncomputable section

open Idealize.ShloMosaic Idealize.ShloMosaic.TcCoe Idealize.ShloMosaic.ValueIdx Idealize.SL.Sem

namespace Cert.MergeClaims
open Cert.KernelIdeal Cert.KernelIdeal.Gen Cert.KernelIdeal.Value

variable (m : (ℓ : Loc nD τ sig) → Buf (Elt Ideal) ℓ) (c : Dev nD)

/-- Every column of the gates lies in one branch's block of columns. -/
theorem split (j : Fin 4096) : ∃ b e, j = Cert.KernelIdeal.Merge.col b e :=
  ⟨⟨j.val / 1024, by have := j.isLt; omega⟩, ⟨j.val % 1024, by omega⟩, Fin.ext (by show j.val = j.val / 1024 * 1024 + j.val % 1024; omega)⟩

/-- The gradient of branch 0's activations. -/
theorem same0 : ReferenceIdeal.Read.val_main_v65 (F := Ideal) (m ((c.tc : Thread nD τ).loc main_arg4)) (m ((c.tc : Thread nD τ).loc main_arg5)) (m ((c.tc : Thread nD τ).loc main_arg9)) (m ((c.tc : Thread nD τ).loc main_arg10)) = G8 m c := by
  funext i
  exact (ReferenceIdeal.Merge.act0 _ _ _ _ i).trans (Cert.KernelIdeal.Merge.G8_apply m c i).symm

/-- The gradient of branch 1's activations. -/
theorem same1 : ReferenceIdeal.Read.val_main_v62 (F := Ideal) (m ((c.tc : Thread nD τ).loc main_arg4)) (m ((c.tc : Thread nD τ).loc main_arg6)) (m ((c.tc : Thread nD τ).loc main_arg9)) (m ((c.tc : Thread nD τ).loc main_arg10)) = G9 m c := by
  funext i
  exact (ReferenceIdeal.Merge.act1 _ _ _ _ i).trans (Cert.KernelIdeal.Merge.G9_apply m c i).symm

/-- The gradient of branch 2's activations. -/
theorem same2 : ReferenceIdeal.Read.val_main_v59 (F := Ideal) (m ((c.tc : Thread nD τ).loc main_arg4)) (m ((c.tc : Thread nD τ).loc main_arg7)) (m ((c.tc : Thread nD τ).loc main_arg9)) (m ((c.tc : Thread nD τ).loc main_arg10)) = G10 m c := by
  funext i
  exact (ReferenceIdeal.Merge.act2 _ _ _ _ i).trans (Cert.KernelIdeal.Merge.G10_apply m c i).symm

/-- The gradient of branch 3's activations. -/
theorem same3 : ReferenceIdeal.Read.val_main_v56 (F := Ideal) (m ((c.tc : Thread nD τ).loc main_arg4)) (m ((c.tc : Thread nD τ).loc main_arg8)) (m ((c.tc : Thread nD τ).loc main_arg9)) (m ((c.tc : Thread nD τ).loc main_arg10)) = G11 m c := by
  funext i
  exact (ReferenceIdeal.Merge.act3 _ _ _ _ i).trans (Cert.KernelIdeal.Merge.G11_apply m c i).symm

/-- Two arrays that agree on every branch's columns are equal. -/
theorem eq_of_cols {f g : S8192x4096.Idx → EReal} (h : ∀ r b e, f (ix2 r (Cert.KernelIdeal.Merge.col b e)) = g (ix2 r (Cert.KernelIdeal.Merge.col b e))) : f = g := by
  funext i
  obtain ⟨b, e, he⟩ := split (i 1)
  have hi : i = ix2 (i 0) (Cert.KernelIdeal.Merge.col b e) := ReferenceIdeal.Merge.ext2 i _ _ rfl (congrArg Fin.val he)
  exact (congrArg f hi).trans ((h _ b e).trans (congrArg g hi.symm))

/-- Two arrays that agree on every branch's slab are equal. -/
theorem eq_of_slabs {f g : S4x256x1024.Idx → EReal} (h : ∀ b k e, f (ix3 b k e) = g (ix3 b k e)) : f = g := by
  funext i
  have hi : i = ix3 (i 0) (i 1) (i 2) := ReferenceIdeal.Merge.ext3 i _ _ _ rfl rfl rfl
  exact (congrArg f hi).trans ((h _ _ _).trans (congrArg g hi.symm))

/-- The gradient of the gates before the sigmoid. -/
theorem same4 : ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = G12 m c := by
  refine eq_of_cols fun r b e => ?_
  refine Eq.trans ?_ (Cert.KernelIdeal.Merge.G12_apply m c r b e).symm
  match b with
  | 0 => exact ReferenceIdeal.Merge.gateGrad0 _ _ _ _ _ _ _ _ _ _ _ r e
  | 1 => exact ReferenceIdeal.Merge.gateGrad1 _ _ _ _ _ _ _ _ _ _ _ r e
  | 2 => exact ReferenceIdeal.Merge.gateGrad2 _ _ _ _ _ _ _ _ _ _ _ r e
  | 3 => exact ReferenceIdeal.Merge.gateGrad3 _ _ _ _ _ _ _ _ _ _ _ r e

/-- The gradients of the four branch weights. -/
theorem same5 : ReferenceIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) = G13 m c := by
  refine eq_of_slabs fun b k e => ?_
  refine Eq.trans ?_ (Cert.KernelIdeal.Merge.G13_apply m c b k e).symm
  match b with
  | 0 => exact ReferenceIdeal.Merge.slab0 _ _ _ _ _ _ _ k e
  | 1 => exact ReferenceIdeal.Merge.slab1 _ _ _ _ _ _ _ k e
  | 2 => exact ReferenceIdeal.Merge.slab2 _ _ _ _ _ _ _ k e
  | 3 => exact ReferenceIdeal.Merge.slab3 _ _ _ _ _ _ _ k e

/-- The reference runs, its arguments end unchanged and every semaphore is zero. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- From memories that agree on the arguments the kernel and the reference end with equal results. -/
theorem algebraic : Cert.algebraic_KernelIdeal_ReferenceIdeal := by
  intro m g m' g' _ hag
  refine ⟨fun c => G8 m c, fun c => G9 m c, fun c => G10 m c, fun c => G11 m c, fun c => G12 m c, fun c => G13 m c, Cert.KernelIdeal.Value.run m g, ?_⟩
  refine (θ_run Cert.ReferenceIdeal.defs _ _).mono (fun r h c => ?_) (Cert.ReferenceIdeal.Value.run (F := Ideal) m' g')
  obtain ⟨h0, h1, h2, h3, h4, h5, hargs⟩ := h c
  obtain ⟨e0, e1, e2, e3, e4, e5, e6, e7, e8, e9, e10⟩ := hag c
  have k0 := h0.trans (ReferenceIdeal.Read.val_main_v65_eq (F := Ideal) _ _ _ _)
  rw [e4, e5, e9, e10] at k0
  have k1 := h1.trans (ReferenceIdeal.Read.val_main_v62_eq (F := Ideal) _ _ _ _)
  rw [e4, e6, e9, e10] at k1
  have k2 := h2.trans (ReferenceIdeal.Read.val_main_v59_eq (F := Ideal) _ _ _ _)
  rw [e4, e7, e9, e10] at k2
  have k3 := h3.trans (ReferenceIdeal.Read.val_main_v56_eq (F := Ideal) _ _ _ _)
  rw [e4, e8, e9, e10] at k3
  have k4 := h4.trans (ReferenceIdeal.Read.val_main_v66_eq (F := Ideal) _ _ _ _ _ _ _ _ _ _ _)
  rw [e0, e1, e2, e3, e4, e5, e6, e7, e8, e9, e10] at k4
  have k5 := h5.trans (ReferenceIdeal.Read.val_main_v72_eq (F := Ideal) _ _ _ _ _ _ _)
  rw [e0, e1, e2, e3, e4, e9, e10] at k5
  exact ⟨k0.trans (same0 m c), k1.trans (same1 m c), k2.trans (same2 m c), k3.trans (same3 m c), k4.trans (same4 m c), k5.trans (same5 m c), hargs⟩

end Cert.MergeClaims

end
-- ==== Proof.FfnKit.lean ====
/- The parts of the feed-forward backward program's run that are the same for each of its seven kernel calls: the proof data of
   a call from the contents it is entered at, the contents it leaves, and its segment of the run. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Regions
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The contents of a core's unscoped buffers, for every core. -/
abbrev Held (F : FTy → Type) : Type := Dev nD → Valuation τ sig (Elt F)

/-- The same, read at a TensorCore reference. -/
abbrev Held.at (W : Held F) : (c : Dev nD) → (b : Ref sig .tc) → Buf (Elt F) ((c : Thread nD τ).loc b) := fun c b => W c b

/-- The proof data of a call entered at contents `W`: what its body leaves in each window and what it keeps between points
    are given; nothing is owed and every array is held in full. -/
def data (cfg : Cfg sig Λ₀) (W : Held F) (c : Dev nD)
    (after : (w : Fin cfg.W) → Fin cfg.N → (cfg.win w).block.Idx → Elt F (cfg.win w).elt)
    (Φ : Fin (cfg.N + 1) → sProp 𝕄) : Dat τ (Elt F) Unit ℕ (UR sig nD τ) ℕ cfg c where
  A w := W.at c (Pipeline.arrRef cfg.spec w)
  after := after
  Φ := Φ
  q _ := fullShare
  owed _ := 0

/-- What a window's block holds at a point when its array is as the call finds it. -/
def block (cfg : Cfg sig Λ₀) (W : Held F) (c : Dev nD) (w : Fin cfg.W) (t : Fin cfg.N) :
    ((cfg.win w).xblock (cfg.grid.coords t)).Idx → Elt F (cfg.win w).elt :=
  ((cfg.win w).blk t).view.read (Elt F) (W.at c (Pipeline.arrRef cfg.spec w))

abbrev adm : (p : Fin 7) → (pcfgs (F := F) p).Adm := fun p => (cfgs p).toPCfg_adm
abbrev L : GSem nD τ sig → Finset Unit := fun _ => ∅
abbrev lv : GSem nD τ sig → Unit → ℕ := fun _ _ => 0

/-- What is carried from segment to segment besides the buffers: the generator's register and the core's empty debts. -/
abbrev rest (c : Dev nD) : sProp 𝕄 := iprop((∃ r, prngReg c r) ∗ ∃ D, owes (c : Thread nD τ) (0 : CellTallies nD τ sig Unit) D)

section Next

variable {p : Fin 7} (launch : Pipeline.LaunchFacts (nD := nD) (τ := τ) cfgs p) (W : Held F)
  (dat : (c : Dev nD) → Dat τ (Elt F) Unit ℕ (UR sig nD τ) ℕ (cfgs p) c)

/-- The contents after a call entered at `W`: its arrays as the pipeline leaves them, all else as before. -/
def next : Held F := fun c => Pipeline.withArrays (cfgs p).spec c (W c) fun w => (dat c).arrAt w (cfgs p).N

include launch

theorem next_arr (c : Dev nD) (w : Fin (cfgs p).W) :
    (next W dat).at c (Pipeline.arrRef (cfgs p).spec w) = (dat c).arrAt w (cfgs p).N := by
  unfold next; exact Pipeline.withArrays_arr (cfgs p).spec launch.win.arr_inj c _ _ w

omit launch in
theorem next_of_ne (c : Dev nD) (b : Ref sig .tc) (hb : ∀ w, Pipeline.arrRef (cfgs p).spec w ≠ b) :
    (next W dat).at c b = W.at c b := by
  unfold next; exact Pipeline.withArrays_of_ne (cfgs p).spec c _ _ b hb

/-- A buffer that no output window writes is left as it was. -/
theorem next_of (hA : ∀ c w, (dat c).A w = W.at c (Pipeline.arrRef (cfgs p).spec w)) (c : Dev nD) (b : Ref sig .tc)
    (h : ∀ w : Fin (cfgs p).W, Pipeline.arrRef (cfgs p).spec w = b → ((cfgs p).win w).isOut = false) :
    (next W dat).at c b = W.at c b := by
  by_cases hw : ∃ w : Fin (cfgs p).W, Pipeline.arrRef (cfgs p).spec w = b
  · obtain ⟨w, rfl⟩ := hw
    exact (next_arr launch W dat c w).trans (((dat c).arrAt_in w (h w rfl) _).trans (hA c w))
  · exact next_of_ne W dat c b fun w e => hw ⟨w, e⟩

end Next

set_option backward.isDefEq.respectTransparency.types false in
/-- The segment of one call: entered with every unscoped buffer at `V`, left with them at `V'`. -/
def region (pdats : (p : Fin 7) → (c : Dev nD) → Dat τ (Elt F) Unit ℕ (UR sig nD τ) ℕ (Pipeline.pin (pcfgs (F := F)) adm p) c)
    (p : Fin 7) (launch : Pipeline.LaunchFacts (nD := nD) (τ := τ) cfgs p) (V V' : Held F)
    (hA : ∀ c w, (pdats p c).A w = V.at c (Pipeline.arrRef (Pipeline.pin (pcfgs (F := F)) adm p).spec w))
    (hq : ∀ c w, (pdats p c).q w = fullShare) (howed : ∀ c t, (pdats p c).owed t = 0)
    (hrec : ∀ c, (pdats p c).recorded 0 = Set.univ)
    (hbody : ∀ c, BodyObligationLoose (pdats p c) defs₀ Variants.none () Set.univ)
    (hfirst : ∀ c, iprop(Pipeline.scopedRest (Pipeline.pin (pcfgs (F := F)) adm p).spec c ∗ ∃ r, prngReg c r) ⊢ (pdats p c).Φ 0)
    (hlast : ∀ c, (pdats p c).Φ (Fin.last _) ⊢ iprop(Pipeline.scopedRest (Pipeline.pin (pcfgs (F := F)) adm p).spec c ∗ ∃ r, prngReg c r))
    (hF : ∀ c w, (pdats p c).arrAt w (Pipeline.pin (pcfgs (F := F)) adm p).N = V'.at c (Pipeline.arrRef (Pipeline.pin (pcfgs (F := F)) adm p).spec w))
    (hrest : ∀ c b, b ∉ Finset.univ.image (Pipeline.arrRef (Pipeline.pin (pcfgs (F := F)) adm p).spec) → V'.at c b = V.at c b) :
    Pipeline.RegionSeg (pcfgs (F := F)) adm pdats () defs₀ Variants.none L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (V.at c)
  hentry c := by
    rw [Pipeline.ownSems0_none]
    have hsplit := Pipeline.arrays_of_unscopedBufs (p := p) (pcfgs (F := F)) adm pdats launch.win launch.arr_whole c
      ((pdats p c).share_full (hq c)) (V.at c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%D, HO⟩; iexists D; isplitr; · ipureintro; exact fun _ _ => Or.inl (hrec c ▸ Set.mem_univ _)
      iexact HO
    isplitl [Hp]; · iexact Hp
    iexact Hrest
  hin c := by
    iintro ⟨Hp, -, Hr⟩
    iapply (hfirst c)
    isplitl [Hr]; · iexact Hr
    iexact Hp
  hout c := by
    rw [Pipeline.ownSems0_none]
    iintro H
    ihave H' := (hlast c) $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (V.at c) (V'.at c) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%D, -, HO⟩; iexists D; iexact HO

end Cert.Ffn

end
-- ==== Proof.FfnUp.lean ====
/- The first call of the feed-forward backward program: the gate, the up projection and their product, block by block. -/
module

public import proofs.«01_k».proof.Proof.FfnKit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

set_option maxHeartbeats 1000000 in
/-- The body: from its three inputs it fills the three outputs. -/
theorem up_body (c : Dev nD) (i : grid0.Coords) (a : Memref sig .tc .vmem S512x1024 .bf16) (ha : a.IsWhole)
    (wg : Memref sig .tc .vmem S1024x768 .bf16) (hwg : wg.IsWhole) (wu : Memref sig .tc .vmem S1024x768 .bf16) (hwu : wu.IsWhole)
    (g : Memref sig .tc .vmem S512x768 .bf16) (hg : g.IsWhole) (u : Memref sig .tc .vmem S512x768 .bf16) (hu : u.IsWhole)
    (h : Memref sig .tc .vmem S512x768 .bf16) (hh : h.IsWhole)
    (x : Vec F S512x1024 .bf16) (y z : Vec F S1024x768 .bf16) (K : PUnit → sProp 𝕄) :
    iprop(owns (c : Thread nD τ) a fullShare x ∗ owns (c : Thread nD τ) wg fullShare y ∗ owns (c : Thread nD τ) wu fullShare z
        ∗ (∃ d, owns (c : Thread nD τ) g fullShare d) ∗ (∃ d, owns (c : Thread nD τ) u fullShare d) ∗ (∃ d, owns (c : Thread nD τ) h fullShare d)
        ∗ (iprop(owns (c : Thread nD τ) a fullShare x ∗ owns (c : Thread nD τ) wg fullShare y ∗ owns (c : Thread nD τ) wu fullShare z
            ∗ owns (c : Thread nD τ) g fullShare (k0_pay3 x y) ∗ owns (c : Thread nD τ) u fullShare (k0_pay4 x z)
            ∗ owns (c : Thread nD τ) h fullShare (k0_pay5 x y z)) -∗ K ⟨⟩))
      ⊢ wp frame (wpE (defs₀ (F := F)) Variants.none c none) Set.univ (cc0_ffn_up i a ha wg hwg wu hwu g hg u hu h hh) K := by
  have hz : (![0, 0] : Fin 2 → ℕ) = fun _ => 0 := by funext k; fin_cases k <;> rfl
  have hcov : ∀ (p : Vec F S512x768 .bf16) (k : S512x768.Idx),
      ∃ pc ∈ ([⟨Rect.unit (s := S512x768) ![0, 0] S512x768.size inb_S512x768_S512x768_0_0, p⟩] : List (View.Piece (Elt F) S512x768 .bf16)), k ∈ pc.1.set :=
    fun p k => View.cover_of_tiled _ S512x768.size (by rfl) k
  simp only [cc0_ffn_up_eq_skeleton]; unfold cc0_ffn_up_skel
  unfold owns
  iintro ⟨⟨%fa, %ea, Ha⟩, ⟨%fy, %ey, Hy⟩, ⟨%fz, %ez, Hz⟩, ⟨%dg, %fg, -, Hg⟩, ⟨%du, %fu, -, Hu⟩, ⟨%dh, %fh, -, Hh⟩, Hk⟩
  subst ea ey ez
  sl_exec
  sl_step
  iapply Hk
  isplitl [Ha]
  · iexists fa; isplitr; · ipureintro; rfl
    iexact Ha
  isplitl [Hy]
  · iexists fy; isplitr; · ipureintro; rfl
    iexact Hy
  isplitl [Hz]
  · iexists fz; isplitr; · ipureintro; rfl
    iexact Hz
  isplitl [Hg]
  · iexists _; isplitr
    swap; · iexact Hg
    ipureintro
    rw [View.read_writes_eq_canon _ _ _ (hcov _), View.canon_unit_zero hz]
    simp only [View.readAt_eq_ld, View.ld_unit_zero (S := S512x1024) hz, View.ld_unit_zero (S := S1024x768) hz]
  isplitl [Hu]
  · iexists _; isplitr
    swap; · iexact Hu
    ipureintro
    rw [View.read_writes_eq_canon _ _ _ (hcov _), View.canon_unit_zero hz]
    simp only [View.readAt_eq_ld, View.ld_unit_zero (S := S512x1024) hz, View.ld_unit_zero (S := S1024x768) hz]
  iexists _; isplitr
  swap; · iexact Hh
  ipureintro
  rw [View.read_writes_eq_canon _ _ _ (hcov _), View.canon_unit_zero hz]
  simp only [View.readAt_eq_ld, View.ld_unit_zero (S := S512x1024) hz, View.ld_unit_zero (S := S1024x768) hz]

variable (W : Held F)

/-- What the call leaves in its windows at a point: the inputs' blocks, and the three outputs of them. -/
def upAfter (c : Dev nD) (w : Fin cfg0.W) (t : Fin cfg0.N) : (cfg0.win w).block.Idx → Elt F (cfg0.win w).elt :=
  match w with
  | ⟨0, _⟩ => block cfg0 W c 0 t
  | ⟨1, _⟩ => block cfg0 W c 1 t
  | ⟨2, _⟩ => block cfg0 W c 2 t
  | ⟨3, _⟩ => k0_pay3 (block cfg0 W c 0 t) (block cfg0 W c 1 t)
  | ⟨4, _⟩ => k0_pay4 (block cfg0 W c 0 t) (block cfg0 W c 2 t)
  | ⟨5, _⟩ => k0_pay5 (block cfg0 W c 0 t) (block cfg0 W c 1 t) (block cfg0 W c 2 t)

/-- The first call's proof data. -/
def upDat (c : Dev nD) : Dat τ (Elt F) Unit ℕ (UR sig nD τ) ℕ cfg0 c := data cfg0 W c (upAfter W c) fun _ => Pipeline.ΦA spec0 c

theorem up_before (c : Dev nD) (t : Fin cfg0.N) :
    (∀ d, (upDat W c).before 0 t d = block cfg0 W c 0 t) ∧ (∀ d, (upDat W c).before 1 t d = block cfg0 W c 1 t)
      ∧ ∀ d, (upDat W c).before 2 t d = block cfg0 W c 2 t :=
  ⟨(upDat W c).before_in_eq_fetched 0 rfl (fun _ => rfl) (fun _ _ _ => rfl) (fun _ => rfl) t,
   (upDat W c).before_in_eq_fetched 1 rfl (fun _ => rfl) (fun _ _ _ => rfl) (fun _ => rfl) t,
   (upDat W c).before_in_eq_fetched 2 rfl (fun _ => rfl) (fun _ _ _ => rfl) (fun _ => rfl) t⟩

theorem up_call (t : Fin cfg0.N) : defs₀ (F := F) .tc cfg0.body (cfg0.bodyArgs t (cfg0.slots t)) = bodyAt0 t := by
  unfold defs₀; rw [Defs.onTc_tc]

/-- The body's obligation at a point. -/
theorem up_obligation (c : Dev nD) : BodyObligation (upDat W c) (defs₀ (F := F)) Variants.none () Set.univ := fun t => by
  rw [bigSep_W0, bigSep_W0, up_call]
  show iprop((upDat W c).Φ t.castSucc ∗ (upDat W c).owesAt () t.castSucc
    ∗ (∃ d, owns (c : Thread nD τ) (st0_0 t) fullShare ((upDat W c).before 0 t d))
    ∗ (∃ d, owns (c : Thread nD τ) (st0_1 t) fullShare ((upDat W c).before 1 t d))
    ∗ (∃ d, owns (c : Thread nD τ) (st0_2 t) fullShare ((upDat W c).before 2 t d))
    ∗ (∃ d, owns (c : Thread nD τ) (st0_3 t) fullShare ((upDat W c).before 3 t d))
    ∗ (∃ d, owns (c : Thread nD τ) (st0_4 t) fullShare ((upDat W c).before 4 t d))
    ∗ (∃ d, owns (c : Thread nD τ) (st0_5 t) fullShare ((upDat W c).before 5 t d)))
    ⊢ wp frame (wpE (defs₀ (F := F)) Variants.none c none) Set.univ (bodyAt0 t) (fun _ =>
      iprop((upDat W c).Φ t.castSucc ∗ (upDat W c).owesAt () t.castSucc
        ∗ owns (c : Thread nD τ) (st0_0 t) fullShare (upAfter W c 0 t) ∗ owns (c : Thread nD τ) (st0_1 t) fullShare (upAfter W c 1 t)
        ∗ owns (c : Thread nD τ) (st0_2 t) fullShare (upAfter W c 2 t) ∗ owns (c : Thread nD τ) (st0_3 t) fullShare (upAfter W c 3 t)
        ∗ owns (c : Thread nD τ) (st0_4 t) fullShare (upAfter W c 4 t) ∗ owns (c : Thread nD τ) (st0_5 t) fullShare (upAfter W c 5 t)))
  simp only [(up_before W c t).1, (up_before W c t).2.1, (up_before W c t).2.2]
  unfold bodyAt0
  iintro ⟨HΦ, Ho, ⟨%d0, H0⟩, ⟨%d1, H1⟩, ⟨%d2, H2⟩, ⟨%d3, H3⟩, ⟨%d4, H4⟩, ⟨%d5, H5⟩⟩
  iapply (up_body c (grid0.coords t) _ _ _ _ _ _ _ _ _ _ _ _ (block cfg0 W c 0 t) (block cfg0 W c 1 t) (block cfg0 W c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro H
  isplitl [HΦ]; · iexact HΦ
  isplitl [Ho]; · iexact Ho
  iexact H

end Cert.Ffn

end
-- ==== Proof.FfnHid.lean ====
/- The second call of the feed-forward backward program: the gradients of the gate and of the up projection, block by block. -/
module

public import proofs.«01_k».proof.Proof.FfnKit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

set_option maxHeartbeats 1000000 in
/-- The body: from the gradient of the result, the down weight, the gate and the up projection it fills the two gradients. -/
theorem hid_body (c : Dev nD) (i : grid1.Coords) (dx : Memref sig .tc .vmem S512x1024 .bf16) (hdx : dx.IsWhole)
    (wd : Memref sig .tc .vmem S768x1024 .bf16) (hwd : wd.IsWhole) (g : Memref sig .tc .vmem S512x768 .bf16) (hg : g.IsWhole)
    (u : Memref sig .tc .vmem S512x768 .bf16) (hu : u.IsWhole) (dg : Memref sig .tc .vmem S512x768 .bf16) (hdg : dg.IsWhole)
    (du : Memref sig .tc .vmem S512x768 .bf16) (hdu : du.IsWhole)
    (x : Vec F S512x1024 .bf16) (y : Vec F S768x1024 .bf16) (z v : Vec F S512x768 .bf16) (K : PUnit → sProp 𝕄) :
    iprop(owns (c : Thread nD τ) dx fullShare x ∗ owns (c : Thread nD τ) wd fullShare y ∗ owns (c : Thread nD τ) g fullShare z
        ∗ owns (c : Thread nD τ) u fullShare v ∗ (∃ d, owns (c : Thread nD τ) dg fullShare d) ∗ (∃ d, owns (c : Thread nD τ) du fullShare d)
        ∗ (iprop(owns (c : Thread nD τ) dx fullShare x ∗ owns (c : Thread nD τ) wd fullShare y ∗ owns (c : Thread nD τ) g fullShare z
            ∗ owns (c : Thread nD τ) u fullShare v ∗ owns (c : Thread nD τ) dg fullShare (k1_pay5 x y z v)
            ∗ owns (c : Thread nD τ) du fullShare (k1_pay4 x y z)) -∗ K ⟨⟩))
      ⊢ wp frame (wpE (defs₀ (F := F)) Variants.none c none) Set.univ (cc1_ffn_bwd_hid i dx hdx wd hwd g hg u hu dg hdg du hdu) K := by
  have hz : (![0, 0] : Fin 2 → ℕ) = fun _ => 0 := by funext k; fin_cases k <;> rfl
  have hcov : ∀ (p : Vec F S512x768 .bf16) (k : S512x768.Idx),
      ∃ pc ∈ ([⟨Rect.unit (s := S512x768) ![0, 0] S512x768.size inb_S512x768_S512x768_0_0, p⟩] : List (View.Piece (Elt F) S512x768 .bf16)), k ∈ pc.1.set :=
    fun p k => View.cover_of_tiled _ S512x768.size (by rfl) k
  simp only [cc1_ffn_bwd_hid_eq_skeleton]; unfold cc1_ffn_bwd_hid_skel
  unfold owns
  iintro ⟨⟨%fx, %ex, Hx⟩, ⟨%fy, %ey, Hy⟩, ⟨%fz, %ez, Hz⟩, ⟨%fv, %ev, Hv⟩, ⟨%d4, %f4, -, Hg⟩, ⟨%d5, %f5, -, Hu⟩, Hk⟩
  subst ex ey ez ev
  sl_exec
  sl_step
  iapply Hk
  isplitl [Hx]
  · iexists fx; isplitr; · ipureintro; rfl
    iexact Hx
  isplitl [Hy]
  · iexists fy; isplitr; · ipureintro; rfl
    iexact Hy
  isplitl [Hz]
  · iexists fz; isplitr; · ipureintro; rfl
    iexact Hz
  isplitl [Hv]
  · iexists fv; isplitr; · ipureintro; rfl
    iexact Hv
  isplitl [Hg]
  · iexists _; isplitr
    swap; · iexact Hg
    ipureintro
    rw [View.read_writes_eq_canon _ _ _ (hcov _), View.canon_unit_zero hz]
    simp only [View.readAt_eq_ld, View.ld_unit_zero (S := S512x1024) hz, View.ld_unit_zero (S := S768x1024) hz, View.ld_unit_zero (S := S512x768) hz]
  iexists _; isplitr
  swap; · iexact Hu
  ipureintro
  rw [View.read_writes_eq_canon _ _ _ (hcov _), View.canon_unit_zero hz]
  simp only [View.readAt_eq_ld, View.ld_unit_zero (S := S512x1024) hz, View.ld_unit_zero (S := S768x1024) hz, View.ld_unit_zero (S := S512x768) hz]

variable (W : Held F)

/-- What the call leaves in its windows at a point: the inputs' blocks, and the two outputs of them. -/
def hidAfter (c : Dev nD) (w : Fin cfg1.W) (t : Fin cfg1.N) : (cfg1.win w).block.Idx → Elt F (cfg1.win w).elt :=
  match w with
  | ⟨0, _⟩ => block cfg1 W c 0 t
  | ⟨1, _⟩ => block cfg1 W c 1 t
  | ⟨2, _⟩ => block cfg1 W c 2 t
  | ⟨3, _⟩ => block cfg1 W c 3 t
  | ⟨4, _⟩ => k1_pay5 (block cfg1 W c 0 t) (block cfg1 W c 1 t) (block cfg1 W c 2 t) (block cfg1 W c 3 t)
  | ⟨5, _⟩ => k1_pay4 (block cfg1 W c 0 t) (block cfg1 W c 1 t) (block cfg1 W c 2 t)

/-- The second call's proof data. -/
def hidDat (c : Dev nD) : Dat τ (Elt F) Unit ℕ (UR sig nD τ) ℕ cfg1 c := data cfg1 W c (hidAfter W c) fun _ => Pipeline.ΦA spec1 c

theorem hid_before (c : Dev nD) (t : Fin cfg1.N) :
    (∀ d, (hidDat W c).before 0 t d = block cfg1 W c 0 t) ∧ (∀ d, (hidDat W c).before 1 t d = block cfg1 W c 1 t)
      ∧ (∀ d, (hidDat W c).before 2 t d = block cfg1 W c 2 t) ∧ ∀ d, (hidDat W c).before 3 t d = block cfg1 W c 3 t :=
  ⟨(hidDat W c).before_in_eq_fetched 0 rfl (fun _ => rfl) (fun _ _ _ => rfl) (fun _ => rfl) t,
   (hidDat W c).before_in_eq_fetched 1 rfl (fun _ => rfl) (fun _ _ _ => rfl) (fun _ => rfl) t,
   (hidDat W c).before_in_eq_fetched 2 rfl (fun _ => rfl) (fun _ _ _ => rfl) (fun _ => rfl) t,
   (hidDat W c).before_in_eq_fetched 3 rfl (fun _ => rfl) (fun _ _ _ => rfl) (fun _ => rfl) t⟩

theorem hid_call (t : Fin cfg1.N) : defs₀ (F := F) .tc cfg1.body (cfg1.bodyArgs t (cfg1.slots t)) = bodyAt1 t := by
  unfold defs₀; rw [Defs.onTc_tc]

/-- The body's obligation at a point. -/
theorem hid_obligation (c : Dev nD) : BodyObligation (hidDat W c) (defs₀ (F := F)) Variants.none () Set.univ := fun t => by
  rw [bigSep_W1, bigSep_W1, hid_call]
  show iprop((hidDat W c).Φ t.castSucc ∗ (hidDat W c).owesAt () t.castSucc
    ∗ (∃ d, owns (c : Thread nD τ) (st1_0 t) fullShare ((hidDat W c).before 0 t d))
    ∗ (∃ d, owns (c : Thread nD τ) (st1_1 t) fullShare ((hidDat W c).before 1 t d))
    ∗ (∃ d, owns (c : Thread nD τ) (st1_2 t) fullShare ((hidDat W c).before 2 t d))
    ∗ (∃ d, owns (c : Thread nD τ) (st1_3 t) fullShare ((hidDat W c).before 3 t d))
    ∗ (∃ d, owns (c : Thread nD τ) (st1_4 t) fullShare ((hidDat W c).before 4 t d))
    ∗ (∃ d, owns (c : Thread nD τ) (st1_5 t) fullShare ((hidDat W c).before 5 t d)))
    ⊢ wp frame (wpE (defs₀ (F := F)) Variants.none c none) Set.univ (bodyAt1 t) (fun _ =>
      iprop((hidDat W c).Φ t.castSucc ∗ (hidDat W c).owesAt () t.castSucc
        ∗ owns (c : Thread nD τ) (st1_0 t) fullShare (hidAfter W c 0 t) ∗ owns (c : Thread nD τ) (st1_1 t) fullShare (hidAfter W c 1 t)
        ∗ owns (c : Thread nD τ) (st1_2 t) fullShare (hidAfter W c 2 t) ∗ owns (c : Thread nD τ) (st1_3 t) fullShare (hidAfter W c 3 t)
        ∗ owns (c : Thread nD τ) (st1_4 t) fullShare (hidAfter W c 4 t) ∗ owns (c : Thread nD τ) (st1_5 t) fullShare (hidAfter W c 5 t)))
  simp only [(hid_before W c t).1, (hid_before W c t).2.1, (hid_before W c t).2.2.1, (hid_before W c t).2.2.2]
  unfold bodyAt1
  iintro ⟨HΦ, Ho, ⟨%d0, H0⟩, ⟨%d1, H1⟩, ⟨%d2, H2⟩, ⟨%d3, H3⟩, ⟨%d4, H4⟩, ⟨%d5, H5⟩⟩
  iapply (hid_body c (grid1.coords t) _ _ _ _ _ _ _ _ _ _ _ _ (block cfg1 W c 0 t) (block cfg1 W c 1 t) (block cfg1 W c 2 t) (block cfg1 W c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro H
  isplitl [HΦ]; · iexact HΦ
  isplitl [Ho]; · iexact Ho
  iexact H

end Cert.Ffn

end
-- ==== Proof.FfnProd.lean ====
/- The three calls of the feed-forward backward program that each make a weight's gradient: products of transposed blocks, added
   up in a scratch buffer over four points and written out at the last of them. The three bodies are one program, which
   differs only in what it does to the sum before writing it. -/
module

public import proofs.«01_k».proof.Proof.FfnKit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The tile in which the sum is kept, whole. -/
abbrev tile : Rect S1024x1024 := Rect.unit (s := S1024x1024) ![0, 0] S1024x1024.size inb_S1024x1024_S1024x1024_0_0
/-- A block of an operand, whole. -/
abbrev strip : Rect S2048x1024 := Rect.unit (s := S2048x1024) ![0, 0] S2048x1024.size inb_S2048x1024_S2048x1024_0_0

/-- Whether a word is at least `lo` and below `hi`, as a body tests it. -/
abbrev within (k lo hi : BitVec 32) : BitVec 1 := Scalar.cmpi .ne (Scalar.extui (Scalar.andi (Scalar.cmpi .sge k lo) (Scalar.cmpi .slt k hi))) 0#32
/-- Whether a word is `v`, as a body tests it. -/
abbrev equals (k v : BitVec 32) : BitVec 1 := Scalar.cmpi .ne (Scalar.extui (Scalar.cmpi .eq k v)) 0#32

/-- How a product of two blocks is added to the sum. -/
abbrev Adds (F : FTy → Type) : Type := Vec F S1024x1024 .f32 → Vec F S2048x1024 .bf16 → Vec F S2048x1024 .bf16 → FVec F S1024x1024 .f32
/-- What is made of the sum before it is written out. -/
abbrev Writes (F : FTy → Type) : Type := Vec F S1024x1024 .f32 → FVec F S1024x1024 .bf16

/-- The body of the three calls at inner coordinate `k`: clear the sum at 0, add a product (`add`), and at 3 write out what `fin` makes of it. -/
def sweep (add : Adds F) (fin : Writes F) (k : BitVec 32) (x y : Memref sig .tc .vmem S2048x1024 .bf16)
    (o : Memref sig .tc .vmem S1024x1024 .bf16) (ho : o.IsWhole) (a : Memref sig .tc .vmem S1024x1024 .f32) :
    Prog (TpuEff nD τ sig (Elt F) Λ₀ .tc) PUnit := do
  if _h1 : equals k 0#32 = 1#1 then do
    let _ : Vec F S1024x1024 .f32 ← Prog.lift (.load a tile.toLoadRect (View.loadsAt_vmem h_S1024x1024))
    Prog.lift (.store a tile (k3_pay1 (F := F)) Finset.univ (View.stores_vmem_bits_univ h_S1024x1024 rfl) (.inl rfl))
    pure ⟨⟩
  else do
    pure ⟨⟩
  if _h2 : within k 0#32 4#32 = 1#1 then do
    let v11 : Vec F S1024x1024 .f32 ← Prog.lift (.load a tile.toLoadRect (View.loadsAt_vmem h_S1024x1024))
    let v12 : Vec F S2048x1024 .bf16 ← Prog.lift (.load x strip.toLoadRect (View.loadsAt_vmem h_S2048x1024))
    let v14 : Vec F S2048x1024 .bf16 ← Prog.lift (.load y strip.toLoadRect (View.loadsAt_vmem h_S2048x1024))
    let _ : Vec F S1024x1024 .f32 ← Prog.lift (.load a tile.toLoadRect (View.loadsAt_vmem h_S1024x1024))
    Prog.lift (.store a tile (add v11 v12 v14) Finset.univ (View.stores_vmem_bits_univ h_S1024x1024 rfl) (.inl rfl))
    pure ⟨⟩
  else do
    pure ⟨⟩
  if _h3 : equals k 3#32 = 1#1 then do
    let v11 : Vec F S1024x1024 .f32 ← Prog.lift (.load a tile.toLoadRect (View.loadsAt_vmem h_S1024x1024))
    let _ : Vec F S1024x1024 .bf16 ← Prog.lift (.load o tile.toLoadRect (View.loadsAt_vmem h_S1024x1024))
    Prog.lift (.store o tile (fin v11) Finset.univ (View.stores_vmem h_S1024x1024 (ho.storeExact_slice rfl _ packedbf16_S1024x1024_S1024x1024_0_0) (fun _ => rfl)) (.inl rfl))
    pure ⟨⟩
  else do
    pure ⟨⟩
  pure ⟨⟩

theorem dwd_eq (i : grid2.Coords) (x : Memref sig .tc .vmem S2048x1024 .bf16) (hx : x.IsWhole) (y : Memref sig .tc .vmem S2048x1024 .bf16) (hy : y.IsWhole)
    (o : Memref sig .tc .vmem S1024x1024 .bf16) (ho : o.IsWhole) (a : Memref sig .tc .vmem S1024x1024 .f32) (ha : a.IsWhole) :
    cc2_ffn_dwd (F := F) i x hx y hy o ho a ha = sweep k2_pay2 k2_pay3 (BitVec.ofNat 32 (i 2).val) x y o ho a := rfl

theorem dwg_eq (i : grid3.Coords) (x : Memref sig .tc .vmem S2048x1024 .bf16) (hx : x.IsWhole) (y : Memref sig .tc .vmem S2048x1024 .bf16) (hy : y.IsWhole)
    (o : Memref sig .tc .vmem S1024x1024 .bf16) (ho : o.IsWhole) (a : Memref sig .tc .vmem S1024x1024 .f32) (ha : a.IsWhole) :
    cc3_ffn_dwg (F := F) i x hx y hy o ho a ha = sweep k3_pay2 k3_pay3 (BitVec.ofNat 32 (i 2).val) x y o ho a := rfl

theorem dwu_eq (i : grid4.Coords) (x : Memref sig .tc .vmem S2048x1024 .bf16) (hx : x.IsWhole) (y : Memref sig .tc .vmem S2048x1024 .bf16) (hy : y.IsWhole)
    (o : Memref sig .tc .vmem S1024x1024 .bf16) (ho : o.IsWhole) (a : Memref sig .tc .vmem S1024x1024 .f32) (ha : a.IsWhole) :
    cc4_ffn_dwu (F := F) i x hx y hy o ho a ha = sweep k3_pay2 k3_pay3 (BitVec.ofNat 32 (i 2).val) x y o ho a := rfl

theorem equals_iff (k v : ℕ) (hk : k < 6) (hv : v < 6) : equals (BitVec.ofNat 32 k) (BitVec.ofNat 32 v) = 1#1 ↔ k = v := by
  have h : ∀ k v : Fin 6, equals (BitVec.ofNat 32 k.val) (BitVec.ofNat 32 v.val) = 1#1 ↔ k.val = v.val := by decide +kernel
  exact h ⟨k, hk⟩ ⟨v, hv⟩

theorem within_four (k : ℕ) (hk : k < 4) : within (BitVec.ofNat 32 k) 0#32 4#32 = 1#1 := by
  have h : ∀ k : Fin 4, within (BitVec.ofNat 32 k.val) 0#32 4#32 = 1#1 := by decide +kernel
  exact h ⟨k, hk⟩

/-- The sum after a point: the product of the point's blocks added to zero at the first point of four, and to what the sum was at the others. -/
def step (add : Adds F) (k : ℕ) (acc : Vec F S1024x1024 .f32) (x y : Vec F S2048x1024 .bf16) : Vec F S1024x1024 .f32 :=
  add (if k = 0 then k3_pay1 else acc) x y

set_option maxHeartbeats 1000000 in
/-- The body on whole buffers: the operands are kept, the sum is stepped, and the output is written at the last point only. -/
theorem sweep_body (add : Adds F) (fin : Writes F) (c : Dev nD) (k : ℕ) (hk : k < 4)
    (mx : Memref sig .tc .vmem S2048x1024 .bf16) (hx : mx.IsWhole) (my : Memref sig .tc .vmem S2048x1024 .bf16) (hy : my.IsWhole)
    (mo : Memref sig .tc .vmem S1024x1024 .bf16) (ho : mo.IsWhole) (ma : Memref sig .tc .vmem S1024x1024 .f32) (ha : ma.IsWhole)
    (x y : Vec F S2048x1024 .bf16) (o : Vec F S1024x1024 .bf16) (s : Vec F S1024x1024 .f32) (K : PUnit → sProp 𝕄) :
    iprop(owns (c : Thread nD τ) mx fullShare x ∗ owns (c : Thread nD τ) my fullShare y ∗ owns (c : Thread nD τ) mo fullShare o
        ∗ owns (c : Thread nD τ) ma fullShare s
        ∗ (iprop(owns (c : Thread nD τ) mx fullShare x ∗ owns (c : Thread nD τ) my fullShare y
            ∗ owns (c : Thread nD τ) mo fullShare (if k = 3 then fin (step add k s x y) else o)
            ∗ owns (c : Thread nD τ) ma fullShare (step add k s x y)) -∗ K ⟨⟩))
      ⊢ wp frame (wpE (defs₀ (F := F)) Variants.none c none) Set.univ (sweep add fin (BitVec.ofNat 32 k) mx my mo ho ma) K := by
  have hz : (![0, 0] : Fin 2 → ℕ) = fun _ => 0 := by funext k; fin_cases k <;> rfl
  have hcov : ∀ (e : EltTy) (p : Vec F S1024x1024 e) (L : List (View.Piece (Elt F) S1024x1024 e)) (j : S1024x1024.Idx),
      ∃ pc ∈ ((⟨tile, p⟩ : View.Piece (Elt F) S1024x1024 e) :: L), j ∈ pc.1.set :=
    fun e p L j => ⟨_, List.mem_cons_self, View.mem_set_unit_zero hz inb_S1024x1024_S1024x1024_0_0 j⟩
  have c1 := equals_iff k 0 (by omega) (by decide)
  have c2 := within_four k hk
  have c3 := equals_iff k 3 (by omega) (by decide)
  unfold sweep owns
  iintro ⟨⟨%fx, %ex, Hx⟩, ⟨%fy, %ey, Hy⟩, ⟨%fo, %eo, Ho⟩, ⟨%fs, %es, Hs⟩, Hk⟩
  obtain rfl := hx.eq_unread ex; obtain rfl := hy.eq_unread ey; obtain rfl := ho.eq_unread eo; obtain rfl := ha.eq_unread es
  have rx : View.readAt (Elt F) mx.view strip.toLoadRect (hx.unread x) = x := by
    rw [View.readAt_eq_ld, ex, View.ld_unit_zero (S := S2048x1024) hz]
  have ry : View.readAt (Elt F) my.view strip.toLoadRect (hy.unread y) = y := by
    rw [View.readAt_eq_ld, ey, View.ld_unit_zero (S := S2048x1024) hz]
  have rs : View.readAt (Elt F) ma.view tile.toLoadRect (ha.unread s) = s := by
    rw [View.readAt_eq_ld, es, View.ld_unit_zero (S := S1024x1024) hz]
  rcases Nat.eq_zero_or_pos k with h0 | h0
  · have c1' := c1.mpr h0
    have c3' : ¬ equals (BitVec.ofNat 32 k) 3#32 = 1#1 := fun h => by have := c3.mp h; omega
    sl_exec (disch := first | sl_exact c1' | sl_exact c2 | sl_exact c3')
    sl_step
    iapply Hk
    isplitl [Hx]
    · iexists _; isplitr; · ipureintro; exact hx.read_unread _
      iexact Hx
    isplitl [Hy]
    · iexists _; isplitr; · ipureintro; exact hy.read_unread _
      iexact Hy
    isplitl [Ho]
    · iexists _; isplitr; · ipureintro; rw [if_neg (by omega)]; exact ho.read_unread _
      iexact Ho
    iexists _; isplitr
    swap; · iexact Hs
    ipureintro
    unfold step
    rw [if_pos h0, View.read_writes_eq_canon _ _ _ (hcov _ _ _), View.canon_cons_unit_zero hz]
    unfold sweep_body.sl.v11 sweep_body.sl.Hs_1
    rw [View.readCov_unit_zero _ hz]
  have c1' : ¬ equals (BitVec.ofNat 32 k) 0#32 = 1#1 := fun h => by have := c1.mp h; omega
  by_cases h3 : k = 3
  · have c3' := c3.mpr h3
    sl_exec (disch := first | sl_exact c1' | sl_exact c2 | sl_exact c3')
    sl_step
    iapply Hk
    isplitl [Hx]
    · iexists _; isplitr; · ipureintro; exact hx.read_unread _
      iexact Hx
    isplitl [Hy]
    · iexists _; isplitr; · ipureintro; exact hy.read_unread _
      iexact Hy
    isplitl [Ho]
    · iexists _; isplitr
      swap; · iexact Ho
      ipureintro
      rw [if_pos h3, View.read_writes_eq_canon _ _ _ (hcov _ _ _), View.canon_cons_unit_zero hz]
      unfold sweep_body.sl.v11_1 sweep_body.sl.Hs_1_1 step
      rw [if_neg (by omega), View.readCov_unit_zero _ hz]
    iexists _; isplitr
    swap; · iexact Hs
    ipureintro
    unfold sweep_body.sl.Hs_1_1 step
    rw [if_neg (by omega), View.read_writes_eq_canon _ _ _ (hcov _ _ _), View.canon_cons_unit_zero hz]
  · have c3' : ¬ equals (BitVec.ofNat 32 k) 3#32 = 1#1 := fun h => h3 (c3.mp h)
    sl_exec (disch := first | sl_exact c1' | sl_exact c2 | sl_exact c3')
    sl_step
    iapply Hk
    isplitl [Hx]
    · iexists _; isplitr; · ipureintro; exact hx.read_unread _
      iexact Hx
    isplitl [Hy]
    · iexists _; isplitr; · ipureintro; exact hy.read_unread _
      iexact Hy
    isplitl [Ho]
    · iexists _; isplitr; · ipureintro; rw [if_neg h3]; exact ho.read_unread _
      iexact Ho
    iexists _; isplitr
    swap; · iexact Hs
    ipureintro
    unfold step
    rw [if_neg (by omega), View.read_writes_eq_canon _ _ _ (hcov _ _ _), View.canon_cons_unit_zero hz]

/-- The sums before each point, from the blocks the points are given. -/
def sums (add : Adds F) (x y : ℕ → Vec F S2048x1024 .bf16) : ℕ → Vec F S1024x1024 .f32
  | 0 => k3_pay1
  | n + 1 => step add (n % 4) (sums add x y n) (x n) (y n)

/-- What is known of the sum's buffer before a point: past the first of four points it holds the sum so far. -/
def sumAt (c : Dev nD) (a : Memref sig .tc .vmem S1024x1024 .f32) (s : ℕ → Vec F S1024x1024 .f32) (n : ℕ) : sProp 𝕄 :=
  iprop(∃ v, ⌜n % 4 ≠ 0 → v = s n⌝ ∗ owns (c : Thread nD τ) a fullShare v)

/-- A point of the three calls: the sum's buffer goes from its contents before the point to those after it, and the output's buffer is
    filled at the last of four points and kept at the others. -/
theorem sweep_point (add : Adds F) (fin : Writes F) (c : Dev nD) (x y : ℕ → Vec F S2048x1024 .bf16) (n : ℕ)
    (u v : Vec F S2048x1024 .bf16) (eu : x n = u) (ev : y n = v) (R O : sProp 𝕄)
    (mx : Memref sig .tc .vmem S2048x1024 .bf16) (hx : mx.IsWhole) (my : Memref sig .tc .vmem S2048x1024 .bf16) (hy : my.IsWhole)
    (mo : Memref sig .tc .vmem S1024x1024 .bf16) (ho : mo.IsWhole) (ma : Memref sig .tc .vmem S1024x1024 .f32) (ha : ma.IsWhole)
    {α : Type} (b : α → Vec F S1024x1024 .bf16) :
    iprop((sumAt c ma (sums add x y) n ∗ R) ∗ O ∗ owns (c : Thread nD τ) mx fullShare u ∗ owns (c : Thread nD τ) my fullShare v
        ∗ ∃ d, owns (c : Thread nD τ) mo fullShare (b d))
      ⊢ wp frame (wpE (defs₀ (F := F)) Variants.none c none) Set.univ (sweep add fin (BitVec.ofNat 32 (n % 4)) mx my mo ho ma) fun _ =>
        iprop((sumAt c ma (sums add x y) (n + 1) ∗ R) ∗ O ∗ owns (c : Thread nD τ) mx fullShare u ∗ owns (c : Thread nD τ) my fullShare v
          ∗ (if n % 4 = 3 then owns (c : Thread nD τ) mo fullShare (fin (sums add x y (n + 1)))
              else iprop(∃ d, owns (c : Thread nD τ) mo fullShare (b d)))) := by
  subst eu ev
  unfold sumAt
  iintro ⟨⟨⟨%z, %hz, Hs⟩, HR⟩, HO, Hx, Hy, ⟨%d, Ho⟩⟩
  have hstep : step add (n % 4) z (x n) (y n) = sums add x y (n + 1) := by
    show _ = step add (n % 4) (sums add x y n) (x n) (y n)
    unfold step
    by_cases h : n % 4 = 0
    · rw [if_pos h, if_pos h]
    · rw [hz h]
  iapply (sweep_body add fin c (n % 4) (Nat.mod_lt _ (by decide)) mx hx my hy mo ho ma ha (x n) (y n) (b d) z _)
  isplitl [Hx]; · iexact Hx
  isplitl [Hy]; · iexact Hy
  isplitl [Ho]; · iexact Ho
  isplitl [Hs]; · iexact Hs
  rw [hstep]
  iintro ⟨Hx, Hy, Ho, Hs⟩
  isplitl [Hs HR]
  · isplitl [Hs]
    · iexists _; isplitr
      swap; · iexact Hs
      ipureintro; exact fun _ => rfl
    iexact HR
  isplitl [HO]; · iexact HO
  isplitl [Hx]; · iexact Hx
  isplitl [Hy]; · iexact Hy
  by_cases h : n % 4 = 3
  · rw [if_pos h, if_pos h]; iexact Ho
  · rw [if_neg h, if_neg h]; iexists d; iexact Ho

section Dwd

variable (W : Held F)

/-- The point of a number, the numbers counted round. -/
def dwdPt (n : ℕ) : Fin cfg2.N := ⟨n % 12, lt_of_lt_of_eq (Nat.mod_lt _ (by decide)) N_2.symm⟩

theorem dwdPt_val (t : Fin cfg2.N) : dwdPt t.val = t := Fin.ext (Nat.mod_eq_of_lt (lt_of_lt_of_eq t.isLt N_2))

/-- The sums of the call for the down weight. -/
def dwdSums (c : Dev nD) : ℕ → Vec F S1024x1024 .f32 := sums k2_pay2 (fun n => block cfg2 W c 0 (dwdPt n)) (fun n => block cfg2 W c 1 (dwdPt n))

def dwdAfter (c : Dev nD) (w : Fin cfg2.W) (t : Fin cfg2.N) : (cfg2.win w).block.Idx → Elt F (cfg2.win w).elt :=
  match w with
  | ⟨0, _⟩ => block cfg2 W c 0 t
  | ⟨1, _⟩ => block cfg2 W c 1 t
  | ⟨2, _⟩ => k2_pay3 (dwdSums W c (t.val + 1))

/-- What the call keeps between points: the sum's buffer, and what it does not touch. -/
def dwdInv (c : Dev nD) (n : ℕ) (_ : n ≤ cfg2.N) : sProp 𝕄 :=
  iprop(sumAt c (Memref.whole cc2_scratch0) (dwdSums W c) n ∗ Pipeline.scopedRestBut spec2 c [cc2_scratch0] ∗ ∃ r, prngReg c r)

/-- The proof data of the call for the down weight. -/
def dwdDat (c : Dev nD) : Dat τ (Elt F) Unit ℕ (UR sig nD τ) ℕ cfg2 c :=
  data cfg2 W c (dwdAfter W c) fun t => dwdInv W c t.val (Nat.le_of_lt_succ t.isLt)

theorem dwd_idle : ∀ t : Fin cfg2.N, t.val % 4 ≠ 3 → cfg2.idle 2 (grid2.coords t) = true ∧ (cfg2.win 2).flush t = false := by
  decide +kernel

theorem dwd_live : ∀ t : Fin cfg2.N, t.val % 4 = 3 → cfg2.idle 2 (grid2.coords t) = false := by decide +kernel

theorem dwd_leaves (c : Dev nD) (t : Fin cfg2.N) : (dwdDat W c).leavesExact 2 t
    = if t.val % 4 = 3 then owns (c : Thread nD τ) (st2_2 t) fullShare (k2_pay3 (dwdSums W c (t.val + 1)))
      else iprop(∃ d, owns (c : Thread nD τ) (st2_2 t) fullShare ((dwdDat W c).before 2 t d)) := by
  by_cases h : t.val % 4 = 3
  · rw [if_pos h]; unfold Dat.leavesExact; rw [dwd_live t h]; rfl
  · rw [if_neg h]; exact (dwdDat W c).leavesExact_idle 2 t (dwd_idle t h).1 (dwd_idle t h).2

theorem dwd_call (t : Fin cfg2.N) : defs₀ (F := F) .tc cfg2.body (cfg2.bodyArgs t (cfg2.slots t)) = bodyAt2 t := by
  unfold defs₀; rw [Defs.onTc_tc]

theorem dwd_obligation (c : Dev nD) : BodyObligation (dwdDat W c) (defs₀ (F := F)) Variants.none () Set.univ := fun t => by
  rw [bigSep_W2, bigSep_W2, dwd_call]
  have e : (grid2.coords t 2).val = t.val % 4 := (Pipeline.Grid.coords_val (S := 1) t 2 (by decide) rfl).trans (congrArg (· % 4) (Nat.div_one t.val))
  have b0 : ∀ d, (dwdDat W c).before 0 t d = block cfg2 W c 0 t :=
    (dwdDat W c).before_in_eq_fetched 0 rfl (fun _ => rfl) (fun _ _ _ => rfl) (fun _ => rfl) t
  have b1 : ∀ d, (dwdDat W c).before 1 t d = block cfg2 W c 1 t :=
    (dwdDat W c).before_in_eq_fetched 1 rfl (fun _ => rfl) (fun _ _ _ => rfl) (fun _ => rfl) t
  show iprop((dwdDat W c).Φ t.castSucc ∗ (dwdDat W c).owesAt () t.castSucc
    ∗ (∃ d, owns (c : Thread nD τ) (st2_0 t) fullShare ((dwdDat W c).before 0 t d))
    ∗ (∃ d, owns (c : Thread nD τ) (st2_1 t) fullShare ((dwdDat W c).before 1 t d))
    ∗ (∃ d, owns (c : Thread nD τ) (st2_2 t) fullShare ((dwdDat W c).before 2 t d)))
    ⊢ wp frame (wpE (defs₀ (F := F)) Variants.none c none) Set.univ (bodyAt2 t) (fun _ =>
      iprop(dwdInv W c (t.val + 1) t.isLt ∗ (dwdDat W c).owesAt () t.castSucc
        ∗ owns (c : Thread nD τ) (st2_0 t) fullShare (block cfg2 W c 0 t) ∗ owns (c : Thread nD τ) (st2_1 t) fullShare (block cfg2 W c 1 t)
        ∗ (dwdDat W c).leavesExact 2 t))
  rw [show (dwdDat W c).Φ t.castSucc = dwdInv W c t.val (Nat.le_of_lt t.isLt) from Pipeline.Dat.Φ_castSucc (dwdInv W c) t, dwd_leaves]
  simp only [b0, b1]
  unfold bodyAt2 dwdInv dwdSums
  rw [dwd_eq, e]
  have h := sweep_point k2_pay2 k2_pay3 c (fun n => block cfg2 W c 0 (dwdPt n)) (fun n => block cfg2 W c 1 (dwdPt n)) t.val
    (block cfg2 W c 0 t) (block cfg2 W c 1 t) (by rw [dwdPt_val]) (by rw [dwdPt_val])
    (iprop(Pipeline.scopedRestBut spec2 c [cc2_scratch0] ∗ ∃ r, prngReg c r)) ((dwdDat W c).owesAt () t.castSucc)
    (st2_0 t) (hstage2_0 ((cfg2.slots t 0).cast nbuf2_0)) (st2_1 t) (hstage2_1 ((cfg2.slots t 1).cast nbuf2_1))
    (st2_2 t) (hstage2_2 ((cfg2.slots t 2).cast nbuf2_2)) (Memref.whole cc2_scratch0) (Memref.isWhole_whole _)
    (fun d => (dwdDat W c).before 2 t d)
  iintro ⟨HΦ, HO, ⟨%d0, H0⟩, ⟨%d1, H1⟩, H2⟩
  iapply h
  isplitl [HΦ]; · iexact HΦ
  isplitl [HO]; · iexact HO
  isplitl [H0]; · iexact H0
  isplitl [H1]; · iexact H1
  iexact H2

end Dwd

section Dwg

variable (W : Held F)

/-- The point of a number, the numbers counted round. -/
def dwgPt (n : ℕ) : Fin cfg3.N := ⟨n % 12, lt_of_lt_of_eq (Nat.mod_lt _ (by decide)) N_3.symm⟩

theorem dwgPt_val (t : Fin cfg3.N) : dwgPt t.val = t := Fin.ext (Nat.mod_eq_of_lt (lt_of_lt_of_eq t.isLt N_3))

/-- The sums of the call for the gate weight. -/
def dwgSums (c : Dev nD) : ℕ → Vec F S1024x1024 .f32 := sums k3_pay2 (fun n => block cfg3 W c 0 (dwgPt n)) (fun n => block cfg3 W c 1 (dwgPt n))

def dwgAfter (c : Dev nD) (w : Fin cfg3.W) (t : Fin cfg3.N) : (cfg3.win w).block.Idx → Elt F (cfg3.win w).elt :=
  match w with
  | ⟨0, _⟩ => block cfg3 W c 0 t
  | ⟨1, _⟩ => block cfg3 W c 1 t
  | ⟨2, _⟩ => k3_pay3 (dwgSums W c (t.val + 1))

/-- What the call keeps between points: the sum's buffer, and what it does not touch. -/
def dwgInv (c : Dev nD) (n : ℕ) (_ : n ≤ cfg3.N) : sProp 𝕄 :=
  iprop(sumAt c (Memref.whole cc3_scratch0) (dwgSums W c) n ∗ Pipeline.scopedRestBut spec3 c [cc3_scratch0] ∗ ∃ r, prngReg c r)

/-- The proof data of the call for the gate weight. -/
def dwgDat (c : Dev nD) : Dat τ (Elt F) Unit ℕ (UR sig nD τ) ℕ cfg3 c :=
  data cfg3 W c (dwgAfter W c) fun t => dwgInv W c t.val (Nat.le_of_lt_succ t.isLt)

theorem dwg_idle : ∀ t : Fin cfg3.N, t.val % 4 ≠ 3 → cfg3.idle 2 (grid3.coords t) = true ∧ (cfg3.win 2).flush t = false := by
  decide +kernel

theorem dwg_live : ∀ t : Fin cfg3.N, t.val % 4 = 3 → cfg3.idle 2 (grid3.coords t) = false := by decide +kernel

theorem dwg_leaves (c : Dev nD) (t : Fin cfg3.N) : (dwgDat W c).leavesExact 2 t
    = if t.val % 4 = 3 then owns (c : Thread nD τ) (st3_2 t) fullShare (k3_pay3 (dwgSums W c (t.val + 1)))
      else iprop(∃ d, owns (c : Thread nD τ) (st3_2 t) fullShare ((dwgDat W c).before 2 t d)) := by
  by_cases h : t.val % 4 = 3
  · rw [if_pos h]; unfold Dat.leavesExact; rw [dwg_live t h]; rfl
  · rw [if_neg h]; exact (dwgDat W c).leavesExact_idle 2 t (dwg_idle t h).1 (dwg_idle t h).2

theorem dwg_call (t : Fin cfg3.N) : defs₀ (F := F) .tc cfg3.body (cfg3.bodyArgs t (cfg3.slots t)) = bodyAt3 t := by
  unfold defs₀; rw [Defs.onTc_tc]

theorem dwg_obligation (c : Dev nD) : BodyObligation (dwgDat W c) (defs₀ (F := F)) Variants.none () Set.univ := fun t => by
  rw [bigSep_W3, bigSep_W3, dwg_call]
  have e : (grid3.coords t 2).val = t.val % 4 := (Pipeline.Grid.coords_val (S := 1) t 2 (by decide) rfl).trans (congrArg (· % 4) (Nat.div_one t.val))
  have b0 : ∀ d, (dwgDat W c).before 0 t d = block cfg3 W c 0 t :=
    (dwgDat W c).before_in_eq_fetched 0 rfl (fun _ => rfl) (fun _ _ _ => rfl) (fun _ => rfl) t
  have b1 : ∀ d, (dwgDat W c).before 1 t d = block cfg3 W c 1 t :=
    (dwgDat W c).before_in_eq_fetched 1 rfl (fun _ => rfl) (fun _ _ _ => rfl) (fun _ => rfl) t
  show iprop((dwgDat W c).Φ t.castSucc ∗ (dwgDat W c).owesAt () t.castSucc
    ∗ (∃ d, owns (c : Thread nD τ) (st3_0 t) fullShare ((dwgDat W c).before 0 t d))
    ∗ (∃ d, owns (c : Thread nD τ) (st3_1 t) fullShare ((dwgDat W c).before 1 t d))
    ∗ (∃ d, owns (c : Thread nD τ) (st3_2 t) fullShare ((dwgDat W c).before 2 t d)))
    ⊢ wp frame (wpE (defs₀ (F := F)) Variants.none c none) Set.univ (bodyAt3 t) (fun _ =>
      iprop(dwgInv W c (t.val + 1) t.isLt ∗ (dwgDat W c).owesAt () t.castSucc
        ∗ owns (c : Thread nD τ) (st3_0 t) fullShare (block cfg3 W c 0 t) ∗ owns (c : Thread nD τ) (st3_1 t) fullShare (block cfg3 W c 1 t)
        ∗ (dwgDat W c).leavesExact 2 t))
  rw [show (dwgDat W c).Φ t.castSucc = dwgInv W c t.val (Nat.le_of_lt t.isLt) from Pipeline.Dat.Φ_castSucc (dwgInv W c) t, dwg_leaves]
  simp only [b0, b1]
  unfold bodyAt3 dwgInv dwgSums
  rw [dwg_eq, e]
  have h := sweep_point k3_pay2 k3_pay3 c (fun n => block cfg3 W c 0 (dwgPt n)) (fun n => block cfg3 W c 1 (dwgPt n)) t.val
    (block cfg3 W c 0 t) (block cfg3 W c 1 t) (by rw [dwgPt_val]) (by rw [dwgPt_val])
    (iprop(Pipeline.scopedRestBut spec3 c [cc3_scratch0] ∗ ∃ r, prngReg c r)) ((dwgDat W c).owesAt () t.castSucc)
    (st3_0 t) (hstage3_0 ((cfg3.slots t 0).cast nbuf3_0)) (st3_1 t) (hstage3_1 ((cfg3.slots t 1).cast nbuf3_1))
    (st3_2 t) (hstage3_2 ((cfg3.slots t 2).cast nbuf3_2)) (Memref.whole cc3_scratch0) (Memref.isWhole_whole _)
    (fun d => (dwgDat W c).before 2 t d)
  iintro ⟨HΦ, HO, ⟨%d0, H0⟩, ⟨%d1, H1⟩, H2⟩
  iapply h
  isplitl [HΦ]; · iexact HΦ
  isplitl [HO]; · iexact HO
  isplitl [H0]; · iexact H0
  isplitl [H1]; · iexact H1
  iexact H2

end Dwg

section Dwu

variable (W : Held F)

/-- The point of a number, the numbers counted round. -/
def dwuPt (n : ℕ) : Fin cfg4.N := ⟨n % 12, lt_of_lt_of_eq (Nat.mod_lt _ (by decide)) N_4.symm⟩

theorem dwuPt_val (t : Fin cfg4.N) : dwuPt t.val = t := Fin.ext (Nat.mod_eq_of_lt (lt_of_lt_of_eq t.isLt N_4))

/-- The sums of the call for the up weight. -/
def dwuSums (c : Dev nD) : ℕ → Vec F S1024x1024 .f32 := sums k3_pay2 (fun n => block cfg4 W c 0 (dwuPt n)) (fun n => block cfg4 W c 1 (dwuPt n))

def dwuAfter (c : Dev nD) (w : Fin cfg4.W) (t : Fin cfg4.N) : (cfg4.win w).block.Idx → Elt F (cfg4.win w).elt :=
  match w with
  | ⟨0, _⟩ => block cfg4 W c 0 t
  | ⟨1, _⟩ => block cfg4 W c 1 t
  | ⟨2, _⟩ => k3_pay3 (dwuSums W c (t.val + 1))

/-- What the call keeps between points: the sum's buffer, and what it does not touch. -/
def dwuInv (c : Dev nD) (n : ℕ) (_ : n ≤ cfg4.N) : sProp 𝕄 :=
  iprop(sumAt c (Memref.whole cc4_scratch0) (dwuSums W c) n ∗ Pipeline.scopedRestBut spec4 c [cc4_scratch0] ∗ ∃ r, prngReg c r)

/-- The proof data of the call for the up weight. -/
def dwuDat (c : Dev nD) : Dat τ (Elt F) Unit ℕ (UR sig nD τ) ℕ cfg4 c :=
  data cfg4 W c (dwuAfter W c) fun t => dwuInv W c t.val (Nat.le_of_lt_succ t.isLt)

theorem dwu_idle : ∀ t : Fin cfg4.N, t.val % 4 ≠ 3 → cfg4.idle 2 (grid4.coords t) = true ∧ (cfg4.win 2).flush t = false := by
  decide +kernel

theorem dwu_live : ∀ t : Fin cfg4.N, t.val % 4 = 3 → cfg4.idle 2 (grid4.coords t) = false := by decide +kernel

theorem dwu_leaves (c : Dev nD) (t : Fin cfg4.N) : (dwuDat W c).leavesExact 2 t
    = if t.val % 4 = 3 then owns (c : Thread nD τ) (st4_2 t) fullShare (k3_pay3 (dwuSums W c (t.val + 1)))
      else iprop(∃ d, owns (c : Thread nD τ) (st4_2 t) fullShare ((dwuDat W c).before 2 t d)) := by
  by_cases h : t.val % 4 = 3
  · rw [if_pos h]; unfold Dat.leavesExact; rw [dwu_live t h]; rfl
  · rw [if_neg h]; exact (dwuDat W c).leavesExact_idle 2 t (dwu_idle t h).1 (dwu_idle t h).2

theorem dwu_call (t : Fin cfg4.N) : defs₀ (F := F) .tc cfg4.body (cfg4.bodyArgs t (cfg4.slots t)) = bodyAt4 t := by
  unfold defs₀; rw [Defs.onTc_tc]

theorem dwu_obligation (c : Dev nD) : BodyObligation (dwuDat W c) (defs₀ (F := F)) Variants.none () Set.univ := fun t => by
  rw [bigSep_W4, bigSep_W4, dwu_call]
  have e : (grid4.coords t 2).val = t.val % 4 := (Pipeline.Grid.coords_val (S := 1) t 2 (by decide) rfl).trans (congrArg (· % 4) (Nat.div_one t.val))
  have b0 : ∀ d, (dwuDat W c).before 0 t d = block cfg4 W c 0 t :=
    (dwuDat W c).before_in_eq_fetched 0 rfl (fun _ => rfl) (fun _ _ _ => rfl) (fun _ => rfl) t
  have b1 : ∀ d, (dwuDat W c).before 1 t d = block cfg4 W c 1 t :=
    (dwuDat W c).before_in_eq_fetched 1 rfl (fun _ => rfl) (fun _ _ _ => rfl) (fun _ => rfl) t
  show iprop((dwuDat W c).Φ t.castSucc ∗ (dwuDat W c).owesAt () t.castSucc
    ∗ (∃ d, owns (c : Thread nD τ) (st4_0 t) fullShare ((dwuDat W c).before 0 t d))
    ∗ (∃ d, owns (c : Thread nD τ) (st4_1 t) fullShare ((dwuDat W c).before 1 t d))
    ∗ (∃ d, owns (c : Thread nD τ) (st4_2 t) fullShare ((dwuDat W c).before 2 t d)))
    ⊢ wp frame (wpE (defs₀ (F := F)) Variants.none c none) Set.univ (bodyAt4 t) (fun _ =>
      iprop(dwuInv W c (t.val + 1) t.isLt ∗ (dwuDat W c).owesAt () t.castSucc
        ∗ owns (c : Thread nD τ) (st4_0 t) fullShare (block cfg4 W c 0 t) ∗ owns (c : Thread nD τ) (st4_1 t) fullShare (block cfg4 W c 1 t)
        ∗ (dwuDat W c).leavesExact 2 t))
  rw [show (dwuDat W c).Φ t.castSucc = dwuInv W c t.val (Nat.le_of_lt t.isLt) from Pipeline.Dat.Φ_castSucc (dwuInv W c) t, dwu_leaves]
  simp only [b0, b1]
  unfold bodyAt4 dwuInv dwuSums
  rw [dwu_eq, e]
  have h := sweep_point k3_pay2 k3_pay3 c (fun n => block cfg4 W c 0 (dwuPt n)) (fun n => block cfg4 W c 1 (dwuPt n)) t.val
    (block cfg4 W c 0 t) (block cfg4 W c 1 t) (by rw [dwuPt_val]) (by rw [dwuPt_val])
    (iprop(Pipeline.scopedRestBut spec4 c [cc4_scratch0] ∗ ∃ r, prngReg c r)) ((dwuDat W c).owesAt () t.castSucc)
    (st4_0 t) (hstage4_0 ((cfg4.slots t 0).cast nbuf4_0)) (st4_1 t) (hstage4_1 ((cfg4.slots t 1).cast nbuf4_1))
    (st4_2 t) (hstage4_2 ((cfg4.slots t 2).cast nbuf4_2)) (Memref.whole cc4_scratch0) (Memref.isWhole_whole _)
    (fun d => (dwuDat W c).before 2 t d)
  iintro ⟨HΦ, HO, ⟨%d0, H0⟩, ⟨%d1, H1⟩, H2⟩
  iapply h
  isplitl [HΦ]; · iexact HΦ
  isplitl [HO]; · iexact HO
  isplitl [H0]; · iexact H0
  isplitl [H1]; · iexact H1
  iexact H2

end Dwu

end Cert.Ffn

end
-- ==== Proof.FfnDa.lean ====
/- The last call of the feed-forward backward program: the gradient of the activations, two products of which the blocks are added
   up in a scratch buffer, three points of the one and three of the other, and written out at the last of the six. -/
module

public import proofs.«01_k».proof.Proof.FfnProd

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

theorem before_three (k : ℕ) (hk : k < 6) : within (BitVec.ofNat 32 k) 0#32 3#32 = 1#1 ↔ k < 3 := by
  have h : ∀ k : Fin 6, within (BitVec.ofNat 32 k.val) 0#32 3#32 = 1#1 ↔ k.val < 3 := by decide +kernel
  exact h ⟨k, hk⟩

theorem from_three (k : ℕ) (hk : k < 6) : within (BitVec.ofNat 32 k) 3#32 6#32 = 1#1 ↔ 3 ≤ k := by
  have h : ∀ k : Fin 6, within (BitVec.ofNat 32 k.val) 3#32 6#32 = 1#1 ↔ 3 ≤ k.val := by decide +kernel
  exact h ⟨k, hk⟩

/-- The sum after a point: one of the first three adds a product of the first two operands, to zero at the very first; the others add one of
    the last two. -/
def stepDa (k : ℕ) (acc : Vec F S1024x1024 .f32) (x0 x1 x2 x3 : Vec F S1024x1024 .bf16) : Vec F S1024x1024 .f32 :=
  if k < 3 then k5_pay2 (if k = 0 then k5_pay1 else acc) x0 x1 else k5_pay3 acc x2 x3

set_option maxHeartbeats 1000000 in
/-- The body on whole buffers: the operands are kept, the sum is stepped, and the output is written at the last point only. -/
theorem da_body (c : Dev nD) (i : grid5.Coords) (k : ℕ) (hk : k < 6) (hi : (i 2).val = k)
    (m0 : Memref sig .tc .vmem S1024x1024 .bf16) (h0 : m0.IsWhole) (m1 : Memref sig .tc .vmem S1024x1024 .bf16) (h1 : m1.IsWhole)
    (m2 : Memref sig .tc .vmem S1024x1024 .bf16) (h2 : m2.IsWhole) (m3 : Memref sig .tc .vmem S1024x1024 .bf16) (h3 : m3.IsWhole)
    (mo : Memref sig .tc .vmem S1024x1024 .f32) (ho : mo.IsWhole) (ma : Memref sig .tc .vmem S1024x1024 .f32) (ha : ma.IsWhole)
    (x0 x1 x2 x3 : Vec F S1024x1024 .bf16) (o s : Vec F S1024x1024 .f32) (K : PUnit → sProp 𝕄) :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) mo fullShare o ∗ owns (c : Thread nD τ) ma fullShare s
        ∗ (iprop(owns (c : Thread nD τ) m0 fullShare x0 ∗ owns (c : Thread nD τ) m1 fullShare x1 ∗ owns (c : Thread nD τ) m2 fullShare x2
            ∗ owns (c : Thread nD τ) m3 fullShare x3
            ∗ owns (c : Thread nD τ) mo fullShare (if k = 5 then stepDa k s x0 x1 x2 x3 else o)
            ∗ owns (c : Thread nD τ) ma fullShare (stepDa k s x0 x1 x2 x3)) -∗ K ⟨⟩))
      ⊢ wp frame (wpE (defs₀ (F := F)) Variants.none c none) Set.univ (cc5_ffn_da i m0 h0 m1 h1 m2 h2 m3 h3 mo ho ma ha) K := by
  have hz : (![0, 0] : Fin 2 → ℕ) = fun _ => 0 := by funext k; fin_cases k <;> rfl
  have hcov : ∀ (p : Vec F S1024x1024 .f32) (L : List (View.Piece (Elt F) S1024x1024 .f32)) (j : S1024x1024.Idx),
      ∃ pc ∈ ((⟨tile, p⟩ : View.Piece (Elt F) S1024x1024 .f32) :: L), j ∈ pc.1.set :=
    fun p L j => ⟨_, List.mem_cons_self, View.mem_set_unit_zero hz inb_S1024x1024_S1024x1024_0_0 j⟩
  have c1 : equals (BitVec.ofNat 32 (i 2).val) 0#32 = 1#1 ↔ k = 0 := by rw [hi]; exact equals_iff k 0 hk (by decide)
  have c2 : within (BitVec.ofNat 32 (i 2).val) 0#32 3#32 = 1#1 ↔ k < 3 := by rw [hi]; exact before_three k hk
  have c3 : within (BitVec.ofNat 32 (i 2).val) 3#32 6#32 = 1#1 ↔ 3 ≤ k := by rw [hi]; exact from_three k hk
  have c4 : k5_cond4 i = 1#1 ↔ k = 5 := by
    show equals (BitVec.ofNat 32 (i 2).val) 5#32 = 1#1 ↔ _; rw [hi]; exact equals_iff k 5 hk (by decide)
  simp only [cc5_ffn_da_eq_skeleton]; unfold cc5_ffn_da_skel owns
  iintro ⟨⟨%f0, %e0, H0⟩, ⟨%f1, %e1, H1⟩, ⟨%f2, %e2, H2⟩, ⟨%f3, %e3, H3⟩, ⟨%fo, %eo, Ho⟩, ⟨%fs, %es, Hs⟩, Hk⟩
  obtain rfl := h0.eq_unread e0; obtain rfl := h1.eq_unread e1; obtain rfl := h2.eq_unread e2; obtain rfl := h3.eq_unread e3
  obtain rfl := ho.eq_unread eo; obtain rfl := ha.eq_unread es
  have r0 : View.readAt (Elt F) m0.view tile.toLoadRect (h0.unread x0) = x0 := by rw [View.readAt_eq_ld, e0, View.ld_unit_zero (S := S1024x1024) hz]
  have r1 : View.readAt (Elt F) m1.view tile.toLoadRect (h1.unread x1) = x1 := by rw [View.readAt_eq_ld, e1, View.ld_unit_zero (S := S1024x1024) hz]
  have r2 : View.readAt (Elt F) m2.view tile.toLoadRect (h2.unread x2) = x2 := by rw [View.readAt_eq_ld, e2, View.ld_unit_zero (S := S1024x1024) hz]
  have r3 : View.readAt (Elt F) m3.view tile.toLoadRect (h3.unread x3) = x3 := by rw [View.readAt_eq_ld, e3, View.ld_unit_zero (S := S1024x1024) hz]
  have rs : View.readAt (Elt F) ma.view tile.toLoadRect (ha.unread s) = s := by rw [View.readAt_eq_ld, es, View.ld_unit_zero (S := S1024x1024) hz]
  rcases Nat.eq_zero_or_pos k with hk0 | hk0
  · have c1' := c1.mpr hk0
    have c2' := c2.mpr (by omega)
    have c3' := mt c3.mp (by omega)
    have c4' := mt c4.mp (by omega)
    sl_exec (disch := first | sl_exact c1' | sl_exact c2' | sl_exact c3' | sl_exact c4')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [Ho]
    · iexists _; isplitr; · ipureintro; rw [if_neg (by omega)]; exact ho.read_unread _
      iexact Ho
    iexists _; isplitr
    swap; · iexact Hs
    ipureintro
    unfold stepDa
    rw [if_pos (by omega), if_pos hk0, View.read_writes_eq_canon _ _ _ (hcov _ _), View.canon_cons_unit_zero hz]
    unfold da_body.sl.v16 da_body.sl.Hs_1
    rw [View.readCov_unit_zero _ hz]
  have c1' := mt c1.mp (by omega)
  by_cases hk3 : k < 3
  · have c2' := c2.mpr hk3
    have c3' := mt c3.mp (by omega)
    have c4' := mt c4.mp (by omega)
    sl_exec (disch := first | sl_exact c1' | sl_exact c2' | sl_exact c3' | sl_exact c4')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [Ho]
    · iexists _; isplitr; · ipureintro; rw [if_neg (by omega)]; exact ho.read_unread _
      iexact Ho
    iexists _; isplitr
    swap; · iexact Hs
    ipureintro
    unfold stepDa
    rw [if_pos hk3, if_neg (by omega), View.read_writes_eq_canon _ _ _ (hcov _ _), View.canon_cons_unit_zero hz]
  have c2' := mt c2.mp hk3
  have c3' := c3.mpr (by omega)
  by_cases hk5 : k = 5
  · have c4' := c4.mpr hk5
    sl_exec (disch := first | sl_exact c1' | sl_exact c2' | sl_exact c3' | sl_exact c4')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [Ho]
    · iexists _; isplitr
      swap; · iexact Ho
      ipureintro
      rw [if_pos hk5, View.read_writes_eq_canon _ _ _ (hcov _ _), View.canon_cons_unit_zero hz]
      unfold da_body.sl.v16_1 da_body.sl.Hs_1_1 stepDa
      rw [if_neg hk3, View.readCov_unit_zero _ hz]
    iexists _; isplitr
    swap; · iexact Hs
    ipureintro
    unfold da_body.sl.Hs_1_1 stepDa
    rw [if_neg hk3, View.read_writes_eq_canon _ _ _ (hcov _ _), View.canon_cons_unit_zero hz]
  · have c4' := mt c4.mp hk5
    sl_exec (disch := first | sl_exact c1' | sl_exact c2' | sl_exact c3' | sl_exact c4')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [Ho]
    · iexists _; isplitr; · ipureintro; rw [if_neg hk5]; exact ho.read_unread _
      iexact Ho
    iexists _; isplitr
    swap; · iexact Hs
    ipureintro
    unfold stepDa
    rw [if_neg hk3, View.read_writes_eq_canon _ _ _ (hcov _ _), View.canon_cons_unit_zero hz]

variable (W : Held F)

/-- The point of a number, the numbers counted round. -/
def daPt (n : ℕ) : Fin cfg5.N := ⟨n % 48, lt_of_lt_of_eq (Nat.mod_lt _ (by decide)) N_5.symm⟩

theorem daPt_val (t : Fin cfg5.N) : daPt t.val = t := Fin.ext (Nat.mod_eq_of_lt (lt_of_lt_of_eq t.isLt N_5))

/-- The sums before each point. -/
def daSums (c : Dev nD) : ℕ → Vec F S1024x1024 .f32
  | 0 => k5_pay1
  | n + 1 => stepDa (n % 6) (daSums c n) (block cfg5 W c 0 (daPt n)) (block cfg5 W c 1 (daPt n)) (block cfg5 W c 2 (daPt n)) (block cfg5 W c 3 (daPt n))

theorem daSums_next (c : Dev nD) (t : Fin cfg5.N) : daSums W c (t.val + 1)
    = stepDa (t.val % 6) (daSums W c t.val) (block cfg5 W c 0 t) (block cfg5 W c 1 t) (block cfg5 W c 2 t) (block cfg5 W c 3 t) := by
  conv_lhs => rw [daSums]
  rw [daPt_val]

def daAfter (c : Dev nD) (w : Fin cfg5.W) (t : Fin cfg5.N) : (cfg5.win w).block.Idx → Elt F (cfg5.win w).elt :=
  match w with
  | ⟨0, _⟩ => block cfg5 W c 0 t
  | ⟨1, _⟩ => block cfg5 W c 1 t
  | ⟨2, _⟩ => block cfg5 W c 2 t
  | ⟨3, _⟩ => block cfg5 W c 3 t
  | ⟨4, _⟩ => daSums W c (t.val + 1)

/-- What the call keeps between points: the sum's buffer, which past the first of six points holds the sum so far, and what it does not touch. -/
def daInv (c : Dev nD) (n : ℕ) (_ : n ≤ cfg5.N) : sProp 𝕄 :=
  iprop((∃ v, ⌜n % 6 ≠ 0 → v = daSums W c n⌝ ∗ owns (c : Thread nD τ) (Memref.whole cc5_scratch0) fullShare v)
    ∗ Pipeline.scopedRestBut spec5 c [cc5_scratch0] ∗ ∃ r, prngReg c r)

/-- The proof data of the call for the activations. -/
def daDat (c : Dev nD) : Dat τ (Elt F) Unit ℕ (UR sig nD τ) ℕ cfg5 c :=
  data cfg5 W c (daAfter W c) fun t => daInv W c t.val (Nat.le_of_lt_succ t.isLt)

theorem da_idle : ∀ t : Fin cfg5.N, t.val % 6 ≠ 5 → cfg5.idle 4 (grid5.coords t) = true ∧ (cfg5.win 4).flush t = false := by
  decide +kernel

theorem da_live : ∀ t : Fin cfg5.N, t.val % 6 = 5 → cfg5.idle 4 (grid5.coords t) = false := by decide +kernel

theorem da_leaves (c : Dev nD) (t : Fin cfg5.N) : (daDat W c).leavesExact 4 t
    = if t.val % 6 = 5 then owns (c : Thread nD τ) (st5_4 t) fullShare (daSums W c (t.val + 1))
      else iprop(∃ d, owns (c : Thread nD τ) (st5_4 t) fullShare ((daDat W c).before 4 t d)) := by
  by_cases h : t.val % 6 = 5
  · rw [if_pos h]; unfold Dat.leavesExact; rw [da_live t h]; rfl
  · rw [if_neg h]; exact (daDat W c).leavesExact_idle 4 t (da_idle t h).1 (da_idle t h).2

theorem da_call (t : Fin cfg5.N) : defs₀ (F := F) .tc cfg5.body (cfg5.bodyArgs t (cfg5.slots t)) = bodyAt5 t := by
  unfold defs₀; rw [Defs.onTc_tc]

theorem da_obligation (c : Dev nD) : BodyObligation (daDat W c) (defs₀ (F := F)) Variants.none () Set.univ := fun t => by
  rw [bigSep_W5, bigSep_W5, da_call]
  have e : (grid5.coords t 2).val = t.val % 6 := (Pipeline.Grid.coords_val (S := 1) t 2 (by decide) rfl).trans (congrArg (· % 6) (Nat.div_one t.val))
  have b : ∀ d, (daDat W c).before 0 t d = block cfg5 W c 0 t :=
    (daDat W c).before_in_eq_fetched 0 rfl (fun _ => rfl) (fun _ _ _ => rfl) (fun _ => rfl) t
  have b1 : ∀ d, (daDat W c).before 1 t d = block cfg5 W c 1 t :=
    (daDat W c).before_in_eq_fetched 1 rfl (fun _ => rfl) (fun _ _ _ => rfl) (fun _ => rfl) t
  have b2 : ∀ d, (daDat W c).before 2 t d = block cfg5 W c 2 t :=
    (daDat W c).before_in_eq_fetched 2 rfl (fun _ => rfl) (fun _ _ _ => rfl) (fun _ => rfl) t
  have b3 : ∀ d, (daDat W c).before 3 t d = block cfg5 W c 3 t :=
    (daDat W c).before_in_eq_fetched 3 rfl (fun _ => rfl) (fun _ _ _ => rfl) (fun _ => rfl) t
  show iprop((daDat W c).Φ t.castSucc ∗ (daDat W c).owesAt () t.castSucc
    ∗ (∃ d, owns (c : Thread nD τ) (st5_0 t) fullShare ((daDat W c).before 0 t d))
    ∗ (∃ d, owns (c : Thread nD τ) (st5_1 t) fullShare ((daDat W c).before 1 t d))
    ∗ (∃ d, owns (c : Thread nD τ) (st5_2 t) fullShare ((daDat W c).before 2 t d))
    ∗ (∃ d, owns (c : Thread nD τ) (st5_3 t) fullShare ((daDat W c).before 3 t d))
    ∗ (∃ d, owns (c : Thread nD τ) (st5_4 t) fullShare ((daDat W c).before 4 t d)))
    ⊢ wp frame (wpE (defs₀ (F := F)) Variants.none c none) Set.univ (bodyAt5 t) (fun _ =>
      iprop(daInv W c (t.val + 1) t.isLt ∗ (daDat W c).owesAt () t.castSucc
        ∗ owns (c : Thread nD τ) (st5_0 t) fullShare (block cfg5 W c 0 t) ∗ owns (c : Thread nD τ) (st5_1 t) fullShare (block cfg5 W c 1 t)
        ∗ owns (c : Thread nD τ) (st5_2 t) fullShare (block cfg5 W c 2 t) ∗ owns (c : Thread nD τ) (st5_3 t) fullShare (block cfg5 W c 3 t)
        ∗ (daDat W c).leavesExact 4 t))
  rw [show (daDat W c).Φ t.castSucc = daInv W c t.val (Nat.le_of_lt t.isLt) from Pipeline.Dat.Φ_castSucc (daInv W c) t, da_leaves]
  simp only [b, b1, b2, b3]
  unfold bodyAt5 daInv
  iintro ⟨⟨⟨%z, %hz, Hs⟩, HR⟩, HO, ⟨%d0, H0⟩, ⟨%d1, H1⟩, ⟨%d2, H2⟩, ⟨%d3, H3⟩, ⟨%d, H4⟩⟩
  have hstep : stepDa (t.val % 6) z (block cfg5 W c 0 t) (block cfg5 W c 1 t) (block cfg5 W c 2 t) (block cfg5 W c 3 t) = daSums W c (t.val + 1) := by
    rw [daSums_next]
    by_cases h : t.val % 6 = 0
    · unfold stepDa; simp only [if_pos h, if_pos (show t.val % 6 < 3 by omega)]
    · rw [hz h]
  iapply (da_body c (grid5.coords t) (t.val % 6) (Nat.mod_lt _ (by decide)) e _ _ _ _ _ _ _ _ _ _ _ _ (block cfg5 W c 0 t) (block cfg5 W c 1 t)
    (block cfg5 W c 2 t) (block cfg5 W c 3 t) ((daDat W c).before 4 t d) z _)
  isplitl [H0]; · iexact H0
  isplitl [H1]; · iexact H1
  isplitl [H2]; · iexact H2
  isplitl [H3]; · iexact H3
  isplitl [H4]; · iexact H4
  isplitl [Hs]; · iexact Hs
  rw [hstep]
  iintro ⟨H0, H1, H2, H3, H4, Hs⟩
  isplitl [Hs HR]
  · isplitl [Hs]
    · iexists _; isplitr
      swap; · iexact Hs
      ipureintro; exact fun _ => rfl
    iexact HR
  isplitl [HO]; · iexact HO
  isplitl [H0]; · iexact H0
  isplitl [H1]; · iexact H1
  isplitl [H2]; · iexact H2
  isplitl [H3]; · iexact H3
  by_cases h : t.val % 6 = 5
  · rw [if_pos h, if_pos h]; iexact H4
  · rw [if_neg h, if_neg h]; iexists d; iexact H4

end Cert.Ffn

end
-- ==== Proof.FfnDown.lean ====
/- The block's forward product: the hidden layer by the down weight, added up over three points in a scratch buffer, and at the last
   of them halved, added to the block's input and written out. -/
module

public import proofs.«01_k».proof.Proof.FfnDa

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The sum after a point: the point's product added to zero at the first of three points, and to what the sum was at the others. -/
def stepDown (k : ℕ) (acc : Vec F S1024x1024 .f32) (x y : Vec F S1024x1024 .bf16) : Vec F S1024x1024 .f32 :=
  k6_pay2 (if k = 0 then k6_pay1 else acc) x y

set_option maxHeartbeats 1000000 in
/-- The body on whole buffers: the operands are kept, the sum is stepped, and the output is written at the last point only. -/
theorem down_body (c : Dev nD) (i : grid6.Coords) (k : ℕ) (hk : k < 3) (hi : (i 2).val = k)
    (m0 : Memref sig .tc .vmem S1024x1024 .bf16) (h0 : m0.IsWhole) (m1 : Memref sig .tc .vmem S1024x1024 .bf16) (h1 : m1.IsWhole)
    (m2 : Memref sig .tc .vmem S1024x1024 .f32) (h2 : m2.IsWhole)
    (mo : Memref sig .tc .vmem S1024x1024 .f32) (ho : mo.IsWhole) (ma : Memref sig .tc .vmem S1024x1024 .f32) (ha : ma.IsWhole)
    (x0 x1 : Vec F S1024x1024 .bf16) (x2 o s : Vec F S1024x1024 .f32) (K : PUnit → sProp 𝕄) :
    iprop(owns (c : Thread nD τ) m0 fullShare x0 ∗ owns (c : Thread nD τ) m1 fullShare x1 ∗ owns (c : Thread nD τ) m2 fullShare x2
        ∗ owns (c : Thread nD τ) mo fullShare o ∗ owns (c : Thread nD τ) ma fullShare s
        ∗ (iprop(owns (c : Thread nD τ) m0 fullShare x0 ∗ owns (c : Thread nD τ) m1 fullShare x1 ∗ owns (c : Thread nD τ) m2 fullShare x2
            ∗ owns (c : Thread nD τ) mo fullShare (if k = 2 then k6_pay3 (stepDown k s x0 x1) x2 else o)
            ∗ owns (c : Thread nD τ) ma fullShare (stepDown k s x0 x1)) -∗ K ⟨⟩))
      ⊢ wp frame (wpE (defs₀ (F := F)) Variants.none c none) Set.univ (cc6_ffn_down i m0 h0 m1 h1 m2 h2 mo ho ma ha) K := by
  have hz : (![0, 0] : Fin 2 → ℕ) = fun _ => 0 := by funext k; fin_cases k <;> rfl
  have hcov : ∀ (p : Vec F S1024x1024 .f32) (L : List (View.Piece (Elt F) S1024x1024 .f32)) (j : S1024x1024.Idx),
      ∃ pc ∈ ((⟨tile, p⟩ : View.Piece (Elt F) S1024x1024 .f32) :: L), j ∈ pc.1.set :=
    fun p L j => ⟨_, List.mem_cons_self, View.mem_set_unit_zero hz inb_S1024x1024_S1024x1024_0_0 j⟩
  have c1 : equals (BitVec.ofNat 32 (i 2).val) 0#32 = 1#1 ↔ k = 0 := by rw [hi]; exact equals_iff k 0 (by omega) (by decide)
  have c2 : within (BitVec.ofNat 32 (i 2).val) 0#32 3#32 = 1#1 := by rw [hi]; exact (before_three k (by omega)).mpr hk
  have c3 : k6_cond3 i = 1#1 ↔ k = 2 := by
    show equals (BitVec.ofNat 32 (i 2).val) 2#32 = 1#1 ↔ _; rw [hi]; exact equals_iff k 2 (by omega) (by decide)
  simp only [cc6_ffn_down_eq_skeleton]; unfold cc6_ffn_down_skel owns
  iintro ⟨⟨%f0, %e0, H0⟩, ⟨%f1, %e1, H1⟩, ⟨%f2, %e2, H2⟩, ⟨%fo, %eo, Ho⟩, ⟨%fs, %es, Hs⟩, Hk⟩
  obtain rfl := h0.eq_unread e0; obtain rfl := h1.eq_unread e1; obtain rfl := h2.eq_unread e2
  obtain rfl := ho.eq_unread eo; obtain rfl := ha.eq_unread es
  have r0 : View.readAt (Elt F) m0.view tile.toLoadRect (h0.unread x0) = x0 := by rw [View.readAt_eq_ld, e0, View.ld_unit_zero (S := S1024x1024) hz]
  have r1 : View.readAt (Elt F) m1.view tile.toLoadRect (h1.unread x1) = x1 := by rw [View.readAt_eq_ld, e1, View.ld_unit_zero (S := S1024x1024) hz]
  have r2 : View.readAt (Elt F) m2.view tile.toLoadRect (h2.unread x2) = x2 := by rw [View.readAt_eq_ld, e2, View.ld_unit_zero (S := S1024x1024) hz]
  have rs : View.readAt (Elt F) ma.view tile.toLoadRect (ha.unread s) = s := by rw [View.readAt_eq_ld, es, View.ld_unit_zero (S := S1024x1024) hz]
  rcases Nat.eq_zero_or_pos k with hk0 | hk0
  · have c1' := c1.mpr hk0
    have c3' := mt c3.mp (by omega)
    sl_exec (disch := first | sl_exact c1' | sl_exact c2 | sl_exact c3')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [Ho]
    · iexists _; isplitr; · ipureintro; rw [if_neg (by omega)]; exact ho.read_unread _
      iexact Ho
    iexists _; isplitr
    swap; · iexact Hs
    ipureintro
    unfold stepDown
    rw [if_pos hk0, View.read_writes_eq_canon _ _ _ (hcov _ _), View.canon_cons_unit_zero hz]
    unfold down_body.sl.v11 down_body.sl.Hs_1
    rw [View.readCov_unit_zero _ hz]
  have c1' := mt c1.mp (by omega)
  by_cases hk2 : k = 2
  · have c3' := c3.mpr hk2
    sl_exec (disch := first | sl_exact c1' | sl_exact c2 | sl_exact c3')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [Ho]
    · iexists _; isplitr
      swap; · iexact Ho
      ipureintro
      rw [if_pos hk2, View.read_writes_eq_canon _ _ _ (hcov _ _), View.canon_cons_unit_zero hz]
      unfold down_body.sl.v11_1 down_body.sl.Hs_1_1 stepDown
      rw [if_neg (by omega), View.readCov_unit_zero _ hz]
    iexists _; isplitr
    swap; · iexact Hs
    ipureintro
    unfold down_body.sl.Hs_1_1 stepDown
    rw [if_neg (by omega), View.read_writes_eq_canon _ _ _ (hcov _ _), View.canon_cons_unit_zero hz]
  · have c3' := mt c3.mp hk2
    sl_exec (disch := first | sl_exact c1' | sl_exact c2 | sl_exact c3')
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [Ho]
    · iexists _; isplitr; · ipureintro; rw [if_neg hk2]; exact ho.read_unread _
      iexact Ho
    iexists _; isplitr
    swap; · iexact Hs
    ipureintro
    unfold stepDown
    rw [if_neg (by omega), View.read_writes_eq_canon _ _ _ (hcov _ _), View.canon_cons_unit_zero hz]

variable (W : Held F)

/-- The point of a number, the numbers counted round. -/
def downPt (n : ℕ) : Fin cfg6.N := ⟨n % 24, lt_of_lt_of_eq (Nat.mod_lt _ (by decide)) N_6.symm⟩

theorem downPt_val (t : Fin cfg6.N) : downPt t.val = t := Fin.ext (Nat.mod_eq_of_lt (lt_of_lt_of_eq t.isLt N_6))

/-- The sums before each point. -/
def downSums (c : Dev nD) : ℕ → Vec F S1024x1024 .f32
  | 0 => k6_pay1
  | n + 1 => stepDown (n % 3) (downSums c n) (block cfg6 W c 0 (downPt n)) (block cfg6 W c 1 (downPt n))

theorem downSums_next (c : Dev nD) (t : Fin cfg6.N) : downSums W c (t.val + 1)
    = stepDown (t.val % 3) (downSums W c t.val) (block cfg6 W c 0 t) (block cfg6 W c 1 t) := by
  conv_lhs => rw [downSums]
  rw [downPt_val]

def downAfter (c : Dev nD) (w : Fin cfg6.W) (t : Fin cfg6.N) : (cfg6.win w).block.Idx → Elt F (cfg6.win w).elt :=
  match w with
  | ⟨0, _⟩ => block cfg6 W c 0 t
  | ⟨1, _⟩ => block cfg6 W c 1 t
  | ⟨2, _⟩ => block cfg6 W c 2 t
  | ⟨3, _⟩ => k6_pay3 (downSums W c (t.val + 1)) (block cfg6 W c 2 t)

/-- What the call keeps between points: the sum's buffer, which past the first of three points holds the sum so far, and what it does not touch. -/
def downInv (c : Dev nD) (n : ℕ) (_ : n ≤ cfg6.N) : sProp 𝕄 :=
  iprop((∃ v, ⌜n % 3 ≠ 0 → v = downSums W c n⌝ ∗ owns (c : Thread nD τ) (Memref.whole cc6_scratch0) fullShare v)
    ∗ Pipeline.scopedRestBut spec6 c [cc6_scratch0] ∗ ∃ r, prngReg c r)

/-- The proof data of the call. -/
def downDat (c : Dev nD) : Dat τ (Elt F) Unit ℕ (UR sig nD τ) ℕ cfg6 c :=
  data cfg6 W c (downAfter W c) fun t => downInv W c t.val (Nat.le_of_lt_succ t.isLt)

theorem down_idle : ∀ t : Fin cfg6.N, t.val % 3 ≠ 2 → cfg6.idle 3 (grid6.coords t) = true ∧ (cfg6.win 3).flush t = false := by
  decide +kernel

theorem down_live : ∀ t : Fin cfg6.N, t.val % 3 = 2 → cfg6.idle 3 (grid6.coords t) = false := by decide +kernel

theorem down_leaves (c : Dev nD) (t : Fin cfg6.N) : (downDat W c).leavesExact 3 t
    = if t.val % 3 = 2 then owns (c : Thread nD τ) (st6_3 t) fullShare (k6_pay3 (downSums W c (t.val + 1)) (block cfg6 W c 2 t))
      else iprop(∃ d, owns (c : Thread nD τ) (st6_3 t) fullShare ((downDat W c).before 3 t d)) := by
  by_cases h : t.val % 3 = 2
  · rw [if_pos h]; unfold Dat.leavesExact; rw [down_live t h]; rfl
  · rw [if_neg h]; exact (downDat W c).leavesExact_idle 3 t (down_idle t h).1 (down_idle t h).2

theorem down_call (t : Fin cfg6.N) : defs₀ (F := F) .tc cfg6.body (cfg6.bodyArgs t (cfg6.slots t)) = bodyAt6 t := by
  unfold defs₀; rw [Defs.onTc_tc]

theorem down_obligation (c : Dev nD) : BodyObligation (downDat W c) (defs₀ (F := F)) Variants.none () Set.univ := fun t => by
  rw [bigSep_W6, bigSep_W6, down_call]
  have e : (grid6.coords t 2).val = t.val % 3 := (Pipeline.Grid.coords_val (S := 1) t 2 (by decide) rfl).trans (congrArg (· % 3) (Nat.div_one t.val))
  have b : ∀ d, (downDat W c).before 0 t d = block cfg6 W c 0 t :=
    (downDat W c).before_in_eq_fetched 0 rfl (fun _ => rfl) (fun _ _ _ => rfl) (fun _ => rfl) t
  have b1 : ∀ d, (downDat W c).before 1 t d = block cfg6 W c 1 t :=
    (downDat W c).before_in_eq_fetched 1 rfl (fun _ => rfl) (fun _ _ _ => rfl) (fun _ => rfl) t
  have b2 : ∀ d, (downDat W c).before 2 t d = block cfg6 W c 2 t :=
    (downDat W c).before_in_eq_fetched 2 rfl (fun _ => rfl) (fun _ _ _ => rfl) (fun _ => rfl) t
  show iprop((downDat W c).Φ t.castSucc ∗ (downDat W c).owesAt () t.castSucc
    ∗ (∃ d, owns (c : Thread nD τ) (st6_0 t) fullShare ((downDat W c).before 0 t d))
    ∗ (∃ d, owns (c : Thread nD τ) (st6_1 t) fullShare ((downDat W c).before 1 t d))
    ∗ (∃ d, owns (c : Thread nD τ) (st6_2 t) fullShare ((downDat W c).before 2 t d))
    ∗ (∃ d, owns (c : Thread nD τ) (st6_3 t) fullShare ((downDat W c).before 3 t d)))
    ⊢ wp frame (wpE (defs₀ (F := F)) Variants.none c none) Set.univ (bodyAt6 t) (fun _ =>
      iprop(downInv W c (t.val + 1) t.isLt ∗ (downDat W c).owesAt () t.castSucc
        ∗ owns (c : Thread nD τ) (st6_0 t) fullShare (block cfg6 W c 0 t) ∗ owns (c : Thread nD τ) (st6_1 t) fullShare (block cfg6 W c 1 t)
        ∗ owns (c : Thread nD τ) (st6_2 t) fullShare (block cfg6 W c 2 t) ∗ (downDat W c).leavesExact 3 t))
  rw [show (downDat W c).Φ t.castSucc = downInv W c t.val (Nat.le_of_lt t.isLt) from Pipeline.Dat.Φ_castSucc (downInv W c) t, down_leaves]
  simp only [b, b1, b2]
  unfold bodyAt6 downInv
  iintro ⟨⟨⟨%z, %hz, Hs⟩, HR⟩, HO, ⟨%d0, H0⟩, ⟨%d1, H1⟩, ⟨%d2, H2⟩, ⟨%d, H3⟩⟩
  have hstep : stepDown (t.val % 3) z (block cfg6 W c 0 t) (block cfg6 W c 1 t) = downSums W c (t.val + 1) := by
    rw [downSums_next]
    by_cases h : t.val % 3 = 0
    · unfold stepDown; simp only [if_pos h]
    · rw [hz h]
  iapply (down_body c (grid6.coords t) (t.val % 3) (Nat.mod_lt _ (by decide)) e _ _ _ _ _ _ _ _ _ _ (block cfg6 W c 0 t) (block cfg6 W c 1 t)
    (block cfg6 W c 2 t) ((downDat W c).before 3 t d) z _)
  isplitl [H0]; · iexact H0
  isplitl [H1]; · iexact H1
  isplitl [H2]; · iexact H2
  isplitl [H3]; · iexact H3
  isplitl [Hs]; · iexact Hs
  rw [hstep]
  iintro ⟨H0, H1, H2, H3, Hs⟩
  isplitl [Hs HR]
  · isplitl [Hs]
    · iexists _; isplitr
      swap; · iexact Hs
      ipureintro; exact fun _ => rfl
    iexact HR
  isplitl [HO]; · iexact HO
  isplitl [H0]; · iexact H0
  isplitl [H1]; · iexact H1
  isplitl [H2]; · iexact H2
  by_cases h : t.val % 3 = 2
  · rw [if_pos h, if_pos h]; iexact H3
  · rw [if_neg h, if_neg h]; iexists d; iexact H3

end Cert.Ffn

end
-- ==== Proof.FfnRun.lean ====
/- The feed-forward backward program's run: the contents of the buffers after each of its seven calls, the calls as segments, and
   the launch. Every final state has every unscoped buffer at the contents after the last call and every counter at zero. -/
module

public import proofs.«01_k».proof.Proof.FfnUp
public import proofs.«01_k».proof.Proof.FfnHid
public import proofs.«01_k».proof.Proof.FfnProd
public import proofs.«01_k».proof.Proof.FfnDown
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! The conditions between points hold at the start of a call and give back at its end what the call was handed: at both ends
    the sum's buffer may hold anything. -/

theorem held_any (c : Dev nD) (a : Memref sig .tc .vmem S1024x1024 .f32) (p : Vec F S1024x1024 .f32 → Prop) (hp : ∀ v, p v) (R P : sProp 𝕄) :
    iprop(((∃ v, owns (c : Thread nD τ) a fullShare v) ∗ R) ∗ P) ⊢ iprop((∃ v, ⌜p v⌝ ∗ owns (c : Thread nD τ) a fullShare v) ∗ R ∗ P) := by
  iintro ⟨⟨⟨%f, Hs⟩, HR⟩, Hp⟩
  isplitl [Hs]
  · iexists f; isplitr; · ipureintro; exact hp f
    iexact Hs
  isplitl [HR] <;> iassumption

theorem any_held (c : Dev nD) (a : Memref sig .tc .vmem S1024x1024 .f32) (p : Vec F S1024x1024 .f32 → Prop) (R P : sProp 𝕄) :
    iprop((∃ v, ⌜p v⌝ ∗ owns (c : Thread nD τ) a fullShare v) ∗ R ∗ P) ⊢ iprop(((∃ v, owns (c : Thread nD τ) a fullShare v) ∗ R) ∗ P) := by
  iintro ⟨⟨%f, -, Hs⟩, HR, Hp⟩
  isplitl [Hs HR]
  · isplitl [Hs]
    · iexists f; iexact Hs
    iexact HR
  iexact Hp

theorem dwd_first (W : Held F) (c : Dev nD) : iprop(Pipeline.scopedRest spec2 c ∗ ∃ r, prngReg c r) ⊢ (dwdDat W c).Φ 0 := by
  have h := held_any c (Memref.whole cc2_scratch0) (fun v => 0 % 4 ≠ 0 → v = dwdSums W c (0)) (fun _ h => absurd rfl h)
    (Pipeline.scopedRestBut spec2 c [cc2_scratch0]) iprop(∃ r, prngReg c r)
  simp only [owns_whole] at h
  show _ ⊢ dwdInv W c 0 (Nat.zero_le _)
  unfold dwdInv sumAt; rw [scopedRest2_split]; simp only [owns_whole]
  exact h

theorem dwd_last (W : Held F) (c : Dev nD) : (dwdDat W c).Φ (Fin.last _) ⊢ iprop(Pipeline.scopedRest spec2 c ∗ ∃ r, prngReg c r) := by
  have h := any_held c (Memref.whole cc2_scratch0) (fun v => cfg2.N % 4 ≠ 0 → v = dwdSums W c (cfg2.N))
    (Pipeline.scopedRestBut spec2 c [cc2_scratch0]) iprop(∃ r, prngReg c r)
  simp only [owns_whole] at h
  show dwdInv W c cfg2.N le_rfl ⊢ _
  unfold dwdInv sumAt; rw [scopedRest2_split]; simp only [owns_whole]
  exact h

theorem dwg_first (W : Held F) (c : Dev nD) : iprop(Pipeline.scopedRest spec3 c ∗ ∃ r, prngReg c r) ⊢ (dwgDat W c).Φ 0 := by
  have h := held_any c (Memref.whole cc3_scratch0) (fun v => 0 % 4 ≠ 0 → v = dwgSums W c (0)) (fun _ h => absurd rfl h)
    (Pipeline.scopedRestBut spec3 c [cc3_scratch0]) iprop(∃ r, prngReg c r)
  simp only [owns_whole] at h
  show _ ⊢ dwgInv W c 0 (Nat.zero_le _)
  unfold dwgInv sumAt; rw [scopedRest3_split]; simp only [owns_whole]
  exact h

theorem dwg_last (W : Held F) (c : Dev nD) : (dwgDat W c).Φ (Fin.last _) ⊢ iprop(Pipeline.scopedRest spec3 c ∗ ∃ r, prngReg c r) := by
  have h := any_held c (Memref.whole cc3_scratch0) (fun v => cfg3.N % 4 ≠ 0 → v = dwgSums W c (cfg3.N))
    (Pipeline.scopedRestBut spec3 c [cc3_scratch0]) iprop(∃ r, prngReg c r)
  simp only [owns_whole] at h
  show dwgInv W c cfg3.N le_rfl ⊢ _
  unfold dwgInv sumAt; rw [scopedRest3_split]; simp only [owns_whole]
  exact h

theorem dwu_first (W : Held F) (c : Dev nD) : iprop(Pipeline.scopedRest spec4 c ∗ ∃ r, prngReg c r) ⊢ (dwuDat W c).Φ 0 := by
  have h := held_any c (Memref.whole cc4_scratch0) (fun v => 0 % 4 ≠ 0 → v = dwuSums W c (0)) (fun _ h => absurd rfl h)
    (Pipeline.scopedRestBut spec4 c [cc4_scratch0]) iprop(∃ r, prngReg c r)
  simp only [owns_whole] at h
  show _ ⊢ dwuInv W c 0 (Nat.zero_le _)
  unfold dwuInv sumAt; rw [scopedRest4_split]; simp only [owns_whole]
  exact h

theorem dwu_last (W : Held F) (c : Dev nD) : (dwuDat W c).Φ (Fin.last _) ⊢ iprop(Pipeline.scopedRest spec4 c ∗ ∃ r, prngReg c r) := by
  have h := any_held c (Memref.whole cc4_scratch0) (fun v => cfg4.N % 4 ≠ 0 → v = dwuSums W c (cfg4.N))
    (Pipeline.scopedRestBut spec4 c [cc4_scratch0]) iprop(∃ r, prngReg c r)
  simp only [owns_whole] at h
  show dwuInv W c cfg4.N le_rfl ⊢ _
  unfold dwuInv sumAt; rw [scopedRest4_split]; simp only [owns_whole]
  exact h

theorem da_first (W : Held F) (c : Dev nD) : iprop(Pipeline.scopedRest spec5 c ∗ ∃ r, prngReg c r) ⊢ (daDat W c).Φ 0 := by
  have h := held_any c (Memref.whole cc5_scratch0) (fun v => 0 % 6 ≠ 0 → v = daSums W c 0) (fun _ h => absurd rfl h)
    (Pipeline.scopedRestBut spec5 c [cc5_scratch0]) iprop(∃ r, prngReg c r)
  simp only [owns_whole] at h
  show _ ⊢ daInv W c 0 (Nat.zero_le _)
  unfold daInv; rw [scopedRest5_split]; simp only [owns_whole]
  exact h

theorem da_last (W : Held F) (c : Dev nD) : (daDat W c).Φ (Fin.last _) ⊢ iprop(Pipeline.scopedRest spec5 c ∗ ∃ r, prngReg c r) := by
  have h := any_held c (Memref.whole cc5_scratch0) (fun v => cfg5.N % 6 ≠ 0 → v = daSums W c (cfg5.N))
    (Pipeline.scopedRestBut spec5 c [cc5_scratch0]) iprop(∃ r, prngReg c r)
  simp only [owns_whole] at h
  show daInv W c cfg5.N le_rfl ⊢ _
  unfold daInv; rw [scopedRest5_split]; simp only [owns_whole]
  exact h

theorem down_first (W : Held F) (c : Dev nD) : iprop(Pipeline.scopedRest spec6 c ∗ ∃ r, prngReg c r) ⊢ (downDat W c).Φ 0 := by
  have h := held_any c (Memref.whole cc6_scratch0) (fun v => 0 % 3 ≠ 0 → v = downSums W c 0) (fun _ h => absurd rfl h)
    (Pipeline.scopedRestBut spec6 c [cc6_scratch0]) iprop(∃ r, prngReg c r)
  simp only [owns_whole] at h
  show _ ⊢ downInv W c 0 (Nat.zero_le _)
  unfold downInv; rw [scopedRest6_split]; simp only [owns_whole]
  exact h

theorem down_last (W : Held F) (c : Dev nD) : (downDat W c).Φ (Fin.last _) ⊢ iprop(Pipeline.scopedRest spec6 c ∗ ∃ r, prngReg c r) := by
  have h := any_held c (Memref.whole cc6_scratch0) (fun v => cfg6.N % 3 ≠ 0 → v = downSums W c cfg6.N)
    (Pipeline.scopedRestBut spec6 c [cc6_scratch0]) iprop(∃ r, prngReg c r)
  simp only [owns_whole] at h
  show downInv W c cfg6.N le_rfl ⊢ _
  unfold downInv; rw [scopedRest6_split]; simp only [owns_whole]
  exact h

variable (m : (ℓ : Loc nD τ sig) → Buf (Elt F) ℓ) (ρ : Dev nD → PrngReg)

/-- The contents at launch, -/
def at0 : Held F := fun c b => m (c, b)
/-- after the host's cast of the gradient, -/
def at1 : Held F := fun c => StableHlo.after hostOps0 (at0 m c)
/-- and after each of the calls. -/
def at2 : Held F := next (p := 0) (at1 m) (upDat (at1 m))
def at3 : Held F := next (p := 1) (at2 m) (hidDat (at2 m))
def at4 : Held F := next (p := 2) (at3 m) (dwdDat (at3 m))
def at5 : Held F := next (p := 3) (at4 m) (dwgDat (at4 m))
def at6 : Held F := next (p := 4) (at5 m) (dwuDat (at5 m))
def at7 : Held F := next (p := 5) (at6 m) (daDat (at6 m))
def at8 : Held F := next (p := 6) (at7 m) (downDat (at7 m))

/-- Every call's proof data, each from the contents it is entered at. -/
def pdats : (p : Fin 7) → (c : Dev nD) → Dat τ (Elt F) Unit ℕ (UR sig nD τ) ℕ (Pipeline.pin (pcfgs (F := F)) adm p) c
  | ⟨0, _⟩ => fun c => upDat (at1 m) c
  | ⟨1, _⟩ => fun c => hidDat (at2 m) c
  | ⟨2, _⟩ => fun c => dwdDat (at3 m) c
  | ⟨3, _⟩ => fun c => dwgDat (at4 m) c
  | ⟨4, _⟩ => fun c => dwuDat (at5 m) c
  | ⟨5, _⟩ => fun c => daDat (at6 m) c
  | ⟨6, _⟩ => fun c => downDat (at7 m) c

def part0 : Pipeline.RegionSeg (pcfgs (F := F)) adm (pdats m) () defs₀ Variants.none L lv 0 :=
  region (pdats m) 0 launch0 (at1 m) (at2 m) (fun _ _ => rfl) (fun _ _ => rfl) (fun _ _ => rfl) (fun _ => rfl)
    (fun c => (up_obligation (at1 m) c).loose) (fun _ => .rfl) (fun _ => .rfl)
    (fun c w => (next_arr launch0 (at1 m) (upDat (at1 m)) c w).symm)
    (fun c b hb => next_of_ne (p := 0) (at1 m) (upDat (at1 m)) c b fun w e => hb (Finset.mem_image.mpr ⟨w, Finset.mem_univ _, e⟩))

def part1 : Pipeline.RegionSeg (pcfgs (F := F)) adm (pdats m) () defs₀ Variants.none L lv 1 :=
  region (pdats m) 1 launch1 (at2 m) (at3 m) (fun _ _ => rfl) (fun _ _ => rfl) (fun _ _ => rfl) (fun _ => rfl)
    (fun c => (hid_obligation (at2 m) c).loose) (fun _ => .rfl) (fun _ => .rfl)
    (fun c w => (next_arr launch1 (at2 m) (hidDat (at2 m)) c w).symm)
    (fun c b hb => next_of_ne (p := 1) (at2 m) (hidDat (at2 m)) c b fun w e => hb (Finset.mem_image.mpr ⟨w, Finset.mem_univ _, e⟩))

def part2 : Pipeline.RegionSeg (pcfgs (F := F)) adm (pdats m) () defs₀ Variants.none L lv 2 :=
  region (pdats m) 2 launch2 (at3 m) (at4 m) (fun _ _ => rfl) (fun _ _ => rfl) (fun _ _ => rfl) (fun _ => rfl)
    (fun c => (dwd_obligation (at3 m) c).loose) (dwd_first (at3 m)) (dwd_last (at3 m))
    (fun c w => (next_arr launch2 (at3 m) (dwdDat (at3 m)) c w).symm)
    (fun c b hb => next_of_ne (p := 2) (at3 m) (dwdDat (at3 m)) c b fun w e => hb (Finset.mem_image.mpr ⟨w, Finset.mem_univ _, e⟩))

def part3 : Pipeline.RegionSeg (pcfgs (F := F)) adm (pdats m) () defs₀ Variants.none L lv 3 :=
  region (pdats m) 3 launch3 (at4 m) (at5 m) (fun _ _ => rfl) (fun _ _ => rfl) (fun _ _ => rfl) (fun _ => rfl)
    (fun c => (dwg_obligation (at4 m) c).loose) (dwg_first (at4 m)) (dwg_last (at4 m))
    (fun c w => (next_arr launch3 (at4 m) (dwgDat (at4 m)) c w).symm)
    (fun c b hb => next_of_ne (p := 3) (at4 m) (dwgDat (at4 m)) c b fun w e => hb (Finset.mem_image.mpr ⟨w, Finset.mem_univ _, e⟩))

def part4 : Pipeline.RegionSeg (pcfgs (F := F)) adm (pdats m) () defs₀ Variants.none L lv 4 :=
  region (pdats m) 4 launch4 (at5 m) (at6 m) (fun _ _ => rfl) (fun _ _ => rfl) (fun _ _ => rfl) (fun _ => rfl)
    (fun c => (dwu_obligation (at5 m) c).loose) (dwu_first (at5 m)) (dwu_last (at5 m))
    (fun c w => (next_arr launch4 (at5 m) (dwuDat (at5 m)) c w).symm)
    (fun c b hb => next_of_ne (p := 4) (at5 m) (dwuDat (at5 m)) c b fun w e => hb (Finset.mem_image.mpr ⟨w, Finset.mem_univ _, e⟩))

def part5 : Pipeline.RegionSeg (pcfgs (F := F)) adm (pdats m) () defs₀ Variants.none L lv 5 :=
  region (pdats m) 5 launch5 (at6 m) (at7 m) (fun _ _ => rfl) (fun _ _ => rfl) (fun _ _ => rfl) (fun _ => rfl)
    (fun c => (da_obligation (at6 m) c).loose) (da_first (at6 m)) (da_last (at6 m))
    (fun c w => (next_arr launch5 (at6 m) (daDat (at6 m)) c w).symm)
    (fun c b hb => next_of_ne (p := 5) (at6 m) (daDat (at6 m)) c b fun w e => hb (Finset.mem_image.mpr ⟨w, Finset.mem_univ _, e⟩))

def part6 : Pipeline.RegionSeg (pcfgs (F := F)) adm (pdats m) () defs₀ Variants.none L lv 6 :=
  region (pdats m) 6 launch6 (at7 m) (at8 m) (fun _ _ => rfl) (fun _ _ => rfl) (fun _ _ => rfl) (fun _ => rfl)
    (fun c => (down_obligation (at7 m) c).loose) (down_first (at7 m)) (down_last (at7 m))
    (fun c w => (next_arr launch6 (at7 m) (downDat (at7 m)) c w).symm)
    (fun c b hb => next_of_ne (p := 6) (at7 m) (downDat (at7 m)) c b fun w e => hb (Finset.mem_image.mpr ⟨w, Finset.mem_univ _, e⟩))

/-- The host's cast, and the seven calls. -/
abbrev parts : List (Pipeline.Seg (pcfgs (F := F)) adm (pdats m) () defs₀ Variants.none L lv) :=
  [.host (Cert.Kernel2Ideal.Gen.seg0 m Variants.none L lv fun _ => rest), .region (part0 m), .region (part1 m), .region (part2 m),
    .region (part3 m), .region (part4 m), .region (part5 m), .region (part6 m)]

theorem main_parts (c : Dev nD) : main (F := F) c = Pipeline.Seg.run (parts m) := (main_chain c).trans (by chain_rfl)

set_option backward.isDefEq.respectTransparency.types false in
/-- Every run ends with every unscoped buffer at the contents after the last call and every counter at zero. -/
theorem run_all : θ_run defs (onTc (τ := τ) (main (F := F))) ⟨m, fun _ => 0, ρ⟩ fun r =>
    (∀ (c : Dev nD) (b : Ref sig .tc), Proc.devRef (τ := τ) .tc b ∈ Pipeline.ucRefs τ sig → r.2.mem ((c.tc : Thread nD τ).loc b) = (at8 m).at c b)
      ∧ r.2.sem = fun _ => 0 :=
  Pipeline.θ_run_regions_kit_sems (pcfgs (F := F)) adm (pdats m) () cellOf_inj emb₁ defs₀ Variants.none L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ rest c))
    (Tₙ := fun c => iprop(StableHlo.held (c : Thread nD τ) (Pipeline.ucRefs τ sig) (at8 m c) ∗ ∃ r, prngReg c r))
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (at8 m c) ∗ rest c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at8 m c b)
    (hfin := fun c s' => by
      iintro ⟨⟨Hh, -⟩, HSI⟩
      unfold StableHlo.held
      imodintro
      iapply (pointsTo_read_all (Pipeline.ucRefs τ sig) (fun b => (((c : Thread nD τ)).1, b)) (at8 m c) s')
      isplitl [Hh] <;> iassumption)
    (hQ := fun s h hz => ⟨fun c b hb => h c _ hb, funext fun g => hz g (.inr (regions_no_unscoped g.2))⟩)

/-! The arguments are kept: no call writes one, nor does the host. -/

theorem kept (c : Dev nD) (b : Ref sig .tc) (h0 : b ∉ hostOps0_W)
    (h : ∀ p : Fin 7, ∀ w : Fin (cfgs p).W, Pipeline.arrRef (cfgs p).spec w = b → ((cfgs p).win w).isOut = false) :
    (at8 m).at c b = m ((c : Thread nD τ).loc b) :=
  (next_of launch6 _ _ (fun _ _ => rfl) c b (h 6)).trans <| (next_of launch5 _ _ (fun _ _ => rfl) c b (h 5)).trans <| (next_of launch4 _ _ (fun _ _ => rfl) c b (h 4)).trans <|
    (next_of launch3 _ _ (fun _ _ => rfl) c b (h 3)).trans <| (next_of launch2 _ _ (fun _ _ => rfl) c b (h 2)).trans <|
    (next_of launch1 _ _ (fun _ _ => rfl) c b (h 1)).trans <| (next_of launch0 _ _ (fun _ _ => rfl) c b (h 0)).trans <|
    StableHlo.after_of_writes_sub hostOps0 _ hostOps0_writes h0

/-- A state in which the calls' buffers are as at the end has the arguments as launched. -/
theorem args_end {mem : (ℓ : Loc nD τ sig) → Buf (Elt F) ℓ}
    (h : ∀ (c : Dev nD) (b : Ref sig .tc), Proc.devRef (τ := τ) .tc b ∈ Pipeline.ucRefs τ sig → mem ((c.tc : Thread nD τ).loc b) = (at8 m).at c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5) :=
  ⟨(h c main_arg0 (Finset.mem_filter.mpr ⟨StableHlo.devRef_mem_tcRefs _, by decide⟩)).trans (kept m c _ (by decide) (by decide +kernel)),
   (h c main_arg1 (Finset.mem_filter.mpr ⟨StableHlo.devRef_mem_tcRefs _, by decide⟩)).trans (kept m c _ (by decide) (by decide +kernel)),
   (h c main_arg2 (Finset.mem_filter.mpr ⟨StableHlo.devRef_mem_tcRefs _, by decide⟩)).trans (kept m c _ (by decide) (by decide +kernel)),
   (h c main_arg3 (Finset.mem_filter.mpr ⟨StableHlo.devRef_mem_tcRefs _, by decide⟩)).trans (kept m c _ (by decide) (by decide +kernel)),
   (h c main_arg4 (Finset.mem_filter.mpr ⟨StableHlo.devRef_mem_tcRefs _, by decide⟩)).trans (kept m c _ (by decide) (by decide +kernel)),
   (h c main_arg5 (Finset.mem_filter.mpr ⟨StableHlo.devRef_mem_tcRefs _, by decide⟩)).trans (kept m c _ (by decide) (by decide +kernel))⟩

/-- The arguments at the end are as launched, and every counter is zero. -/
theorem run_args : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => args_end m h.1 c, h.2⟩) (run_all m ρ)

end Cert.Ffn

end
-- ==== Proof.FfnVal.lean ====
/- The arrays the feed-forward backward calls leave, read by row and column: a matrix is given by a function of two natural
   numbers, and each call's outputs by what its inputs are given by. -/
module

public import proofs.«01_k».proof.Proof.FfnUp
public import proofs.«01_k».proof.Proof.FfnHid
public import proofs.«01_k».proof.Proof.Products
public import Idealize.ShloMosaic.Lib.Pipeline.ValueKit.Geometry
public import Idealize.ShloMosaic.Lib.ValueIdx

@[expose] public section

set_option maxRecDepth 16384
set_option maxHeartbeats 1000000

noncomputable section

namespace Cert.Ffn

open Cert.Kernel2Ideal Cert.Kernel2Ideal.Gen
open Idealize.ShloMosaic Idealize.ShloMosaic.TcCoe Idealize.ShloMosaic.ValueIdx
open Idealize.SL
open Cert.Products
open scoped BigOperators

/-- The matrix `v` is the one with `f i j` in row `i` and column `j`. -/
def Fn {a b : ℕ} (v : (Mat a b).Idx → EReal) (f : ℕ → ℕ → EReal) : Prop := ∀ x, v x = f (x 0).val (x 1).val

theorem Fn.at {a b : ℕ} {v : (Mat a b).Idx → EReal} {f : ℕ → ℕ → EReal} (h : Fn v f) (i : Fin a) (j : Fin b) : v (ix2 i j) = f i.val j.val := h _

theorem Fn.of {a b : ℕ} {v : (Mat a b).Idx → EReal} {f : ℕ → ℕ → EReal} (h : ∀ (i : Fin a) (j : Fin b), v (ix2 i j) = f i.val j.val) : Fn v f := fun x => by
  have e : x = ix2 (x 0) (x 1) := by
    funext k; match k with
    | ⟨0, _⟩ => rfl
    | ⟨1, _⟩ => rfl
  exact (congrArg v e).trans (h _ _)

/-! The three products of two matrices, with a common extent of `K`. -/
def nn (K : ℕ) (f g : ℕ → ℕ → EReal) : ℕ → ℕ → EReal := fun i j => ∑ k : Fin K, f i k.val * g k.val j
def nt (K : ℕ) (f g : ℕ → ℕ → EReal) : ℕ → ℕ → EReal := fun i j => ∑ k : Fin K, f i k.val * g j k.val
def tn (K : ℕ) (f g : ℕ → ℕ → EReal) : ℕ → ℕ → EReal := fun i j => ∑ k : Fin K, f k.val i * g k.val j

/-- A matrix from row `p` and column `q` on. -/
abbrev sh (p q : ℕ) (f : ℕ → ℕ → EReal) : ℕ → ℕ → EReal := fun i j => f (p + i) (q + j)

/-- The word of one half. -/
def half : EReal := Ideal.ofBits .f32 0x3F000000#32
/-- The word of one. -/
theorem one_f32 : Ideal.ofBits .f32 0x3F800000#32 = 1 := by
  simp [Ideal.ofBits, Ideal.ieee, -EReal.coe_mul]; norm_num

/-! The bodies' values. -/

section Pay

variable {f g u d : ℕ → ℕ → EReal}

theorem up_pay1 {v0 : Vec Ideal S512x1024 .bf16} {v1 : Vec Ideal S1024x768 .bf16} (h0 : Fn (a := 512) (b := 1024) v0 f) (h1 : Fn (a := 1024) (b := 768) v1 g) :
    Fn (a := 512) (b := 768) (k0_pay1 (F := Ideal) v0 v1) (nn 1024 f g) := Fn.of fun i j =>
  (mm_nn (M := 512) (K := 1024) (N := 768) _ none v0 v1 i j).trans (Finset.sum_congr rfl fun k _ => congrArg₂ (· * ·) (h0.at i k) (h1.at k j))

theorem up_pay2 {v0 : Vec Ideal S512x1024 .bf16} {v1 : Vec Ideal S1024x768 .bf16} (h0 : Fn (a := 512) (b := 1024) v0 f) (h1 : Fn (a := 1024) (b := 768) v1 g) :
    Fn (a := 512) (b := 768) (k0_pay2 (F := Ideal) v0 v1) (nn 1024 f g) := up_pay1 h0 h1

theorem up_pay5 {v0 : Vec Ideal S512x1024 .bf16} {v1 v3 : Vec Ideal S1024x768 .bf16} (h0 : Fn (a := 512) (b := 1024) v0 f)
    (h1 : Fn (a := 1024) (b := 768) v1 g) (h3 : Fn (a := 1024) (b := 768) v3 u) :
    Fn (a := 512) (b := 768) (k0_pay5 (F := Ideal) v0 v1 v3) fun i j =>
      nn 1024 f g i j * Ideal.logistic (nn 1024 f g i j) * nn 1024 f u i j := fun x => by
  show k0_pay1 (F := Ideal) v0 v1 x * Ideal.logistic (k0_pay1 (F := Ideal) v0 v1 x) * k0_pay2 (F := Ideal) v0 v3 x = _
  exact congrArg₂ (fun p q : EReal => p * Ideal.logistic p * q) (up_pay1 h0 h1 x) (up_pay2 h0 h3 x)

theorem hid_pay1 {v0 : Vec Ideal S512x1024 .bf16} {v2 : Vec Ideal S768x1024 .bf16} (h0 : Fn (a := 512) (b := 1024) v0 f) (h2 : Fn (a := 768) (b := 1024) v2 d) :
    Fn (a := 512) (b := 768) (k1_pay1 (F := Ideal) v0 v2) fun i j => half * nt 1024 f d i j := Fn.of fun i j => by
  unfold k1_pay1; simp only [shapeCast_self]
  exact congrArg (half * ·) ((mm_nt (M := 512) (K := 1024) (N := 768) _ none v0 v2 i j).trans (Finset.sum_congr rfl fun k _ => congrArg₂ (· * ·) (h0.at i k) (h2.at j k)))

theorem hid_pay4 {v0 : Vec Ideal S512x1024 .bf16} {v2 : Vec Ideal S768x1024 .bf16} {v6 : Vec Ideal S512x768 .bf16} (h0 : Fn (a := 512) (b := 1024) v0 f)
    (h2 : Fn (a := 768) (b := 1024) v2 d) (h6 : Fn (a := 512) (b := 768) v6 g) :
    Fn (a := 512) (b := 768) (k1_pay4 (F := Ideal) v0 v2 v6) fun i j => half * nt 1024 f d i j * (g i j * Ideal.logistic (g i j)) := fun x => by
  unfold k1_pay4 k1_pay3 k1_pay2; simp only [shapeCast_self]
  show k1_pay1 (F := Ideal) v0 v2 x * (v6 x * Ideal.logistic (v6 x)) = _
  exact congrArg₂ (fun p q : EReal => p * (q * Ideal.logistic q)) (hid_pay1 h0 h2 x) (h6 x)

theorem hid_pay5 {v0 : Vec Ideal S512x1024 .bf16} {v2 : Vec Ideal S768x1024 .bf16} {v6 v9 : Vec Ideal S512x768 .bf16} (h0 : Fn (a := 512) (b := 1024) v0 f)
    (h2 : Fn (a := 768) (b := 1024) v2 d) (h6 : Fn (a := 512) (b := 768) v6 g) (h9 : Fn (a := 512) (b := 768) v9 u) :
    Fn (a := 512) (b := 768) (k1_pay5 (F := Ideal) v0 v2 v6 v9) fun i j => half * nt 1024 f d i j * u i j
      * (Ideal.logistic (g i j) * (1 + g i j * (1 - Ideal.logistic (g i j)))) := fun x => by
  unfold k1_pay5 k1_pay3 k1_pay2; simp only [shapeCast_self]
  show k1_pay1 (F := Ideal) v0 v2 x * v9 x * (Ideal.logistic (v6 x) * (Ideal.ofBits .f32 0x3F800000#32 + v6 x * (Ideal.ofBits .f32 0x3F800000#32 - Ideal.logistic (v6 x)))) = _
  rw [hid_pay1 h0 h2 x, h6 x, h9 x, one_f32]

end Pay

variable (W : Held Ideal) (c : Dev nD)

/-! The blocks of the first call's inputs, and its outputs. -/

theorem up_in0 {f} (h : Fn (a := 8192) (b := 1024) (W.at c main_arg0) f) (t : Fin cfg0.N) :
    Fn (a := 512) (b := 1024) (block cfg0 W c 0 t) fun i j => f (t.val % 16 * 512 + i) (j) := fun y => by
  have e : win0_0.index t = ![t.val % 16, 0] := (by decide +kernel : ∀ t : Fin grid0.N, win0_0.index t = ![t.val % 16, 0]) t
  show (W.at c main_arg0 : (Mat 8192 1024).Idx → EReal) ((win0_0.blk t).view.emb y) = _
  rw [h]
  blk_simp [e]

theorem up_in1 {f} (h : Fn (a := 1024) (b := 3072) (W.at c main_arg1) f) (t : Fin cfg0.N) :
    Fn (a := 1024) (b := 768) (block cfg0 W c 1 t) fun i j => f (i) (t.val / 16 * 768 + j) := fun y => by
  have e : win0_1.index t = ![0, t.val / 16] := (by decide +kernel : ∀ t : Fin grid0.N, win0_1.index t = ![0, t.val / 16]) t
  show (W.at c main_arg1 : (Mat 1024 3072).Idx → EReal) ((win0_1.blk t).view.emb y) = _
  rw [h]
  blk_simp [e]

theorem up_in2 {f} (h : Fn (a := 1024) (b := 3072) (W.at c main_arg2) f) (t : Fin cfg0.N) :
    Fn (a := 1024) (b := 768) (block cfg0 W c 2 t) fun i j => f (i) (t.val / 16 * 768 + j) := fun y => by
  have e : win0_2.index t = ![0, t.val / 16] := (by decide +kernel : ∀ t : Fin grid0.N, win0_2.index t = ![0, t.val / 16]) t
  show (W.at c main_arg2 : (Mat 1024 3072).Idx → EReal) ((win0_2.blk t).view.emb y) = _
  rw [h]
  blk_simp [e]

theorem up_gate {A G : ℕ → ℕ → EReal} (hA : Fn (a := 8192) (b := 1024) (W.at c main_arg0) A)
    (hG : Fn (a := 1024) (b := 3072) (W.at c main_arg1) G) :
    Fn (a := 8192) (b := 3072) ((upDat W c).arrAt 3 cfg0.N) (nn 1024 A G) := fun x =>
  congrFun ((upDat W c).arrAt_eq_of_covers 3 (fun x : (Mat 8192 3072).Idx => ((nn 1024 A G) : ℕ → ℕ → EReal) (x 0).val (x 1).val) (by decide +kernel) fun t _ y => by
    have e : win0_3.index t = ![t.val % 16, t.val / 16] := (by decide +kernel : ∀ t : Fin grid0.N, win0_3.index t = ![t.val % 16, t.val / 16]) t
    blk_simp [e]
    exact up_pay1 (up_in0 W c hA t) (up_in1 W c hG t) y) x

theorem up_up {A U : ℕ → ℕ → EReal} (hA : Fn (a := 8192) (b := 1024) (W.at c main_arg0) A)
    (hU : Fn (a := 1024) (b := 3072) (W.at c main_arg2) U) :
    Fn (a := 8192) (b := 3072) ((upDat W c).arrAt 4 cfg0.N) (nn 1024 A U) := fun x =>
  congrFun ((upDat W c).arrAt_eq_of_covers 4 (fun x : (Mat 8192 3072).Idx => ((nn 1024 A U) : ℕ → ℕ → EReal) (x 0).val (x 1).val) (by decide +kernel) fun t _ y => by
    have e : win0_4.index t = ![t.val % 16, t.val / 16] := (by decide +kernel : ∀ t : Fin grid0.N, win0_4.index t = ![t.val % 16, t.val / 16]) t
    blk_simp [e]
    exact up_pay2 (up_in0 W c hA t) (up_in2 W c hU t) y) x

theorem up_hid {A G U : ℕ → ℕ → EReal} (hA : Fn (a := 8192) (b := 1024) (W.at c main_arg0) A)
    (hG : Fn (a := 1024) (b := 3072) (W.at c main_arg1) G)
    (hU : Fn (a := 1024) (b := 3072) (W.at c main_arg2) U) :
    Fn (a := 8192) (b := 3072) ((upDat W c).arrAt 5 cfg0.N) (fun i j => nn 1024 A G i j * Ideal.logistic (nn 1024 A G i j) * nn 1024 A U i j) := fun x =>
  congrFun ((upDat W c).arrAt_eq_of_covers 5 (fun x : (Mat 8192 3072).Idx => ((fun i j => nn 1024 A G i j * Ideal.logistic (nn 1024 A G i j) * nn 1024 A U i j) : ℕ → ℕ → EReal) (x 0).val (x 1).val) (by decide +kernel) fun t _ y => by
    have e : win0_5.index t = ![t.val % 16, t.val / 16] := (by decide +kernel : ∀ t : Fin grid0.N, win0_5.index t = ![t.val % 16, t.val / 16]) t
    blk_simp [e]
    exact up_pay5 (up_in0 W c hA t) (up_in1 W c hG t) (up_in2 W c hU t) y) x

/-! The second call. -/

theorem hid_in0 {f} (h : Fn (a := 8192) (b := 1024) (W.at c main_v0) f) (t : Fin cfg1.N) :
    Fn (a := 512) (b := 1024) (block cfg1 W c 0 t) fun i j => f (t.val % 16 * 512 + i) (j) := fun y => by
  have e : win1_0.index t = ![t.val % 16, 0] := (by decide +kernel : ∀ t : Fin grid1.N, win1_0.index t = ![t.val % 16, 0]) t
  show (W.at c main_v0 : (Mat 8192 1024).Idx → EReal) ((win1_0.blk t).view.emb y) = _
  rw [h]
  blk_simp [e]

theorem hid_in1 {f} (h : Fn (a := 3072) (b := 1024) (W.at c main_arg3) f) (t : Fin cfg1.N) :
    Fn (a := 768) (b := 1024) (block cfg1 W c 1 t) fun i j => f (t.val / 16 * 768 + i) (j) := fun y => by
  have e : win1_1.index t = ![t.val / 16, 0] := (by decide +kernel : ∀ t : Fin grid1.N, win1_1.index t = ![t.val / 16, 0]) t
  show (W.at c main_arg3 : (Mat 3072 1024).Idx → EReal) ((win1_1.blk t).view.emb y) = _
  rw [h]
  blk_simp [e]

theorem hid_in2 {f} (h : Fn (a := 8192) (b := 3072) (W.at c main_v1_0) f) (t : Fin cfg1.N) :
    Fn (a := 512) (b := 768) (block cfg1 W c 2 t) fun i j => f (t.val % 16 * 512 + i) (t.val / 16 * 768 + j) := fun y => by
  have e : win1_2.index t = ![t.val % 16, t.val / 16] := (by decide +kernel : ∀ t : Fin grid1.N, win1_2.index t = ![t.val % 16, t.val / 16]) t
  show (W.at c main_v1_0 : (Mat 8192 3072).Idx → EReal) ((win1_2.blk t).view.emb y) = _
  rw [h]
  blk_simp [e]

theorem hid_in3 {f} (h : Fn (a := 8192) (b := 3072) (W.at c main_v1_1) f) (t : Fin cfg1.N) :
    Fn (a := 512) (b := 768) (block cfg1 W c 3 t) fun i j => f (t.val % 16 * 512 + i) (t.val / 16 * 768 + j) := fun y => by
  have e : win1_3.index t = ![t.val % 16, t.val / 16] := (by decide +kernel : ∀ t : Fin grid1.N, win1_3.index t = ![t.val % 16, t.val / 16]) t
  show (W.at c main_v1_1 : (Mat 8192 3072).Idx → EReal) ((win1_3.blk t).view.emb y) = _
  rw [h]
  blk_simp [e]

theorem hid_gate {D X Y Z : ℕ → ℕ → EReal} (hX : Fn (a := 8192) (b := 1024) (W.at c main_v0) X)
    (hD : Fn (a := 3072) (b := 1024) (W.at c main_arg3) D)
    (hY : Fn (a := 8192) (b := 3072) (W.at c main_v1_0) Y)
    (hZ : Fn (a := 8192) (b := 3072) (W.at c main_v1_1) Z) :
    Fn (a := 8192) (b := 3072) ((hidDat W c).arrAt 4 cfg1.N) (fun i j => half * nt 1024 X D i j * Z i j * (Ideal.logistic (Y i j) * (1 + Y i j * (1 - Ideal.logistic (Y i j))))) := fun x =>
  congrFun ((hidDat W c).arrAt_eq_of_covers 4 (fun x : (Mat 8192 3072).Idx => ((fun i j => half * nt 1024 X D i j * Z i j * (Ideal.logistic (Y i j) * (1 + Y i j * (1 - Ideal.logistic (Y i j))))) : ℕ → ℕ → EReal) (x 0).val (x 1).val) (by decide +kernel) fun t _ y => by
    have e : win1_4.index t = ![t.val % 16, t.val / 16] := (by decide +kernel : ∀ t : Fin grid1.N, win1_4.index t = ![t.val % 16, t.val / 16]) t
    blk_simp [e]
    exact hid_pay5 (hid_in0 W c hX t) (hid_in1 W c hD t) (hid_in2 W c hY t) (hid_in3 W c hZ t) y) x

theorem hid_up {D X Y : ℕ → ℕ → EReal} (hX : Fn (a := 8192) (b := 1024) (W.at c main_v0) X)
    (hD : Fn (a := 3072) (b := 1024) (W.at c main_arg3) D)
    (hY : Fn (a := 8192) (b := 3072) (W.at c main_v1_0) Y) :
    Fn (a := 8192) (b := 3072) ((hidDat W c).arrAt 5 cfg1.N) (fun i j => half * nt 1024 X D i j * (Y i j * Ideal.logistic (Y i j))) := fun x =>
  congrFun ((hidDat W c).arrAt_eq_of_covers 5 (fun x : (Mat 8192 3072).Idx => ((fun i j => half * nt 1024 X D i j * (Y i j * Ideal.logistic (Y i j))) : ℕ → ℕ → EReal) (x 0).val (x 1).val) (by decide +kernel) fun t _ y => by
    have e : win1_5.index t = ![t.val % 16, t.val / 16] := (by decide +kernel : ∀ t : Fin grid1.N, win1_5.index t = ![t.val % 16, t.val / 16]) t
    blk_simp [e]
    exact hid_pay4 (hid_in0 W c hX t) (hid_in1 W c hD t) (hid_in2 W c hY t) y) x

end Cert.Ffn

end
-- ==== Proof.FfnSum.lean ====
/- The arrays the five calls with a running sum leave: their blocks' sums are the whole products. -/
module

public import proofs.«01_k».proof.Proof.FfnVal
public import proofs.«01_k».proof.Proof.FfnProd
public import proofs.«01_k».proof.Proof.FfnDown

@[expose] public section

set_option maxRecDepth 16384
set_option maxHeartbeats 1000000

noncomputable section

namespace Cert.Ffn

open Cert.Kernel2Ideal Cert.Kernel2Ideal.Gen
open Idealize.ShloMosaic Idealize.ShloMosaic.TcCoe Idealize.ShloMosaic.ValueIdx
open Idealize.SL
open Cert.Products
open scoped BigOperators

theorem Fn.congr {a b : ℕ} {v : (Mat a b).Idx → EReal} {f g : ℕ → ℕ → EReal} (h : Fn v f) (e : ∀ i j, f i j = g i j) : Fn v g :=
  fun x => (h x).trans (e _ _)

theorem zero_f32 : Ideal.ofBits .f32 0x00000000#32 = 0 := by simp [Ideal.ofBits, Ideal.ieee]

/-! ## Four blocks of 2048 rows -/

/-- A product over 8192 rows is the sum of those over four blocks of 2048. -/
theorem tn_four (f g : ℕ → ℕ → EReal) (i j : ℕ) : tn 8192 f g i j
    = 0 + tn 2048 (sh (0 * 2048) 0 f) (sh (0 * 2048) 0 g) i j + tn 2048 (sh (1 * 2048) 0 f) (sh (1 * 2048) 0 g) i j
      + tn 2048 (sh (2 * 2048) 0 f) (sh (2 * 2048) 0 g) i j + tn 2048 (sh (3 * 2048) 0 f) (sh (3 * 2048) 0 g) i j := by
  have h := sum_blocks (n := 4) (b := 2048) fun k => f k.val i * g k.val j
  rw [Fin.sum_univ_four] at h
  simp only [tn, sh, Nat.zero_add, zero_add]
  refine Eq.trans h.symm ?_
  simp only [Fin.val_zero, Fin.val_one, Fin.val_two, Nat.zero_mul, Nat.zero_add]
  rfl

/-- A step of the sum: the accumulator plus the block's product. -/
def Sums (add : Adds Ideal) : Prop := ∀ (acc : Vec Ideal S1024x1024 .f32) (x y : Vec Ideal S2048x1024 .bf16) (s f g : ℕ → ℕ → EReal),
  Fn (a := 1024) (b := 1024) acc s → Fn (a := 2048) (b := 1024) x f → Fn (a := 2048) (b := 1024) y g →
    Fn (a := 1024) (b := 1024) (add acc x y) fun i j => s i j + tn 2048 f g i j

theorem dwd_sums : Sums (k2_pay2 (F := Ideal)) := fun acc x y s f g hs hf hg => Fn.of fun i j => by
  unfold k2_pay2; simp only [shapeCast_self]
  exact congrArg₂ (· + ·) (hs.at i j) ((mm_tn (M := 1024) (K := 2048) (N := 1024) _ none x y i j).trans
    (Finset.sum_congr rfl fun k _ => congrArg₂ (· * ·) (hf.at k i) (hg.at k j)))

theorem dw_sums : Sums (k3_pay2 (F := Ideal)) := fun acc x y s f g hs hf hg => Fn.of fun i j => by
  unfold k3_pay2; simp only [shapeCast_self]
  exact congrArg₂ (· + ·) (hs.at i j) ((mm_tn (M := 1024) (K := 2048) (N := 1024) _ none x y i j).trans
    (Finset.sum_congr rfl fun k _ => congrArg₂ (· * ·) (hf.at k i) (hg.at k j)))

theorem zeros : Fn (a := 1024) (b := 1024) (k3_pay1 (F := Ideal)) fun _ _ => 0 := fun x => by
  unfold k3_pay1; simp only [shapeCast_self]
  exact zero_f32

/-- One point's step of the sums. -/
theorem sums_next (add : Adds Ideal) (hadd : Sums add) (x y : ℕ → Vec Ideal S2048x1024 .bf16) (s f g : ℕ → ℕ → EReal) (n k : ℕ) (hn : n % 4 = k)
    (hs : Fn (a := 1024) (b := 1024) (if k = 0 then k3_pay1 (F := Ideal) else sums add x y n) s)
    (hx : Fn (a := 2048) (b := 1024) (x n) f) (hy : Fn (a := 2048) (b := 1024) (y n) g) :
    Fn (a := 1024) (b := 1024) (sums add x y (n + 1)) fun i j => s i j + tn 2048 f g i j := by
  rw [sums, step, hn]
  exact hadd _ _ _ _ _ _ hs hx hy

/-- After the four points from `n` on, the sum is the whole product. -/
theorem sums_four (add : Adds Ideal) (hadd : Sums add) (x y : ℕ → Vec Ideal S2048x1024 .bf16) (f g : ℕ → ℕ → EReal) (n : ℕ) (hn : n % 4 = 0)
    (hx : ∀ j, j < 4 → Fn (a := 2048) (b := 1024) (x (n + j)) (sh (j * 2048) 0 f))
    (hy : ∀ j, j < 4 → Fn (a := 2048) (b := 1024) (y (n + j)) (sh (j * 2048) 0 g)) :
    Fn (a := 1024) (b := 1024) (sums add x y (n + 4)) (tn 8192 f g) := by
  have h0 := sums_next add hadd x y _ _ _ n 0 hn (by rw [if_pos rfl]; exact zeros) (hx 0 (by decide)) (hy 0 (by decide))
  have h1 := sums_next add hadd x y _ _ _ (n + 1) 1 (by omega) (by rw [if_neg (by decide)]; exact h0) (hx 1 (by decide)) (hy 1 (by decide))
  have h2 := sums_next add hadd x y _ _ _ (n + 2) 2 (by omega) (by rw [if_neg (by decide)]; exact h1) (hx 2 (by decide)) (hy 2 (by decide))
  have h3 := sums_next add hadd x y _ _ _ (n + 3) 3 (by omega) (by rw [if_neg (by decide)]; exact h2) (hx 3 (by decide)) (hy 3 (by decide))
  exact h3.congr fun i j => (tn_four f g i j).symm

variable (W : Held Ideal) (c : Dev nD)

theorem dwd_in0 {f} (h : Fn (a := 8192) (b := 3072) (W.at c main_v1_2) f) (t : Fin cfg2.N) :
    Fn (a := 2048) (b := 1024) (block cfg2 W c 0 t) fun i j => f (t.val % 4 * 2048 + i) (t.val / 4 * 1024 + j) := fun y => by
  have e : win2_0.index t = ![t.val % 4, t.val / 4] := (by decide +kernel : ∀ t : Fin grid2.N, win2_0.index t = ![t.val % 4, t.val / 4]) t
  show (W.at c main_v1_2 : (Mat 8192 3072).Idx → EReal) ((win2_0.blk t).view.emb y) = _
  rw [h]
  blk_simp [e]

theorem dwd_in1 {f} (h : Fn (a := 8192) (b := 1024) (W.at c main_v0) f) (t : Fin cfg2.N) :
    Fn (a := 2048) (b := 1024) (block cfg2 W c 1 t) fun i j => f (t.val % 4 * 2048 + i) (j) := fun y => by
  have e : win2_1.index t = ![t.val % 4, 0] := (by decide +kernel : ∀ t : Fin grid2.N, win2_1.index t = ![t.val % 4, 0]) t
  show (W.at c main_v0 : (Mat 8192 1024).Idx → EReal) ((win2_1.blk t).view.emb y) = _
  rw [h]
  blk_simp [e]

theorem dwg_in0 {f} (h : Fn (a := 8192) (b := 1024) (W.at c main_arg0) f) (t : Fin cfg3.N) :
    Fn (a := 2048) (b := 1024) (block cfg3 W c 0 t) fun i j => f (t.val % 4 * 2048 + i) (j) := fun y => by
  have e : win3_0.index t = ![t.val % 4, 0] := (by decide +kernel : ∀ t : Fin grid3.N, win3_0.index t = ![t.val % 4, 0]) t
  show (W.at c main_arg0 : (Mat 8192 1024).Idx → EReal) ((win3_0.blk t).view.emb y) = _
  rw [h]
  blk_simp [e]

theorem dwg_in1 {f} (h : Fn (a := 8192) (b := 3072) (W.at c main_v2_0) f) (t : Fin cfg3.N) :
    Fn (a := 2048) (b := 1024) (block cfg3 W c 1 t) fun i j => f (t.val % 4 * 2048 + i) (t.val / 4 * 1024 + j) := fun y => by
  have e : win3_1.index t = ![t.val % 4, t.val / 4] := (by decide +kernel : ∀ t : Fin grid3.N, win3_1.index t = ![t.val % 4, t.val / 4]) t
  show (W.at c main_v2_0 : (Mat 8192 3072).Idx → EReal) ((win3_1.blk t).view.emb y) = _
  rw [h]
  blk_simp [e]

theorem dwu_in0 {f} (h : Fn (a := 8192) (b := 1024) (W.at c main_arg0) f) (t : Fin cfg4.N) :
    Fn (a := 2048) (b := 1024) (block cfg4 W c 0 t) fun i j => f (t.val % 4 * 2048 + i) (j) := fun y => by
  have e : win4_0.index t = ![t.val % 4, 0] := (by decide +kernel : ∀ t : Fin grid4.N, win4_0.index t = ![t.val % 4, 0]) t
  show (W.at c main_arg0 : (Mat 8192 1024).Idx → EReal) ((win4_0.blk t).view.emb y) = _
  rw [h]
  blk_simp [e]

theorem dwu_in1 {f} (h : Fn (a := 8192) (b := 3072) (W.at c main_v2_1) f) (t : Fin cfg4.N) :
    Fn (a := 2048) (b := 1024) (block cfg4 W c 1 t) fun i j => f (t.val % 4 * 2048 + i) (t.val / 4 * 1024 + j) := fun y => by
  have e : win4_1.index t = ![t.val % 4, t.val / 4] := (by decide +kernel : ∀ t : Fin grid4.N, win4_1.index t = ![t.val % 4, t.val / 4]) t
  show (W.at c main_v2_1 : (Mat 8192 3072).Idx → EReal) ((win4_1.blk t).view.emb y) = _
  rw [h]
  blk_simp [e]

theorem dwd_out {f g : ℕ → ℕ → EReal} (hf : Fn (a := 8192) (b := 3072) (W.at c main_v1_2) f)
    (hg : Fn (a := 8192) (b := 1024) (W.at c main_v0) g) :
    Fn (a := 3072) (b := 1024) ((dwdDat W c).arrAt 2 cfg2.N) (fun i j => tn 8192 f g i j * half) := fun x =>
  congrFun ((dwdDat W c).arrAt_eq_of_covers 2 (fun x : (Mat 3072 1024).Idx => ((fun i j => tn 8192 f g i j * half) : ℕ → ℕ → EReal) (x 0).val (x 1).val) (by decide +kernel) fun t hfl y => by
    have e : win2_2.index t = ![t.val / 4, 0] := (by decide +kernel : ∀ t : Fin grid2.N, win2_2.index t = ![t.val / 4, 0]) t
    have ht : t.val % 4 = 3 := (flush2_2 t).mp hfl
    have hN : t.val < 12 := lt_of_lt_of_eq t.isLt N_2
    have hv : ∀ j, j < 4 → (dwdPt (t.val - 3 + j)).val = t.val - 3 + j := fun j hj => Nat.mod_eq_of_lt (by omega)
    have hm : ∀ j, j < 4 → (dwdPt (t.val - 3 + j)).val % 4 = j := fun j hj => by rw [hv j hj]; omega
    have hd : ∀ j, j < 4 → (dwdPt (t.val - 3 + j)).val / 4 = t.val / 4 := fun j hj => by rw [hv j hj]; omega
    have hs : Fn (a := 1024) (b := 1024) (dwdSums W c (t.val + 1)) (tn 8192 (fun i j => f i (t.val / 4 * 1024 + j)) g) := by
      have h := sums_four k2_pay2 dwd_sums (fun n => block cfg2 W c 0 (dwdPt n)) (fun n => block cfg2 W c 1 (dwdPt n))
        (fun i j => f i (t.val / 4 * 1024 + j)) g (t.val - 3) (by omega)
        (fun j hj => (dwd_in0 W c hf (dwdPt (t.val - 3 + j))).congr fun a b => by show _ = _; rw [hm j hj, hd j hj]; simp only [sh, Nat.zero_add])
        (fun j hj => (dwd_in1 W c hg (dwdPt (t.val - 3 + j))).congr fun a b => by show _ = _; rw [hm j hj]; simp only [sh, Nat.zero_add])
      rw [show t.val - 3 + 4 = t.val + 1 by omega] at h
      exact h
    blk_simp [e]
    exact congrArg (· * half) (hs y)) x

theorem dwg_out {f g : ℕ → ℕ → EReal} (hf : Fn (a := 8192) (b := 1024) (W.at c main_arg0) f)
    (hg : Fn (a := 8192) (b := 3072) (W.at c main_v2_0) g) :
    Fn (a := 1024) (b := 3072) ((dwgDat W c).arrAt 2 cfg3.N) (tn 8192 f g) := fun x =>
  congrFun ((dwgDat W c).arrAt_eq_of_covers 2 (fun x : (Mat 1024 3072).Idx => ((tn 8192 f g) : ℕ → ℕ → EReal) (x 0).val (x 1).val) (by decide +kernel) fun t hfl y => by
    have e : win3_2.index t = ![0, t.val / 4] := (by decide +kernel : ∀ t : Fin grid3.N, win3_2.index t = ![0, t.val / 4]) t
    have ht : t.val % 4 = 3 := (flush3_2 t).mp hfl
    have hN : t.val < 12 := lt_of_lt_of_eq t.isLt N_3
    have hv : ∀ j, j < 4 → (dwgPt (t.val - 3 + j)).val = t.val - 3 + j := fun j hj => Nat.mod_eq_of_lt (by omega)
    have hm : ∀ j, j < 4 → (dwgPt (t.val - 3 + j)).val % 4 = j := fun j hj => by rw [hv j hj]; omega
    have hd : ∀ j, j < 4 → (dwgPt (t.val - 3 + j)).val / 4 = t.val / 4 := fun j hj => by rw [hv j hj]; omega
    have hs : Fn (a := 1024) (b := 1024) (dwgSums W c (t.val + 1)) (tn 8192 f (fun i j => g i (t.val / 4 * 1024 + j))) := by
      have h := sums_four k3_pay2 dw_sums (fun n => block cfg3 W c 0 (dwgPt n)) (fun n => block cfg3 W c 1 (dwgPt n))
        f (fun i j => g i (t.val / 4 * 1024 + j)) (t.val - 3) (by omega)
        (fun j hj => (dwg_in0 W c hf (dwgPt (t.val - 3 + j))).congr fun a b => by show _ = _; rw [hm j hj]; simp only [sh, Nat.zero_add])
        (fun j hj => (dwg_in1 W c hg (dwgPt (t.val - 3 + j))).congr fun a b => by show _ = _; rw [hm j hj, hd j hj]; simp only [sh, Nat.zero_add])
      rw [show t.val - 3 + 4 = t.val + 1 by omega] at h
      exact h
    blk_simp [e]
    exact hs y) x

theorem dwu_out {f g : ℕ → ℕ → EReal} (hf : Fn (a := 8192) (b := 1024) (W.at c main_arg0) f)
    (hg : Fn (a := 8192) (b := 3072) (W.at c main_v2_1) g) :
    Fn (a := 1024) (b := 3072) ((dwuDat W c).arrAt 2 cfg4.N) (tn 8192 f g) := fun x =>
  congrFun ((dwuDat W c).arrAt_eq_of_covers 2 (fun x : (Mat 1024 3072).Idx => ((tn 8192 f g) : ℕ → ℕ → EReal) (x 0).val (x 1).val) (by decide +kernel) fun t hfl y => by
    have e : win4_2.index t = ![0, t.val / 4] := (by decide +kernel : ∀ t : Fin grid4.N, win4_2.index t = ![0, t.val / 4]) t
    have ht : t.val % 4 = 3 := (flush4_2 t).mp hfl
    have hN : t.val < 12 := lt_of_lt_of_eq t.isLt N_4
    have hv : ∀ j, j < 4 → (dwuPt (t.val - 3 + j)).val = t.val - 3 + j := fun j hj => Nat.mod_eq_of_lt (by omega)
    have hm : ∀ j, j < 4 → (dwuPt (t.val - 3 + j)).val % 4 = j := fun j hj => by rw [hv j hj]; omega
    have hd : ∀ j, j < 4 → (dwuPt (t.val - 3 + j)).val / 4 = t.val / 4 := fun j hj => by rw [hv j hj]; omega
    have hs : Fn (a := 1024) (b := 1024) (dwuSums W c (t.val + 1)) (tn 8192 f (fun i j => g i (t.val / 4 * 1024 + j))) := by
      have h := sums_four k3_pay2 dw_sums (fun n => block cfg4 W c 0 (dwuPt n)) (fun n => block cfg4 W c 1 (dwuPt n))
        f (fun i j => g i (t.val / 4 * 1024 + j)) (t.val - 3) (by omega)
        (fun j hj => (dwu_in0 W c hf (dwuPt (t.val - 3 + j))).congr fun a b => by show _ = _; rw [hm j hj]; simp only [sh, Nat.zero_add])
        (fun j hj => (dwu_in1 W c hg (dwuPt (t.val - 3 + j))).congr fun a b => by show _ = _; rw [hm j hj, hd j hj]; simp only [sh, Nat.zero_add])
      rw [show t.val - 3 + 4 = t.val + 1 by omega] at h
      exact h
    blk_simp [e]
    exact hs y) x

/-! ## Three blocks of 1024 columns, twice -/

theorem da_sums2 (acc : Vec Ideal S1024x1024 .f32) (x y : Vec Ideal S1024x1024 .bf16) {s f g : ℕ → ℕ → EReal}
    (hs : Fn (a := 1024) (b := 1024) acc s) (hf : Fn (a := 1024) (b := 1024) x f) (hg : Fn (a := 1024) (b := 1024) y g) :
    Fn (a := 1024) (b := 1024) (k5_pay2 (F := Ideal) acc x y) fun i j => s i j + nt 1024 f g i j := Fn.of fun i j => by
  unfold k5_pay2; simp only [shapeCast_self]
  exact congrArg₂ (· + ·) (hs.at i j) ((mm_nt (M := 1024) (K := 1024) (N := 1024) _ none x y i j).trans
    (Finset.sum_congr rfl fun k _ => congrArg₂ (· * ·) (hf.at i k) (hg.at j k)))

theorem da_sums3 (acc : Vec Ideal S1024x1024 .f32) (x y : Vec Ideal S1024x1024 .bf16) {s f g : ℕ → ℕ → EReal}
    (hs : Fn (a := 1024) (b := 1024) acc s) (hf : Fn (a := 1024) (b := 1024) x f) (hg : Fn (a := 1024) (b := 1024) y g) :
    Fn (a := 1024) (b := 1024) (k5_pay3 (F := Ideal) acc x y) fun i j => s i j + nt 1024 f g i j := da_sums2 acc x y hs hf hg

/-- A product over 3072 columns is the sum of those over three blocks of 1024. -/
theorem nt_three (f g : ℕ → ℕ → EReal) (i j : ℕ) : nt 3072 f g i j
    = nt 1024 (sh 0 (0 * 1024) f) (sh 0 (0 * 1024) g) i j + nt 1024 (sh 0 (1 * 1024) f) (sh 0 (1 * 1024) g) i j
      + nt 1024 (sh 0 (2 * 1024) f) (sh 0 (2 * 1024) g) i j := by
  have h := sum_blocks (n := 3) (b := 1024) fun k => f i k.val * g j k.val
  rw [Fin.sum_univ_three] at h
  simp only [nt, sh, Nat.zero_add]
  refine Eq.trans h.symm ?_
  simp only [Fin.val_zero, Fin.val_one, Fin.val_two, Nat.zero_mul, Nat.zero_add]

theorem da_in0 {f} (h : Fn (a := 8192) (b := 3072) (W.at c main_v2_0) f) (t : Fin cfg5.N) :
    Fn (a := 1024) (b := 1024) (block cfg5 W c 0 t) fun i j => f (t.val / 6 * 1024 + i) (min (t.val % 6) 2 * 1024 + j) := fun y => by
  have e : win5_0.index t = ![t.val / 6, min (t.val % 6) 2] := (by decide +kernel : ∀ t : Fin grid5.N, win5_0.index t = ![t.val / 6, min (t.val % 6) 2]) t
  show (W.at c main_v2_0 : (Mat 8192 3072).Idx → EReal) ((win5_0.blk t).view.emb y) = _
  rw [h]
  blk_simp [e]

theorem da_in1 {f} (h : Fn (a := 1024) (b := 3072) (W.at c main_arg1) f) (t : Fin cfg5.N) :
    Fn (a := 1024) (b := 1024) (block cfg5 W c 1 t) fun i j => f (i) (min (t.val % 6) 2 * 1024 + j) := fun y => by
  have e : win5_1.index t = ![0, min (t.val % 6) 2] := (by decide +kernel : ∀ t : Fin grid5.N, win5_1.index t = ![0, min (t.val % 6) 2]) t
  show (W.at c main_arg1 : (Mat 1024 3072).Idx → EReal) ((win5_1.blk t).view.emb y) = _
  rw [h]
  blk_simp [e]

theorem da_in2 {f} (h : Fn (a := 8192) (b := 3072) (W.at c main_v2_1) f) (t : Fin cfg5.N) :
    Fn (a := 1024) (b := 1024) (block cfg5 W c 2 t) fun i j => f (t.val / 6 * 1024 + i) ((t.val % 6 - 3) * 1024 + j) := fun y => by
  have e : win5_2.index t = ![t.val / 6, t.val % 6 - 3] := (by decide +kernel : ∀ t : Fin grid5.N, win5_2.index t = ![t.val / 6, t.val % 6 - 3]) t
  show (W.at c main_v2_1 : (Mat 8192 3072).Idx → EReal) ((win5_2.blk t).view.emb y) = _
  rw [h]
  blk_simp [e]

theorem da_in3 {f} (h : Fn (a := 1024) (b := 3072) (W.at c main_arg2) f) (t : Fin cfg5.N) :
    Fn (a := 1024) (b := 1024) (block cfg5 W c 3 t) fun i j => f (i) ((t.val % 6 - 3) * 1024 + j) := fun y => by
  have e : win5_3.index t = ![0, t.val % 6 - 3] := (by decide +kernel : ∀ t : Fin grid5.N, win5_3.index t = ![0, t.val % 6 - 3]) t
  show (W.at c main_arg2 : (Mat 1024 3072).Idx → EReal) ((win5_3.blk t).view.emb y) = _
  rw [h]
  blk_simp [e]

/-- The sum after a point among the first three of six, -/
theorem da_low {f g s : ℕ → ℕ → EReal} (hf : Fn (a := 8192) (b := 3072) (W.at c main_v2_0) f) (hg : Fn (a := 1024) (b := 3072) (W.at c main_arg1) g)
    (n q k : ℕ) (hn : n = q * 6 + k) (hk : k < 3) (hq : q < 8)
    (hs : Fn (a := 1024) (b := 1024) (if k = 0 then k5_pay1 (F := Ideal) else daSums W c n) s) :
    Fn (a := 1024) (b := 1024) (daSums W c (n + 1)) fun i j =>
      s i j + nt 1024 (sh 0 (k * 1024) fun i k => f (q * 1024 + i) k) (sh 0 (k * 1024) g) i j := by
  have hv : (daPt n).val = n := Nat.mod_eq_of_lt (by omega)
  have hm : n % 6 = k := by omega
  have hd : n / 6 = q := by omega
  have hc : min k 2 = k := by omega
  rw [daSums, stepDa, hm, if_pos hk]
  refine da_sums2 _ _ _ hs ((da_in0 W c hf (daPt n)).congr fun a b => ?_) ((da_in1 W c hg (daPt n)).congr fun a b => ?_)
  · show _ = _; rw [hv, hm, hd, hc]; simp only [sh, Nat.zero_add]
  · show _ = _; rw [hv, hm, hc]; simp only [sh, Nat.zero_add]

/-- and among the last three. -/
theorem da_high {f g s : ℕ → ℕ → EReal} (hf : Fn (a := 8192) (b := 3072) (W.at c main_v2_1) f) (hg : Fn (a := 1024) (b := 3072) (W.at c main_arg2) g)
    (n q k : ℕ) (hn : n = q * 6 + (k + 3)) (hk : k < 3) (hq : q < 8) (hs : Fn (a := 1024) (b := 1024) (daSums W c n) s) :
    Fn (a := 1024) (b := 1024) (daSums W c (n + 1)) fun i j =>
      s i j + nt 1024 (sh 0 (k * 1024) fun i k => f (q * 1024 + i) k) (sh 0 (k * 1024) g) i j := by
  have hv : (daPt n).val = n := Nat.mod_eq_of_lt (by omega)
  have hm : n % 6 = k + 3 := by omega
  have hd : n / 6 = q := by omega
  rw [daSums, stepDa, hm, if_neg (by omega)]
  refine da_sums3 _ _ _ hs ((da_in2 W c hf (daPt n)).congr fun a b => ?_) ((da_in3 W c hg (daPt n)).congr fun a b => ?_)
  · show _ = _; rw [hv, hm, hd, Nat.add_sub_cancel]; simp only [sh, Nat.zero_add]
  · show _ = _; rw [hv, hm, Nat.add_sub_cancel]; simp only [sh, Nat.zero_add]

theorem da_out {f g f' g' : ℕ → ℕ → EReal} (hf : Fn (a := 8192) (b := 3072) (W.at c main_v2_0) f) (hg : Fn (a := 1024) (b := 3072) (W.at c main_arg1) g)
    (hf' : Fn (a := 8192) (b := 3072) (W.at c main_v2_1) f') (hg' : Fn (a := 1024) (b := 3072) (W.at c main_arg2) g') :
    Fn (a := 8192) (b := 1024) ((daDat W c).arrAt 4 cfg5.N) (fun i j => nt 3072 f g i j + nt 3072 f' g' i j) := fun x =>
  congrFun ((daDat W c).arrAt_eq_of_covers 4 (fun x : (Mat 8192 1024).Idx => (fun i j => nt 3072 f g i j + nt 3072 f' g' i j : ℕ → ℕ → EReal) (x 0).val (x 1).val) (by decide +kernel) fun t hfl y => by
    have e : win5_4.index t = ![t.val / 6, 0] := (by decide +kernel : ∀ t : Fin grid5.N, win5_4.index t = ![t.val / 6, 0]) t
    have ht : t.val % 6 = 5 := (flush5_4 t).mp hfl
    have hN : t.val < 48 := lt_of_lt_of_eq t.isLt N_5
    obtain ⟨q, hq⟩ : ∃ q, q = t.val / 6 := ⟨_, rfl⟩
    have hz : Fn (a := 1024) (b := 1024) (if 0 = 0 then k5_pay1 (F := Ideal) else daSums W c (q * 6)) fun _ _ => 0 := by rw [if_pos rfl]; exact zeros
    have h0 := da_low W c hf hg (q * 6) q 0 (by omega) (by decide) (by omega) hz
    have h1 := da_low W c hf hg (q * 6 + 1) q 1 (by omega) (by decide) (by omega) (by rw [if_neg (by decide)]; exact h0)
    have h2 := da_low W c hf hg (q * 6 + 2) q 2 (by omega) (by decide) (by omega) (by rw [if_neg (by decide)]; exact h1)
    have h3 := da_high W c hf' hg' (q * 6 + 3) q 0 (by omega) (by decide) (by omega) h2
    have h4 := da_high W c hf' hg' (q * 6 + 4) q 1 (by omega) (by decide) (by omega) h3
    have h5 := da_high W c hf' hg' (q * 6 + 5) q 2 (by omega) (by decide) (by omega) h4
    rw [show q * 6 + 5 + 1 = t.val + 1 by omega] at h5
    blk_simp [e]
    refine (h5 y).trans ?_
    have l := nt_three (fun i k => f (q * 1024 + i) k) g (y 0).val (y 1).val
    have r := nt_three (fun i k => f' (q * 1024 + i) k) g' (y 0).val (y 1).val
    rw [← hq]
    refine Eq.trans ?_ (congrArg₂ (· + ·) l r).symm
    simp only [zero_add, add_assoc]) x

/-! ## Three blocks of 1024 of the hidden layer's columns -/

theorem down_sums (acc : Vec Ideal S1024x1024 .f32) (x y : Vec Ideal S1024x1024 .bf16) {s f g : ℕ → ℕ → EReal}
    (hs : Fn (a := 1024) (b := 1024) acc s) (hf : Fn (a := 1024) (b := 1024) x f) (hg : Fn (a := 1024) (b := 1024) y g) :
    Fn (a := 1024) (b := 1024) (k6_pay2 (F := Ideal) acc x y) fun i j => s i j + nn 1024 f g i j := Fn.of fun i j => by
  unfold k6_pay2; simp only [shapeCast_self]
  exact congrArg₂ (· + ·) (hs.at i j) ((mm_nn (M := 1024) (K := 1024) (N := 1024) _ none x y i j).trans
    (Finset.sum_congr rfl fun k _ => congrArg₂ (· * ·) (hf.at i k) (hg.at k j)))

/-- A product over 3072 columns of the left and rows of the right is the sum of those over three blocks of 1024. -/
theorem nn_three (f g : ℕ → ℕ → EReal) (i j : ℕ) : nn 3072 f g i j
    = nn 1024 (sh 0 (0 * 1024) f) (sh (0 * 1024) 0 g) i j + nn 1024 (sh 0 (1 * 1024) f) (sh (1 * 1024) 0 g) i j
      + nn 1024 (sh 0 (2 * 1024) f) (sh (2 * 1024) 0 g) i j := by
  have h := sum_blocks (n := 3) (b := 1024) fun k => f i k.val * g k.val j
  rw [Fin.sum_univ_three] at h
  simp only [nn, sh, Nat.zero_add]
  refine Eq.trans h.symm ?_
  simp only [Fin.val_zero, Fin.val_one, Fin.val_two, Nat.zero_mul, Nat.zero_add]

theorem down_in0 {f} (h : Fn (a := 8192) (b := 3072) (W.at c main_v1_2) f) (t : Fin cfg6.N) :
    Fn (a := 1024) (b := 1024) (block cfg6 W c 0 t) fun i j => f (t.val / 3 * 1024 + i) (t.val % 3 * 1024 + j) := fun y => by
  have e : win6_0.index t = ![t.val / 3, t.val % 3] := (by decide +kernel : ∀ t : Fin grid6.N, win6_0.index t = ![t.val / 3, t.val % 3]) t
  show (W.at c main_v1_2 : (Mat 8192 3072).Idx → EReal) ((win6_0.blk t).view.emb y) = _
  rw [h]
  blk_simp [e]

theorem down_in1 {f} (h : Fn (a := 3072) (b := 1024) (W.at c main_arg3) f) (t : Fin cfg6.N) :
    Fn (a := 1024) (b := 1024) (block cfg6 W c 1 t) fun i j => f (t.val % 3 * 1024 + i) j := fun y => by
  have e : win6_1.index t = ![t.val % 3, 0] := (by decide +kernel : ∀ t : Fin grid6.N, win6_1.index t = ![t.val % 3, 0]) t
  show (W.at c main_arg3 : (Mat 3072 1024).Idx → EReal) ((win6_1.blk t).view.emb y) = _
  rw [h]
  blk_simp [e]

theorem down_in2 {f} (h : Fn (a := 8192) (b := 1024) (W.at c main_arg5) f) (t : Fin cfg6.N) :
    Fn (a := 1024) (b := 1024) (block cfg6 W c 2 t) fun i j => f (t.val / 3 * 1024 + i) j := fun y => by
  have e : win6_2.index t = ![t.val / 3, 0] := (by decide +kernel : ∀ t : Fin grid6.N, win6_2.index t = ![t.val / 3, 0]) t
  show (W.at c main_arg5 : (Mat 8192 1024).Idx → EReal) ((win6_2.blk t).view.emb y) = _
  rw [h]
  blk_simp [e]

/-- The sum after a point. -/
theorem down_next {f g s : ℕ → ℕ → EReal} (hf : Fn (a := 8192) (b := 3072) (W.at c main_v1_2) f) (hg : Fn (a := 3072) (b := 1024) (W.at c main_arg3) g)
    (n q k : ℕ) (hn : n = q * 3 + k) (hk : k < 3) (hq : q < 8)
    (hs : Fn (a := 1024) (b := 1024) (if k = 0 then k6_pay1 (F := Ideal) else downSums W c n) s) :
    Fn (a := 1024) (b := 1024) (downSums W c (n + 1)) fun i j =>
      s i j + nn 1024 (sh 0 (k * 1024) fun i k => f (q * 1024 + i) k) (sh (k * 1024) 0 g) i j := by
  have hv : (downPt n).val = n := Nat.mod_eq_of_lt (by omega)
  have hm : n % 3 = k := by omega
  have hd : n / 3 = q := by omega
  rw [downSums, stepDown, hm]
  refine down_sums _ _ _ hs ((down_in0 W c hf (downPt n)).congr fun a b => ?_) ((down_in1 W c hg (downPt n)).congr fun a b => ?_)
  · show _ = _; rw [hv, hm, hd]; simp only [sh, Nat.zero_add]
  · show _ = _; rw [hv, hm]; simp only [sh, Nat.zero_add]

theorem down_out {f g r : ℕ → ℕ → EReal} (hf : Fn (a := 8192) (b := 3072) (W.at c main_v1_2) f) (hg : Fn (a := 3072) (b := 1024) (W.at c main_arg3) g)
    (hr : Fn (a := 8192) (b := 1024) (W.at c main_arg5) r) :
    Fn (a := 8192) (b := 1024) ((downDat W c).arrAt 3 cfg6.N) (fun i j => nn 3072 f g i j * half + r i j) := fun x =>
  congrFun ((downDat W c).arrAt_eq_of_covers 3 (fun x : (Mat 8192 1024).Idx => (fun i j => nn 3072 f g i j * half + r i j : ℕ → ℕ → EReal) (x 0).val (x 1).val) (by decide +kernel) fun t hfl y => by
    have e : win6_3.index t = ![t.val / 3, 0] := (by decide +kernel : ∀ t : Fin grid6.N, win6_3.index t = ![t.val / 3, 0]) t
    have ht : t.val % 3 = 2 := (flush6_3 t).mp hfl
    have hN : t.val < 24 := lt_of_lt_of_eq t.isLt N_6
    obtain ⟨q, hq⟩ : ∃ q, q = t.val / 3 := ⟨_, rfl⟩
    have hz : Fn (a := 1024) (b := 1024) (if 0 = 0 then k6_pay1 (F := Ideal) else downSums W c (q * 3)) fun _ _ => 0 := by rw [if_pos rfl]; exact zeros
    have h0 := down_next W c hf hg (q * 3) q 0 (by omega) (by decide) (by omega) hz
    have h1 := down_next W c hf hg (q * 3 + 1) q 1 (by omega) (by decide) (by omega) (by rw [if_neg (by decide)]; exact h0)
    have h2 := down_next W c hf hg (q * 3 + 2) q 2 (by omega) (by decide) (by omega) (by rw [if_neg (by decide)]; exact h1)
    rw [show q * 3 + 2 + 1 = t.val + 1 by omega] at h2
    blk_simp [e]
    refine congrArg₂ (fun a b : EReal => a * half + b) ((h2 y).trans ?_) (down_in2 W c hr t y)
    rw [← hq]
    refine Eq.trans ?_ (nn_three (fun i k => f (q * 1024 + i) k) g (y 0).val (y 1).val).symm
    simp only [zero_add, add_assoc]) x

end Cert.Ffn

end
-- ==== Proof.FfnGrad.lean ====
/- The feed-forward block's gradients and its output: what the seven calls leave in the five results, in terms of the arguments. -/
module

public import proofs.«01_k».proof.Proof.FfnRun
public import proofs.«01_k».proof.Proof.FfnSum

@[expose] public section

set_option maxRecDepth 16384
set_option maxHeartbeats 1000000

noncomputable section

namespace Cert.Ffn

open Cert.Kernel2Ideal Cert.Kernel2Ideal.Gen
open Idealize.ShloMosaic Idealize.ShloMosaic.TcCoe Idealize.ShloMosaic.ValueIdx Idealize.ShloMosaic.Tactic
open Idealize.SL
open Cert.Products
open scoped BigOperators

/-- A matrix read at any two natural numbers, zero outside. -/
def ext {a b : ℕ} (v : (Mat a b).Idx → EReal) : ℕ → ℕ → EReal := fun i j => if h : i < a ∧ j < b then v (ix2 ⟨i, h.1⟩ ⟨j, h.2⟩) else 0

theorem ext_fn {a b : ℕ} (v : (Mat a b).Idx → EReal) : Fn v (ext v) := Fn.of fun i j => by
  unfold ext; rw [dif_pos ⟨i.isLt, j.isLt⟩]

theorem Fn.eq {a b : ℕ} {v w : (Mat a b).Idx → EReal} {f : ℕ → ℕ → EReal} (h : Fn v f) (h' : Fn w f) : v = w := funext fun x => (h x).trans (h' x).symm

/-! The block's gradients and its output as the calls compute them, of the activations `A`, the gate and up weights `G` and `U`,
    the down weight `D`, the incoming gradient `X` and the block's input `Y`. -/

section Spec

variable (A G U D X Y : ℕ → ℕ → EReal)

/-- The gate before its sigmoid, the up projection, and the hidden layer's incoming gradient. -/
def gate : ℕ → ℕ → EReal := nn 1024 A G
def upp : ℕ → ℕ → EReal := nn 1024 A U
def hidIn : ℕ → ℕ → EReal := fun i j => half * nt 1024 X D i j
/-- The hidden layer. -/
def hidden : ℕ → ℕ → EReal := fun i j => gate A G i j * Ideal.logistic (gate A G i j) * upp A U i j
/-- The gradients of the gate and of the up projection. -/
def gateGrad : ℕ → ℕ → EReal := fun i j => hidIn D X i j * upp A U i j * (Ideal.logistic (gate A G i j) * (1 + gate A G i j * (1 - Ideal.logistic (gate A G i j))))
def upGrad : ℕ → ℕ → EReal := fun i j => hidIn D X i j * (gate A G i j * Ideal.logistic (gate A G i j))
/-- The gradients of the down weight, the gate weight, the up weight and the activations. -/
def gradD : ℕ → ℕ → EReal := fun i j => tn 8192 (hidden A G U) X i j * half
def gradG : ℕ → ℕ → EReal := tn 8192 A (gateGrad A G U D X)
def gradU : ℕ → ℕ → EReal := tn 8192 A (upGrad A G D X)
def gradA : ℕ → ℕ → EReal := fun i j => nt 3072 (gateGrad A G U D X) G i j + nt 3072 (upGrad A G D X) U i j
/-- The output: the block's input plus half of the down product. -/
def out : ℕ → ℕ → EReal := fun i j => nn 3072 (hidden A G U) D i j * half + Y i j

end Spec

variable (m : (ℓ : Loc nD τ sig) → Buf (Elt Ideal) ℓ) (c : Dev nD)

/-! The arguments by row and column. -/
def eA : ℕ → ℕ → EReal := ext (a := 8192) (b := 1024) (m ((c : Thread nD τ).loc main_arg0))
def eG : ℕ → ℕ → EReal := ext (a := 1024) (b := 3072) (m ((c : Thread nD τ).loc main_arg1))
def eU : ℕ → ℕ → EReal := ext (a := 1024) (b := 3072) (m ((c : Thread nD τ).loc main_arg2))
def eD : ℕ → ℕ → EReal := ext (a := 3072) (b := 1024) (m ((c : Thread nD τ).loc main_arg3))
def eX : ℕ → ℕ → EReal := ext (a := 8192) (b := 1024) (m ((c : Thread nD τ).loc main_arg4))
def eY : ℕ → ℕ → EReal := ext (a := 8192) (b := 1024) (m ((c : Thread nD τ).loc main_arg5))

/-! What no call writes is as it was before: a buffer at one boundary from the one before. -/

theorem from8 (b : Ref sig .tc) (h : ∀ w : Fin cfg6.W, Pipeline.arrRef cfg6.spec w = b → (cfg6.win w).isOut = false) : (at8 m).at c b = (at7 m).at c b :=
  next_of launch6 _ _ (fun _ _ => rfl) c b h
theorem from7 (b : Ref sig .tc) (h : ∀ w : Fin cfg5.W, Pipeline.arrRef cfg5.spec w = b → (cfg5.win w).isOut = false) : (at7 m).at c b = (at6 m).at c b :=
  next_of launch5 _ _ (fun _ _ => rfl) c b h
theorem from6 (b : Ref sig .tc) (h : ∀ w : Fin cfg4.W, Pipeline.arrRef cfg4.spec w = b → (cfg4.win w).isOut = false) : (at6 m).at c b = (at5 m).at c b :=
  next_of launch4 _ _ (fun _ _ => rfl) c b h
theorem from5 (b : Ref sig .tc) (h : ∀ w : Fin cfg3.W, Pipeline.arrRef cfg3.spec w = b → (cfg3.win w).isOut = false) : (at5 m).at c b = (at4 m).at c b :=
  next_of launch3 _ _ (fun _ _ => rfl) c b h
theorem from4 (b : Ref sig .tc) (h : ∀ w : Fin cfg2.W, Pipeline.arrRef cfg2.spec w = b → (cfg2.win w).isOut = false) : (at4 m).at c b = (at3 m).at c b :=
  next_of launch2 _ _ (fun _ _ => rfl) c b h
theorem from3 (b : Ref sig .tc) (h : ∀ w : Fin cfg1.W, Pipeline.arrRef cfg1.spec w = b → (cfg1.win w).isOut = false) : (at3 m).at c b = (at2 m).at c b :=
  next_of launch1 _ _ (fun _ _ => rfl) c b h
theorem from2 (b : Ref sig .tc) (h : ∀ w : Fin cfg0.W, Pipeline.arrRef cfg0.spec w = b → (cfg0.win w).isOut = false) : (at2 m).at c b = (at1 m).at c b :=
  next_of launch0 _ _ (fun _ _ => rfl) c b h
theorem from1 (b : Ref sig .tc) (h : b ∉ hostOps0_W) : (at1 m).at c b = m ((c : Thread nD τ).loc b) :=
  StableHlo.after_of_writes_sub hostOps0 _ hostOps0_writes h

/-- The cast of the incoming gradient is the gradient. -/
theorem cast1 : Fn (a := 8192) (b := 1024) ((at1 m).at c main_v0) (eX m c) := by
  have h : ∀ i : S8192x1024.Idx, ((at1 m).at c main_v0 : FVec Ideal S8192x1024 .bf16) i = (m ((c : Thread nD τ).loc main_arg4) : FVec Ideal S8192x1024 .f32) i := fun i => by
    unfold Held.at at1 hostOps0
    after_results
    rfl
  exact fun x => (h x).trans (ext_fn _ x)

theorem args1 : Fn (a := 8192) (b := 1024) ((at1 m).at c main_arg0) (eA m c) ∧ Fn (a := 1024) (b := 3072) ((at1 m).at c main_arg1) (eG m c)
    ∧ Fn (a := 1024) (b := 3072) ((at1 m).at c main_arg2) (eU m c) ∧ Fn (a := 3072) (b := 1024) ((at1 m).at c main_arg3) (eD m c) := by
  rw [from1 m c main_arg0 (by decide), from1 m c main_arg1 (by decide), from1 m c main_arg2 (by decide), from1 m c main_arg3 (by decide)]
  exact ⟨ext_fn _, ext_fn _, ext_fn _, ext_fn _⟩

theorem input1 : Fn (a := 8192) (b := 1024) ((at1 m).at c main_arg5) (eY m c) := by
  rw [from1 m c main_arg5 (by decide)]
  exact ext_fn _

/-! After the first call. -/

theorem gate2 : Fn (a := 8192) (b := 3072) ((at2 m).at c main_v1_0) (gate (eA m c) (eG m c)) := by
  rw [show (at2 m).at c main_v1_0 = _ from next_arr launch0 (at1 m) (upDat (at1 m)) c 3]
  exact up_gate (at1 m) c (args1 m c).1 (args1 m c).2.1
theorem up2 : Fn (a := 8192) (b := 3072) ((at2 m).at c main_v1_1) (upp (eA m c) (eU m c)) := by
  rw [show (at2 m).at c main_v1_1 = _ from next_arr launch0 (at1 m) (upDat (at1 m)) c 4]
  exact up_up (at1 m) c (args1 m c).1 (args1 m c).2.2.1
theorem hid2 : Fn (a := 8192) (b := 3072) ((at2 m).at c main_v1_2) (hidden (eA m c) (eG m c) (eU m c)) := by
  rw [show (at2 m).at c main_v1_2 = _ from next_arr launch0 (at1 m) (upDat (at1 m)) c 5]
  exact up_hid (at1 m) c (args1 m c).1 (args1 m c).2.1 (args1 m c).2.2.1

/-! After the second. -/

theorem gate3 : Fn (a := 8192) (b := 3072) ((at3 m).at c main_v2_0) (gateGrad (eA m c) (eG m c) (eU m c) (eD m c) (eX m c)) := by
  rw [show (at3 m).at c main_v2_0 = _ from next_arr launch1 (at2 m) (hidDat (at2 m)) c 4]
  exact hid_gate (at2 m) c (by rw [from2 m c main_v0 (by decide +kernel)]; exact cast1 m c)
    (by rw [from2 m c main_arg3 (by decide +kernel)]; exact (args1 m c).2.2.2) (gate2 m c) (up2 m c)
theorem up3 : Fn (a := 8192) (b := 3072) ((at3 m).at c main_v2_1) (upGrad (eA m c) (eG m c) (eD m c) (eX m c)) := by
  rw [show (at3 m).at c main_v2_1 = _ from next_arr launch1 (at2 m) (hidDat (at2 m)) c 5]
  exact hid_up (at2 m) c (by rw [from2 m c main_v0 (by decide +kernel)]; exact cast1 m c)
    (by rw [from2 m c main_arg3 (by decide +kernel)]; exact (args1 m c).2.2.2) (gate2 m c)

/-! The five results. -/

theorem res_D : Fn (a := 3072) (b := 1024) ((at8 m).at c main_v3) (gradD (eA m c) (eG m c) (eU m c) (eX m c)) := by
  rw [from8 m c main_v3 (by decide +kernel), from7 m c main_v3 (by decide +kernel),
    from6 m c main_v3 (by decide +kernel), from5 m c main_v3 (by decide +kernel),
    show (at4 m).at c main_v3 = _ from next_arr launch2 (at3 m) (dwdDat (at3 m)) c 2]
  exact dwd_out (at3 m) c (by rw [from3 m c main_v1_2 (by decide +kernel)]; exact hid2 m c)
    (by rw [from3 m c main_v0 (by decide +kernel), from2 m c main_v0 (by decide +kernel)]; exact cast1 m c)

theorem res_G : Fn (a := 1024) (b := 3072) ((at8 m).at c main_v4) (gradG (eA m c) (eG m c) (eU m c) (eD m c) (eX m c)) := by
  rw [from8 m c main_v4 (by decide +kernel), from7 m c main_v4 (by decide +kernel),
    from6 m c main_v4 (by decide +kernel),
    show (at5 m).at c main_v4 = _ from next_arr launch3 (at4 m) (dwgDat (at4 m)) c 2]
  exact dwg_out (at4 m) c (by rw [from4 m c main_arg0 (by decide +kernel), from3 m c main_arg0 (by decide +kernel), from2 m c main_arg0 (by decide +kernel)]; exact (args1 m c).1)
    (by rw [from4 m c main_v2_0 (by decide +kernel)]; exact gate3 m c)

theorem res_U : Fn (a := 1024) (b := 3072) ((at8 m).at c main_v5) (gradU (eA m c) (eG m c) (eD m c) (eX m c)) := by
  rw [from8 m c main_v5 (by decide +kernel), from7 m c main_v5 (by decide +kernel),
    show (at6 m).at c main_v5 = _ from next_arr launch4 (at5 m) (dwuDat (at5 m)) c 2]
  exact dwu_out (at5 m) c (by rw [from5 m c main_arg0 (by decide +kernel), from4 m c main_arg0 (by decide +kernel), from3 m c main_arg0 (by decide +kernel), from2 m c main_arg0 (by decide +kernel)]; exact (args1 m c).1)
    (by rw [from5 m c main_v2_1 (by decide +kernel), from4 m c main_v2_1 (by decide +kernel)]; exact up3 m c)

theorem res_A : Fn (a := 8192) (b := 1024) ((at8 m).at c main_v6) (gradA (eA m c) (eG m c) (eU m c) (eD m c) (eX m c)) := by
  rw [from8 m c main_v6 (by decide +kernel), show (at7 m).at c main_v6 = _ from next_arr launch5 (at6 m) (daDat (at6 m)) c 4]
  exact da_out (at6 m) c
    (by rw [from6 m c main_v2_0 (by decide +kernel), from5 m c main_v2_0 (by decide +kernel), from4 m c main_v2_0 (by decide +kernel)]; exact gate3 m c)
    (by rw [from6 m c main_arg1 (by decide +kernel), from5 m c main_arg1 (by decide +kernel), from4 m c main_arg1 (by decide +kernel), from3 m c main_arg1 (by decide +kernel), from2 m c main_arg1 (by decide +kernel)]; exact (args1 m c).2.1)
    (by rw [from6 m c main_v2_1 (by decide +kernel), from5 m c main_v2_1 (by decide +kernel), from4 m c main_v2_1 (by decide +kernel)]; exact up3 m c)
    (by rw [from6 m c main_arg2 (by decide +kernel), from5 m c main_arg2 (by decide +kernel), from4 m c main_arg2 (by decide +kernel), from3 m c main_arg2 (by decide +kernel), from2 m c main_arg2 (by decide +kernel)]; exact (args1 m c).2.2.1)

/-- The hidden layer, the down weight and the block's input are kept up to the last call. -/
theorem keep7 (b : Ref sig .tc) (h1 : ∀ w : Fin cfg1.W, Pipeline.arrRef cfg1.spec w = b → (cfg1.win w).isOut = false)
    (h2 : ∀ w : Fin cfg2.W, Pipeline.arrRef cfg2.spec w = b → (cfg2.win w).isOut = false)
    (h3 : ∀ w : Fin cfg3.W, Pipeline.arrRef cfg3.spec w = b → (cfg3.win w).isOut = false)
    (h4 : ∀ w : Fin cfg4.W, Pipeline.arrRef cfg4.spec w = b → (cfg4.win w).isOut = false)
    (h5 : ∀ w : Fin cfg5.W, Pipeline.arrRef cfg5.spec w = b → (cfg5.win w).isOut = false) : (at7 m).at c b = (at2 m).at c b := by
  rw [from7 m c b h5, from6 m c b h4, from5 m c b h3, from4 m c b h2, from3 m c b h1]

theorem res_Y : Fn (a := 8192) (b := 1024) ((at8 m).at c main_v7) (out (eA m c) (eG m c) (eU m c) (eD m c) (eY m c)) := by
  rw [show (at8 m).at c main_v7 = _ from next_arr launch6 (at7 m) (downDat (at7 m)) c 3]
  refine down_out (at7 m) c (by rw [keep7 m c main_v1_2]; exact hid2 m c; all_goals decide +kernel) ?_ ?_
  · rw [keep7 m c main_arg3, from2 m c main_arg3]; exact (args1 m c).2.2.2; all_goals decide +kernel
  · rw [keep7 m c main_arg5, from2 m c main_arg5]; exact input1 m c; all_goals decide +kernel

end Cert.Ffn

end
-- ==== Proof.FfnRef.lean ====
/- The feed-forward block's gradients and its output in the reference, entry by entry: what `jax.vjp` gives is what the calls compute, where
   the activations, the up and down weights and the incoming gradient are finite. -/
module

public import proofs.«01_k».proof.Proof.Gen.Reference2Ideal.Read
public import proofs.«01_k».proof.Proof.FfnGrad
public import Idealize.ShloMosaic.Lib.ValueIdx

@[expose] public section

set_option maxRecDepth 16384
set_option maxHeartbeats 1000000

noncomputable section

open Idealize.ShloMosaic Idealize.ShloMosaic.TcCoe Idealize.ShloMosaic.ValueIdx
open scoped BigOperators

namespace Cert.Ffn
open Cert.Products
open Cert.Reference2Ideal Cert.Reference2Ideal.Read

/-! Arithmetic of the extended reals. -/

theorem half_eq : half = ((1 / 2 : ℝ) : EReal) := by
  simp [half, Ideal.ofBits, Ideal.ieee, -EReal.coe_mul]; norm_num

theorem half_nonneg : 0 ≤ half := by
  rw [half_eq, ← EReal.coe_zero, EReal.coe_le_coe_iff]; norm_num

/-- A half goes into a sum. -/
theorem half_sum {n : ℕ} (f : Fin n → EReal) : half * ∑ k, f k = ∑ k, half * f k := by
  induction n with
  | zero => simp
  | succ n ih =>
    rw [Fin.sum_univ_castSucc, Fin.sum_univ_castSucc, ← ih,
      EReal.left_distrib_of_nonneg_of_ne_top half_nonneg (by rw [half_eq]; exact EReal.coe_ne_top _)]

/-- A number that is not infinite. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.sum {n : ℕ} (f : Fin n → EReal) (h : ∀ k, Real' (f k)) : Real' (∑ k, f k) := by
  induction n with
  | zero => exact ⟨0, by simp⟩
  | succ n ih =>
    obtain ⟨a, ha⟩ := ih (fun k => f k.castSucc) fun k => h _
    obtain ⟨b, hb⟩ := h (Fin.last n)
    exact ⟨a + b, by rw [Fin.sum_univ_castSucc, ha, hb, EReal.coe_add]⟩

/-- The two ways to write the gradient through the gate's activation agree where the gradient that comes in is finite. -/
theorem silu_grad {c : EReal} (g : EReal) (hc : Real' c) :
    c * Ideal.logistic g + g * c * (Ideal.logistic g * (1 - Ideal.logistic g)) = c * (Ideal.logistic g * (1 + g * (1 - Ideal.logistic g))) := by
  obtain ⟨c, rfl⟩ := hc
  induction g using EReal.rec with
  | bot => simp
  | top =>
    have h : (1 : EReal) - 1 = 0 := by rw [← EReal.coe_one, ← EReal.coe_sub]; simp
    simp [h]
  | coe g =>
    rw [Ideal.logistic_coe]
    generalize (1 + Real.exp (-g))⁻¹ = s
    rw [← EReal.coe_one]
    simp only [← EReal.coe_mul, ← EReal.coe_sub, ← EReal.coe_add]
    congr 1; ring

theorem one_word : Ideal.ofBits .f32 0x3F800000#32 = 1 := one_f32

/-! The reference's stages. -/

section Stages

variable {x0 : (⟨S8192x1024, .bf16⟩ : BufTy).Contents (Elt Ideal)} {x1 x2 : (⟨S1024x3072, .bf16⟩ : BufTy).Contents (Elt Ideal)}
  {x3 : (⟨S3072x1024, .bf16⟩ : BufTy).Contents (Elt Ideal)} {x4 : (⟨S8192x1024, .f32⟩ : BufTy).Contents (Elt Ideal)}
  {A G U D X : ℕ → ℕ → EReal}

theorem ref_gate (h0 : Fn (a := 8192) (b := 1024) x0 A) (h1 : Fn (a := 1024) (b := 3072) x1 G) :
    Fn (a := 8192) (b := 3072) (val_main_v4 (F := Ideal) x0 x1) (gate A G) := fun i =>
  (val_main_v4_apply x0 x1 i).trans (Finset.sum_congr rfl fun k _ => congrArg₂ (· * ·) (h0 (lidx_main_v4 i k)) (h1 (ridx_main_v4 i k)))

theorem ref_up (h0 : Fn (a := 8192) (b := 1024) x0 A) (h2 : Fn (a := 1024) (b := 3072) x2 U) :
    Fn (a := 8192) (b := 3072) (val_main_v6 (F := Ideal) x0 x2) (upp A U) := fun i =>
  (val_main_v6_apply x0 x2 i).trans (Finset.sum_congr rfl fun k _ => congrArg₂ (· * ·) (h0 (lidx_main_v6 i k)) (h2 (ridx_main_v6 i k)))

theorem ref_sig (h0 : Fn (a := 8192) (b := 1024) x0 A) (h1 : Fn (a := 1024) (b := 3072) x1 G) :
    Fn (a := 8192) (b := 3072) (val_main_v5_2 (F := Ideal) x0 x1) fun i j => Ideal.logistic (gate A G i j) := fun i => by
  rw [val_main_v5_2_apply, val_main_call0_v4_apply, val_main_call0_cst_0_apply, val_main_call0_v3_apply, val_main_call0_v2_apply,
    val_main_call0_cst_apply, val_main_call0_v1_apply, val_main_call0_v0_apply, ref_gate h0 h1 i]
  show Ideal.div (Ideal.ofBits .f32 0x3F800000#32) (Ideal.ofBits .f32 0x3F800000#32 + Ideal.exp (-(gate A G (i 0).val (i 1).val))) = _
  rw [one_word]
  rfl

theorem ref_slope (h0 : Fn (a := 8192) (b := 1024) x0 A) (h1 : Fn (a := 1024) (b := 3072) x1 G) :
    Fn (a := 8192) (b := 3072) (val_main_v5_1 (F := Ideal) x0 x1) fun i j => Ideal.logistic (gate A G i j) * (1 - Ideal.logistic (gate A G i j)) := fun i => by
  rw [val_main_v5_1_apply, val_main_call0_v7_apply, val_main_call0_v6_apply, val_main_call0_cst_1_apply, ref_sig h0 h1 i]
  show Ideal.logistic _ * (Ideal.ofBits .f32 0x3F800000#32 - Ideal.logistic _) = _
  rw [one_word]

theorem ref_silu (h0 : Fn (a := 8192) (b := 1024) x0 A) (h1 : Fn (a := 1024) (b := 3072) x1 G) :
    Fn (a := 8192) (b := 3072) (val_main_v5_0 (F := Ideal) x0 x1) fun i j => gate A G i j * Ideal.logistic (gate A G i j) := fun i =>
  congrArg₂ (fun a b : EReal => a * b) (ref_gate h0 h1 i) (ref_sig h0 h1 i)

theorem ref_hidden (h0 : Fn (a := 8192) (b := 1024) x0 A) (h1 : Fn (a := 1024) (b := 3072) x1 G) (h2 : Fn (a := 1024) (b := 3072) x2 U) :
    Fn (a := 8192) (b := 3072) (val_main_v7 (F := Ideal) x0 x1 x2) (hidden A G U) := fun i =>
  congrArg₂ (fun a b : EReal => a * b) (ref_silu h0 h1 i) (ref_up h0 h2 i)

theorem ref_in (h4 : Fn (a := 8192) (b := 1024) x4 X) :
    Fn (a := 8192) (b := 1024) (val_main_v12 (F := Ideal) x4) fun i j => half * X i j := fun i => by
  rw [val_main_v12_apply, val_main_v11_apply, val_main_cst_0_apply, h4 i]
  rfl

theorem ref_hidIn (h3 : Fn (a := 3072) (b := 1024) x3 D) (h4 : Fn (a := 8192) (b := 1024) x4 X) :
    Fn (a := 8192) (b := 3072) (val_main_v15 (F := Ideal) x3 x4) (hidIn D X) := fun i =>
  (val_main_v15_apply x3 x4 i).trans ((Finset.sum_congr rfl fun k _ =>
    (congrArg₂ (· * ·) (ref_in h4 (lidx_main_v15 i k)) (h3 (ridx_main_v15 i k))).trans (mul_assoc _ _ _)).trans (half_sum _).symm)

theorem ref_upGrad (h0 : Fn (a := 8192) (b := 1024) x0 A) (h1 : Fn (a := 1024) (b := 3072) x1 G) (h3 : Fn (a := 3072) (b := 1024) x3 D)
    (h4 : Fn (a := 8192) (b := 1024) x4 X) : Fn (a := 8192) (b := 3072) (val_main_v16 (F := Ideal) x0 x1 x3 x4) (upGrad A G D X) := fun i =>
  (congrArg₂ (fun a b : EReal => a * b) (ref_silu h0 h1 i) (ref_hidIn h3 h4 i)).trans (mul_comm _ _)

theorem ref_siluIn (h0 : Fn (a := 8192) (b := 1024) x0 A) (h2 : Fn (a := 1024) (b := 3072) x2 U) (h3 : Fn (a := 3072) (b := 1024) x3 D)
    (h4 : Fn (a := 8192) (b := 1024) x4 X) : Fn (a := 8192) (b := 3072) (val_main_v17 (F := Ideal) x0 x2 x3 x4) fun i j => hidIn D X i j * upp A U i j := fun i =>
  congrArg₂ (fun a b : EReal => a * b) (ref_hidIn h3 h4 i) (ref_up h0 h2 i)

/-- The gate's gradient, where what comes into the activation is finite. -/
theorem ref_gateGrad (h0 : Fn (a := 8192) (b := 1024) x0 A) (h1 : Fn (a := 1024) (b := 3072) x1 G) (h2 : Fn (a := 1024) (b := 3072) x2 U)
    (h3 : Fn (a := 3072) (b := 1024) x3 D) (h4 : Fn (a := 8192) (b := 1024) x4 X) (hc : ∀ i j, Real' (hidIn D X i j * upp A U i j)) :
    Fn (a := 8192) (b := 3072) (val_main_v21 (F := Ideal) x0 x1 x2 x3 x4) (gateGrad A G U D X) := fun i =>
  (congrArg₂ (fun a b : EReal => a + b) (congrArg₂ (fun a b : EReal => a * b) (ref_siluIn h0 h2 h3 h4 i) (ref_sig h0 h1 i))
    (congrArg₂ (fun a b : EReal => a * b) (congrArg₂ (fun a b : EReal => a * b) (ref_gate h0 h1 i) (ref_siluIn h0 h2 h3 h4 i)) (ref_slope h0 h1 i))).trans
    (silu_grad _ (hc _ _))

/-! The five results. -/

theorem ref_D (h0 : Fn (a := 8192) (b := 1024) x0 A) (h1 : Fn (a := 1024) (b := 3072) x1 G) (h2 : Fn (a := 1024) (b := 3072) x2 U)
    (h4 : Fn (a := 8192) (b := 1024) x4 X) : Fn (a := 3072) (b := 1024) (val_main_v28 (F := Ideal) x0 x1 x2 x4) (gradD A G U X) := fun i => by
  refine (val_main_v28_apply (F := Ideal) x0 x1 x2 x4 i).trans ?_
  show val_main_v14 (F := Ideal) x0 x1 x2 x4 i = _
  rw [val_main_v14_apply, val_main_v13_apply]
  refine (Finset.sum_congr rfl fun k _ => (congrArg₂ (· * ·) (ref_in h4 (lidx_main_v13 (idx_main_v14 i) k)) (ref_hidden h0 h1 h2 (ridx_main_v13 (idx_main_v14 i) k))).trans
    ((mul_assoc _ _ _).trans (congrArg (half * ·) (mul_comm _ _)))).trans ?_
  exact (half_sum _).symm.trans (mul_comm _ _)

theorem ref_U (h0 : Fn (a := 8192) (b := 1024) x0 A) (h1 : Fn (a := 1024) (b := 3072) x1 G) (h3 : Fn (a := 3072) (b := 1024) x3 D)
    (h4 : Fn (a := 8192) (b := 1024) x4 X) : Fn (a := 1024) (b := 3072) (val_main_v27 (F := Ideal) x0 x1 x3 x4) (gradU A G D X) := fun i => by
  refine (val_main_v27_apply (F := Ideal) x0 x1 x3 x4 i).trans ?_
  show val_main_v19 (F := Ideal) x0 x1 x3 x4 i = _
  rw [val_main_v19_apply, val_main_v18_apply]
  exact Finset.sum_congr rfl fun k _ => (congrArg₂ (fun a b : EReal => a * b) (ref_upGrad h0 h1 h3 h4 (lidx_main_v18 (idx_main_v19 i) k)) (h0 (ridx_main_v18 (idx_main_v19 i) k))).trans (mul_comm _ _)

theorem ref_G (h0 : Fn (a := 8192) (b := 1024) x0 A) (h1 : Fn (a := 1024) (b := 3072) x1 G) (h2 : Fn (a := 1024) (b := 3072) x2 U)
    (h3 : Fn (a := 3072) (b := 1024) x3 D) (h4 : Fn (a := 8192) (b := 1024) x4 X) (hc : ∀ i j, Real' (hidIn D X i j * upp A U i j)) :
    Fn (a := 1024) (b := 3072) (val_main_v26 (F := Ideal) x0 x1 x2 x3 x4) (gradG A G U D X) := fun i => by
  refine (val_main_v26_apply (F := Ideal) x0 x1 x2 x3 x4 i).trans ?_
  show val_main_v23 (F := Ideal) x0 x1 x2 x3 x4 i = _
  rw [val_main_v23_apply, val_main_v22_apply]
  exact Finset.sum_congr rfl fun k _ => (congrArg₂ (fun a b : EReal => a * b) (ref_gateGrad h0 h1 h2 h3 h4 hc (lidx_main_v22 (idx_main_v23 i) k)) (h0 (ridx_main_v22 (idx_main_v23 i) k))).trans (mul_comm _ _)

theorem ref_A (h0 : Fn (a := 8192) (b := 1024) x0 A) (h1 : Fn (a := 1024) (b := 3072) x1 G) (h2 : Fn (a := 1024) (b := 3072) x2 U)
    (h3 : Fn (a := 3072) (b := 1024) x3 D) (h4 : Fn (a := 8192) (b := 1024) x4 X) (hc : ∀ i j, Real' (hidIn D X i j * upp A U i j)) :
    Fn (a := 8192) (b := 1024) (val_main_v25 (F := Ideal) x0 x1 x2 x3 x4) (gradA A G U D X) := fun i =>
  (congrArg₂ (fun a b : EReal => a + b)
    ((val_main_v20_apply x0 x1 x2 x3 x4 i).trans (Finset.sum_congr rfl fun k _ => congrArg₂ (· * ·) (ref_upGrad h0 h1 h3 h4 (lidx_main_v20 i k)) (h2 (ridx_main_v20 i k))))
    ((val_main_v24_apply x0 x1 x2 x3 x4 i).trans (Finset.sum_congr rfl fun k _ => congrArg₂ (· * ·) (ref_gateGrad h0 h1 h2 h3 h4 hc (lidx_main_v24 i k)) (h1 (ridx_main_v24 i k))))).trans
    (add_comm _ _)

/-- The output. -/
theorem ref_Y {x5 : (⟨S8192x1024, .f32⟩ : BufTy).Contents (Elt Ideal)} {Y : ℕ → ℕ → EReal} (h0 : Fn (a := 8192) (b := 1024) x0 A)
    (h1 : Fn (a := 1024) (b := 3072) x1 G) (h2 : Fn (a := 1024) (b := 3072) x2 U) (h3 : Fn (a := 3072) (b := 1024) x3 D) (h5 : Fn (a := 8192) (b := 1024) x5 Y) :
    Fn (a := 8192) (b := 1024) (val_main_v29 (F := Ideal) x0 x1 x2 x3 x5) (out A G U D Y) := fun i => by
  rw [val_main_v29_apply, val_main_v10_apply, val_main_v9_apply, val_main_cst_apply, val_main_v8_apply, h5 i]
  refine (add_comm _ _).trans (congrArg (· + Y (i 0).val (i 1).val) ((mul_comm _ _).trans (congrArg (· * half) ?_)))
  exact Finset.sum_congr rfl fun k _ => congrArg₂ (fun a b : EReal => a * b) (ref_hidden h0 h1 h2 (lidx_main_v8 i k)) (h3 (ridx_main_v8 i k))

/-- What comes into the activation is finite where the activations, the two weights and the incoming gradient are. -/
theorem finite_in (hA : ∀ i j, Real' (A i j)) (hU : ∀ i j, Real' (U i j)) (hD : ∀ i j, Real' (D i j)) (hX : ∀ i j, Real' (X i j)) (i j : ℕ) :
    Real' (hidIn D X i j * upp A U i j) :=
  (Real'.mul ⟨1 / 2, half_eq⟩ (Real'.sum _ fun _ => (hX _ _).mul (hD _ _))).mul (Real'.sum _ fun _ => (hA _ _).mul (hU _ _))

end Stages

end Cert.Ffn

end
-- ==== Proof.FfnClaims.lean ====
/- The feed-forward block's backward pass and the last product of its forward pass: the calls run, and their five results are the
   reference's. -/
module

public import proofs.«01_k».proof.Defs
public import proofs.«01_k».proof.Proof.FfnRef
public import proofs.«01_k».proof.Proof.Gen.Reference2Ideal.Run
public import Idealize.ShloMosaic.Lib.StableHlo.Run
public import Idealize.ShloMosaic.Lib.IdealHost

@[expose] public section

set_option maxRecDepth 16384
set_option maxHeartbeats 1000000

noncomputable section

open Idealize.ShloMosaic Idealize.ShloMosaic.TcCoe Idealize.ShloMosaic.ValueIdx Idealize.SL.Sem

namespace Cert.Ffn
open Cert.Kernel2Ideal Cert.Kernel2Ideal.Gen
open Cert.Products

/-- The precondition's side conditions. -/
instance pre_facts : Cert.Pre_finite_inputs.Facts where
  bitsLt_bf16_f32 := by decide
  bcast_S_S8192x1024 := by decide
  bcast_S_S1024x3072 := by decide
  bcast_S_S3072x1024 := by decide

/-- The kernel runs in extended reals, its arguments end unchanged and every counter is zero. -/
theorem frame_ideal : Cert.quiescent_Kernel2Ideal := fun m ρ _ => run_args (F := Ideal) m ρ

theorem frame_ideal_pre : Cert.quiescent_Kernel2Ideal_pre_finite_inputs := fun m ρ _ => run_args (F := Ideal) m ρ

/-- The reference runs, its arguments end unchanged and every counter is zero. -/
theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

theorem frame_reference_pre : Cert.quiescent_Reference2Ideal_pre_finite_inputs := fun m ρ _ => frame_reference m ρ trivial

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A number strictly between the infinities is finite. -/
theorem finite_of_word {x : EReal} (h : IntOp.andi (Ideal.cmp .ogt x (Ideal.ofBits .f32 0xFF800000#32)) (Ideal.cmp .olt x (Ideal.ofBits .f32 0x7F800000#32)) = 1#1) : Real' x := by
  rw [neg_inf, pos_inf] at h
  induction x using EReal.rec with
  | bot => simp [Ideal.cmp, IntOp.andi] at h
  | top => simp [Ideal.cmp, IntOp.andi] at h
  | coe r => exact ⟨r, rfl⟩

/-- A matrix of finite entries is finite at any two numbers. -/
theorem ext_finite {a b : ℕ} {v : (Mat a b).Idx → EReal} (h : ∀ i, Real' (v i)) (i j : ℕ) : Real' (ext v i j) := by
  unfold ext
  split
  · exact h _
  · exact ⟨0, by simp⟩

variable (m : (ℓ : Loc nD τ sig) → Buf (Elt Ideal) ℓ)

/-- What the precondition says. -/
theorem finite_args (hp : Cert.Pre_Kernel2Ideal_finite_inputs m) (c : Dev nD) :
    (∀ i j, Real' (eA m c i j)) ∧ (∀ i j, Real' (eU m c i j)) ∧ (∀ i j, Real' (eD m c i j)) ∧ (∀ i j, Real' (eX m c i j)) := by
  obtain ⟨p0, p1, p2, p3⟩ := hp c
  refine ⟨ext_finite fun i => finite_of_word ?_, ext_finite fun i => finite_of_word ?_, ext_finite fun i => finite_of_word ?_, ext_finite fun i => finite_of_word ?_⟩
  · exact congrFun p0 i
  · exact congrFun p1 i
  · exact congrFun p2 i
  · exact congrFun p3 i

/-- From memories that agree on the arguments, where those that must be are finite, the kernel and the reference end with equal results. -/
theorem algebraic : Cert.algebraic_Kernel2Ideal_Reference2Ideal_pre_finite_inputs := by
  intro m g m' g' hp hag
  refine ⟨fun c => (at8 m).at c main_v6, fun c => (at8 m).at c main_v4, fun c => (at8 m).at c main_v5, fun c => (at8 m).at c main_v3,
    fun c => (at8 m).at c main_v7, ?_, ?_⟩
  · refine (θ_run defs _ _).mono (fun r h c => ?_) (run_all (F := Ideal) m g)
    exact ⟨h.1 c main_v6 (Finset.mem_filter.mpr ⟨StableHlo.devRef_mem_tcRefs _, by decide⟩),
      h.1 c main_v4 (Finset.mem_filter.mpr ⟨StableHlo.devRef_mem_tcRefs _, by decide⟩),
      h.1 c main_v5 (Finset.mem_filter.mpr ⟨StableHlo.devRef_mem_tcRefs _, by decide⟩),
      h.1 c main_v3 (Finset.mem_filter.mpr ⟨StableHlo.devRef_mem_tcRefs _, by decide⟩),
      h.1 c main_v7 (Finset.mem_filter.mpr ⟨StableHlo.devRef_mem_tcRefs _, by decide⟩),
      args_end m h.1 c⟩
  · refine (θ_run Cert.Reference2Ideal.defs _ _).mono (fun r h c => ?_) (Cert.Reference2Ideal.Value.run (F := Ideal) m' g')
    obtain ⟨h0, h1, h2, h3, h4, hargs⟩ := h c
    obtain ⟨e0, e1, e2, e3, e4, e5⟩ := hag c
    obtain ⟨fA, fU, fD, fX⟩ := finite_args m hp c
    have hc := finite_in fA fU fD fX
    have k0 := h0.trans (Cert.Reference2Ideal.Read.val_main_v25_eq (F := Ideal) _ _ _ _ _)
    rw [e0, e1, e2, e3, e4] at k0
    have k1 := h1.trans (Cert.Reference2Ideal.Read.val_main_v26_eq (F := Ideal) _ _ _ _ _)
    rw [e0, e1, e2, e3, e4] at k1
    have k2 := h2.trans (Cert.Reference2Ideal.Read.val_main_v27_eq (F := Ideal) _ _ _ _)
    rw [e0, e1, e3, e4] at k2
    have k3 := h3.trans (Cert.Reference2Ideal.Read.val_main_v28_eq (F := Ideal) _ _ _ _)
    rw [e0, e1, e2, e4] at k3
    have k4 := h4.trans (Cert.Reference2Ideal.Read.val_main_v29_eq (F := Ideal) _ _ _ _ _)
    rw [e0, e1, e2, e3, e5] at k4
    exact ⟨k0.trans ((ref_A (ext_fn _) (ext_fn _) (ext_fn _) (ext_fn _) (ext_fn _) hc).eq (res_A m c)),
      k1.trans ((ref_G (ext_fn _) (ext_fn _) (ext_fn _) (ext_fn _) (ext_fn _) hc).eq (res_G m c)),
      k2.trans ((ref_U (ext_fn _) (ext_fn _) (ext_fn _) (ext_fn _)).eq (res_U m c)),
      k3.trans ((ref_D (ext_fn _) (ext_fn _) (ext_fn _) (ext_fn _)).eq (res_D m c)),
      k4.trans ((ref_Y (ext_fn _) (ext_fn _) (ext_fn _) (ext_fn _) (ext_fn _)).eq (res_Y m c)), hargs⟩

end Cert.Ffn

end
-- ==== Proof.FfnBits.lean ====
/- The feed-forward block's calls in bits: the program has the text of its idealization, so that run is its run. -/
module

public import proofs.«01_k».proof.Defs
public import proofs.«01_k».proof.Proof.FfnRun
public import proofs.«01_k».proof.Proof.Gen.Kernel2

@[expose] public section

set_option maxRecDepth 16384
set_option maxHeartbeats 10000000

noncomputable section

open Idealize.ShloMosaic Idealize.ShloMosaic.TcCoe Idealize.SL.Sem

namespace Cert.Ffn

/-- The calls' bodies are the same. -/
theorem bodies : Cert.Kernel2.defs₀ (F := Bits) = Cert.Kernel2Ideal.defs₀ (F := Bits) := by
  funext p l a
  cases p with
  | tc =>
    match l, a with
    | (0 : Fin 7), (t, s) => exact (rfl)
    | (1 : Fin 7), (t, s) => exact (rfl)
    | (2 : Fin 7), (t, s) => exact (rfl)
    | (3 : Fin 7), (t, s) => exact (rfl)
    | (4 : Fin 7), (t, s) => exact (rfl)
    | (5 : Fin 7), (t, s) => exact (rfl)
    | (6 : Fin 7), (t, s) => exact (rfl)
    | ⟨_ + 7, h⟩, _ => exact absurd h (Nat.not_lt.2 (Nat.le_add_left _ _))
  | _ => exact (rfl)

/-- So are the calls. -/
theorem calls : Cert.Kernel2.defs (F := Bits) = Cert.Kernel2Ideal.defs (F := Bits) :=
  congrArg (Pipeline.defs (Cert.Kernel2Ideal.pcfgs (F := Bits))) bodies

/-- The kernel runs in bits, its arguments end unchanged and every counter is zero. -/
theorem frame_kernel : Cert.quiescent_Kernel2 := fun m ρ _ => by
  have h := run_args (F := Bits) m ρ
  rw [← calls] at h
  exact h

end Cert.Ffn

end
-- ==== Proof.ProjKit.lean ====
/- The parts of the projection program's run that are the same for each of its thirteen kernel calls: the proof data of
   a call from the contents it is entered at, the contents it leaves, and its segment of the run. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Regions
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The contents of a core's unscoped buffers, for every core. -/
abbrev Held (F : FTy → Type) : Type := Dev nD → Valuation τ sig (Elt F)

/-- The same, read at a TensorCore reference. -/
abbrev Held.at (W : Held F) : (c : Dev nD) → (b : Ref sig .tc) → Buf (Elt F) ((c : Thread nD τ).loc b) := fun c b => W c b

/-- The proof data of a call entered at contents `W`: what its body leaves in each window and what it keeps between points
    are given; nothing is owed and every array is held in full. -/
def data (cfg : Cfg sig Λ₀) (W : Held F) (c : Dev nD)
    (after : (w : Fin cfg.W) → Fin cfg.N → (cfg.win w).block.Idx → Elt F (cfg.win w).elt)
    (Φ : Fin (cfg.N + 1) → sProp 𝕄) : Dat τ (Elt F) Unit ℕ (UR sig nD τ) ℕ cfg c where
  A w := W.at c (Pipeline.arrRef cfg.spec w)
  after := after
  Φ := Φ
  q _ := fullShare
  owed _ := 0

/-- What a window's block holds at a point when its array is as the call finds it. -/
def block (cfg : Cfg sig Λ₀) (W : Held F) (c : Dev nD) (w : Fin cfg.W) (t : Fin cfg.N) :
    ((cfg.win w).xblock (cfg.grid.coords t)).Idx → Elt F (cfg.win w).elt :=
  ((cfg.win w).blk t).view.read (Elt F) (W.at c (Pipeline.arrRef cfg.spec w))

abbrev adm : (p : Fin 13) → (pcfgs (F := F) p).Adm := fun p => (cfgs p).toPCfg_adm
abbrev L : GSem nD τ sig → Finset Unit := fun _ => ∅
abbrev lv : GSem nD τ sig → Unit → ℕ := fun _ _ => 0

/-- What is carried from segment to segment besides the buffers: the generator's register and the core's empty debts. -/
abbrev rest (c : Dev nD) : sProp 𝕄 := iprop((∃ r, prngReg c r) ∗ ∃ D, owes (c : Thread nD τ) (0 : CellTallies nD τ sig Unit) D)

section Next

variable {p : Fin 13} (launch : Pipeline.LaunchFacts (nD := nD) (τ := τ) cfgs p) (W : Held F)
  (dat : (c : Dev nD) → Dat τ (Elt F) Unit ℕ (UR sig nD τ) ℕ (cfgs p) c)

/-- The contents after a call entered at `W`: its arrays as the pipeline leaves them, all else as before. -/
def next : Held F := fun c => Pipeline.withArrays (cfgs p).spec c (W c) fun w => (dat c).arrAt w (cfgs p).N

include launch

theorem next_arr (c : Dev nD) (w : Fin (cfgs p).W) :
    (next W dat).at c (Pipeline.arrRef (cfgs p).spec w) = (dat c).arrAt w (cfgs p).N := by
  unfold next; exact Pipeline.withArrays_arr (cfgs p).spec launch.win.arr_inj c _ _ w

omit launch in
theorem next_of_ne (c : Dev nD) (b : Ref sig .tc) (hb : ∀ w, Pipeline.arrRef (cfgs p).spec w ≠ b) :
    (next W dat).at c b = W.at c b := by
  unfold next; exact Pipeline.withArrays_of_ne (cfgs p).spec c _ _ b hb

/-- A buffer that no output window writes is left as it was. -/
theorem next_of (hA : ∀ c w, (dat c).A w = W.at c (Pipeline.arrRef (cfgs p).spec w)) (c : Dev nD) (b : Ref sig .tc)
    (h : ∀ w : Fin (cfgs p).W, Pipeline.arrRef (cfgs p).spec w = b → ((cfgs p).win w).isOut = false) :
    (next W dat).at c b = W.at c b := by
  by_cases hw : ∃ w : Fin (cfgs p).W, Pipeline.arrRef (cfgs p).spec w = b
  · obtain ⟨w, rfl⟩ := hw
    exact (next_arr launch W dat c w).trans (((dat c).arrAt_in w (h w rfl) _).trans (hA c w))
  · exact next_of_ne W dat c b fun w e => hw ⟨w, e⟩

end Next

set_option backward.isDefEq.respectTransparency.types false in
/-- The segment of one call: entered with every unscoped buffer at `V`, left with them at `V'`. -/
def region (pdats : (p : Fin 13) → (c : Dev nD) → Dat τ (Elt F) Unit ℕ (UR sig nD τ) ℕ (Pipeline.pin (pcfgs (F := F)) adm p) c)
    (p : Fin 13) (launch : Pipeline.LaunchFacts (nD := nD) (τ := τ) cfgs p) (V V' : Held F)
    (hA : ∀ c w, (pdats p c).A w = V.at c (Pipeline.arrRef (Pipeline.pin (pcfgs (F := F)) adm p).spec w))
    (hq : ∀ c w, (pdats p c).q w = fullShare) (howed : ∀ c t, (pdats p c).owed t = 0)
    (hrec : ∀ c, (pdats p c).recorded 0 = Set.univ)
    (hbody : ∀ c, BodyObligationLoose (pdats p c) defs₀ Variants.none () Set.univ)
    (hfirst : ∀ c, iprop(Pipeline.scopedRest (Pipeline.pin (pcfgs (F := F)) adm p).spec c ∗ ∃ r, prngReg c r) ⊢ (pdats p c).Φ 0)
    (hlast : ∀ c, (pdats p c).Φ (Fin.last _) ⊢ iprop(Pipeline.scopedRest (Pipeline.pin (pcfgs (F := F)) adm p).spec c ∗ ∃ r, prngReg c r))
    (hF : ∀ c w, (pdats p c).arrAt w (Pipeline.pin (pcfgs (F := F)) adm p).N = V'.at c (Pipeline.arrRef (Pipeline.pin (pcfgs (F := F)) adm p).spec w))
    (hrest : ∀ c b, b ∉ Finset.univ.image (Pipeline.arrRef (Pipeline.pin (pcfgs (F := F)) adm p).spec) → V'.at c b = V.at c b) :
    Pipeline.RegionSeg (pcfgs (F := F)) adm pdats () defs₀ Variants.none L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (V.at c)
  hentry c := by
    rw [Pipeline.ownSems0_none]
    have hsplit := Pipeline.arrays_of_unscopedBufs (p := p) (pcfgs (F := F)) adm pdats launch.win launch.arr_whole c
      ((pdats p c).share_full (hq c)) (V.at c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%D, HO⟩; iexists D; isplitr; · ipureintro; exact fun _ _ => Or.inl (hrec c ▸ Set.mem_univ _)
      iexact HO
    isplitl [Hp]; · iexact Hp
    iexact Hrest
  hin c := by
    iintro ⟨Hp, -, Hr⟩
    iapply (hfirst c)
    isplitl [Hr]; · iexact Hr
    iexact Hp
  hout c := by
    rw [Pipeline.ownSems0_none]
    iintro H
    ihave H' := (hlast c) $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (V.at c) (V'.at c) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%D, -, HO⟩; iexists D; iexact HO

end Cert.Proj

end
-- ==== Proof.ProjBody.lean ====
/- What the bodies of the projection program's calls are made of, for blocks of any size: a product written out at once, and the three
   steps of a product that is added up over several points — the sum is cleared, a product of two blocks is added to it, it is
   written out — each done at some of the points only. -/
module

public import proofs.«01_k».proof.Proof.ProjKit

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The shape of a block of `a` rows and `b` columns. -/
abbrev Two (a b : ℕ) : Shape := ⟨2, ![a, b]⟩

theorem fits (a b : ℕ) (x : Fin 2) : (![0, 0] : Fin 2 → ℕ) x + (Two a b).size x ≤ (Two a b).size x := by
  fin_cases x <;> simp

/-- A block, whole. -/
abbrev full (a b : ℕ) : Rect (Two a b) := Rect.unit (s := Two a b) ![0, 0] (Two a b).size (fits a b)

theorem zeros : (![0, 0] : Fin 2 → ℕ) = fun _ => 0 := by funext k; fin_cases k <;> rfl

theorem covers (a b : ℕ) (e : EltTy) (p : Vec F (Two a b) e) (L : List (View.Piece (Elt F) (Two a b) e)) (j : (Two a b).Idx) :
    ∃ pc ∈ ((⟨full a b, p⟩ : View.Piece (Elt F) (Two a b) e) :: L), j ∈ pc.1.set :=
  ⟨_, List.mem_cons_self, View.mem_set_unit_zero zeros (fits a b) j⟩

/-- Whether a word is at least `lo` and below `hi`, as a body tests it. -/
abbrev within (k lo hi : BitVec 32) : BitVec 1 := Scalar.cmpi .ne (Scalar.extui (Scalar.andi (Scalar.cmpi .sge k lo) (Scalar.cmpi .slt k hi))) 0#32
/-- Whether a word is `v`, as a body tests it. -/
abbrev equals (k v : BitVec 32) : BitVec 1 := Scalar.cmpi .ne (Scalar.extui (Scalar.cmpi .eq k v)) 0#32

theorem equals_iff (k v : ℕ) (hk : k < 8) (hv : v < 8) : equals (BitVec.ofNat 32 k) (BitVec.ofNat 32 v) = 1#1 ↔ k = v := by
  have h : ∀ k v : Fin 8, equals (BitVec.ofNat 32 k.val) (BitVec.ofNat 32 v.val) = 1#1 ↔ k.val = v.val := by decide +kernel
  exact h ⟨k, hk⟩ ⟨v, hv⟩

theorem within_iff (k lo hi : ℕ) (hk : k < 8) (hl : lo < 9) (hh : hi < 9) :
    within (BitVec.ofNat 32 k) (BitVec.ofNat 32 lo) (BitVec.ofNat 32 hi) = 1#1 ↔ lo ≤ k ∧ k < hi := by
  have h : ∀ (k : Fin 8) (lo hi : Fin 9), within (BitVec.ofNat 32 k.val) (BitVec.ofNat 32 lo.val) (BitVec.ofNat 32 hi.val) = 1#1
      ↔ lo.val ≤ k.val ∧ k.val < hi.val := by decide +kernel
  exact h ⟨k, hk⟩ ⟨lo, hl⟩ ⟨hi, hh⟩

variable {a b a₁ b₁ a₂ b₂ : ℕ} (hm : 0 < (Two a b).numel) (h₁ : 0 < (Two a₁ b₁).numel) (h₂ : 0 < (Two a₂ b₂).numel)

/-- The product of two blocks, written out. -/
def once (mul : Vec F (Two a₁ b₁) .bf16 → Vec F (Two a₂ b₂) .bf16 → FVec F (Two a b) .f32)
    (x : Memref sig .tc .vmem (Two a₁ b₁) .bf16) (y : Memref sig .tc .vmem (Two a₂ b₂) .bf16) (o : Memref sig .tc .vmem (Two a b) .f32) :
    Prog (TpuEff nD τ sig (Elt F) Λ₀ .tc) PUnit := do
  let u : Vec F (Two a₁ b₁) .bf16 ← Prog.lift (.load x (full a₁ b₁).toLoadRect (View.loadsAt_vmem h₁))
  let v : Vec F (Two a₂ b₂) .bf16 ← Prog.lift (.load y (full a₂ b₂).toLoadRect (View.loadsAt_vmem h₂))
  let _ : Vec F (Two a b) .f32 ← Prog.lift (.load o (full a b).toLoadRect (View.loadsAt_vmem hm))
  Prog.lift (.store o (full a b) (mul u v) Finset.univ (View.stores_vmem_bits_univ hm rfl) (.inl rfl))
  pure ⟨⟩

/-- The sum is cleared, if `w` says so; then `rest`. -/
def clearIf (w : BitVec 1) (z : FVec F (Two a b) .f32) (s : Memref sig .tc .vmem (Two a b) .f32)
    (rest : Prog (TpuEff nD τ sig (Elt F) Λ₀ .tc) PUnit) : Prog (TpuEff nD τ sig (Elt F) Λ₀ .tc) PUnit := do
  if _h : w = 1#1 then do
    let _ : Vec F (Two a b) .f32 ← Prog.lift (.load s (full a b).toLoadRect (View.loadsAt_vmem hm))
    Prog.lift (.store s (full a b) z Finset.univ (View.stores_vmem_bits_univ hm rfl) (.inl rfl))
    pure ⟨⟩
  else do
    pure ⟨⟩
  rest

/-- A product of two blocks is added to the sum, if `w` says so; then `rest`. -/
def addIf (w : BitVec 1) (add : Vec F (Two a b) .f32 → Vec F (Two a₁ b₁) .bf16 → Vec F (Two a₂ b₂) .bf16 → FVec F (Two a b) .f32)
    (x : Memref sig .tc .vmem (Two a₁ b₁) .bf16) (y : Memref sig .tc .vmem (Two a₂ b₂) .bf16) (s : Memref sig .tc .vmem (Two a b) .f32)
    (rest : Prog (TpuEff nD τ sig (Elt F) Λ₀ .tc) PUnit) : Prog (TpuEff nD τ sig (Elt F) Λ₀ .tc) PUnit := do
  if _h : w = 1#1 then do
    let t : Vec F (Two a b) .f32 ← Prog.lift (.load s (full a b).toLoadRect (View.loadsAt_vmem hm))
    let u : Vec F (Two a₁ b₁) .bf16 ← Prog.lift (.load x (full a₁ b₁).toLoadRect (View.loadsAt_vmem h₁))
    let v : Vec F (Two a₂ b₂) .bf16 ← Prog.lift (.load y (full a₂ b₂).toLoadRect (View.loadsAt_vmem h₂))
    let _ : Vec F (Two a b) .f32 ← Prog.lift (.load s (full a b).toLoadRect (View.loadsAt_vmem hm))
    Prog.lift (.store s (full a b) (add t u v) Finset.univ (View.stores_vmem_bits_univ hm rfl) (.inl rfl))
    pure ⟨⟩
  else do
    pure ⟨⟩
  rest

/-- What `fin` makes of the sum is written out, if `w` says so; then `rest`. -/
def writeIf (w : BitVec 1) {e : EltTy} (fin : Vec F (Two a b) .f32 → Vec F (Two a b) e) (s : Memref sig .tc .vmem (Two a b) .f32)
    (o : Memref sig .tc .vmem (Two a b) e) (st : (o.access (full a b)).Stores Finset.univ)
    (rest : Prog (TpuEff nD τ sig (Elt F) Λ₀ .tc) PUnit) : Prog (TpuEff nD τ sig (Elt F) Λ₀ .tc) PUnit := do
  if _h : w = 1#1 then do
    let t : Vec F (Two a b) .f32 ← Prog.lift (.load s (full a b).toLoadRect (View.loadsAt_vmem hm))
    let _ : Vec F (Two a b) e ← Prog.lift (.load o (full a b).toLoadRect (View.loadsAt_vmem hm))
    Prog.lift (.store o (full a b) (fin t) Finset.univ st (.inl rfl))
    pure ⟨⟩
  else do
    pure ⟨⟩
  rest

theorem once_body (c : Dev nD) (mul : Vec F (Two a₁ b₁) .bf16 → Vec F (Two a₂ b₂) .bf16 → FVec F (Two a b) .f32)
    (mx : Memref sig .tc .vmem (Two a₁ b₁) .bf16) (my : Memref sig .tc .vmem (Two a₂ b₂) .bf16) (mo : Memref sig .tc .vmem (Two a b) .f32)
    (x : Vec F (Two a₁ b₁) .bf16) (y : Vec F (Two a₂ b₂) .bf16) (K : PUnit → sProp 𝕄) :
    iprop(owns (c : Thread nD τ) mx fullShare x ∗ owns (c : Thread nD τ) my fullShare y ∗ (∃ d, owns (c : Thread nD τ) mo fullShare d)
        ∗ (iprop(owns (c : Thread nD τ) mx fullShare x ∗ owns (c : Thread nD τ) my fullShare y
            ∗ owns (c : Thread nD τ) mo fullShare (mul x y)) -∗ K ⟨⟩))
      ⊢ wp frame (wpE (defs₀ (F := F)) Variants.none c none) Set.univ (once hm h₁ h₂ mul mx my mo) K := by
  unfold once owns
  iintro ⟨⟨%fx, %ex, Hx⟩, ⟨%fy, %ey, Hy⟩, ⟨%d, %fo, -, Ho⟩, Hk⟩
  subst ex ey
  sl_exec
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  rw [View.read_writes_eq_canon _ _ _ (covers _ _ _ _ _), View.canon_cons_unit_zero zeros]
  simp only [View.readAt_eq_ld, View.ld_unit_zero (S := Two a₁ b₁) zeros, View.ld_unit_zero (S := Two a₂ b₂) zeros]

theorem clearIf_body (c : Dev nD) (w : BitVec 1) (P : Prop) [Decidable P] (hw : w = 1#1 ↔ P) (z : FVec F (Two a b) .f32)
    (m : Memref sig .tc .vmem (Two a b) .f32) (s : Vec F (Two a b) .f32) (rest : Prog (TpuEff nD τ sig (Elt F) Λ₀ .tc) PUnit)
    (K : PUnit → sProp 𝕄) :
    iprop(owns (c : Thread nD τ) m fullShare s ∗ (owns (c : Thread nD τ) m fullShare (if P then z else s) -∗ wp frame (wpE (defs₀ (F := F)) Variants.none c none) Set.univ rest K))
      ⊢ wp frame (wpE (defs₀ (F := F)) Variants.none c none) Set.univ (clearIf hm w z m rest) K := by
  unfold clearIf
  by_cases h : P
  · have h' := hw.mpr h
    rw [if_pos h]
    unfold owns
    iintro ⟨⟨%f, %e, H⟩, Hk⟩
    sl_exec (disch := sl_exact h')
    iapply Hk
    iexists _; isplitr
    swap; · iexact H
    ipureintro
    rw [View.read_writes_eq_canon _ _ _ (covers _ _ _ _ _), View.canon_cons_unit_zero zeros]
  · have h' := mt hw.mp h
    rw [if_neg h]
    iintro ⟨H, Hk⟩
    sl_exec (disch := sl_exact h')
    iapply Hk
    iexact H

theorem addIf_body (c : Dev nD) (w : BitVec 1) (P : Prop) [Decidable P] (hw : w = 1#1 ↔ P)
    (add : Vec F (Two a b) .f32 → Vec F (Two a₁ b₁) .bf16 → Vec F (Two a₂ b₂) .bf16 → FVec F (Two a b) .f32)
    (mx : Memref sig .tc .vmem (Two a₁ b₁) .bf16) (my : Memref sig .tc .vmem (Two a₂ b₂) .bf16) (m : Memref sig .tc .vmem (Two a b) .f32)
    (x : Vec F (Two a₁ b₁) .bf16) (y : Vec F (Two a₂ b₂) .bf16) (s : Vec F (Two a b) .f32) (rest : Prog (TpuEff nD τ sig (Elt F) Λ₀ .tc) PUnit)
    (K : PUnit → sProp 𝕄) :
    iprop(owns (c : Thread nD τ) mx fullShare x ∗ owns (c : Thread nD τ) my fullShare y ∗ owns (c : Thread nD τ) m fullShare s
        ∗ (iprop(owns (c : Thread nD τ) mx fullShare x ∗ owns (c : Thread nD τ) my fullShare y
            ∗ owns (c : Thread nD τ) m fullShare (if P then add s x y else s)) -∗ wp frame (wpE (defs₀ (F := F)) Variants.none c none) Set.univ rest K))
      ⊢ wp frame (wpE (defs₀ (F := F)) Variants.none c none) Set.univ (addIf hm h₁ h₂ w add mx my m rest) K := by
  unfold addIf
  by_cases h : P
  · have h' := hw.mpr h
    rw [if_pos h]
    unfold owns
    iintro ⟨⟨%fx, %ex, Hx⟩, ⟨%fy, %ey, Hy⟩, ⟨%f, %e, H⟩, Hk⟩
    subst ex ey e
    sl_exec (disch := sl_exact h')
    iapply Hk
    isplitl [Hx]
    · iexists fx; isplitr; · ipureintro; rfl
      iexact Hx
    isplitl [Hy]
    · iexists fy; isplitr; · ipureintro; rfl
      iexact Hy
    iexists _; isplitr
    swap; · iexact H
    ipureintro
    rw [View.read_writes_eq_canon _ _ _ (covers _ _ _ _ _), View.canon_cons_unit_zero zeros]
    simp only [View.readAt_eq_ld, View.ld_unit_zero (S := Two a₁ b₁) zeros, View.ld_unit_zero (S := Two a₂ b₂) zeros,
      View.ld_unit_zero (S := Two a b) zeros]
  · have h' := mt hw.mp h
    rw [if_neg h]
    iintro ⟨Hx, Hy, H, Hk⟩
    sl_exec (disch := sl_exact h')
    iapply Hk
    isplitl [Hx]; · iexact Hx
    isplitl [Hy]; · iexact Hy
    iexact H

theorem writeIf_body (c : Dev nD) (w : BitVec 1) (P : Prop) [Decidable P] (hw : w = 1#1 ↔ P) {e : EltTy}
    (fin : Vec F (Two a b) .f32 → Vec F (Two a b) e) (m : Memref sig .tc .vmem (Two a b) .f32) (mo : Memref sig .tc .vmem (Two a b) e)
    (st : (mo.access (full a b)).Stores Finset.univ) (s : Vec F (Two a b) .f32) (o : Vec F (Two a b) e) (rest : Prog (TpuEff nD τ sig (Elt F) Λ₀ .tc) PUnit)
    (K : PUnit → sProp 𝕄) :
    iprop(owns (c : Thread nD τ) m fullShare s ∗ owns (c : Thread nD τ) mo fullShare o
        ∗ (iprop(owns (c : Thread nD τ) m fullShare s ∗ owns (c : Thread nD τ) mo fullShare (if P then fin s else o)) -∗ wp frame (wpE (defs₀ (F := F)) Variants.none c none) Set.univ rest K))
      ⊢ wp frame (wpE (defs₀ (F := F)) Variants.none c none) Set.univ (writeIf hm w fin m mo st rest) K := by
  unfold writeIf
  by_cases h : P
  · have h' := hw.mpr h
    rw [if_pos h]
    unfold owns
    iintro ⟨⟨%f, %ef, H⟩, ⟨%fo, %eo, Ho⟩, Hk⟩
    subst ef
    sl_exec (disch := sl_exact h')
    iapply Hk
    isplitl [H]
    · iexists f; isplitr; · ipureintro; rfl
      iexact H
    iexists _; isplitr
    swap; · iexact Ho
    ipureintro
    rw [View.read_writes_eq_canon _ _ _ (covers _ _ _ _ _), View.canon_cons_unit_zero zeros]
    simp only [View.readAt_eq_ld, View.ld_unit_zero (S := Two a b) zeros]
  · have h' := mt hw.mp h
    rw [if_neg h]
    iintro ⟨H, Ho, Hk⟩
    sl_exec (disch := sl_exact h')
    iapply Hk
    isplitl [H]; · iexact H
    iexact Ho

end Cert.Proj

end
-- ==== Proof.ProjIn.lean ====
/- The forward calls of the projection program: each is the product of the activations and one of five weights, a block at each
   point. -/
module

public import proofs.«01_k».proof.Proof.ProjBody

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- A buffer that holds some member of a family holds a value all of them are. -/
theorem held_of (c : Dev nD) {S : Shape} {e : EltTy} {α : Type} (m : Memref sig .tc .vmem S e) (f : α → Vec F S e) (v : Vec F S e) (h : ∀ d, f d = v) :
    (iprop(∃ d, owns (c : Thread nD τ) m fullShare (f d)) : sProp 𝕄) ⊢ owns (c : Thread nD τ) m fullShare v := by
  simp only [h]; iintro ⟨%d, H⟩; iexact H

/-- A buffer that holds some member of a family holds something. -/
theorem some_of (c : Dev nD) {S : Shape} {e : EltTy} {α : Type} (m : Memref sig .tc .vmem S e) (f : α → Vec F S e) :
    (iprop(∃ d, owns (c : Thread nD τ) m fullShare (f d)) : sProp 𝕄) ⊢ iprop(∃ d, owns (c : Thread nD τ) m fullShare d) := by
  iintro ⟨%d, H⟩; iexists _; iexact H

section Once

variable {a b a₁ b₁ a₂ b₂ : ℕ} (hm : 0 < (Two a b).numel) (h₁ : 0 < (Two a₁ b₁).numel) (h₂ : 0 < (Two a₂ b₂).numel)

/-- The obligation of a call with two operands and a result whose body writes the operands' product. -/
theorem once_obligation {cfg : Cfg sig Λ₀} {c : Dev nD} (dat : Dat τ (Elt F) Unit ℕ (UR sig nD τ) ℕ cfg c) (w0 w1 w2 : Fin cfg.W)
    (hsep : ∀ Φ : Fin cfg.W → sProp 𝕄, bigSep Finset.univ Φ = iprop(Φ w0 ∗ Φ w1 ∗ Φ w2))
    (m0 : Fin cfg.N → Memref sig .tc .vmem (Two a₁ b₁) .bf16) (m1 : Fin cfg.N → Memref sig .tc .vmem (Two a₂ b₂) .bf16)
    (m2 : Fin cfg.N → Memref sig .tc .vmem (Two a b) .f32) (x : Fin cfg.N → Vec F (Two a₁ b₁) .bf16) (y : Fin cfg.N → Vec F (Two a₂ b₂) .bf16)
    (mul : Vec F (Two a₁ b₁) .bf16 → Vec F (Two a₂ b₂) .bf16 → FVec F (Two a b) .f32)
    (hcall : ∀ t, defs₀ (F := F) .tc cfg.body (cfg.bodyArgs t (cfg.slots t)) = once hm h₁ h₂ mul (m0 t) (m1 t) (m2 t))
    (hΦ : ∀ t : Fin cfg.N, dat.Φ t.succ = dat.Φ t.castSucc) (hO : ∀ t : Fin cfg.N, dat.owesAt () t.succ = dat.owesAt () t.castSucc)
    (i0 : ∀ t : Fin cfg.N, (iprop(∃ d, owns (c : Thread nD τ) ((cfg.win w0).stage (cfg.slots t w0)) fullShare (dat.before w0 t d)) : sProp 𝕄) ⊢ owns (c : Thread nD τ) (m0 t) fullShare (x t))
    (i1 : ∀ t : Fin cfg.N, (iprop(∃ d, owns (c : Thread nD τ) ((cfg.win w1).stage (cfg.slots t w1)) fullShare (dat.before w1 t d)) : sProp 𝕄) ⊢ owns (c : Thread nD τ) (m1 t) fullShare (y t))
    (i2 : ∀ t : Fin cfg.N, (iprop(∃ d, owns (c : Thread nD τ) ((cfg.win w2).stage (cfg.slots t w2)) fullShare (dat.before w2 t d)) : sProp 𝕄) ⊢ iprop(∃ d, owns (c : Thread nD τ) (m2 t) fullShare d))
    (l0 : ∀ t : Fin cfg.N, dat.leavesExact w0 t = owns (c : Thread nD τ) (m0 t) fullShare (x t))
    (l1 : ∀ t : Fin cfg.N, dat.leavesExact w1 t = owns (c : Thread nD τ) (m1 t) fullShare (y t))
    (l2 : ∀ t : Fin cfg.N, dat.leavesExact w2 t = owns (c : Thread nD τ) (m2 t) fullShare (mul (x t) (y t))) :
    BodyObligation dat (defs₀ (F := F)) Variants.none () Set.univ := fun t => by
  rw [hsep, hsep, hcall]
  show iprop(dat.Φ t.castSucc ∗ dat.owesAt () t.castSucc
    ∗ (∃ d, owns (c : Thread nD τ) ((cfg.win w0).stage (cfg.slots t w0)) fullShare (dat.before w0 t d))
    ∗ (∃ d, owns (c : Thread nD τ) ((cfg.win w1).stage (cfg.slots t w1)) fullShare (dat.before w1 t d))
    ∗ (∃ d, owns (c : Thread nD τ) ((cfg.win w2).stage (cfg.slots t w2)) fullShare (dat.before w2 t d)))
    ⊢ wp frame (wpE (defs₀ (F := F)) Variants.none c none) Set.univ (once hm h₁ h₂ mul (m0 t) (m1 t) (m2 t)) (fun _ =>
      iprop(dat.Φ t.succ ∗ dat.owesAt () t.succ ∗ dat.leavesExact w0 t ∗ dat.leavesExact w1 t ∗ dat.leavesExact w2 t))
  rw [hΦ, hO, l0, l1, l2]
  iintro ⟨HΦ, Ho, H0, H1, H2⟩
  iapply (once_body hm h₁ h₂ c mul (m0 t) (m1 t) (m2 t) (x t) (y t) _)
  isplitl [H0]; · iapply (i0 t); iexact H0
  isplitl [H1]; · iapply (i1 t); iexact H1
  isplitl [H2]; · iapply (i2 t); iexact H2
  iintro H
  isplitl [HΦ]; · iexact HΦ
  isplitl [Ho]; · iexact Ho
  iexact H

end Once

variable (W : Held F)

/-- What the first call leaves in its windows at a point: the operands' blocks, and their product. -/
def zgAfter (c : Dev nD) (w : Fin cfg0.W) (t : Fin cfg0.N) : (cfg0.win w).block.Idx → Elt F (cfg0.win w).elt :=
  match w with
  | ⟨0, _⟩ => block cfg0 W c 0 t
  | ⟨1, _⟩ => block cfg0 W c 1 t
  | ⟨2, _⟩ => k0_pay1 (block cfg0 W c 0 t) (block cfg0 W c 1 t)

/-- The call's proof data. -/
def zgDat (c : Dev nD) : Dat τ (Elt F) Unit ℕ (UR sig nD τ) ℕ cfg0 c := data cfg0 W c (zgAfter W c) fun _ => Pipeline.ΦA spec0 c

theorem zg_obligation (c : Dev nD) : BodyObligation (zgDat W c) (defs₀ (F := F)) Variants.none () Set.univ :=
  once_obligation h_S1024x1024 h_S1024x1024 h_S1024x1024 (zgDat W c) (0 : Fin cfg0.W) (1 : Fin cfg0.W) (2 : Fin cfg0.W) (fun Φ => bigSep_W0 Φ)
    (fun t => st0_0 t) (fun t => st0_1 t) (fun t => st0_2 t)
    (fun t => block cfg0 W c 0 t) (fun t => block cfg0 W c 1 t) k0_pay1 (fun t => by unfold defs₀; rw [Defs.onTc_tc]; rfl) (fun _ => rfl) (fun _ => rfl)
    (fun t => held_of c (st0_0 t) ((zgDat W c).before 0 t) _ ((zgDat W c).before_in_eq_fetched 0 rfl (fun _ => rfl) (fun _ _ _ => rfl) (fun _ => rfl) t))
    (fun t => held_of c (st0_1 t) ((zgDat W c).before 1 t) _ ((zgDat W c).before_in_eq_fetched 1 rfl (fun _ => rfl) (fun _ _ _ => rfl) (fun _ => rfl) t))
    (fun t => some_of c (st0_2 t) ((zgDat W c).before 2 t)) (fun _ => rfl) (fun _ => rfl) (fun _ => rfl)

/-- What the second call leaves in its windows at a point: the operands' blocks, and their product. -/
def zcAfter (c : Dev nD) (w : Fin cfg1.W) (t : Fin cfg1.N) : (cfg1.win w).block.Idx → Elt F (cfg1.win w).elt :=
  match w with
  | ⟨0, _⟩ => block cfg1 W c 0 t
  | ⟨1, _⟩ => block cfg1 W c 1 t
  | ⟨2, _⟩ => k1_pay1 (block cfg1 W c 0 t) (block cfg1 W c 1 t)

/-- The call's proof data. -/
def zcDat (c : Dev nD) : Dat τ (Elt F) Unit ℕ (UR sig nD τ) ℕ cfg1 c := data cfg1 W c (zcAfter W c) fun _ => Pipeline.ΦA spec1 c

theorem zc_obligation (c : Dev nD) : BodyObligation (zcDat W c) (defs₀ (F := F)) Variants.none () Set.univ :=
  once_obligation h_S1024x512 h_S1024x1024 h_S1024x512 (zcDat W c) (0 : Fin cfg1.W) (1 : Fin cfg1.W) (2 : Fin cfg1.W) (fun Φ => bigSep_W1 Φ)
    (fun t => st1_0 t) (fun t => st1_1 t) (fun t => st1_2 t)
    (fun t => block cfg1 W c 0 t) (fun t => block cfg1 W c 1 t) k1_pay1 (fun t => by unfold defs₀; rw [Defs.onTc_tc]; rfl) (fun _ => rfl) (fun _ => rfl)
    (fun t => held_of c (st1_0 t) ((zcDat W c).before 0 t) _ ((zcDat W c).before_in_eq_fetched 0 rfl (fun _ => rfl) (fun _ _ _ => rfl) (fun _ => rfl) t))
    (fun t => held_of c (st1_1 t) ((zcDat W c).before 1 t) _ ((zcDat W c).before_in_eq_fetched 1 rfl (fun _ => rfl) (fun _ _ _ => rfl) (fun _ => rfl) t))
    (fun t => some_of c (st1_2 t) ((zcDat W c).before 2 t)) (fun _ => rfl) (fun _ => rfl) (fun _ => rfl)

/-- What the third call leaves in its windows at a point: the operands' blocks, and their product. -/
def zsAfter (c : Dev nD) (w : Fin cfg2.W) (t : Fin cfg2.N) : (cfg2.win w).block.Idx → Elt F (cfg2.win w).elt :=
  match w with
  | ⟨0, _⟩ => block cfg2 W c 0 t
  | ⟨1, _⟩ => block cfg2 W c 1 t
  | ⟨2, _⟩ => k2_pay1 (block cfg2 W c 0 t) (block cfg2 W c 1 t)

/-- The call's proof data. -/
def zsDat (c : Dev nD) : Dat τ (Elt F) Unit ℕ (UR sig nD τ) ℕ cfg2 c := data cfg2 W c (zsAfter W c) fun _ => Pipeline.ΦA spec2 c

theorem zs_obligation (c : Dev nD) : BodyObligation (zsDat W c) (defs₀ (F := F)) Variants.none () Set.univ :=
  once_obligation h_S1024x768 h_S1024x1024 h_S1024x768 (zsDat W c) (0 : Fin cfg2.W) (1 : Fin cfg2.W) (2 : Fin cfg2.W) (fun Φ => bigSep_W2 Φ)
    (fun t => st2_0 t) (fun t => st2_1 t) (fun t => st2_2 t)
    (fun t => block cfg2 W c 0 t) (fun t => block cfg2 W c 1 t) k2_pay1 (fun t => by unfold defs₀; rw [Defs.onTc_tc]; rfl) (fun _ => rfl) (fun _ => rfl)
    (fun t => held_of c (st2_0 t) ((zsDat W c).before 0 t) _ ((zsDat W c).before_in_eq_fetched 0 rfl (fun _ => rfl) (fun _ _ _ => rfl) (fun _ => rfl) t))
    (fun t => held_of c (st2_1 t) ((zsDat W c).before 1 t) _ ((zsDat W c).before_in_eq_fetched 1 rfl (fun _ => rfl) (fun _ _ _ => rfl) (fun _ => rfl) t))
    (fun t => some_of c (st2_2 t) ((zsDat W c).before 2 t)) (fun _ => rfl) (fun _ => rfl) (fun _ => rfl)

/-- What the fourth call leaves in its windows at a point: the operands' blocks, and their product. -/
def zwAfter (c : Dev nD) (w : Fin cfg3.W) (t : Fin cfg3.N) : (cfg3.win w).block.Idx → Elt F (cfg3.win w).elt :=
  match w with
  | ⟨0, _⟩ => block cfg3 W c 0 t
  | ⟨1, _⟩ => block cfg3 W c 1 t
  | ⟨2, _⟩ => k3_pay1 (block cfg3 W c 0 t) (block cfg3 W c 1 t)

/-- The call's proof data. -/
def zwDat (c : Dev nD) : Dat τ (Elt F) Unit ℕ (UR sig nD τ) ℕ cfg3 c := data cfg3 W c (zwAfter W c) fun _ => Pipeline.ΦA spec3 c

theorem zw_obligation (c : Dev nD) : BodyObligation (zwDat W c) (defs₀ (F := F)) Variants.none () Set.univ :=
  once_obligation h_S1024x512 h_S1024x1024 h_S1024x512 (zwDat W c) (0 : Fin cfg3.W) (1 : Fin cfg3.W) (2 : Fin cfg3.W) (fun Φ => bigSep_W3 Φ)
    (fun t => st3_0 t) (fun t => st3_1 t) (fun t => st3_2 t)
    (fun t => block cfg3 W c 0 t) (fun t => block cfg3 W c 1 t) k3_pay1 (fun t => by unfold defs₀; rw [Defs.onTc_tc]; rfl) (fun _ => rfl) (fun _ => rfl)
    (fun t => held_of c (st3_0 t) ((zwDat W c).before 0 t) _ ((zwDat W c).before_in_eq_fetched 0 rfl (fun _ => rfl) (fun _ _ _ => rfl) (fun _ => rfl) t))
    (fun t => held_of c (st3_1 t) ((zwDat W c).before 1 t) _ ((zwDat W c).before_in_eq_fetched 1 rfl (fun _ => rfl) (fun _ _ _ => rfl) (fun _ => rfl) t))
    (fun t => some_of c (st3_2 t) ((zwDat W c).before 2 t)) (fun _ => rfl) (fun _ => rfl) (fun _ => rfl)

/-- What the fifth call leaves in its windows at a point: the operands' blocks, and their product. -/
def zfAfter (c : Dev nD) (w : Fin cfg4.W) (t : Fin cfg4.N) : (cfg4.win w).block.Idx → Elt F (cfg4.win w).elt :=
  match w with
  | ⟨0, _⟩ => block cfg4 W c 0 t
  | ⟨1, _⟩ => block cfg4 W c 1 t
  | ⟨2, _⟩ => k4_pay1 (block cfg4 W c 0 t) (block cfg4 W c 1 t)

/-- The call's proof data. -/
def zfDat (c : Dev nD) : Dat τ (Elt F) Unit ℕ (UR sig nD τ) ℕ cfg4 c := data cfg4 W c (zfAfter W c) fun _ => Pipeline.ΦA spec4 c

theorem zf_obligation (c : Dev nD) : BodyObligation (zfDat W c) (defs₀ (F := F)) Variants.none () Set.univ :=
  once_obligation h_S1024x896 h_S1024x1024 h_S1024x896 (zfDat W c) (0 : Fin cfg4.W) (1 : Fin cfg4.W) (2 : Fin cfg4.W) (fun Φ => bigSep_W4 Φ)
    (fun t => st4_0 t) (fun t => st4_1 t) (fun t => st4_2 t)
    (fun t => block cfg4 W c 0 t) (fun t => block cfg4 W c 1 t) k4_pay1 (fun t => by unfold defs₀; rw [Defs.onTc_tc]; rfl) (fun _ => rfl) (fun _ => rfl)
    (fun t => held_of c (st4_0 t) ((zfDat W c).before 0 t) _ ((zfDat W c).before_in_eq_fetched 0 rfl (fun _ => rfl) (fun _ _ _ => rfl) (fun _ => rfl) t))
    (fun t => held_of c (st4_1 t) ((zfDat W c).before 1 t) _ ((zfDat W c).before_in_eq_fetched 1 rfl (fun _ => rfl) (fun _ _ _ => rfl) (fun _ => rfl) t))
    (fun t => some_of c (st4_2 t) ((zfDat W c).before 2 t)) (fun _ => rfl) (fun _ => rfl) (fun _ => rfl)

end Cert.Proj

end
-- ==== Proof.ProjDw.lean ====
/- The calls of the projection program that each make a weight's gradient: products of transposed blocks, added up in a scratch
   buffer over four points and written out at the last of them. -/
module

public import proofs.«01_k».proof.Proof.ProjIn

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable {n : ℕ} (hx : 0 < (Two 2048 1024).numel) (hy : 0 < (Two 2048 n).numel) (hs : 0 < (Two 1024 n).numel)
  (z : FVec F (Two 1024 n) .f32) (add : Vec F (Two 1024 n) .f32 → Vec F (Two 2048 1024) .bf16 → Vec F (Two 2048 n) .bf16 → FVec F (Two 1024 n) .f32)
  (fin : Vec F (Two 1024 n) .f32 → FVec F (Two 1024 n) .bf16)

/-- The body of such a call at inner coordinate `k`: clear the sum at 0, add a product, and at 3 write the sum out. -/
def sweep (k : BitVec 32) (x : Memref sig .tc .vmem (Two 2048 1024) .bf16) (y : Memref sig .tc .vmem (Two 2048 n) .bf16)
    (o : Memref sig .tc .vmem (Two 1024 n) .bf16) (st : (o.access (full 1024 n)).Stores Finset.univ) (s : Memref sig .tc .vmem (Two 1024 n) .f32) :
    Prog (TpuEff nD τ sig (Elt F) Λ₀ .tc) PUnit :=
  clearIf hs (equals k 0#32) z s <| addIf hs hx hy (within k 0#32 4#32) add x y s <| writeIf hs (equals k 3#32) fin s o st <| pure ⟨⟩

/-- The sum after a point: the product of the point's blocks added to zero at the first point of four, and to what the sum was at the others. -/
def step (k : ℕ) (acc : Vec F (Two 1024 n) .f32) (x : Vec F (Two 2048 1024) .bf16) (y : Vec F (Two 2048 n) .bf16) : Vec F (Two 1024 n) .f32 :=
  add (if k = 0 then z else acc) x y

/-- The body on whole buffers: the operands are kept, the sum is stepped, and the output is written at the last point only. -/
theorem sweep_body (c : Dev nD) (k : ℕ) (hk : k < 4)
    (mx : Memref sig .tc .vmem (Two 2048 1024) .bf16) (my : Memref sig .tc .vmem (Two 2048 n) .bf16) (mo : Memref sig .tc .vmem (Two 1024 n) .bf16)
    (st : (mo.access (full 1024 n)).Stores Finset.univ) (m : Memref sig .tc .vmem (Two 1024 n) .f32)
    (x : Vec F (Two 2048 1024) .bf16) (y : Vec F (Two 2048 n) .bf16) (o : Vec F (Two 1024 n) .bf16) (s : Vec F (Two 1024 n) .f32) (K : PUnit → sProp 𝕄) :
    iprop(owns (c : Thread nD τ) mx fullShare x ∗ owns (c : Thread nD τ) my fullShare y ∗ owns (c : Thread nD τ) mo fullShare o
        ∗ owns (c : Thread nD τ) m fullShare s
        ∗ (iprop(owns (c : Thread nD τ) mx fullShare x ∗ owns (c : Thread nD τ) my fullShare y
            ∗ owns (c : Thread nD τ) mo fullShare (if k = 3 then fin (step z add k s x y) else o)
            ∗ owns (c : Thread nD τ) m fullShare (step z add k s x y)) -∗ K ⟨⟩))
      ⊢ wp frame (wpE (defs₀ (F := F)) Variants.none c none) Set.univ (sweep hx hy hs z add fin (BitVec.ofNat 32 k) mx my mo st m) K := by
  unfold sweep
  iintro ⟨Hx, Hy, Ho, H, Hk⟩
  iapply (clearIf_body hs c _ (k = 0) (equals_iff k 0 (by omega) (by decide)) z m s _ _)
  isplitl [H]; · iexact H
  iintro H
  iapply (addIf_body hs hx hy c _ True (by simpa using (within_iff k 0 4 (by omega) (by decide) (by decide)).trans ⟨fun _ => trivial, fun _ => ⟨by omega, hk⟩⟩)
    add mx my m x y _ _ _)
  isplitl [Hx]; · iexact Hx
  isplitl [Hy]; · iexact Hy
  isplitl [H]; · iexact H
  iintro ⟨Hx, Hy, H⟩
  iapply (writeIf_body hs c _ (k = 3) (equals_iff k 3 (by omega) (by decide)) fin m mo st _ o _ _)
  isplitl [H]; · iexact H
  isplitl [Ho]; · iexact Ho
  iintro ⟨H, Ho⟩
  sl_step
  iapply Hk
  rw [if_pos trivial]
  isplitl [Hx]; · iexact Hx
  isplitl [Hy]; · iexact Hy
  isplitl [Ho]; · iexact Ho
  iexact H

/-- The sums before each point, from the blocks the points are given. -/
def sums (x : ℕ → Vec F (Two 2048 1024) .bf16) (y : ℕ → Vec F (Two 2048 n) .bf16) : ℕ → Vec F (Two 1024 n) .f32
  | 0 => z
  | t + 1 => step z add (t % 4) (sums x y t) (x t) (y t)

/-- What is known of the sum's buffer before a point: past the first of `p` points it holds the sum so far. -/
def sumAt {a b : ℕ} (p : ℕ) (c : Dev nD) (m : Memref sig .tc .vmem (Two a b) .f32) (s : ℕ → Vec F (Two a b) .f32) (t : ℕ) : sProp 𝕄 :=
  iprop(∃ v, ⌜t % p ≠ 0 → v = s t⌝ ∗ owns (c : Thread nD τ) m fullShare v)

/-- A point of such a call: the sum's buffer goes from its contents before the point to those after it, and the output's buffer is
    filled at the last of four points and kept at the others. -/
theorem sweep_point (c : Dev nD) (x : ℕ → Vec F (Two 2048 1024) .bf16) (y : ℕ → Vec F (Two 2048 n) .bf16) (t : ℕ)
    (u : Vec F (Two 2048 1024) .bf16) (v : Vec F (Two 2048 n) .bf16) (eu : x t = u) (ev : y t = v) (R O : sProp 𝕄)
    (mx : Memref sig .tc .vmem (Two 2048 1024) .bf16) (my : Memref sig .tc .vmem (Two 2048 n) .bf16) (mo : Memref sig .tc .vmem (Two 1024 n) .bf16)
    (st : (mo.access (full 1024 n)).Stores Finset.univ) (m : Memref sig .tc .vmem (Two 1024 n) .f32)
    {α : Type} (b : α → Vec F (Two 1024 n) .bf16) :
    iprop((sumAt 4 c m (sums z add x y) t ∗ R) ∗ O ∗ owns (c : Thread nD τ) mx fullShare u ∗ owns (c : Thread nD τ) my fullShare v
        ∗ ∃ d, owns (c : Thread nD τ) mo fullShare (b d))
      ⊢ wp frame (wpE (defs₀ (F := F)) Variants.none c none) Set.univ (sweep hx hy hs z add fin (BitVec.ofNat 32 (t % 4)) mx my mo st m) fun _ =>
        iprop((sumAt 4 c m (sums z add x y) (t + 1) ∗ R) ∗ O ∗ owns (c : Thread nD τ) mx fullShare u ∗ owns (c : Thread nD τ) my fullShare v
          ∗ (if t % 4 = 3 then owns (c : Thread nD τ) mo fullShare (fin (sums z add x y (t + 1)))
              else iprop(∃ d, owns (c : Thread nD τ) mo fullShare (b d)))) := by
  subst eu ev
  unfold sumAt
  iintro ⟨⟨⟨%w, %hw, Hs⟩, HR⟩, HO, Hx, Hy, ⟨%d, Ho⟩⟩
  have hstep : step z add (t % 4) w (x t) (y t) = sums z add x y (t + 1) := by
    show _ = step z add (t % 4) (sums z add x y t) (x t) (y t)
    unfold step
    by_cases h : t % 4 = 0
    · rw [if_pos h, if_pos h]
    · rw [hw h]
  iapply (sweep_body hx hy hs z add fin c (t % 4) (Nat.mod_lt _ (by decide)) mx my mo st m (x t) (y t) (b d) w _)
  isplitl [Hx]; · iexact Hx
  isplitl [Hy]; · iexact Hy
  isplitl [Ho]; · iexact Ho
  isplitl [Hs]; · iexact Hs
  rw [hstep]
  iintro ⟨Hx, Hy, Ho, Hs⟩
  isplitl [Hs HR]
  · isplitl [Hs]
    · iexists _; isplitr
      swap; · iexact Hs
      ipureintro; exact fun _ => rfl
    iexact HR
  isplitl [HO]; · iexact HO
  isplitl [Hx]; · iexact Hx
  isplitl [Hy]; · iexact Hy
  by_cases h : t % 4 = 3
  · rw [if_pos h, if_pos h]; iexact Ho
  · rw [if_neg h, if_neg h]; iexists d; iexact Ho

/-- A point of a call of `p` points, by a number, the numbers counted round. -/
def pt {p : ℕ} (hp : 0 < p) (n : ℕ) : Fin p := ⟨n % p, Nat.mod_lt _ hp⟩

theorem pt_val {p : ℕ} (hp : 0 < p) (t : Fin p) : pt hp t.val = t := Fin.ext (Nat.mod_eq_of_lt t.isLt)

/-- What such a call keeps between points: the sum's buffer, and what it does not touch. -/
def keeps {a b : ℕ} (p : ℕ) (cfg : Cfg sig Λ₀) (c : Dev nD) (r : Ref sig .tc) (m : Memref sig .tc .vmem (Two a b) .f32) (s : ℕ → Vec F (Two a b) .f32) (n : ℕ) :
    sProp 𝕄 :=
  iprop(sumAt p c m s n ∗ Pipeline.scopedRestBut cfg.spec c [r] ∗ ∃ r, prngReg c r)

/-- A window that rests but at the last of each `p` points leaves what it is given at that point, and is untouched at the others. -/
theorem leaves_at {cfg : Cfg sig Λ₀} {c : Dev nD} (dat : Dat τ (Elt F) Unit ℕ (UR sig nD τ) ℕ cfg c) (w : Fin cfg.W) (p l : ℕ)
    (hidle : ∀ t : Fin cfg.N, t.val % p ≠ l → cfg.idle w (cfg.grid.coords t) = true ∧ (cfg.win w).flush t = false)
    (hlive : ∀ t : Fin cfg.N, t.val % p = l → cfg.idle w (cfg.grid.coords t) = false) (t : Fin cfg.N) :
    dat.leavesExact w t = if t.val % p = l then owns (c : Thread nD τ) ((cfg.win w).stage (cfg.slots t w)) fullShare (dat.after w t)
      else iprop(∃ d, owns (c : Thread nD τ) ((cfg.win w).stage (cfg.slots t w)) fullShare (dat.before w t d)) := by
  by_cases h : t.val % p = l
  · rw [if_pos h]; unfold Dat.leavesExact; rw [hlive t h]
  · rw [if_neg h]; exact dat.leavesExact_idle w t (hidle t h).1 (hidle t h).2

/-- The obligation of such a call. -/
theorem sweep_obligation {cfg : Cfg sig Λ₀} {c : Dev nD} (dat : Dat τ (Elt F) Unit ℕ (UR sig nD τ) ℕ cfg c) (w0 w1 w2 : Fin cfg.W)
    (hsep : ∀ Φ : Fin cfg.W → sProp 𝕄, bigSep Finset.univ Φ = iprop(Φ w0 ∗ Φ w1 ∗ Φ w2)) (hN : 0 < cfg.N)
    (m0 : Fin cfg.N → Memref sig .tc .vmem (Two 2048 1024) .bf16) (m1 : Fin cfg.N → Memref sig .tc .vmem (Two 2048 n) .bf16)
    (m2 : Fin cfg.N → Memref sig .tc .vmem (Two 1024 n) .bf16) (st : ∀ t, ((m2 t).access (full 1024 n)).Stores Finset.univ)
    (m : Memref sig .tc .vmem (Two 1024 n) .f32) (r : Ref sig .tc)
    (x : Fin cfg.N → Vec F (Two 2048 1024) .bf16) (y : Fin cfg.N → Vec F (Two 2048 n) .bf16) (b : Fin cfg.N → Vec F (Two 1024 n) .bf16 → Vec F (Two 1024 n) .bf16)
    (hcall : ∀ t, defs₀ (F := F) .tc cfg.body (cfg.bodyArgs t (cfg.slots t))
      = sweep hx hy hs z add fin (BitVec.ofNat 32 (t.val % 4)) (m0 t) (m1 t) (m2 t) (st t) m)
    (hΦ : ∀ t : Fin (cfg.N + 1), dat.Φ t = keeps 4 cfg c r m (sums z add (fun n => x (pt hN n)) (fun n => y (pt hN n))) t.val)
    (hO : ∀ t : Fin cfg.N, dat.owesAt () t.succ = dat.owesAt () t.castSucc)
    (i0 : ∀ t : Fin cfg.N, (iprop(∃ d, owns (c : Thread nD τ) ((cfg.win w0).stage (cfg.slots t w0)) fullShare (dat.before w0 t d)) : sProp 𝕄)
      ⊢ owns (c : Thread nD τ) (m0 t) fullShare (x t))
    (i1 : ∀ t : Fin cfg.N, (iprop(∃ d, owns (c : Thread nD τ) ((cfg.win w1).stage (cfg.slots t w1)) fullShare (dat.before w1 t d)) : sProp 𝕄)
      ⊢ owns (c : Thread nD τ) (m1 t) fullShare (y t))
    (i2 : ∀ t : Fin cfg.N, (iprop(∃ d, owns (c : Thread nD τ) ((cfg.win w2).stage (cfg.slots t w2)) fullShare (dat.before w2 t d)) : sProp 𝕄)
      = iprop(∃ d, owns (c : Thread nD τ) (m2 t) fullShare (b t d)))
    (l0 : ∀ t : Fin cfg.N, dat.leavesExact w0 t = owns (c : Thread nD τ) (m0 t) fullShare (x t))
    (l1 : ∀ t : Fin cfg.N, dat.leavesExact w1 t = owns (c : Thread nD τ) (m1 t) fullShare (y t))
    (l2 : ∀ t : Fin cfg.N, dat.leavesExact w2 t = if t.val % 4 = 3
      then owns (c : Thread nD τ) (m2 t) fullShare (fin (sums z add (fun n => x (pt hN n)) (fun n => y (pt hN n)) (t.val + 1)))
      else iprop(∃ d, owns (c : Thread nD τ) (m2 t) fullShare (b t d))) :
    BodyObligation dat (defs₀ (F := F)) Variants.none () Set.univ := fun t => by
  rw [hsep, hsep, hcall]
  show iprop(dat.Φ t.castSucc ∗ dat.owesAt () t.castSucc
    ∗ (∃ d, owns (c : Thread nD τ) ((cfg.win w0).stage (cfg.slots t w0)) fullShare (dat.before w0 t d))
    ∗ (∃ d, owns (c : Thread nD τ) ((cfg.win w1).stage (cfg.slots t w1)) fullShare (dat.before w1 t d))
    ∗ (∃ d, owns (c : Thread nD τ) ((cfg.win w2).stage (cfg.slots t w2)) fullShare (dat.before w2 t d)))
    ⊢ wp frame (wpE (defs₀ (F := F)) Variants.none c none) Set.univ
      (sweep hx hy hs z add fin (BitVec.ofNat 32 (t.val % 4)) (m0 t) (m1 t) (m2 t) (st t) m) (fun _ =>
      iprop(dat.Φ t.succ ∗ dat.owesAt () t.succ ∗ dat.leavesExact w0 t ∗ dat.leavesExact w1 t ∗ dat.leavesExact w2 t))
  rw [hΦ, hΦ, hO, l0, l1, l2, i2, Fin.val_succ, Fin.val_castSucc]
  iintro ⟨HΦ, HO, H0, H1, H2⟩
  unfold keeps
  iapply (sweep_point hx hy hs z add fin c (fun n => x (pt hN n)) (fun n => y (pt hN n)) t.val (x t) (y t) (by rw [pt_val]) (by rw [pt_val]) _ _
    (m0 t) (m1 t) (m2 t) (st t) m (b t))
  isplitl [HΦ]; · iexact HΦ
  isplitl [HO]; · iexact HO
  isplitl [H0]; · iapply (i0 t); iexact H0
  isplitl [H1]; · iapply (i1 t); iexact H1
  iexact H2

variable (W : Held F)

/-- The sums of the first weight's gradient. -/
def dwgSums (c : Dev nD) : ℕ → Vec F S1024x1024 .f32 :=
  sums k5_pay1 k5_pay2 (fun n => block cfg5 W c 0 (pt (p := cfg5.N) (by decide) n)) (fun n => block cfg5 W c 1 (pt (p := cfg5.N) (by decide) n))

def dwgAfter (c : Dev nD) (w : Fin cfg5.W) (t : Fin cfg5.N) : (cfg5.win w).block.Idx → Elt F (cfg5.win w).elt :=
  match w with
  | ⟨0, _⟩ => block cfg5 W c 0 t
  | ⟨1, _⟩ => block cfg5 W c 1 t
  | ⟨2, _⟩ => k5_pay3 (dwgSums W c (t.val + 1))

/-- The call's proof data. -/
def dwgDat (c : Dev nD) : Dat τ (Elt F) Unit ℕ (UR sig nD τ) ℕ cfg5 c :=
  data cfg5 W c (dwgAfter W c) fun t => keeps 4 cfg5 c cc5_scratch0 (Memref.whole cc5_scratch0) (dwgSums W c) t.val

theorem dwg_eq (t : Fin cfg5.N) : defs₀ (F := F) .tc cfg5.body (cfg5.bodyArgs t (cfg5.slots t))
    = sweep h_S2048x1024 h_S2048x1024 h_S1024x1024 k5_pay1 k5_pay2 k5_pay3 (BitVec.ofNat 32 (t.val % 4)) (st5_0 t) (st5_1 t) (st5_2 t)
      (View.stores_vmem h_S1024x1024 ((hstage5_2 ((cfg5.slots t 2).cast nbuf5_2)).storeExact_slice rfl _ packedbf16_S1024x1024_S1024x1024_0_0) (fun _ => rfl))
      (Memref.whole cc5_scratch0) := by
  rw [← (Pipeline.Grid.coords_val (S := 1) t 2 (by decide) rfl).trans (congrArg (· % 4) (Nat.div_one t.val))]
  unfold defs₀; rw [Defs.onTc_tc]; rfl

theorem dwg_obligation (c : Dev nD) : BodyObligation (dwgDat W c) (defs₀ (F := F)) Variants.none () Set.univ :=
  sweep_obligation h_S2048x1024 h_S2048x1024 h_S1024x1024 k5_pay1 k5_pay2 k5_pay3 (dwgDat W c) (0 : Fin cfg5.W) (1 : Fin cfg5.W) (2 : Fin cfg5.W)
    (fun Φ => bigSep_W5 Φ) (by decide) (fun t => st5_0 t) (fun t => st5_1 t) (fun t => st5_2 t) _ (Memref.whole cc5_scratch0) cc5_scratch0
    (fun t => block cfg5 W c 0 t) (fun t => block cfg5 W c 1 t) (fun t d => (dwgDat W c).before 2 t d) dwg_eq (fun _ => rfl) (fun _ => rfl)
    (fun t => held_of c (st5_0 t) ((dwgDat W c).before 0 t) _ ((dwgDat W c).before_in_eq_fetched 0 rfl (fun _ => rfl) (fun _ _ _ => rfl) (fun _ => rfl) t))
    (fun t => held_of c (st5_1 t) ((dwgDat W c).before 1 t) _ ((dwgDat W c).before_in_eq_fetched 1 rfl (fun _ => rfl) (fun _ _ _ => rfl) (fun _ => rfl) t))
    (fun _ => rfl) (fun _ => rfl) (fun _ => rfl) (fun t => leaves_at (dwgDat W c) 2 4 3 (by decide +kernel) (by decide +kernel) t)

/-- The sums of the second weight's gradient. -/
def dwcSums (c : Dev nD) : ℕ → Vec F S1024x512 .f32 :=
  sums k6_pay1 k6_pay2 (fun n => block cfg6 W c 0 (pt (p := cfg6.N) (by decide) n)) (fun n => block cfg6 W c 1 (pt (p := cfg6.N) (by decide) n))

def dwcAfter (c : Dev nD) (w : Fin cfg6.W) (t : Fin cfg6.N) : (cfg6.win w).block.Idx → Elt F (cfg6.win w).elt :=
  match w with
  | ⟨0, _⟩ => block cfg6 W c 0 t
  | ⟨1, _⟩ => block cfg6 W c 1 t
  | ⟨2, _⟩ => k6_pay3 (dwcSums W c (t.val + 1))

/-- The call's proof data. -/
def dwcDat (c : Dev nD) : Dat τ (Elt F) Unit ℕ (UR sig nD τ) ℕ cfg6 c :=
  data cfg6 W c (dwcAfter W c) fun t => keeps 4 cfg6 c cc6_scratch0 (Memref.whole cc6_scratch0) (dwcSums W c) t.val

theorem dwc_eq (t : Fin cfg6.N) : defs₀ (F := F) .tc cfg6.body (cfg6.bodyArgs t (cfg6.slots t))
    = sweep h_S2048x1024 h_S2048x512 h_S1024x512 k6_pay1 k6_pay2 k6_pay3 (BitVec.ofNat 32 (t.val % 4)) (st6_0 t) (st6_1 t) (st6_2 t)
      (View.stores_vmem h_S1024x512 ((hstage6_2 ((cfg6.slots t 2).cast nbuf6_2)).storeExact_slice rfl _ packedbf16_S1024x512_S1024x512_0_0) (fun _ => rfl))
      (Memref.whole cc6_scratch0) := by
  rw [← (Pipeline.Grid.coords_val (S := 1) t 2 (by decide) rfl).trans (congrArg (· % 4) (Nat.div_one t.val))]
  unfold defs₀; rw [Defs.onTc_tc]; rfl

theorem dwc_obligation (c : Dev nD) : BodyObligation (dwcDat W c) (defs₀ (F := F)) Variants.none () Set.univ :=
  sweep_obligation h_S2048x1024 h_S2048x512 h_S1024x512 k6_pay1 k6_pay2 k6_pay3 (dwcDat W c) (0 : Fin cfg6.W) (1 : Fin cfg6.W) (2 : Fin cfg6.W)
    (fun Φ => bigSep_W6 Φ) (by decide) (fun t => st6_0 t) (fun t => st6_1 t) (fun t => st6_2 t) _ (Memref.whole cc6_scratch0) cc6_scratch0
    (fun t => block cfg6 W c 0 t) (fun t => block cfg6 W c 1 t) (fun t d => (dwcDat W c).before 2 t d) dwc_eq (fun _ => rfl) (fun _ => rfl)
    (fun t => held_of c (st6_0 t) ((dwcDat W c).before 0 t) _ ((dwcDat W c).before_in_eq_fetched 0 rfl (fun _ => rfl) (fun _ _ _ => rfl) (fun _ => rfl) t))
    (fun t => held_of c (st6_1 t) ((dwcDat W c).before 1 t) _ ((dwcDat W c).before_in_eq_fetched 1 rfl (fun _ => rfl) (fun _ _ _ => rfl) (fun _ => rfl) t))
    (fun _ => rfl) (fun _ => rfl) (fun _ => rfl) (fun t => leaves_at (dwcDat W c) 2 4 3 (by decide +kernel) (by decide +kernel) t)

/-- The sums of the third weight's gradient. -/
def dwsSums (c : Dev nD) : ℕ → Vec F S1024x768 .f32 :=
  sums k7_pay1 k7_pay2 (fun n => block cfg7 W c 0 (pt (p := cfg7.N) (by decide) n)) (fun n => block cfg7 W c 1 (pt (p := cfg7.N) (by decide) n))

def dwsAfter (c : Dev nD) (w : Fin cfg7.W) (t : Fin cfg7.N) : (cfg7.win w).block.Idx → Elt F (cfg7.win w).elt :=
  match w with
  | ⟨0, _⟩ => block cfg7 W c 0 t
  | ⟨1, _⟩ => block cfg7 W c 1 t
  | ⟨2, _⟩ => k7_pay3 (dwsSums W c (t.val + 1))

/-- The call's proof data. -/
def dwsDat (c : Dev nD) : Dat τ (Elt F) Unit ℕ (UR sig nD τ) ℕ cfg7 c :=
  data cfg7 W c (dwsAfter W c) fun t => keeps 4 cfg7 c cc7_scratch0 (Memref.whole cc7_scratch0) (dwsSums W c) t.val

theorem dws_eq (t : Fin cfg7.N) : defs₀ (F := F) .tc cfg7.body (cfg7.bodyArgs t (cfg7.slots t))
    = sweep h_S2048x1024 h_S2048x768 h_S1024x768 k7_pay1 k7_pay2 k7_pay3 (BitVec.ofNat 32 (t.val % 4)) (st7_0 t) (st7_1 t) (st7_2 t)
      (View.stores_vmem h_S1024x768 ((hstage7_2 ((cfg7.slots t 2).cast nbuf7_2)).storeExact_slice rfl _ packedbf16_S1024x768_S1024x768_0_0) (fun _ => rfl))
      (Memref.whole cc7_scratch0) := by
  rw [← (Pipeline.Grid.coords_val (S := 1) t 2 (by decide) rfl).trans (congrArg (· % 4) (Nat.div_one t.val))]
  unfold defs₀; rw [Defs.onTc_tc]; rfl

theorem dws_obligation (c : Dev nD) : BodyObligation (dwsDat W c) (defs₀ (F := F)) Variants.none () Set.univ :=
  sweep_obligation h_S2048x1024 h_S2048x768 h_S1024x768 k7_pay1 k7_pay2 k7_pay3 (dwsDat W c) (0 : Fin cfg7.W) (1 : Fin cfg7.W) (2 : Fin cfg7.W)
    (fun Φ => bigSep_W7 Φ) (by decide) (fun t => st7_0 t) (fun t => st7_1 t) (fun t => st7_2 t) _ (Memref.whole cc7_scratch0) cc7_scratch0
    (fun t => block cfg7 W c 0 t) (fun t => block cfg7 W c 1 t) (fun t d => (dwsDat W c).before 2 t d) dws_eq (fun _ => rfl) (fun _ => rfl)
    (fun t => held_of c (st7_0 t) ((dwsDat W c).before 0 t) _ ((dwsDat W c).before_in_eq_fetched 0 rfl (fun _ => rfl) (fun _ _ _ => rfl) (fun _ => rfl) t))
    (fun t => held_of c (st7_1 t) ((dwsDat W c).before 1 t) _ ((dwsDat W c).before_in_eq_fetched 1 rfl (fun _ => rfl) (fun _ _ _ => rfl) (fun _ => rfl) t))
    (fun _ => rfl) (fun _ => rfl) (fun _ => rfl) (fun t => leaves_at (dwsDat W c) 2 4 3 (by decide +kernel) (by decide +kernel) t)

/-- The sums of the fourth weight's gradient. -/
def dwwSums (c : Dev nD) : ℕ → Vec F S1024x512 .f32 :=
  sums k8_pay1 k8_pay2 (fun n => block cfg8 W c 0 (pt (p := cfg8.N) (by decide) n)) (fun n => block cfg8 W c 1 (pt (p := cfg8.N) (by decide) n))

def dwwAfter (c : Dev nD) (w : Fin cfg8.W) (t : Fin cfg8.N) : (cfg8.win w).block.Idx → Elt F (cfg8.win w).elt :=
  match w with
  | ⟨0, _⟩ => block cfg8 W c 0 t
  | ⟨1, _⟩ => block cfg8 W c 1 t
  | ⟨2, _⟩ => k8_pay3 (dwwSums W c (t.val + 1))

/-- The call's proof data. -/
def dwwDat (c : Dev nD) : Dat τ (Elt F) Unit ℕ (UR sig nD τ) ℕ cfg8 c :=
  data cfg8 W c (dwwAfter W c) fun t => keeps 4 cfg8 c cc8_scratch0 (Memref.whole cc8_scratch0) (dwwSums W c) t.val

theorem dww_eq (t : Fin cfg8.N) : defs₀ (F := F) .tc cfg8.body (cfg8.bodyArgs t (cfg8.slots t))
    = sweep h_S2048x1024 h_S2048x512 h_S1024x512 k8_pay1 k8_pay2 k8_pay3 (BitVec.ofNat 32 (t.val % 4)) (st8_0 t) (st8_1 t) (st8_2 t)
      (View.stores_vmem h_S1024x512 ((hstage8_2 ((cfg8.slots t 2).cast nbuf8_2)).storeExact_slice rfl _ packedbf16_S1024x512_S1024x512_0_0) (fun _ => rfl))
      (Memref.whole cc8_scratch0) := by
  rw [← (Pipeline.Grid.coords_val (S := 1) t 2 (by decide) rfl).trans (congrArg (· % 4) (Nat.div_one t.val))]
  unfold defs₀; rw [Defs.onTc_tc]; rfl

theorem dww_obligation (c : Dev nD) : BodyObligation (dwwDat W c) (defs₀ (F := F)) Variants.none () Set.univ :=
  sweep_obligation h_S2048x1024 h_S2048x512 h_S1024x512 k8_pay1 k8_pay2 k8_pay3 (dwwDat W c) (0 : Fin cfg8.W) (1 : Fin cfg8.W) (2 : Fin cfg8.W)
    (fun Φ => bigSep_W8 Φ) (by decide) (fun t => st8_0 t) (fun t => st8_1 t) (fun t => st8_2 t) _ (Memref.whole cc8_scratch0) cc8_scratch0
    (fun t => block cfg8 W c 0 t) (fun t => block cfg8 W c 1 t) (fun t d => (dwwDat W c).before 2 t d) dww_eq (fun _ => rfl) (fun _ => rfl)
    (fun t => held_of c (st8_0 t) ((dwwDat W c).before 0 t) _ ((dwwDat W c).before_in_eq_fetched 0 rfl (fun _ => rfl) (fun _ _ _ => rfl) (fun _ => rfl) t))
    (fun t => held_of c (st8_1 t) ((dwwDat W c).before 1 t) _ ((dwwDat W c).before_in_eq_fetched 1 rfl (fun _ => rfl) (fun _ _ _ => rfl) (fun _ => rfl) t))
    (fun _ => rfl) (fun _ => rfl) (fun _ => rfl) (fun t => leaves_at (dwwDat W c) 2 4 3 (by decide +kernel) (by decide +kernel) t)

/-- The sums of the fifth weight's gradient. -/
def dwfSums (c : Dev nD) : ℕ → Vec F S1024x896 .f32 :=
  sums k9_pay1 k9_pay2 (fun n => block cfg9 W c 0 (pt (p := cfg9.N) (by decide) n)) (fun n => block cfg9 W c 1 (pt (p := cfg9.N) (by decide) n))

def dwfAfter (c : Dev nD) (w : Fin cfg9.W) (t : Fin cfg9.N) : (cfg9.win w).block.Idx → Elt F (cfg9.win w).elt :=
  match w with
  | ⟨0, _⟩ => block cfg9 W c 0 t
  | ⟨1, _⟩ => block cfg9 W c 1 t
  | ⟨2, _⟩ => k9_pay3 (dwfSums W c (t.val + 1))

/-- The call's proof data. -/
def dwfDat (c : Dev nD) : Dat τ (Elt F) Unit ℕ (UR sig nD τ) ℕ cfg9 c :=
  data cfg9 W c (dwfAfter W c) fun t => keeps 4 cfg9 c cc9_scratch0 (Memref.whole cc9_scratch0) (dwfSums W c) t.val

theorem dwf_eq (t : Fin cfg9.N) : defs₀ (F := F) .tc cfg9.body (cfg9.bodyArgs t (cfg9.slots t))
    = sweep h_S2048x1024 h_S2048x896 h_S1024x896 k9_pay1 k9_pay2 k9_pay3 (BitVec.ofNat 32 (t.val % 4)) (st9_0 t) (st9_1 t) (st9_2 t)
      (View.stores_vmem h_S1024x896 ((hstage9_2 ((cfg9.slots t 2).cast nbuf9_2)).storeExact_slice rfl _ packedbf16_S1024x896_S1024x896_0_0) (fun _ => rfl))
      (Memref.whole cc9_scratch0) := by
  rw [← (Pipeline.Grid.coords_val (S := 1) t 2 (by decide) rfl).trans (congrArg (· % 4) (Nat.div_one t.val))]
  unfold defs₀; rw [Defs.onTc_tc]; rfl

theorem dwf_obligation (c : Dev nD) : BodyObligation (dwfDat W c) (defs₀ (F := F)) Variants.none () Set.univ :=
  sweep_obligation h_S2048x1024 h_S2048x896 h_S1024x896 k9_pay1 k9_pay2 k9_pay3 (dwfDat W c) (0 : Fin cfg9.W) (1 : Fin cfg9.W) (2 : Fin cfg9.W)
    (fun Φ => bigSep_W9 Φ) (by decide) (fun t => st9_0 t) (fun t => st9_1 t) (fun t => st9_2 t) _ (Memref.whole cc9_scratch0) cc9_scratch0
    (fun t => block cfg9 W c 0 t) (fun t => block cfg9 W c 1 t) (fun t d => (dwfDat W c).before 2 t d) dwf_eq (fun _ => rfl) (fun _ => rfl)
    (fun t => held_of c (st9_0 t) ((dwfDat W c).before 0 t) _ ((dwfDat W c).before_in_eq_fetched 0 rfl (fun _ => rfl) (fun _ _ _ => rfl) (fun _ => rfl) t))
    (fun t => held_of c (st9_1 t) ((dwfDat W c).before 1 t) _ ((dwfDat W c).before_in_eq_fetched 1 rfl (fun _ => rfl) (fun _ _ _ => rfl) (fun _ => rfl) t))
    (fun _ => rfl) (fun _ => rfl) (fun _ => rfl) (fun t => leaves_at (dwfDat W c) 2 4 3 (by decide +kernel) (by decide +kernel) t)

end Cert.Proj

end
-- ==== Proof.ProjDh.lean ====
/- The projection program's last call, the activations' gradient: the sum of five products with transposed weights, the first of them
   in four blocks, added up in a scratch buffer over eight points and written out at the last of them. -/
module

public import proofs.«01_k».proof.Proof.ProjDw

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The body at inner coordinate `k`: clear the sum at 0, add the first pair's product at 0 to 3 and one of the other four pairs' at
    each of 4 to 7, and at 7 write the sum out. -/
def dhSweep (k : BitVec 32)
    (m0 : Memref sig .tc .vmem S512x1024 .bf16) (m1 : Memref sig .tc .vmem S1024x1024 .bf16)
    (m2 : Memref sig .tc .vmem S512x512 .bf16) (m3 : Memref sig .tc .vmem S1024x512 .bf16)
    (m4 : Memref sig .tc .vmem S512x768 .bf16) (m5 : Memref sig .tc .vmem S1024x768 .bf16)
    (m6 : Memref sig .tc .vmem S512x512 .bf16) (m7 : Memref sig .tc .vmem S1024x512 .bf16)
    (m8 : Memref sig .tc .vmem S512x896 .bf16) (m9 : Memref sig .tc .vmem S1024x896 .bf16)
    (mo : Memref sig .tc .vmem S512x1024 .f32) (m : Memref sig .tc .vmem S512x1024 .f32) :
    Prog (TpuEff nD τ sig (Elt F) Λ₀ .tc) PUnit :=
  clearIf h_S512x1024 (equals k 0#32) k10_pay1 m <|
    addIf h_S512x1024 h_S512x1024 h_S1024x1024 (within k 0#32 4#32) k10_pay2 m0 m1 m <|
    addIf h_S512x1024 h_S512x512 h_S1024x512 (within k 4#32 5#32) k10_pay3 m2 m3 m <|
    addIf h_S512x1024 h_S512x768 h_S1024x768 (within k 5#32 6#32) k10_pay4 m4 m5 m <|
    addIf h_S512x1024 h_S512x512 h_S1024x512 (within k 6#32 7#32) k10_pay5 m6 m7 m <|
    addIf h_S512x1024 h_S512x896 h_S1024x896 (within k 7#32 8#32) k10_pay6 m8 m9 m <|
    writeIf h_S512x1024 (equals k 7#32) (fun v => v) m mo (View.stores_vmem_bits_univ h_S512x1024 rfl) <| pure ⟨⟩

theorem dh_eq (i : grid10.Coords)
    (m0 : Memref sig .tc .vmem S512x1024 .bf16) (h0 : m0.IsWhole) (m1 : Memref sig .tc .vmem S1024x1024 .bf16) (h1 : m1.IsWhole)
    (m2 : Memref sig .tc .vmem S512x512 .bf16) (h2 : m2.IsWhole) (m3 : Memref sig .tc .vmem S1024x512 .bf16) (h3 : m3.IsWhole)
    (m4 : Memref sig .tc .vmem S512x768 .bf16) (h4 : m4.IsWhole) (m5 : Memref sig .tc .vmem S1024x768 .bf16) (h5 : m5.IsWhole)
    (m6 : Memref sig .tc .vmem S512x512 .bf16) (h6 : m6.IsWhole) (m7 : Memref sig .tc .vmem S1024x512 .bf16) (h7 : m7.IsWhole)
    (m8 : Memref sig .tc .vmem S512x896 .bf16) (h8 : m8.IsWhole) (m9 : Memref sig .tc .vmem S1024x896 .bf16) (h9 : m9.IsWhole)
    (mo : Memref sig .tc .vmem S512x1024 .f32) (ho : mo.IsWhole) (m : Memref sig .tc .vmem S512x1024 .f32) (hm : m.IsWhole) :
    cc10_mix_dh (F := F) i m0 h0 m1 h1 m2 h2 m3 h3 m4 h4 m5 h5 m6 h6 m7 h7 m8 h8 m9 h9 mo ho m hm
      = (dhSweep (BitVec.ofNat 32 (i 2).val) m0 m1 m2 m3 m4 m5 m6 m7 m8 m9 mo m >>= fun _ => pure ⟨⟩) := rfl

/-- The sum after a point. -/
def dhStep (k : ℕ) (acc : Vec F S512x1024 .f32) (x0 : Vec F S512x1024 .bf16) (x1 : Vec F S1024x1024 .bf16) (x2 : Vec F S512x512 .bf16) (x3 : Vec F S1024x512 .bf16) (x4 : Vec F S512x768 .bf16) (x5 : Vec F S1024x768 .bf16) (x6 : Vec F S512x512 .bf16) (x7 : Vec F S1024x512 .bf16) (x8 : Vec F S512x896 .bf16) (x9 : Vec F S1024x896 .bf16) : Vec F S512x1024 .f32 :=
  let v0 : Vec F S512x1024 .f32 := if k = 0 then k10_pay1 else acc
  let v1 : Vec F S512x1024 .f32 := if k < 4 then k10_pay2 v0 x0 x1 else v0
  let v2 : Vec F S512x1024 .f32 := if k = 4 then k10_pay3 v1 x2 x3 else v1
  let v3 : Vec F S512x1024 .f32 := if k = 5 then k10_pay4 v2 x4 x5 else v2
  let v4 : Vec F S512x1024 .f32 := if k = 6 then k10_pay5 v3 x6 x7 else v3
  if k = 7 then k10_pay6 v4 x8 x9 else v4

theorem one_iff (k v : ℕ) (hk : k < 8) (hv : v < 8) : within (BitVec.ofNat 32 k) (BitVec.ofNat 32 v) (BitVec.ofNat 32 (v + 1)) = 1#1 ↔ k = v :=
  (within_iff k v (v + 1) hk (by omega) (by omega)).trans ⟨fun h => by omega, fun h => by omega⟩

set_option maxHeartbeats 1000000 in
/-- The body on whole buffers: the operands are kept, the sum is stepped, and the output is written at the last point only. -/
theorem dh_body (c : Dev nD) (k : ℕ) (hk : k < 8)
    (m0 : Memref sig .tc .vmem S512x1024 .bf16) (m1 : Memref sig .tc .vmem S1024x1024 .bf16)
    (m2 : Memref sig .tc .vmem S512x512 .bf16) (m3 : Memref sig .tc .vmem S1024x512 .bf16)
    (m4 : Memref sig .tc .vmem S512x768 .bf16) (m5 : Memref sig .tc .vmem S1024x768 .bf16)
    (m6 : Memref sig .tc .vmem S512x512 .bf16) (m7 : Memref sig .tc .vmem S1024x512 .bf16)
    (m8 : Memref sig .tc .vmem S512x896 .bf16) (m9 : Memref sig .tc .vmem S1024x896 .bf16)
    (mo : Memref sig .tc .vmem S512x1024 .f32) (m : Memref sig .tc .vmem S512x1024 .f32)
    (x0 : Vec F S512x1024 .bf16) (x1 : Vec F S1024x1024 .bf16) (x2 : Vec F S512x512 .bf16) (x3 : Vec F S1024x512 .bf16) (x4 : Vec F S512x768 .bf16) (x5 : Vec F S1024x768 .bf16) (x6 : Vec F S512x512 .bf16) (x7 : Vec F S1024x512 .bf16) (x8 : Vec F S512x896 .bf16) (x9 : Vec F S1024x896 .bf16) (o s : Vec F S512x1024 .f32) (K : PUnit → sProp 𝕄) :
    iprop(owns (c : Thread nD τ) m0 fullShare x0 ∗ owns (c : Thread nD τ) m1 fullShare x1
        ∗ owns (c : Thread nD τ) m2 fullShare x2 ∗ owns (c : Thread nD τ) m3 fullShare x3
        ∗ owns (c : Thread nD τ) m4 fullShare x4 ∗ owns (c : Thread nD τ) m5 fullShare x5
        ∗ owns (c : Thread nD τ) m6 fullShare x6 ∗ owns (c : Thread nD τ) m7 fullShare x7
        ∗ owns (c : Thread nD τ) m8 fullShare x8 ∗ owns (c : Thread nD τ) m9 fullShare x9
        ∗ owns (c : Thread nD τ) mo fullShare o ∗ owns (c : Thread nD τ) m fullShare s
        ∗ (iprop(owns (c : Thread nD τ) m0 fullShare x0 ∗ owns (c : Thread nD τ) m1 fullShare x1
            ∗ owns (c : Thread nD τ) m2 fullShare x2 ∗ owns (c : Thread nD τ) m3 fullShare x3
            ∗ owns (c : Thread nD τ) m4 fullShare x4 ∗ owns (c : Thread nD τ) m5 fullShare x5
            ∗ owns (c : Thread nD τ) m6 fullShare x6 ∗ owns (c : Thread nD τ) m7 fullShare x7
            ∗ owns (c : Thread nD τ) m8 fullShare x8 ∗ owns (c : Thread nD τ) m9 fullShare x9
            ∗ owns (c : Thread nD τ) mo fullShare (if k = 7 then dhStep k s x0 x1 x2 x3 x4 x5 x6 x7 x8 x9 else o)
            ∗ owns (c : Thread nD τ) m fullShare (dhStep k s x0 x1 x2 x3 x4 x5 x6 x7 x8 x9)) -∗ K ⟨⟩))
      ⊢ wp frame (wpE (defs₀ (F := F)) Variants.none c none) Set.univ
          (dhSweep (BitVec.ofNat 32 k) m0 m1 m2 m3 m4 m5 m6 m7 m8 m9 mo m >>= fun _ => pure ⟨⟩) K := by
  rw [wp_bind]
  unfold dhSweep
  iintro ⟨H0, H1, H2, H3, H4, H5, H6, H7, H8, H9, Ho, H, Hk⟩
  iapply (clearIf_body h_S512x1024 c _ (k = 0) (equals_iff k 0 hk (by decide)) k10_pay1 m s _ _)
  isplitl [H]; · iexact H
  iintro H
  iapply (addIf_body h_S512x1024 h_S512x1024 h_S1024x1024 c _ (k < 4) ((within_iff k 0 4 hk (by decide) (by decide)).trans ⟨fun h => h.2, fun h => ⟨Nat.zero_le _, h⟩⟩) k10_pay2 m0 m1 m x0 x1 _ _ _)
  isplitl [H0]; · iexact H0
  isplitl [H1]; · iexact H1
  isplitl [H]; · iexact H
  iintro ⟨H0, H1, H⟩
  iapply (addIf_body h_S512x1024 h_S512x512 h_S1024x512 c _ (k = 4) (one_iff k 4 hk (by decide)) k10_pay3 m2 m3 m x2 x3 _ _ _)
  isplitl [H2]; · iexact H2
  isplitl [H3]; · iexact H3
  isplitl [H]; · iexact H
  iintro ⟨H2, H3, H⟩
  iapply (addIf_body h_S512x1024 h_S512x768 h_S1024x768 c _ (k = 5) (one_iff k 5 hk (by decide)) k10_pay4 m4 m5 m x4 x5 _ _ _)
  isplitl [H4]; · iexact H4
  isplitl [H5]; · iexact H5
  isplitl [H]; · iexact H
  iintro ⟨H4, H5, H⟩
  iapply (addIf_body h_S512x1024 h_S512x512 h_S1024x512 c _ (k = 6) (one_iff k 6 hk (by decide)) k10_pay5 m6 m7 m x6 x7 _ _ _)
  isplitl [H6]; · iexact H6
  isplitl [H7]; · iexact H7
  isplitl [H]; · iexact H
  iintro ⟨H6, H7, H⟩
  iapply (addIf_body h_S512x1024 h_S512x896 h_S1024x896 c _ (k = 7) (one_iff k 7 hk (by decide)) k10_pay6 m8 m9 m x8 x9 _ _ _)
  isplitl [H8]; · iexact H8
  isplitl [H9]; · iexact H9
  isplitl [H]; · iexact H
  iintro ⟨H8, H9, H⟩
  iapply (writeIf_body h_S512x1024 c _ (k = 7) (equals_iff k 7 hk (by decide)) (fun v => v) m mo _ _ o _ _)
  isplitl [H]; · iexact H
  isplitl [Ho]; · iexact Ho
  iintro ⟨H, Ho⟩
  sl_step
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho]; · iexact Ho
  iexact H

variable (W : Held F)

/-- The point of a number, the numbers counted round. -/
def dhPt (n : ℕ) : Fin cfg10.N := ⟨n % 128, lt_of_lt_of_eq (Nat.mod_lt _ (by decide)) N_10.symm⟩

theorem dhPt_val (t : Fin cfg10.N) : dhPt t.val = t := Fin.ext (Nat.mod_eq_of_lt (lt_of_lt_of_eq t.isLt N_10))

/-- The sum after a point, from the blocks the call finds there. -/
def dhNext (c : Dev nD) (t : Fin cfg10.N) (acc : Vec F S512x1024 .f32) : Vec F S512x1024 .f32 :=
  dhStep (t.val % 8) acc (block cfg10 W c 0 t) (block cfg10 W c 1 t) (block cfg10 W c 2 t) (block cfg10 W c 3 t) (block cfg10 W c 4 t) (block cfg10 W c 5 t) (block cfg10 W c 6 t) (block cfg10 W c 7 t) (block cfg10 W c 8 t) (block cfg10 W c 9 t)

/-- The sums before each point. -/
def dhSums (c : Dev nD) : ℕ → Vec F S512x1024 .f32
  | 0 => k10_pay1
  | n + 1 => dhNext W c (dhPt n) (dhSums c n)

def dhAfter (c : Dev nD) (w : Fin cfg10.W) (t : Fin cfg10.N) : (cfg10.win w).block.Idx → Elt F (cfg10.win w).elt :=
  match w with
  | ⟨0, _⟩ => block cfg10 W c 0 t
  | ⟨1, _⟩ => block cfg10 W c 1 t
  | ⟨2, _⟩ => block cfg10 W c 2 t
  | ⟨3, _⟩ => block cfg10 W c 3 t
  | ⟨4, _⟩ => block cfg10 W c 4 t
  | ⟨5, _⟩ => block cfg10 W c 5 t
  | ⟨6, _⟩ => block cfg10 W c 6 t
  | ⟨7, _⟩ => block cfg10 W c 7 t
  | ⟨8, _⟩ => block cfg10 W c 8 t
  | ⟨9, _⟩ => block cfg10 W c 9 t
  | ⟨10, _⟩ => dhSums W c (t.val + 1)

/-- What the call keeps between points: the sum's buffer, and what it does not touch. -/
def dhInv (c : Dev nD) (n : ℕ) (_ : n ≤ cfg10.N) : sProp 𝕄 :=
  iprop(sumAt 8 c (Memref.whole cc10_scratch0) (dhSums W c) n ∗ Pipeline.scopedRestBut spec10 c [cc10_scratch0] ∗ ∃ r, prngReg c r)

/-- The proof data of the call. -/
def dhDat (c : Dev nD) : Dat τ (Elt F) Unit ℕ (UR sig nD τ) ℕ cfg10 c :=
  data cfg10 W c (dhAfter W c) fun t => dhInv W c t.val (Nat.le_of_lt_succ t.isLt)

theorem dh_idle : ∀ t : Fin cfg10.N, t.val % 8 ≠ 7 → cfg10.idle 10 (grid10.coords t) = true ∧ (cfg10.win 10).flush t = false := by
  decide +kernel

theorem dh_live : ∀ t : Fin cfg10.N, t.val % 8 = 7 → cfg10.idle 10 (grid10.coords t) = false := by decide +kernel

theorem dh_leaves (c : Dev nD) (t : Fin cfg10.N) : (dhDat W c).leavesExact 10 t
    = if t.val % 8 = 7 then owns (c : Thread nD τ) (st10_10 t) fullShare (dhSums W c (t.val + 1))
      else iprop(∃ d, owns (c : Thread nD τ) (st10_10 t) fullShare ((dhDat W c).before 10 t d)) := by
  by_cases h : t.val % 8 = 7
  · rw [if_pos h]; unfold Dat.leavesExact; rw [dh_live t h]; rfl
  · rw [if_neg h]; exact (dhDat W c).leavesExact_idle 10 t (dh_idle t h).1 (dh_idle t h).2

theorem dh_call (t : Fin cfg10.N) : defs₀ (F := F) .tc cfg10.body (cfg10.bodyArgs t (cfg10.slots t)) = bodyAt10 t := by
  unfold defs₀; rw [Defs.onTc_tc]

set_option maxHeartbeats 1000000 in
theorem dh_obligation (c : Dev nD) : BodyObligation (dhDat W c) (defs₀ (F := F)) Variants.none () Set.univ := fun t => by
  rw [bigSep_W10, bigSep_W10, dh_call]
  have e : (grid10.coords t 2).val = t.val % 8 := (Pipeline.Grid.coords_val (S := 1) t 2 (by decide) rfl).trans (congrArg (· % 8) (Nat.div_one t.val))
  have b0 : ∀ d, (dhDat W c).before 0 t d = block cfg10 W c 0 t :=
    (dhDat W c).before_in_eq_fetched 0 rfl (fun _ => rfl) (fun _ _ _ => rfl) (fun _ => rfl) t
  have b1 : ∀ d, (dhDat W c).before 1 t d = block cfg10 W c 1 t :=
    (dhDat W c).before_in_eq_fetched 1 rfl (fun _ => rfl) (fun _ _ _ => rfl) (fun _ => rfl) t
  have b2 : ∀ d, (dhDat W c).before 2 t d = block cfg10 W c 2 t :=
    (dhDat W c).before_in_eq_fetched 2 rfl (fun _ => rfl) (fun _ _ _ => rfl) (fun _ => rfl) t
  have b3 : ∀ d, (dhDat W c).before 3 t d = block cfg10 W c 3 t :=
    (dhDat W c).before_in_eq_fetched 3 rfl (fun _ => rfl) (fun _ _ _ => rfl) (fun _ => rfl) t
  have b4 : ∀ d, (dhDat W c).before 4 t d = block cfg10 W c 4 t :=
    (dhDat W c).before_in_eq_fetched 4 rfl (fun _ => rfl) (fun _ _ _ => rfl) (fun _ => rfl) t
  have b5 : ∀ d, (dhDat W c).before 5 t d = block cfg10 W c 5 t :=
    (dhDat W c).before_in_eq_fetched 5 rfl (fun _ => rfl) (fun _ _ _ => rfl) (fun _ => rfl) t
  have b6 : ∀ d, (dhDat W c).before 6 t d = block cfg10 W c 6 t :=
    (dhDat W c).before_in_eq_fetched 6 rfl (fun _ => rfl) (fun _ _ _ => rfl) (fun _ => rfl) t
  have b7 : ∀ d, (dhDat W c).before 7 t d = block cfg10 W c 7 t :=
    (dhDat W c).before_in_eq_fetched 7 rfl (fun _ => rfl) (fun _ _ _ => rfl) (fun _ => rfl) t
  have b8 : ∀ d, (dhDat W c).before 8 t d = block cfg10 W c 8 t :=
    (dhDat W c).before_in_eq_fetched 8 rfl (fun _ => rfl) (fun _ _ _ => rfl) (fun _ => rfl) t
  have b9 : ∀ d, (dhDat W c).before 9 t d = block cfg10 W c 9 t :=
    (dhDat W c).before_in_eq_fetched 9 rfl (fun _ => rfl) (fun _ _ _ => rfl) (fun _ => rfl) t
  show iprop((dhDat W c).Φ t.castSucc ∗ (dhDat W c).owesAt () t.castSucc
    ∗ (∃ d, owns (c : Thread nD τ) (st10_0 t) fullShare ((dhDat W c).before 0 t d))
    ∗ (∃ d, owns (c : Thread nD τ) (st10_1 t) fullShare ((dhDat W c).before 1 t d))
    ∗ (∃ d, owns (c : Thread nD τ) (st10_2 t) fullShare ((dhDat W c).before 2 t d))
    ∗ (∃ d, owns (c : Thread nD τ) (st10_3 t) fullShare ((dhDat W c).before 3 t d))
    ∗ (∃ d, owns (c : Thread nD τ) (st10_4 t) fullShare ((dhDat W c).before 4 t d))
    ∗ (∃ d, owns (c : Thread nD τ) (st10_5 t) fullShare ((dhDat W c).before 5 t d))
    ∗ (∃ d, owns (c : Thread nD τ) (st10_6 t) fullShare ((dhDat W c).before 6 t d))
    ∗ (∃ d, owns (c : Thread nD τ) (st10_7 t) fullShare ((dhDat W c).before 7 t d))
    ∗ (∃ d, owns (c : Thread nD τ) (st10_8 t) fullShare ((dhDat W c).before 8 t d))
    ∗ (∃ d, owns (c : Thread nD τ) (st10_9 t) fullShare ((dhDat W c).before 9 t d))
    ∗ (∃ d, owns (c : Thread nD τ) (st10_10 t) fullShare ((dhDat W c).before 10 t d)))
    ⊢ wp frame (wpE (defs₀ (F := F)) Variants.none c none) Set.univ (bodyAt10 t) (fun _ =>
      iprop(dhInv W c (t.val + 1) t.isLt ∗ (dhDat W c).owesAt () t.castSucc
        ∗ owns (c : Thread nD τ) (st10_0 t) fullShare (block cfg10 W c 0 t)
        ∗ owns (c : Thread nD τ) (st10_1 t) fullShare (block cfg10 W c 1 t)
        ∗ owns (c : Thread nD τ) (st10_2 t) fullShare (block cfg10 W c 2 t)
        ∗ owns (c : Thread nD τ) (st10_3 t) fullShare (block cfg10 W c 3 t)
        ∗ owns (c : Thread nD τ) (st10_4 t) fullShare (block cfg10 W c 4 t)
        ∗ owns (c : Thread nD τ) (st10_5 t) fullShare (block cfg10 W c 5 t)
        ∗ owns (c : Thread nD τ) (st10_6 t) fullShare (block cfg10 W c 6 t)
        ∗ owns (c : Thread nD τ) (st10_7 t) fullShare (block cfg10 W c 7 t)
        ∗ owns (c : Thread nD τ) (st10_8 t) fullShare (block cfg10 W c 8 t)
        ∗ owns (c : Thread nD τ) (st10_9 t) fullShare (block cfg10 W c 9 t)
        ∗ (dhDat W c).leavesExact 10 t))
  rw [show (dhDat W c).Φ t.castSucc = dhInv W c t.val (Nat.le_of_lt t.isLt) from Pipeline.Dat.Φ_castSucc (dhInv W c) t, dh_leaves]
  simp only [b0, b1, b2, b3, b4, b5, b6, b7, b8, b9]
  unfold bodyAt10 dhInv sumAt
  rw [dh_eq, e]
  iintro ⟨⟨⟨%w, %hw, H⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d, Ho⟩⟩
  have hnext : dhNext W c t w = dhSums W c (t.val + 1) := by
    show _ = dhNext W c (dhPt t.val) (dhSums W c t.val)
    rw [dhPt_val]
    unfold dhNext dhStep
    by_cases h : t.val % 8 = 0
    · rw [if_pos h, if_pos h]
    · rw [hw h]
  iapply (dh_body c (t.val % 8) (Nat.mod_lt _ (by decide)) (st10_0 t) (st10_1 t) (st10_2 t) (st10_3 t) (st10_4 t) (st10_5 t) (st10_6 t) (st10_7 t) (st10_8 t) (st10_9 t) (st10_10 t) (Memref.whole cc10_scratch0)
    (block cfg10 W c 0 t) (block cfg10 W c 1 t) (block cfg10 W c 2 t) (block cfg10 W c 3 t) (block cfg10 W c 4 t) (block cfg10 W c 5 t) (block cfg10 W c 6 t) (block cfg10 W c 7 t) (block cfg10 W c 8 t) (block cfg10 W c 9 t)
    ((dhDat W c).before 10 t d) w _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho]; · iexact Ho
  isplitl [H]; · iexact H
  rw [show dhStep (t.val % 8) w (block cfg10 W c 0 t) (block cfg10 W c 1 t) (block cfg10 W c 2 t) (block cfg10 W c 3 t) (block cfg10 W c 4 t) (block cfg10 W c 5 t) (block cfg10 W c 6 t) (block cfg10 W c 7 t) (block cfg10 W c 8 t) (block cfg10 W c 9 t) = dhSums W c (t.val + 1) from hnext]
  iintro ⟨H0, H1, H2, H3, H4, H5, H6, H7, H8, H9, Ho, H⟩
  isplitl [H HR]
  · isplitl [H]
    · iexists _; isplitr
      swap; · iexact H
      ipureintro; exact fun _ => rfl
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  by_cases h : t.val % 8 = 7
  · rw [if_pos h, if_pos h]; iexact Ho
  · rw [if_neg h, if_neg h]; iexists d; iexact Ho

end Cert.Proj

end
-- ==== Proof.ProjMix.lean ====
/- The projection program's last two calls: the gated merge of the four branches, a block of rows at each point, and the
   gradient of the output weight. -/
module

public import proofs.«01_k».proof.Proof.ProjDh

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The first, second, third and fourth 1024 columns of the gates' block, and the four weights of the stack. -/
abbrev cut0 (z : Vec F S256x4096 .f32) : Vec F S256x1024 .f32 := View.ld z (Rect.unit (s := S256x4096) ![0, 0] S256x1024.size inb_S256x4096_S256x1024_0_0)
abbrev cut1 (z : Vec F S256x4096 .f32) : Vec F S256x1024 .f32 := View.ld z (Rect.unit (s := S256x4096) ![0, 1024] S256x1024.size inb_S256x4096_S256x1024_0_1024)
abbrev cut2 (z : Vec F S256x4096 .f32) : Vec F S256x1024 .f32 := View.ld z (Rect.unit (s := S256x4096) ![0, 2048] S256x1024.size inb_S256x4096_S256x1024_0_2048)
abbrev cut3 (z : Vec F S256x4096 .f32) : Vec F S256x1024 .f32 := View.ld z (Rect.unit (s := S256x4096) ![0, 3072] S256x1024.size inb_S256x4096_S256x1024_0_3072)
abbrev slab0 (w : Vec F S4x256x1024 .bf16) : Vec F S1x256x1024 .bf16 := View.ld w (Rect.unit (s := S4x256x1024) ![0, 0, 0] S1x256x1024.size inb_S4x256x1024_S1x256x1024_0_0_0)
abbrev slab1 (w : Vec F S4x256x1024 .bf16) : Vec F S1x256x1024 .bf16 := View.ld w (Rect.unit (s := S4x256x1024) ![1, 0, 0] S1x256x1024.size inb_S4x256x1024_S1x256x1024_1_0_0)
abbrev slab2 (w : Vec F S4x256x1024 .bf16) : Vec F S1x256x1024 .bf16 := View.ld w (Rect.unit (s := S4x256x1024) ![2, 0, 0] S1x256x1024.size inb_S4x256x1024_S1x256x1024_2_0_0)
abbrev slab3 (w : Vec F S4x256x1024 .bf16) : Vec F S1x256x1024 .bf16 := View.ld w (Rect.unit (s := S4x256x1024) ![3, 0, 0] S1x256x1024.size inb_S4x256x1024_S1x256x1024_3_0_0)

/-- The gated sum of the first three branches. -/
abbrev three (a0 a1 a2 : Vec F S256x256 .f32) (z : Vec F S256x4096 .f32) (w : Vec F S4x256x1024 .bf16) : FVec F S256x1024 .f32 :=
  k11_pay4 (cut0 z) a0 (slab0 w) (cut1 z) a1 (slab1 w) (cut2 z) a2 (slab2 w)

/-- The merged block, rounded, -/
def mixSum (a0 a1 a2 a3 : Vec F S256x256 .f32) (z : Vec F S256x4096 .f32) (w : Vec F S4x256x1024 .bf16) : Vec F S256x1024 .bf16 :=
  k11_pay2 (three a0 a1 a2 z w) (k11_pay5 (cut3 z)) a3 (slab3 w)

/-- and its product with the output weight, added to what came in. -/
def mixOut (a0 a1 a2 a3 : Vec F S256x256 .f32) (z : Vec F S256x4096 .f32) (w : Vec F S4x256x1024 .bf16) (wo : Vec F S1024x1024 .bf16)
    (x : Vec F S256x1024 .f32) : Vec F S256x1024 .f32 :=
  k11_pay3 (three a0 a1 a2 z w) (k11_pay5 (cut3 z)) a3 (slab3 w) x wo

set_option maxHeartbeats 2000000 in
/-- The merge's body on whole buffers: the operands are kept and the two results are written. -/
theorem mix_body (c : Dev nD) (i : grid11.Coords)
    (m0 : Memref sig .tc .vmem S256x256 .f32) (h0 : m0.IsWhole) (m1 : Memref sig .tc .vmem S256x256 .f32) (h1 : m1.IsWhole) (m2 : Memref sig .tc .vmem S256x256 .f32) (h2 : m2.IsWhole) (m3 : Memref sig .tc .vmem S256x256 .f32) (h3 : m3.IsWhole) (m4 : Memref sig .tc .vmem S256x4096 .f32) (h4 : m4.IsWhole) (m5 : Memref sig .tc .vmem S4x256x1024 .bf16) (h5 : m5.IsWhole) (m6 : Memref sig .tc .vmem S1024x1024 .bf16) (h6 : m6.IsWhole) (m7 : Memref sig .tc .vmem S256x1024 .f32) (h7 : m7.IsWhole) (m8 : Memref sig .tc .vmem S256x1024 .f32) (h8 : m8.IsWhole) (m9 : Memref sig .tc .vmem S256x1024 .bf16) (h9 : m9.IsWhole)
    (a0 : Vec F S256x256 .f32) (a1 : Vec F S256x256 .f32) (a2 : Vec F S256x256 .f32) (a3 : Vec F S256x256 .f32) (z : Vec F S256x4096 .f32) (w : Vec F S4x256x1024 .bf16) (wo : Vec F S1024x1024 .bf16) (x : Vec F S256x1024 .f32) (K : PUnit → sProp 𝕄) :
    iprop(owns (c : Thread nD τ) m0 fullShare a0 ∗ owns (c : Thread nD τ) m1 fullShare a1 ∗ owns (c : Thread nD τ) m2 fullShare a2 ∗ owns (c : Thread nD τ) m3 fullShare a3 ∗ owns (c : Thread nD τ) m4 fullShare z ∗ owns (c : Thread nD τ) m5 fullShare w ∗ owns (c : Thread nD τ) m6 fullShare wo ∗ owns (c : Thread nD τ) m7 fullShare x
        ∗ (∃ d, owns (c : Thread nD τ) m8 fullShare d) ∗ (∃ d, owns (c : Thread nD τ) m9 fullShare d)
        ∗ (iprop(owns (c : Thread nD τ) m0 fullShare a0 ∗ owns (c : Thread nD τ) m1 fullShare a1 ∗ owns (c : Thread nD τ) m2 fullShare a2 ∗ owns (c : Thread nD τ) m3 fullShare a3 ∗ owns (c : Thread nD τ) m4 fullShare z ∗ owns (c : Thread nD τ) m5 fullShare w ∗ owns (c : Thread nD τ) m6 fullShare wo ∗ owns (c : Thread nD τ) m7 fullShare x
            ∗ owns (c : Thread nD τ) m8 fullShare (mixOut a0 a1 a2 a3 z w wo x) ∗ owns (c : Thread nD τ) m9 fullShare (mixSum a0 a1 a2 a3 z w)) -∗ K ⟨⟩))
      ⊢ wp frame (wpE (defs₀ (F := F)) Variants.none c none) Set.univ (cc11_mix_merge i m0 h0 m1 h1 m2 h2 m3 h3 m4 h4 m5 h5 m6 h6 m7 h7 m8 h8 m9 h9) K := by
  rw [cc11_mix_merge_eq_skeleton]
  unfold cc11_mix_merge_skel
  rw [k11_part1_eq_skeleton]
  unfold k11_part1_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
  subst e0 e1 e2 e3 e4 e5 e6 e7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (covers _ _ _ _ _), View.canon_cons_unit_zero zeros]
    unfold mixOut
    simp only [View.readAt_eq_ld, View.ld_unit_zero (S := S256x256) zeros, View.ld_unit_zero (S := S256x1024) zeros, View.ld_unit_zero (S := S1024x1024) zeros]
  iexists _; isplitr
  swap; · iexact H9
  ipureintro
  rw [View.read_writes_eq_canon _ _ _ (covers _ _ _ _ _), View.canon_cons_unit_zero zeros]
  unfold mixSum
  simp only [View.readAt_eq_ld, View.ld_unit_zero (S := S256x256) zeros]

variable (W : Held F)

/-- What the merge leaves in its windows at a point: the operands' blocks, the sum with what came in, and the merged block. -/
def mixAfter (c : Dev nD) (w : Fin cfg11.W) (t : Fin cfg11.N) : (cfg11.win w).block.Idx → Elt F (cfg11.win w).elt :=
  match w with
  | ⟨0, _⟩ => block cfg11 W c 0 t
  | ⟨1, _⟩ => block cfg11 W c 1 t
  | ⟨2, _⟩ => block cfg11 W c 2 t
  | ⟨3, _⟩ => block cfg11 W c 3 t
  | ⟨4, _⟩ => block cfg11 W c 4 t
  | ⟨5, _⟩ => block cfg11 W c 5 t
  | ⟨6, _⟩ => block cfg11 W c 6 t
  | ⟨7, _⟩ => block cfg11 W c 7 t
  | ⟨8, _⟩ => mixOut (block cfg11 W c 0 t) (block cfg11 W c 1 t) (block cfg11 W c 2 t) (block cfg11 W c 3 t) (block cfg11 W c 4 t) (block cfg11 W c 5 t) (block cfg11 W c 6 t) (block cfg11 W c 7 t)
  | ⟨9, _⟩ => mixSum (block cfg11 W c 0 t) (block cfg11 W c 1 t) (block cfg11 W c 2 t) (block cfg11 W c 3 t) (block cfg11 W c 4 t) (block cfg11 W c 5 t)

/-- The call's proof data. -/
def mixDat (c : Dev nD) : Dat τ (Elt F) Unit ℕ (UR sig nD τ) ℕ cfg11 c := data cfg11 W c (mixAfter W c) fun _ => Pipeline.ΦA spec11 c

theorem mix_call (t : Fin cfg11.N) : defs₀ (F := F) .tc cfg11.body (cfg11.bodyArgs t (cfg11.slots t)) = bodyAt11 t := by
  unfold defs₀; rw [Defs.onTc_tc]

theorem mix_obligation (c : Dev nD) : BodyObligation (mixDat W c) (defs₀ (F := F)) Variants.none () Set.univ := fun t => by
  rw [bigSep_W11, bigSep_W11, mix_call]
  show iprop(Pipeline.ΦA spec11 c ∗ (mixDat W c).owesAt () t.castSucc
    ∗ (∃ d, owns (c : Thread nD τ) (st11_0 t) fullShare ((mixDat W c).before 0 t d))
    ∗ (∃ d, owns (c : Thread nD τ) (st11_1 t) fullShare ((mixDat W c).before 1 t d))
    ∗ (∃ d, owns (c : Thread nD τ) (st11_2 t) fullShare ((mixDat W c).before 2 t d))
    ∗ (∃ d, owns (c : Thread nD τ) (st11_3 t) fullShare ((mixDat W c).before 3 t d))
    ∗ (∃ d, owns (c : Thread nD τ) (st11_4 t) fullShare ((mixDat W c).before 4 t d))
    ∗ (∃ d, owns (c : Thread nD τ) (st11_5 t) fullShare ((mixDat W c).before 5 t d))
    ∗ (∃ d, owns (c : Thread nD τ) (st11_6 t) fullShare ((mixDat W c).before 6 t d))
    ∗ (∃ d, owns (c : Thread nD τ) (st11_7 t) fullShare ((mixDat W c).before 7 t d))
    ∗ (∃ d, owns (c : Thread nD τ) (st11_8 t) fullShare ((mixDat W c).before 8 t d))
    ∗ (∃ d, owns (c : Thread nD τ) (st11_9 t) fullShare ((mixDat W c).before 9 t d)))
    ⊢ wp frame (wpE (defs₀ (F := F)) Variants.none c none) Set.univ (bodyAt11 t) (fun _ =>
      iprop(Pipeline.ΦA spec11 c ∗ (mixDat W c).owesAt () t.castSucc
        ∗ owns (c : Thread nD τ) (st11_0 t) fullShare (block cfg11 W c 0 t)
        ∗ owns (c : Thread nD τ) (st11_1 t) fullShare (block cfg11 W c 1 t)
        ∗ owns (c : Thread nD τ) (st11_2 t) fullShare (block cfg11 W c 2 t)
        ∗ owns (c : Thread nD τ) (st11_3 t) fullShare (block cfg11 W c 3 t)
        ∗ owns (c : Thread nD τ) (st11_4 t) fullShare (block cfg11 W c 4 t)
        ∗ owns (c : Thread nD τ) (st11_5 t) fullShare (block cfg11 W c 5 t)
        ∗ owns (c : Thread nD τ) (st11_6 t) fullShare (block cfg11 W c 6 t)
        ∗ owns (c : Thread nD τ) (st11_7 t) fullShare (block cfg11 W c 7 t)
        ∗ owns (c : Thread nD τ) (st11_8 t) fullShare (mixOut (block cfg11 W c 0 t) (block cfg11 W c 1 t) (block cfg11 W c 2 t) (block cfg11 W c 3 t) (block cfg11 W c 4 t) (block cfg11 W c 5 t) (block cfg11 W c 6 t) (block cfg11 W c 7 t))
        ∗ owns (c : Thread nD τ) (st11_9 t) fullShare (mixSum (block cfg11 W c 0 t) (block cfg11 W c 1 t) (block cfg11 W c 2 t) (block cfg11 W c 3 t) (block cfg11 W c 4 t) (block cfg11 W c 5 t))))
  iintro ⟨HΦ, HO, H0, H1, H2, H3, H4, H5, H6, H7, H8, H9⟩
  iapply (mix_body c (grid11.coords t) (st11_0 t) (hstage11_0 ((cfg11.slots t 0).cast nbuf11_0)) (st11_1 t) (hstage11_1 ((cfg11.slots t 1).cast nbuf11_1)) (st11_2 t) (hstage11_2 ((cfg11.slots t 2).cast nbuf11_2)) (st11_3 t) (hstage11_3 ((cfg11.slots t 3).cast nbuf11_3)) (st11_4 t) (hstage11_4 ((cfg11.slots t 4).cast nbuf11_4)) (st11_5 t) (hstage11_5 ((cfg11.slots t 5).cast nbuf11_5)) (st11_6 t) (hstage11_6 ((cfg11.slots t 6).cast nbuf11_6)) (st11_7 t) (hstage11_7 ((cfg11.slots t 7).cast nbuf11_7)) (st11_8 t) (hstage11_8 ((cfg11.slots t 8).cast nbuf11_8)) (st11_9 t) (hstage11_9 ((cfg11.slots t 9).cast nbuf11_9))
    (block cfg11 W c 0 t) (block cfg11 W c 1 t) (block cfg11 W c 2 t) (block cfg11 W c 3 t) (block cfg11 W c 4 t) (block cfg11 W c 5 t) (block cfg11 W c 6 t) (block cfg11 W c 7 t) _)
  isplitl [H0]; · iapply (held_of c (st11_0 t) ((mixDat W c).before 0 t) _ ((mixDat W c).before_in_eq_fetched 0 rfl (fun _ => rfl) (fun _ _ _ => rfl) (fun _ => rfl) t)); iexact H0
  isplitl [H1]; · iapply (held_of c (st11_1 t) ((mixDat W c).before 1 t) _ ((mixDat W c).before_in_eq_fetched 1 rfl (fun _ => rfl) (fun _ _ _ => rfl) (fun _ => rfl) t)); iexact H1
  isplitl [H2]; · iapply (held_of c (st11_2 t) ((mixDat W c).before 2 t) _ ((mixDat W c).before_in_eq_fetched 2 rfl (fun _ => rfl) (fun _ _ _ => rfl) (fun _ => rfl) t)); iexact H2
  isplitl [H3]; · iapply (held_of c (st11_3 t) ((mixDat W c).before 3 t) _ ((mixDat W c).before_in_eq_fetched 3 rfl (fun _ => rfl) (fun _ _ _ => rfl) (fun _ => rfl) t)); iexact H3
  isplitl [H4]; · iapply (held_of c (st11_4 t) ((mixDat W c).before 4 t) _ ((mixDat W c).before_in_eq_fetched 4 rfl (fun _ => rfl) (fun _ _ _ => rfl) (fun _ => rfl) t)); iexact H4
  isplitl [H5]; · iapply (held_of c (st11_5 t) ((mixDat W c).before 5 t) _ ((mixDat W c).before_in_eq_fetched 5 rfl (fun _ => rfl) (fun _ _ _ => rfl) (fun _ => rfl) t)); iexact H5
  isplitl [H6]; · iapply (held_of c (st11_6 t) ((mixDat W c).before 6 t) _ ((mixDat W c).before_in_eq_fetched 6 rfl (fun _ => rfl) (fun _ _ _ => rfl) (fun _ => rfl) t)); iexact H6
  isplitl [H7]; · iapply (held_of c (st11_7 t) ((mixDat W c).before 7 t) _ ((mixDat W c).before_in_eq_fetched 7 rfl (fun _ => rfl) (fun _ _ _ => rfl) (fun _ => rfl) t)); iexact H7
  isplitl [H8]; · iapply (some_of c (st11_8 t) ((mixDat W c).before 8 t)); iexact H8
  isplitl [H9]; · iapply (some_of c (st11_9 t) ((mixDat W c).before 9 t)); iexact H9
  iintro H
  isplitl [HΦ]; · iexact HΦ
  isplitl [HO]; · iexact HO
  iexact H

/-- The sums of the output weight's gradient. -/
def dwoSums (c : Dev nD) : ℕ → Vec F S1024x1024 .f32 :=
  sums k12_pay1 k12_pay2 (fun n => block cfg12 W c 0 (pt (p := cfg12.N) (by decide) n)) (fun n => block cfg12 W c 1 (pt (p := cfg12.N) (by decide) n))

def dwoAfter (c : Dev nD) (w : Fin cfg12.W) (t : Fin cfg12.N) : (cfg12.win w).block.Idx → Elt F (cfg12.win w).elt :=
  match w with
  | ⟨0, _⟩ => block cfg12 W c 0 t
  | ⟨1, _⟩ => block cfg12 W c 1 t
  | ⟨2, _⟩ => k12_pay3 (dwoSums W c (t.val + 1))

/-- The call's proof data. -/
def dwoDat (c : Dev nD) : Dat τ (Elt F) Unit ℕ (UR sig nD τ) ℕ cfg12 c :=
  data cfg12 W c (dwoAfter W c) fun t => keeps 4 cfg12 c cc12_scratch0 (Memref.whole cc12_scratch0) (dwoSums W c) t.val

theorem dwo_eq (t : Fin cfg12.N) : defs₀ (F := F) .tc cfg12.body (cfg12.bodyArgs t (cfg12.slots t))
    = sweep h_S2048x1024 h_S2048x1024 h_S1024x1024 k12_pay1 k12_pay2 k12_pay3 (BitVec.ofNat 32 (t.val % 4)) (st12_0 t) (st12_1 t) (st12_2 t)
      (View.stores_vmem h_S1024x1024 ((hstage12_2 ((cfg12.slots t 2).cast nbuf12_2)).storeExact_slice rfl _ packedbf16_S1024x1024_S1024x1024_0_0) (fun _ => rfl))
      (Memref.whole cc12_scratch0) := by
  rw [← (Pipeline.Grid.coords_val (S := 1) t 2 (by decide) rfl).trans (congrArg (· % 4) (Nat.div_one t.val))]
  unfold defs₀; rw [Defs.onTc_tc]; rfl

theorem dwo_obligation (c : Dev nD) : BodyObligation (dwoDat W c) (defs₀ (F := F)) Variants.none () Set.univ :=
  sweep_obligation h_S2048x1024 h_S2048x1024 h_S1024x1024 k12_pay1 k12_pay2 k12_pay3 (dwoDat W c) (0 : Fin cfg12.W) (1 : Fin cfg12.W) (2 : Fin cfg12.W)
    (fun Φ => bigSep_W12 Φ) (by decide) (fun t => st12_0 t) (fun t => st12_1 t) (fun t => st12_2 t) _ (Memref.whole cc12_scratch0) cc12_scratch0
    (fun t => block cfg12 W c 0 t) (fun t => block cfg12 W c 1 t) (fun t d => (dwoDat W c).before 2 t d) dwo_eq (fun _ => rfl) (fun _ => rfl)
    (fun t => held_of c (st12_0 t) ((dwoDat W c).before 0 t) _ ((dwoDat W c).before_in_eq_fetched 0 rfl (fun _ => rfl) (fun _ _ _ => rfl) (fun _ => rfl) t))
    (fun t => held_of c (st12_1 t) ((dwoDat W c).before 1 t) _ ((dwoDat W c).before_in_eq_fetched 1 rfl (fun _ => rfl) (fun _ _ _ => rfl) (fun _ => rfl) t))
    (fun _ => rfl) (fun _ => rfl) (fun _ => rfl) (fun t => leaves_at (dwoDat W c) 2 4 3 (by decide +kernel) (by decide +kernel) t)

end Cert.Proj

end
-- ==== Proof.ProjRun.lean ====
/- The projection program's run: the contents of the buffers after each of its thirteen calls, the calls as segments, and the launch.
   Every final state has every unscoped buffer at the contents after the last call and every counter at zero. -/
module

public import proofs.«01_k».proof.Proof.ProjMix
public import Idealize.ShloMosaic.Lib.Claim

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! What is kept between points holds at the start of a call and gives back at its end what the call was handed: at both ends the
    sum's buffer may hold anything. -/

theorem keeps_first {a b : ℕ} (p : ℕ) (cfg : Cfg sig Λ₀) (c : Dev nD) (r : Ref sig .tc) (m : Memref sig .tc .vmem (Two a b) .f32) (s : ℕ → Vec F (Two a b) .f32)
    (h : (Pipeline.scopedRest cfg.spec c : sProp 𝕄) = iprop((∃ v, owns (c : Thread nD τ) m fullShare v) ∗ Pipeline.scopedRestBut cfg.spec c [r])) :
    iprop(Pipeline.scopedRest cfg.spec c ∗ ∃ r, prngReg c r) ⊢ (keeps p cfg c r m s 0 : sProp 𝕄) := by
  rw [h]
  unfold keeps sumAt
  iintro ⟨⟨⟨%v, Hs⟩, HR⟩, Hp⟩
  isplitl [Hs]
  · iexists v; isplitr; · ipureintro; exact fun h => absurd (Nat.zero_mod p) h
    iexact Hs
  isplitl [HR] <;> iassumption

theorem keeps_last {a b : ℕ} (p : ℕ) (cfg : Cfg sig Λ₀) (c : Dev nD) (r : Ref sig .tc) (m : Memref sig .tc .vmem (Two a b) .f32) (s : ℕ → Vec F (Two a b) .f32) (n : ℕ)
    (h : (Pipeline.scopedRest cfg.spec c : sProp 𝕄) = iprop((∃ v, owns (c : Thread nD τ) m fullShare v) ∗ Pipeline.scopedRestBut cfg.spec c [r])) :
    (keeps p cfg c r m s n : sProp 𝕄) ⊢ iprop(Pipeline.scopedRest cfg.spec c ∗ ∃ r, prngReg c r) := by
  rw [h]
  unfold keeps sumAt
  iintro ⟨⟨%v, -, Hs⟩, HR, Hp⟩
  isplitl [Hs HR]
  · isplitl [Hs]
    · iexists v; iexact Hs
    iexact HR
  iexact Hp

theorem split5 (c : Dev nD) : (Pipeline.scopedRest cfg5.spec c : sProp 𝕄)
    = iprop((∃ v, owns (c : Thread nD τ) (Memref.whole cc5_scratch0 : Memref sig .tc .vmem (Two 1024 1024) .f32) fullShare v) ∗ Pipeline.scopedRestBut cfg5.spec c [cc5_scratch0]) :=
  (scopedRest5_split c).trans (by simp only [owns_whole])

theorem split6 (c : Dev nD) : (Pipeline.scopedRest cfg6.spec c : sProp 𝕄)
    = iprop((∃ v, owns (c : Thread nD τ) (Memref.whole cc6_scratch0 : Memref sig .tc .vmem (Two 1024 512) .f32) fullShare v) ∗ Pipeline.scopedRestBut cfg6.spec c [cc6_scratch0]) :=
  (scopedRest6_split c).trans (by simp only [owns_whole])

theorem split7 (c : Dev nD) : (Pipeline.scopedRest cfg7.spec c : sProp 𝕄)
    = iprop((∃ v, owns (c : Thread nD τ) (Memref.whole cc7_scratch0 : Memref sig .tc .vmem (Two 1024 768) .f32) fullShare v) ∗ Pipeline.scopedRestBut cfg7.spec c [cc7_scratch0]) :=
  (scopedRest7_split c).trans (by simp only [owns_whole])

theorem split8 (c : Dev nD) : (Pipeline.scopedRest cfg8.spec c : sProp 𝕄)
    = iprop((∃ v, owns (c : Thread nD τ) (Memref.whole cc8_scratch0 : Memref sig .tc .vmem (Two 1024 512) .f32) fullShare v) ∗ Pipeline.scopedRestBut cfg8.spec c [cc8_scratch0]) :=
  (scopedRest8_split c).trans (by simp only [owns_whole])

theorem split9 (c : Dev nD) : (Pipeline.scopedRest cfg9.spec c : sProp 𝕄)
    = iprop((∃ v, owns (c : Thread nD τ) (Memref.whole cc9_scratch0 : Memref sig .tc .vmem (Two 1024 896) .f32) fullShare v) ∗ Pipeline.scopedRestBut cfg9.spec c [cc9_scratch0]) :=
  (scopedRest9_split c).trans (by simp only [owns_whole])

theorem split10 (c : Dev nD) : (Pipeline.scopedRest cfg10.spec c : sProp 𝕄)
    = iprop((∃ v, owns (c : Thread nD τ) (Memref.whole cc10_scratch0 : Memref sig .tc .vmem (Two 512 1024) .f32) fullShare v) ∗ Pipeline.scopedRestBut cfg10.spec c [cc10_scratch0]) :=
  (scopedRest10_split c).trans (by simp only [owns_whole])

theorem split12 (c : Dev nD) : (Pipeline.scopedRest cfg12.spec c : sProp 𝕄)
    = iprop((∃ v, owns (c : Thread nD τ) (Memref.whole cc12_scratch0 : Memref sig .tc .vmem (Two 1024 1024) .f32) fullShare v) ∗ Pipeline.scopedRestBut cfg12.spec c [cc12_scratch0]) :=
  (scopedRest12_split c).trans (by simp only [owns_whole])

variable (m : (ℓ : Loc nD τ sig) → Buf (Elt F) ℓ) (ρ : Dev nD → PrngReg)

/-- The contents at launch, -/
def launched : Held F := fun c b => m (c, b)
/-- after the host's stack and casts, -/
def at0 : Held F := fun c => StableHlo.after hostOps0 (launched m c)
/-- and after each of the calls. -/
def at1 : Held F := next (p := 0) (at0 m) (zgDat (at0 m))
def at2 : Held F := next (p := 1) (at1 m) (zcDat (at1 m))
def at3 : Held F := next (p := 2) (at2 m) (zsDat (at2 m))
def at4 : Held F := next (p := 3) (at3 m) (zwDat (at3 m))
def at5 : Held F := next (p := 4) (at4 m) (zfDat (at4 m))
def at6 : Held F := next (p := 5) (at5 m) (dwgDat (at5 m))
def at7 : Held F := next (p := 6) (at6 m) (dwcDat (at6 m))
def at8 : Held F := next (p := 7) (at7 m) (dwsDat (at7 m))
def at9 : Held F := next (p := 8) (at8 m) (dwwDat (at8 m))
def at10 : Held F := next (p := 9) (at9 m) (dwfDat (at9 m))
def at11 : Held F := next (p := 10) (at10 m) (dhDat (at10 m))
def at12 : Held F := next (p := 11) (at11 m) (mixDat (at11 m))
def at13 : Held F := next (p := 12) (at12 m) (dwoDat (at12 m))

/-- Every call's proof data, each from the contents it is entered at. -/
def pdats : (p : Fin 13) → (c : Dev nD) → Dat τ (Elt F) Unit ℕ (UR sig nD τ) ℕ (Pipeline.pin (pcfgs (F := F)) adm p) c
  | ⟨0, _⟩ => fun c => zgDat (at0 m) c
  | ⟨1, _⟩ => fun c => zcDat (at1 m) c
  | ⟨2, _⟩ => fun c => zsDat (at2 m) c
  | ⟨3, _⟩ => fun c => zwDat (at3 m) c
  | ⟨4, _⟩ => fun c => zfDat (at4 m) c
  | ⟨5, _⟩ => fun c => dwgDat (at5 m) c
  | ⟨6, _⟩ => fun c => dwcDat (at6 m) c
  | ⟨7, _⟩ => fun c => dwsDat (at7 m) c
  | ⟨8, _⟩ => fun c => dwwDat (at8 m) c
  | ⟨9, _⟩ => fun c => dwfDat (at9 m) c
  | ⟨10, _⟩ => fun c => dhDat (at10 m) c
  | ⟨11, _⟩ => fun c => mixDat (at11 m) c
  | ⟨12, _⟩ => fun c => dwoDat (at12 m) c

/-- The segment of a call, from its data: the buffers hold at its end what the pipeline leaves in its arrays. -/
def part (p : Fin 13) (launch : Pipeline.LaunchFacts (nD := nD) (τ := τ) cfgs p) (V : Held F)
    (hA : ∀ c w, (pdats m p c).A w = V.at c (Pipeline.arrRef (Pipeline.pin (pcfgs (F := F)) adm p).spec w))
    (hq : ∀ c w, (pdats m p c).q w = fullShare) (howed : ∀ c t, (pdats m p c).owed t = 0) (hrec : ∀ c, (pdats m p c).recorded 0 = Set.univ)
    (hbody : ∀ c, BodyObligationLoose (pdats m p c) defs₀ Variants.none () Set.univ)
    (hfirst : ∀ c, iprop(Pipeline.scopedRest (Pipeline.pin (pcfgs (F := F)) adm p).spec c ∗ ∃ r, prngReg c r) ⊢ (pdats m p c).Φ 0)
    (hlast : ∀ c, (pdats m p c).Φ (Fin.last _) ⊢ iprop(Pipeline.scopedRest (Pipeline.pin (pcfgs (F := F)) adm p).spec c ∗ ∃ r, prngReg c r)) :
    Pipeline.RegionSeg (pcfgs (F := F)) adm (pdats m) () defs₀ Variants.none L lv p :=
  region (pdats m) p launch V (next (p := p) V (pdats m p)) hA hq howed hrec hbody hfirst hlast
    (fun c w => (next_arr launch V (pdats m p) c w).symm)
    (fun c b hb => next_of_ne (p := p) V (pdats m p) c b fun w e => hb (Finset.mem_image.mpr ⟨w, Finset.mem_univ _, e⟩))

def part0 : Pipeline.RegionSeg (pcfgs (F := F)) adm (pdats m) () defs₀ Variants.none L lv 0 :=
  part m 0 launch0 (at0 m) (fun _ _ => rfl) (fun _ _ => rfl) (fun _ _ => rfl) (fun _ => rfl) (fun c => (zg_obligation (at0 m) c).loose)
    (fun _ => .rfl) (fun _ => .rfl)

def part1 : Pipeline.RegionSeg (pcfgs (F := F)) adm (pdats m) () defs₀ Variants.none L lv 1 :=
  part m 1 launch1 (at1 m) (fun _ _ => rfl) (fun _ _ => rfl) (fun _ _ => rfl) (fun _ => rfl) (fun c => (zc_obligation (at1 m) c).loose)
    (fun _ => .rfl) (fun _ => .rfl)

def part2 : Pipeline.RegionSeg (pcfgs (F := F)) adm (pdats m) () defs₀ Variants.none L lv 2 :=
  part m 2 launch2 (at2 m) (fun _ _ => rfl) (fun _ _ => rfl) (fun _ _ => rfl) (fun _ => rfl) (fun c => (zs_obligation (at2 m) c).loose)
    (fun _ => .rfl) (fun _ => .rfl)

def part3 : Pipeline.RegionSeg (pcfgs (F := F)) adm (pdats m) () defs₀ Variants.none L lv 3 :=
  part m 3 launch3 (at3 m) (fun _ _ => rfl) (fun _ _ => rfl) (fun _ _ => rfl) (fun _ => rfl) (fun c => (zw_obligation (at3 m) c).loose)
    (fun _ => .rfl) (fun _ => .rfl)

def part4 : Pipeline.RegionSeg (pcfgs (F := F)) adm (pdats m) () defs₀ Variants.none L lv 4 :=
  part m 4 launch4 (at4 m) (fun _ _ => rfl) (fun _ _ => rfl) (fun _ _ => rfl) (fun _ => rfl) (fun c => (zf_obligation (at4 m) c).loose)
    (fun _ => .rfl) (fun _ => .rfl)

def part5 : Pipeline.RegionSeg (pcfgs (F := F)) adm (pdats m) () defs₀ Variants.none L lv 5 :=
  part m 5 launch5 (at5 m) (fun _ _ => rfl) (fun _ _ => rfl) (fun _ _ => rfl) (fun _ => rfl) (fun c => (dwg_obligation (at5 m) c).loose)
    (fun c => keeps_first 4 cfg5 c _ _ _ (split5 c)) (fun c => keeps_last 4 cfg5 c _ _ _ _ (split5 c))

def part6 : Pipeline.RegionSeg (pcfgs (F := F)) adm (pdats m) () defs₀ Variants.none L lv 6 :=
  part m 6 launch6 (at6 m) (fun _ _ => rfl) (fun _ _ => rfl) (fun _ _ => rfl) (fun _ => rfl) (fun c => (dwc_obligation (at6 m) c).loose)
    (fun c => keeps_first 4 cfg6 c _ _ _ (split6 c)) (fun c => keeps_last 4 cfg6 c _ _ _ _ (split6 c))

def part7 : Pipeline.RegionSeg (pcfgs (F := F)) adm (pdats m) () defs₀ Variants.none L lv 7 :=
  part m 7 launch7 (at7 m) (fun _ _ => rfl) (fun _ _ => rfl) (fun _ _ => rfl) (fun _ => rfl) (fun c => (dws_obligation (at7 m) c).loose)
    (fun c => keeps_first 4 cfg7 c _ _ _ (split7 c)) (fun c => keeps_last 4 cfg7 c _ _ _ _ (split7 c))

def part8 : Pipeline.RegionSeg (pcfgs (F := F)) adm (pdats m) () defs₀ Variants.none L lv 8 :=
  part m 8 launch8 (at8 m) (fun _ _ => rfl) (fun _ _ => rfl) (fun _ _ => rfl) (fun _ => rfl) (fun c => (dww_obligation (at8 m) c).loose)
    (fun c => keeps_first 4 cfg8 c _ _ _ (split8 c)) (fun c => keeps_last 4 cfg8 c _ _ _ _ (split8 c))

def part9 : Pipeline.RegionSeg (pcfgs (F := F)) adm (pdats m) () defs₀ Variants.none L lv 9 :=
  part m 9 launch9 (at9 m) (fun _ _ => rfl) (fun _ _ => rfl) (fun _ _ => rfl) (fun _ => rfl) (fun c => (dwf_obligation (at9 m) c).loose)
    (fun c => keeps_first 4 cfg9 c _ _ _ (split9 c)) (fun c => keeps_last 4 cfg9 c _ _ _ _ (split9 c))

def part10 : Pipeline.RegionSeg (pcfgs (F := F)) adm (pdats m) () defs₀ Variants.none L lv 10 :=
  part m 10 launch10 (at10 m) (fun _ _ => rfl) (fun _ _ => rfl) (fun _ _ => rfl) (fun _ => rfl) (fun c => (dh_obligation (at10 m) c).loose)
    (fun c => keeps_first 8 cfg10 c _ _ _ (split10 c)) (fun c => keeps_last 8 cfg10 c _ _ _ _ (split10 c))

def part11 : Pipeline.RegionSeg (pcfgs (F := F)) adm (pdats m) () defs₀ Variants.none L lv 11 :=
  part m 11 launch11 (at11 m) (fun _ _ => rfl) (fun _ _ => rfl) (fun _ _ => rfl) (fun _ => rfl) (fun c => (mix_obligation (at11 m) c).loose)
    (fun _ => .rfl) (fun _ => .rfl)

def part12 : Pipeline.RegionSeg (pcfgs (F := F)) adm (pdats m) () defs₀ Variants.none L lv 12 :=
  part m 12 launch12 (at12 m) (fun _ _ => rfl) (fun _ _ => rfl) (fun _ _ => rfl) (fun _ => rfl) (fun c => (dwo_obligation (at12 m) c).loose)
    (fun c => keeps_first 4 cfg12 c _ _ _ (split12 c)) (fun c => keeps_last 4 cfg12 c _ _ _ _ (split12 c))

/-- The host's stack and casts, and the thirteen calls. -/
abbrev parts : List (Pipeline.Seg (pcfgs (F := F)) adm (pdats m) () defs₀ Variants.none L lv) :=
  [.host (Cert.Kernel3Ideal.Gen.seg0 m Variants.none L lv fun _ => rest), .region (part0 m), .region (part1 m), .region (part2 m), .region (part3 m), .region (part4 m), .region (part5 m), .region (part6 m), .region (part7 m), .region (part8 m), .region (part9 m), .region (part10 m), .region (part11 m), .region (part12 m)]

theorem main_parts (c : Dev nD) : main (F := F) c = Pipeline.Seg.run (parts m) := (main_chain c).trans (by chain_rfl)

set_option backward.isDefEq.respectTransparency.types false in
/-- Every run ends with every unscoped buffer at the contents after the last call and every counter at zero. -/
theorem run_all : θ_run defs (onTc (τ := τ) (main (F := F))) ⟨m, fun _ => 0, ρ⟩ fun r =>
    (∀ (c : Dev nD) (b : Ref sig .tc), Proc.devRef (τ := τ) .tc b ∈ Pipeline.ucRefs τ sig → r.2.mem ((c.tc : Thread nD τ).loc b) = (at13 m).at c b)
      ∧ r.2.sem = fun _ => 0 :=
  Pipeline.θ_run_regions_kit_sems (pcfgs (F := F)) adm (pdats m) () cellOf_inj emb₁ defs₀ Variants.none L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (launched m c) ∗ rest c))
    (Tₙ := fun c => iprop(StableHlo.held (c : Thread nD τ) (Pipeline.ucRefs τ sig) (at13 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (at13 m c) ∗ rest c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (launched m c)
        from Pipeline.unscopedBufs_held c (launched m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at13 m c b)
    (hfin := fun c s' => by
      iintro ⟨⟨Hh, -⟩, HSI⟩
      unfold StableHlo.held
      imodintro
      iapply (pointsTo_read_all (Pipeline.ucRefs τ sig) (fun b => (((c : Thread nD τ)).1, b)) (at13 m c) s')
      isplitl [Hh] <;> iassumption)
    (hQ := fun s h hz => ⟨fun c b hb => h c _ hb, funext fun g => hz g (.inr (regions_no_unscoped g.2))⟩)

/-! The arguments are kept: no call writes one. -/

theorem kept (c : Dev nD) (b : Ref sig .tc) (h0 : b ∉ hostOps0_W)
    (h : ∀ p : Fin 13, ∀ w : Fin (cfgs p).W, Pipeline.arrRef (cfgs p).spec w = b → ((cfgs p).win w).isOut = false) :
    (at13 m).at c b = m ((c : Thread nD τ).loc b) :=
  (next_of launch12 _ _ (fun _ _ => rfl) c b (h 12)).trans <|
    (next_of launch11 _ _ (fun _ _ => rfl) c b (h 11)).trans <|
    (next_of launch10 _ _ (fun _ _ => rfl) c b (h 10)).trans <|
    (next_of launch9 _ _ (fun _ _ => rfl) c b (h 9)).trans <|
    (next_of launch8 _ _ (fun _ _ => rfl) c b (h 8)).trans <|
    (next_of launch7 _ _ (fun _ _ => rfl) c b (h 7)).trans <|
    (next_of launch6 _ _ (fun _ _ => rfl) c b (h 6)).trans <|
    (next_of launch5 _ _ (fun _ _ => rfl) c b (h 5)).trans <|
    (next_of launch4 _ _ (fun _ _ => rfl) c b (h 4)).trans <|
    (next_of launch3 _ _ (fun _ _ => rfl) c b (h 3)).trans <|
    (next_of launch2 _ _ (fun _ _ => rfl) c b (h 2)).trans <|
    (next_of launch1 _ _ (fun _ _ => rfl) c b (h 1)).trans <|
    (next_of launch0 _ _ (fun _ _ => rfl) c b (h 0)).trans <|
    StableHlo.after_of_writes_sub hostOps0 _ hostOps0_writes h0

/-- A state in which the calls' buffers are as at the end has the arguments as launched. -/
theorem args_end {mem : (ℓ : Loc nD τ sig) → Buf (Elt F) ℓ}
    (h : ∀ (c : Dev nD) (b : Ref sig .tc), Proc.devRef (τ := τ) .tc b ∈ Pipeline.ucRefs τ sig → mem ((c.tc : Thread nD τ).loc b) = (at13 m).at c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21) := by
  have k : ∀ b : Ref sig .tc, (Proc.devRef (τ := τ) .tc b ∈ Pipeline.ucRefs τ sig ∧ b ∉ hostOps0_W ∧ ∀ p : Fin 13, ∀ w : Fin (cfgs p).W,
      Pipeline.arrRef (cfgs p).spec w = b → ((cfgs p).win w).isOut = false) → mem ((c.tc : Thread nD τ).loc b) = m ((c.tc : Thread nD τ).loc b) :=
    fun b hb => (h c b hb.1).trans (kept m c b hb.2.1 hb.2.2)
  refine ⟨k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩, k _ ⟨?_, ?_, ?_⟩⟩
  all_goals first
    | exact Finset.mem_filter.mpr ⟨StableHlo.devRef_mem_tcRefs _, by decide⟩
    | decide
    | decide +kernel

/-- The arguments at the end are as launched, and every counter is zero. -/
theorem run_args : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0 :=
  (θ_run defs _ _).mono (fun _ h => ⟨fun c => args_end m h.1 c, h.2⟩) (run_all m ρ)

end Cert.Proj

end
-- ==== Proof.ProjVal.lean ====
/- The arrays the projection program's calls leave, read by row and column: each call's outputs by what its inputs are given by. -/
module

public import proofs.«01_k».proof.Proof.ProjDh
public import proofs.«01_k».proof.Proof.FfnGrad

@[expose] public section

set_option maxRecDepth 16384
set_option maxHeartbeats 1000000

noncomputable section

namespace Cert.Proj

open Cert.Kernel3Ideal Cert.Kernel3Ideal.Gen
open Idealize.ShloMosaic Idealize.ShloMosaic.TcCoe Idealize.ShloMosaic.ValueIdx
open Idealize.SL
open Cert.Products
open Cert.Ffn (Fn nn nt tn sh tn_four zero_f32)
open scoped BigOperators

variable (W : Held Ideal) (c : Dev nD)

/-! ## The forward products -/

theorem zg_pay {v0 : Vec Ideal S1024x1024 .bf16} {v1 : Vec Ideal S1024x1024 .bf16} {f g : ℕ → ℕ → EReal} (h0 : Fn (a := 1024) (b := 1024) v0 f)
    (h1 : Fn (a := 1024) (b := 1024) v1 g) : Fn (a := 1024) (b := 1024) (k0_pay1 (F := Ideal) v0 v1) (nn 1024 f g) := Fn.of fun i j => by
  unfold k0_pay1
  exact (mm_nn (M := 1024) (K := 1024) (N := 1024) _ none v0 v1 i j).trans (Finset.sum_congr rfl fun k _ => congrArg₂ (· * ·) (h0.at i k) (h1.at k j))

theorem zg_in0 {f} (h : Fn (a := 8192) (b := 1024) (W.at c main_arg0) f) (t : Fin cfg0.N) :
    Fn (a := 1024) (b := 1024) (block cfg0 W c 0 t) fun i j => f (t.val / 4 * 1024 + i) j := fun y => by
  have e : win0_0.index t = ![t.val / 4, 0] := (by decide +kernel : ∀ t : Fin grid0.N, win0_0.index t = ![t.val / 4, 0]) t
  show (W.at c main_arg0 : (Mat 8192 1024).Idx → EReal) ((win0_0.blk t).view.emb y) = _
  rw [h]
  blk_simp [e]

theorem zg_in1 {f} (h : Fn (a := 1024) (b := 4096) (W.at c main_arg1) f) (t : Fin cfg0.N) :
    Fn (a := 1024) (b := 1024) (block cfg0 W c 1 t) fun i j => f i (t.val % 4 * 1024 + j) := fun y => by
  have e : win0_1.index t = ![0, t.val % 4] := (by decide +kernel : ∀ t : Fin grid0.N, win0_1.index t = ![0, t.val % 4]) t
  show (W.at c main_arg1 : (Mat 1024 4096).Idx → EReal) ((win0_1.blk t).view.emb y) = _
  rw [h]
  blk_simp [e]

theorem zg_out {f g : ℕ → ℕ → EReal} (hf : Fn (a := 8192) (b := 1024) (W.at c main_arg0) f) (hg : Fn (a := 1024) (b := 4096) (W.at c main_arg1) g) :
    Fn (a := 8192) (b := 4096) ((zgDat W c).arrAt 2 cfg0.N) (nn 1024 f g) := fun x =>
  congrFun ((zgDat W c).arrAt_eq_of_covers 2 (fun x : (Mat 8192 4096).Idx => (nn 1024 f g : ℕ → ℕ → EReal) (x 0).val (x 1).val) (by decide +kernel) fun t _ y => by
    have e : win0_2.index t = ![t.val / 4, t.val % 4] := (by decide +kernel : ∀ t : Fin grid0.N, win0_2.index t = ![t.val / 4, t.val % 4]) t
    blk_simp [e]
    exact zg_pay (zg_in0 W c hf t) (zg_in1 W c hg t) y) x

theorem zc_pay {v0 : Vec Ideal S1024x1024 .bf16} {v1 : Vec Ideal S1024x512 .bf16} {f g : ℕ → ℕ → EReal} (h0 : Fn (a := 1024) (b := 1024) v0 f)
    (h1 : Fn (a := 1024) (b := 512) v1 g) : Fn (a := 1024) (b := 512) (k1_pay1 (F := Ideal) v0 v1) (nn 1024 f g) := Fn.of fun i j => by
  unfold k1_pay1
  exact (mm_nn (M := 1024) (K := 1024) (N := 512) _ none v0 v1 i j).trans (Finset.sum_congr rfl fun k _ => congrArg₂ (· * ·) (h0.at i k) (h1.at k j))

theorem zc_in0 {f} (h : Fn (a := 8192) (b := 1024) (W.at c main_arg0) f) (t : Fin cfg1.N) :
    Fn (a := 1024) (b := 1024) (block cfg1 W c 0 t) fun i j => f (t.val * 1024 + i) j := fun y => by
  have e : win1_0.index t = ![t.val, 0] := (by decide +kernel : ∀ t : Fin grid1.N, win1_0.index t = ![t.val, 0]) t
  show (W.at c main_arg0 : (Mat 8192 1024).Idx → EReal) ((win1_0.blk t).view.emb y) = _
  rw [h]
  blk_simp [e]

theorem zc_in1 {f} (h : Fn (a := 1024) (b := 512) (W.at c main_arg2) f) (t : Fin cfg1.N) :
    Fn (a := 1024) (b := 512) (block cfg1 W c 1 t) fun i j => f i j := fun y => by
  have e : win1_1.index t = ![0, 0] := (by decide +kernel : ∀ t : Fin grid1.N, win1_1.index t = ![0, 0]) t
  show (W.at c main_arg2 : (Mat 1024 512).Idx → EReal) ((win1_1.blk t).view.emb y) = _
  rw [h]
  blk_simp [e]

theorem zc_out {f g : ℕ → ℕ → EReal} (hf : Fn (a := 8192) (b := 1024) (W.at c main_arg0) f) (hg : Fn (a := 1024) (b := 512) (W.at c main_arg2) g) :
    Fn (a := 8192) (b := 512) ((zcDat W c).arrAt 2 cfg1.N) (nn 1024 f g) := fun x =>
  congrFun ((zcDat W c).arrAt_eq_of_covers 2 (fun x : (Mat 8192 512).Idx => (nn 1024 f g : ℕ → ℕ → EReal) (x 0).val (x 1).val) (by decide +kernel) fun t _ y => by
    have e : win1_2.index t = ![t.val, 0] := (by decide +kernel : ∀ t : Fin grid1.N, win1_2.index t = ![t.val, 0]) t
    blk_simp [e]
    exact zc_pay (zc_in0 W c hf t) (zc_in1 W c hg t) y) x

theorem zs_pay {v0 : Vec Ideal S1024x1024 .bf16} {v1 : Vec Ideal S1024x768 .bf16} {f g : ℕ → ℕ → EReal} (h0 : Fn (a := 1024) (b := 1024) v0 f)
    (h1 : Fn (a := 1024) (b := 768) v1 g) : Fn (a := 1024) (b := 768) (k2_pay1 (F := Ideal) v0 v1) (nn 1024 f g) := Fn.of fun i j => by
  unfold k2_pay1
  exact (mm_nn (M := 1024) (K := 1024) (N := 768) _ none v0 v1 i j).trans (Finset.sum_congr rfl fun k _ => congrArg₂ (· * ·) (h0.at i k) (h1.at k j))

theorem zs_in0 {f} (h : Fn (a := 8192) (b := 1024) (W.at c main_arg0) f) (t : Fin cfg2.N) :
    Fn (a := 1024) (b := 1024) (block cfg2 W c 0 t) fun i j => f (t.val * 1024 + i) j := fun y => by
  have e : win2_0.index t = ![t.val, 0] := (by decide +kernel : ∀ t : Fin grid2.N, win2_0.index t = ![t.val, 0]) t
  show (W.at c main_arg0 : (Mat 8192 1024).Idx → EReal) ((win2_0.blk t).view.emb y) = _
  rw [h]
  blk_simp [e]

theorem zs_in1 {f} (h : Fn (a := 1024) (b := 768) (W.at c main_arg3) f) (t : Fin cfg2.N) :
    Fn (a := 1024) (b := 768) (block cfg2 W c 1 t) fun i j => f i j := fun y => by
  have e : win2_1.index t = ![0, 0] := (by decide +kernel : ∀ t : Fin grid2.N, win2_1.index t = ![0, 0]) t
  show (W.at c main_arg3 : (Mat 1024 768).Idx → EReal) ((win2_1.blk t).view.emb y) = _
  rw [h]
  blk_simp [e]

theorem zs_out {f g : ℕ → ℕ → EReal} (hf : Fn (a := 8192) (b := 1024) (W.at c main_arg0) f) (hg : Fn (a := 1024) (b := 768) (W.at c main_arg3) g) :
    Fn (a := 8192) (b := 768) ((zsDat W c).arrAt 2 cfg2.N) (nn 1024 f g) := fun x =>
  congrFun ((zsDat W c).arrAt_eq_of_covers 2 (fun x : (Mat 8192 768).Idx => (nn 1024 f g : ℕ → ℕ → EReal) (x 0).val (x 1).val) (by decide +kernel) fun t _ y => by
    have e : win2_2.index t = ![t.val, 0] := (by decide +kernel : ∀ t : Fin grid2.N, win2_2.index t = ![t.val, 0]) t
    blk_simp [e]
    exact zs_pay (zs_in0 W c hf t) (zs_in1 W c hg t) y) x

theorem zw_pay {v0 : Vec Ideal S1024x1024 .bf16} {v1 : Vec Ideal S1024x512 .bf16} {f g : ℕ → ℕ → EReal} (h0 : Fn (a := 1024) (b := 1024) v0 f)
    (h1 : Fn (a := 1024) (b := 512) v1 g) : Fn (a := 1024) (b := 512) (k3_pay1 (F := Ideal) v0 v1) (nn 1024 f g) := Fn.of fun i j => by
  unfold k3_pay1
  exact (mm_nn (M := 1024) (K := 1024) (N := 512) _ none v0 v1 i j).trans (Finset.sum_congr rfl fun k _ => congrArg₂ (· * ·) (h0.at i k) (h1.at k j))

theorem zw_in0 {f} (h : Fn (a := 8192) (b := 1024) (W.at c main_arg0) f) (t : Fin cfg3.N) :
    Fn (a := 1024) (b := 1024) (block cfg3 W c 0 t) fun i j => f (t.val * 1024 + i) j := fun y => by
  have e : win3_0.index t = ![t.val, 0] := (by decide +kernel : ∀ t : Fin grid3.N, win3_0.index t = ![t.val, 0]) t
  show (W.at c main_arg0 : (Mat 8192 1024).Idx → EReal) ((win3_0.blk t).view.emb y) = _
  rw [h]
  blk_simp [e]

theorem zw_in1 {f} (h : Fn (a := 1024) (b := 512) (W.at c main_arg4) f) (t : Fin cfg3.N) :
    Fn (a := 1024) (b := 512) (block cfg3 W c 1 t) fun i j => f i j := fun y => by
  have e : win3_1.index t = ![0, 0] := (by decide +kernel : ∀ t : Fin grid3.N, win3_1.index t = ![0, 0]) t
  show (W.at c main_arg4 : (Mat 1024 512).Idx → EReal) ((win3_1.blk t).view.emb y) = _
  rw [h]
  blk_simp [e]

theorem zw_out {f g : ℕ → ℕ → EReal} (hf : Fn (a := 8192) (b := 1024) (W.at c main_arg0) f) (hg : Fn (a := 1024) (b := 512) (W.at c main_arg4) g) :
    Fn (a := 8192) (b := 512) ((zwDat W c).arrAt 2 cfg3.N) (nn 1024 f g) := fun x =>
  congrFun ((zwDat W c).arrAt_eq_of_covers 2 (fun x : (Mat 8192 512).Idx => (nn 1024 f g : ℕ → ℕ → EReal) (x 0).val (x 1).val) (by decide +kernel) fun t _ y => by
    have e : win3_2.index t = ![t.val, 0] := (by decide +kernel : ∀ t : Fin grid3.N, win3_2.index t = ![t.val, 0]) t
    blk_simp [e]
    exact zw_pay (zw_in0 W c hf t) (zw_in1 W c hg t) y) x

theorem zf_pay {v0 : Vec Ideal S1024x1024 .bf16} {v1 : Vec Ideal S1024x896 .bf16} {f g : ℕ → ℕ → EReal} (h0 : Fn (a := 1024) (b := 1024) v0 f)
    (h1 : Fn (a := 1024) (b := 896) v1 g) : Fn (a := 1024) (b := 896) (k4_pay1 (F := Ideal) v0 v1) (nn 1024 f g) := Fn.of fun i j => by
  unfold k4_pay1
  exact (mm_nn (M := 1024) (K := 1024) (N := 896) _ none v0 v1 i j).trans (Finset.sum_congr rfl fun k _ => congrArg₂ (· * ·) (h0.at i k) (h1.at k j))

theorem zf_in0 {f} (h : Fn (a := 8192) (b := 1024) (W.at c main_arg0) f) (t : Fin cfg4.N) :
    Fn (a := 1024) (b := 1024) (block cfg4 W c 0 t) fun i j => f (t.val * 1024 + i) j := fun y => by
  have e : win4_0.index t = ![t.val, 0] := (by decide +kernel : ∀ t : Fin grid4.N, win4_0.index t = ![t.val, 0]) t
  show (W.at c main_arg0 : (Mat 8192 1024).Idx → EReal) ((win4_0.blk t).view.emb y) = _
  rw [h]
  blk_simp [e]

theorem zf_in1 {f} (h : Fn (a := 1024) (b := 896) (W.at c main_arg5) f) (t : Fin cfg4.N) :
    Fn (a := 1024) (b := 896) (block cfg4 W c 1 t) fun i j => f i j := fun y => by
  have e : win4_1.index t = ![0, 0] := (by decide +kernel : ∀ t : Fin grid4.N, win4_1.index t = ![0, 0]) t
  show (W.at c main_arg5 : (Mat 1024 896).Idx → EReal) ((win4_1.blk t).view.emb y) = _
  rw [h]
  blk_simp [e]

theorem zf_out {f g : ℕ → ℕ → EReal} (hf : Fn (a := 8192) (b := 1024) (W.at c main_arg0) f) (hg : Fn (a := 1024) (b := 896) (W.at c main_arg5) g) :
    Fn (a := 8192) (b := 896) ((zfDat W c).arrAt 2 cfg4.N) (nn 1024 f g) := fun x =>
  congrFun ((zfDat W c).arrAt_eq_of_covers 2 (fun x : (Mat 8192 896).Idx => (nn 1024 f g : ℕ → ℕ → EReal) (x 0).val (x 1).val) (by decide +kernel) fun t _ y => by
    have e : win4_2.index t = ![t.val, 0] := (by decide +kernel : ∀ t : Fin grid4.N, win4_2.index t = ![t.val, 0]) t
    blk_simp [e]
    exact zf_pay (zf_in0 W c hf t) (zf_in1 W c hg t) y) x

/-! ## The weights' gradients -/

section Sweep

variable {n : ℕ} {z : FVec Ideal (Two 1024 n) .f32}
  {add : Vec Ideal (Two 1024 n) .f32 → Vec Ideal (Two 2048 1024) .bf16 → Vec Ideal (Two 2048 n) .bf16 → FVec Ideal (Two 1024 n) .f32}

/-- A step of the sum: the accumulator plus the block's product. -/
def Adds (add : Vec Ideal (Two 1024 n) .f32 → Vec Ideal (Two 2048 1024) .bf16 → Vec Ideal (Two 2048 n) .bf16 → FVec Ideal (Two 1024 n) .f32) : Prop :=
  ∀ (acc : Vec Ideal (Two 1024 n) .f32) (x : Vec Ideal (Two 2048 1024) .bf16) (y : Vec Ideal (Two 2048 n) .bf16) (s f g : ℕ → ℕ → EReal),
    Fn (a := 1024) (b := n) acc s → Fn (a := 2048) (b := 1024) x f → Fn (a := 2048) (b := n) y g →
      Fn (a := 1024) (b := n) (add acc x y) fun i j => s i j + tn 2048 f g i j

/-- One point's step of the sums. -/
theorem sums_next (hadd : Adds add) (x : ℕ → Vec Ideal (Two 2048 1024) .bf16) (y : ℕ → Vec Ideal (Two 2048 n) .bf16) (s f g : ℕ → ℕ → EReal) (p k : ℕ)
    (hp : p % 4 = k) (hs : Fn (a := 1024) (b := n) (if k = 0 then z else sums z add x y p) s)
    (hx : Fn (a := 2048) (b := 1024) (x p) f) (hy : Fn (a := 2048) (b := n) (y p) g) :
    Fn (a := 1024) (b := n) (sums z add x y (p + 1)) fun i j => s i j + tn 2048 f g i j := by
  rw [sums, step, hp]
  exact hadd _ _ _ _ _ _ hs hx hy

/-- After the last of four points the sum is the whole product, of the left matrix and of the columns the four points share. -/
theorem sums_four (hz : Fn (a := 1024) (b := n) z fun _ _ => 0) (hadd : Adds add) {N : ℕ} (hN : 0 < N) (x : Fin N → Vec Ideal (Two 2048 1024) .bf16)
    (y : Fin N → Vec Ideal (Two 2048 n) .bf16) (f g : ℕ → ℕ → EReal)
    (hx : ∀ t, Fn (a := 2048) (b := 1024) (x t) fun i j => f (t.val % 4 * 2048 + i) j)
    (hy : ∀ t, Fn (a := 2048) (b := n) (y t) fun i j => g (t.val % 4 * 2048 + i) (t.val / 4 * n + j)) (t : Fin N) (ht : t.val % 4 = 3) :
    Fn (a := 1024) (b := n) (sums z add (fun p => x (pt hN p)) (fun p => y (pt hN p)) (t.val + 1)) (tn 8192 f fun i j => g i (t.val / 4 * n + j)) := by
  obtain ⟨q, hq⟩ : ∃ q, q = t.val / 4 := ⟨_, rfl⟩
  have hv : ∀ j, j < 4 → (pt hN (q * 4 + j)).val = q * 4 + j := fun j hj => Nat.mod_eq_of_lt (by have := t.isLt; omega)
  have hx' : ∀ j, j < 4 → Fn (a := 2048) (b := 1024) (x (pt hN (q * 4 + j))) (sh (j * 2048) 0 f) := fun j hj =>
    (hx _).congr fun a b => by
      show _ = _
      rw [hv j hj, show (q * 4 + j) % 4 = j by omega]; simp only [sh, Nat.zero_add]
  have hy' : ∀ j, j < 4 → Fn (a := 2048) (b := n) (y (pt hN (q * 4 + j))) (sh (j * 2048) 0 fun i j => g i (q * n + j)) := fun j hj =>
    (hy _).congr fun a b => by
      show _ = _
      rw [hv j hj, show (q * 4 + j) % 4 = j by omega, show (q * 4 + j) / 4 = q by omega]; simp only [sh, Nat.zero_add]
  have h0 := sums_next (z := z) hadd (fun p => x (pt hN p)) (fun p => y (pt hN p)) _ _ _ (q * 4 + 0) 0 (by omega) (by rw [if_pos rfl]; exact hz) (hx' 0 (by decide)) (hy' 0 (by decide))
  have h1 := sums_next (z := z) hadd (fun p => x (pt hN p)) (fun p => y (pt hN p)) _ _ _ (q * 4 + 1) 1 (by omega) (by rw [if_neg (by decide)]; exact h0) (hx' 1 (by decide)) (hy' 1 (by decide))
  have h2 := sums_next (z := z) hadd (fun p => x (pt hN p)) (fun p => y (pt hN p)) _ _ _ (q * 4 + 2) 2 (by omega) (by rw [if_neg (by decide)]; exact h1) (hx' 2 (by decide)) (hy' 2 (by decide))
  have h3 := sums_next (z := z) hadd (fun p => x (pt hN p)) (fun p => y (pt hN p)) _ _ _ (q * 4 + 3) 3 (by omega) (by rw [if_neg (by decide)]; exact h2) (hx' 3 (by decide)) (hy' 3 (by decide))
  rw [show q * 4 + 3 + 1 = t.val + 1 by omega] at h3
  rw [← hq]
  exact h3.congr fun i j => (tn_four f (fun i j => g i (q * n + j)) i j).symm

end Sweep

theorem dwg_zero : Fn (a := 1024) (b := 1024) (k5_pay1 (F := Ideal)) fun _ _ => 0 := fun x => by
  unfold k5_pay1; simp only [shapeCast_self]
  exact zero_f32

theorem dwg_adds : Adds (n := 1024) (k5_pay2 (F := Ideal)) := fun acc x y s f g hs hf hg => Fn.of fun i j => by
  unfold k5_pay2; simp only [shapeCast_self]
  exact congrArg₂ (· + ·) (hs.at i j) ((mm_tn (M := 1024) (K := 2048) (N := 1024) _ none x y i j).trans
    (Finset.sum_congr rfl fun k _ => congrArg₂ (· * ·) (hf.at k i) (hg.at k j)))

theorem dwg_in0 {f} (h : Fn (a := 8192) (b := 1024) (W.at c main_arg0) f) (t : Fin cfg5.N) :
    Fn (a := 2048) (b := 1024) (block cfg5 W c 0 t) fun i j => f (t.val % 4 * 2048 + i) j := fun y => by
  have e : win5_0.index t = ![t.val % 4, 0] := (by decide +kernel : ∀ t : Fin grid5.N, win5_0.index t = ![t.val % 4, 0]) t
  show (W.at c main_arg0 : (Mat 8192 1024).Idx → EReal) ((win5_0.blk t).view.emb y) = _
  rw [h]
  blk_simp [e]

theorem dwg_in1 {f} (h : Fn (a := 8192) (b := 4096) (W.at c main_arg6) f) (t : Fin cfg5.N) :
    Fn (a := 2048) (b := 1024) (block cfg5 W c 1 t) fun i j => f (t.val % 4 * 2048 + i) (t.val / 4 * 1024 + j) := fun y => by
  have e : win5_1.index t = ![t.val % 4, t.val / 4] := (by decide +kernel : ∀ t : Fin grid5.N, win5_1.index t = ![t.val % 4, t.val / 4]) t
  show (W.at c main_arg6 : (Mat 8192 4096).Idx → EReal) ((win5_1.blk t).view.emb y) = _
  rw [h]
  blk_simp [e]

theorem dwg_out {f g : ℕ → ℕ → EReal} (hf : Fn (a := 8192) (b := 1024) (W.at c main_arg0) f) (hg : Fn (a := 8192) (b := 4096) (W.at c main_arg6) g) :
    Fn (a := 1024) (b := 4096) ((dwgDat W c).arrAt 2 cfg5.N) (tn 8192 f g) := fun x =>
  congrFun ((dwgDat W c).arrAt_eq_of_covers 2 (fun x : (Mat 1024 4096).Idx => (tn 8192 f g : ℕ → ℕ → EReal) (x 0).val (x 1).val) (by decide +kernel) fun t hfl y => by
    have e : win5_2.index t = ![0, t.val / 4] := (by decide +kernel : ∀ t : Fin grid5.N, win5_2.index t = ![0, t.val / 4]) t
    blk_simp [e]
    exact sums_four dwg_zero dwg_adds (by decide) (fun t => block cfg5 W c 0 t) (fun t => block cfg5 W c 1 t) f g (dwg_in0 W c hf) (dwg_in1 W c hg) t
      ((flush5_2 t).mp hfl) y) x

theorem dwc_zero : Fn (a := 1024) (b := 512) (k6_pay1 (F := Ideal)) fun _ _ => 0 := fun x => by
  unfold k6_pay1; simp only [shapeCast_self]
  exact zero_f32

theorem dwc_adds : Adds (n := 512) (k6_pay2 (F := Ideal)) := fun acc x y s f g hs hf hg => Fn.of fun i j => by
  unfold k6_pay2; simp only [shapeCast_self]
  exact congrArg₂ (· + ·) (hs.at i j) ((mm_tn (M := 1024) (K := 2048) (N := 512) _ none x y i j).trans
    (Finset.sum_congr rfl fun k _ => congrArg₂ (· * ·) (hf.at k i) (hg.at k j)))

theorem dwc_in0 {f} (h : Fn (a := 8192) (b := 1024) (W.at c main_arg0) f) (t : Fin cfg6.N) :
    Fn (a := 2048) (b := 1024) (block cfg6 W c 0 t) fun i j => f (t.val % 4 * 2048 + i) j := fun y => by
  have e : win6_0.index t = ![t.val % 4, 0] := (by decide +kernel : ∀ t : Fin grid6.N, win6_0.index t = ![t.val % 4, 0]) t
  show (W.at c main_arg0 : (Mat 8192 1024).Idx → EReal) ((win6_0.blk t).view.emb y) = _
  rw [h]
  blk_simp [e]

theorem dwc_in1 {f} (h : Fn (a := 8192) (b := 512) (W.at c main_arg7) f) (t : Fin cfg6.N) :
    Fn (a := 2048) (b := 512) (block cfg6 W c 1 t) fun i j => f (t.val % 4 * 2048 + i) (t.val / 4 * 512 + j) := fun y => by
  have e : win6_1.index t = ![t.val % 4, t.val / 4] := (by decide +kernel : ∀ t : Fin grid6.N, win6_1.index t = ![t.val % 4, t.val / 4]) t
  show (W.at c main_arg7 : (Mat 8192 512).Idx → EReal) ((win6_1.blk t).view.emb y) = _
  rw [h]
  blk_simp [e]

theorem dwc_out {f g : ℕ → ℕ → EReal} (hf : Fn (a := 8192) (b := 1024) (W.at c main_arg0) f) (hg : Fn (a := 8192) (b := 512) (W.at c main_arg7) g) :
    Fn (a := 1024) (b := 512) ((dwcDat W c).arrAt 2 cfg6.N) (tn 8192 f g) := fun x =>
  congrFun ((dwcDat W c).arrAt_eq_of_covers 2 (fun x : (Mat 1024 512).Idx => (tn 8192 f g : ℕ → ℕ → EReal) (x 0).val (x 1).val) (by decide +kernel) fun t hfl y => by
    have e : win6_2.index t = ![0, t.val / 4] := (by decide +kernel : ∀ t : Fin grid6.N, win6_2.index t = ![0, t.val / 4]) t
    blk_simp [e]
    exact sums_four dwc_zero dwc_adds (by decide) (fun t => block cfg6 W c 0 t) (fun t => block cfg6 W c 1 t) f g (dwc_in0 W c hf) (dwc_in1 W c hg) t
      ((flush6_2 t).mp hfl) y) x

theorem dws_zero : Fn (a := 1024) (b := 768) (k7_pay1 (F := Ideal)) fun _ _ => 0 := fun x => by
  unfold k7_pay1; simp only [shapeCast_self]
  exact zero_f32

theorem dws_adds : Adds (n := 768) (k7_pay2 (F := Ideal)) := fun acc x y s f g hs hf hg => Fn.of fun i j => by
  unfold k7_pay2; simp only [shapeCast_self]
  exact congrArg₂ (· + ·) (hs.at i j) ((mm_tn (M := 1024) (K := 2048) (N := 768) _ none x y i j).trans
    (Finset.sum_congr rfl fun k _ => congrArg₂ (· * ·) (hf.at k i) (hg.at k j)))

theorem dws_in0 {f} (h : Fn (a := 8192) (b := 1024) (W.at c main_arg0) f) (t : Fin cfg7.N) :
    Fn (a := 2048) (b := 1024) (block cfg7 W c 0 t) fun i j => f (t.val % 4 * 2048 + i) j := fun y => by
  have e : win7_0.index t = ![t.val % 4, 0] := (by decide +kernel : ∀ t : Fin grid7.N, win7_0.index t = ![t.val % 4, 0]) t
  show (W.at c main_arg0 : (Mat 8192 1024).Idx → EReal) ((win7_0.blk t).view.emb y) = _
  rw [h]
  blk_simp [e]

theorem dws_in1 {f} (h : Fn (a := 8192) (b := 768) (W.at c main_arg8) f) (t : Fin cfg7.N) :
    Fn (a := 2048) (b := 768) (block cfg7 W c 1 t) fun i j => f (t.val % 4 * 2048 + i) (t.val / 4 * 768 + j) := fun y => by
  have e : win7_1.index t = ![t.val % 4, t.val / 4] := (by decide +kernel : ∀ t : Fin grid7.N, win7_1.index t = ![t.val % 4, t.val / 4]) t
  show (W.at c main_arg8 : (Mat 8192 768).Idx → EReal) ((win7_1.blk t).view.emb y) = _
  rw [h]
  blk_simp [e]

theorem dws_out {f g : ℕ → ℕ → EReal} (hf : Fn (a := 8192) (b := 1024) (W.at c main_arg0) f) (hg : Fn (a := 8192) (b := 768) (W.at c main_arg8) g) :
    Fn (a := 1024) (b := 768) ((dwsDat W c).arrAt 2 cfg7.N) (tn 8192 f g) := fun x =>
  congrFun ((dwsDat W c).arrAt_eq_of_covers 2 (fun x : (Mat 1024 768).Idx => (tn 8192 f g : ℕ → ℕ → EReal) (x 0).val (x 1).val) (by decide +kernel) fun t hfl y => by
    have e : win7_2.index t = ![0, t.val / 4] := (by decide +kernel : ∀ t : Fin grid7.N, win7_2.index t = ![0, t.val / 4]) t
    blk_simp [e]
    exact sums_four dws_zero dws_adds (by decide) (fun t => block cfg7 W c 0 t) (fun t => block cfg7 W c 1 t) f g (dws_in0 W c hf) (dws_in1 W c hg) t
      ((flush7_2 t).mp hfl) y) x

theorem dww_zero : Fn (a := 1024) (b := 512) (k8_pay1 (F := Ideal)) fun _ _ => 0 := fun x => by
  unfold k8_pay1; simp only [shapeCast_self]
  exact zero_f32

theorem dww_adds : Adds (n := 512) (k8_pay2 (F := Ideal)) := fun acc x y s f g hs hf hg => Fn.of fun i j => by
  unfold k8_pay2; simp only [shapeCast_self]
  exact congrArg₂ (· + ·) (hs.at i j) ((mm_tn (M := 1024) (K := 2048) (N := 512) _ none x y i j).trans
    (Finset.sum_congr rfl fun k _ => congrArg₂ (· * ·) (hf.at k i) (hg.at k j)))

theorem dww_in0 {f} (h : Fn (a := 8192) (b := 1024) (W.at c main_arg0) f) (t : Fin cfg8.N) :
    Fn (a := 2048) (b := 1024) (block cfg8 W c 0 t) fun i j => f (t.val % 4 * 2048 + i) j := fun y => by
  have e : win8_0.index t = ![t.val % 4, 0] := (by decide +kernel : ∀ t : Fin grid8.N, win8_0.index t = ![t.val % 4, 0]) t
  show (W.at c main_arg0 : (Mat 8192 1024).Idx → EReal) ((win8_0.blk t).view.emb y) = _
  rw [h]
  blk_simp [e]

theorem dww_in1 {f} (h : Fn (a := 8192) (b := 512) (W.at c main_arg9) f) (t : Fin cfg8.N) :
    Fn (a := 2048) (b := 512) (block cfg8 W c 1 t) fun i j => f (t.val % 4 * 2048 + i) (t.val / 4 * 512 + j) := fun y => by
  have e : win8_1.index t = ![t.val % 4, t.val / 4] := (by decide +kernel : ∀ t : Fin grid8.N, win8_1.index t = ![t.val % 4, t.val / 4]) t
  show (W.at c main_arg9 : (Mat 8192 512).Idx → EReal) ((win8_1.blk t).view.emb y) = _
  rw [h]
  blk_simp [e]

theorem dww_out {f g : ℕ → ℕ → EReal} (hf : Fn (a := 8192) (b := 1024) (W.at c main_arg0) f) (hg : Fn (a := 8192) (b := 512) (W.at c main_arg9) g) :
    Fn (a := 1024) (b := 512) ((dwwDat W c).arrAt 2 cfg8.N) (tn 8192 f g) := fun x =>
  congrFun ((dwwDat W c).arrAt_eq_of_covers 2 (fun x : (Mat 1024 512).Idx => (tn 8192 f g : ℕ → ℕ → EReal) (x 0).val (x 1).val) (by decide +kernel) fun t hfl y => by
    have e : win8_2.index t = ![0, t.val / 4] := (by decide +kernel : ∀ t : Fin grid8.N, win8_2.index t = ![0, t.val / 4]) t
    blk_simp [e]
    exact sums_four dww_zero dww_adds (by decide) (fun t => block cfg8 W c 0 t) (fun t => block cfg8 W c 1 t) f g (dww_in0 W c hf) (dww_in1 W c hg) t
      ((flush8_2 t).mp hfl) y) x

theorem dwf_zero : Fn (a := 1024) (b := 896) (k9_pay1 (F := Ideal)) fun _ _ => 0 := fun x => by
  unfold k9_pay1; simp only [shapeCast_self]
  exact zero_f32

theorem dwf_adds : Adds (n := 896) (k9_pay2 (F := Ideal)) := fun acc x y s f g hs hf hg => Fn.of fun i j => by
  unfold k9_pay2; simp only [shapeCast_self]
  exact congrArg₂ (· + ·) (hs.at i j) ((mm_tn (M := 1024) (K := 2048) (N := 896) _ none x y i j).trans
    (Finset.sum_congr rfl fun k _ => congrArg₂ (· * ·) (hf.at k i) (hg.at k j)))

theorem dwf_in0 {f} (h : Fn (a := 8192) (b := 1024) (W.at c main_arg0) f) (t : Fin cfg9.N) :
    Fn (a := 2048) (b := 1024) (block cfg9 W c 0 t) fun i j => f (t.val % 4 * 2048 + i) j := fun y => by
  have e : win9_0.index t = ![t.val % 4, 0] := (by decide +kernel : ∀ t : Fin grid9.N, win9_0.index t = ![t.val % 4, 0]) t
  show (W.at c main_arg0 : (Mat 8192 1024).Idx → EReal) ((win9_0.blk t).view.emb y) = _
  rw [h]
  blk_simp [e]

theorem dwf_in1 {f} (h : Fn (a := 8192) (b := 896) (W.at c main_arg10) f) (t : Fin cfg9.N) :
    Fn (a := 2048) (b := 896) (block cfg9 W c 1 t) fun i j => f (t.val % 4 * 2048 + i) (t.val / 4 * 896 + j) := fun y => by
  have e : win9_1.index t = ![t.val % 4, t.val / 4] := (by decide +kernel : ∀ t : Fin grid9.N, win9_1.index t = ![t.val % 4, t.val / 4]) t
  show (W.at c main_arg10 : (Mat 8192 896).Idx → EReal) ((win9_1.blk t).view.emb y) = _
  rw [h]
  blk_simp [e]

theorem dwf_out {f g : ℕ → ℕ → EReal} (hf : Fn (a := 8192) (b := 1024) (W.at c main_arg0) f) (hg : Fn (a := 8192) (b := 896) (W.at c main_arg10) g) :
    Fn (a := 1024) (b := 896) ((dwfDat W c).arrAt 2 cfg9.N) (tn 8192 f g) := fun x =>
  congrFun ((dwfDat W c).arrAt_eq_of_covers 2 (fun x : (Mat 1024 896).Idx => (tn 8192 f g : ℕ → ℕ → EReal) (x 0).val (x 1).val) (by decide +kernel) fun t hfl y => by
    have e : win9_2.index t = ![0, t.val / 4] := (by decide +kernel : ∀ t : Fin grid9.N, win9_2.index t = ![0, t.val / 4]) t
    blk_simp [e]
    exact sums_four dwf_zero dwf_adds (by decide) (fun t => block cfg9 W c 0 t) (fun t => block cfg9 W c 1 t) f g (dwf_in0 W c hf) (dwf_in1 W c hg) t
      ((flush9_2 t).mp hfl) y) x

/-! ## The activations' gradient -/

/-- A product over 4096 columns is the sum of those over four blocks of 1024. -/
theorem nt_four (f g : ℕ → ℕ → EReal) (i j : ℕ) : nt 4096 f g i j
    = nt 1024 (sh 0 (0 * 1024) f) (sh 0 (0 * 1024) g) i j + nt 1024 (sh 0 (1 * 1024) f) (sh 0 (1 * 1024) g) i j
      + nt 1024 (sh 0 (2 * 1024) f) (sh 0 (2 * 1024) g) i j + nt 1024 (sh 0 (3 * 1024) f) (sh 0 (3 * 1024) g) i j := by
  have h := sum_blocks (n := 4) (b := 1024) fun k => f i k.val * g j k.val
  rw [Fin.sum_univ_four] at h
  simp only [nt, sh, Nat.zero_add]
  refine Eq.trans h.symm ?_
  simp only [Fin.val_zero, Fin.val_one, Fin.val_two, Nat.zero_mul, Nat.zero_add]
  rfl

theorem dh_zero : Fn (a := 512) (b := 1024) (k10_pay1 (F := Ideal)) fun _ _ => 0 := fun x => by
  unfold k10_pay1; simp only [shapeCast_self]
  exact zero_f32

theorem dh_adds0 (acc : Vec Ideal S512x1024 .f32) (x : Vec Ideal S512x1024 .bf16) (y : Vec Ideal S1024x1024 .bf16) {s f g : ℕ → ℕ → EReal}
    (hs : Fn (a := 512) (b := 1024) acc s) (hf : Fn (a := 512) (b := 1024) x f) (hg : Fn (a := 1024) (b := 1024) y g) :
    Fn (a := 512) (b := 1024) (k10_pay2 (F := Ideal) acc x y) fun i j => s i j + nt 1024 f g i j := Fn.of fun i j => by
  unfold k10_pay2; simp only [shapeCast_self]
  exact congrArg₂ (· + ·) (hs.at i j) ((mm_nt (M := 512) (K := 1024) (N := 1024) _ none x y i j).trans
    (Finset.sum_congr rfl fun k _ => congrArg₂ (· * ·) (hf.at i k) (hg.at j k)))

theorem dh_adds1 (acc : Vec Ideal S512x1024 .f32) (x : Vec Ideal S512x512 .bf16) (y : Vec Ideal S1024x512 .bf16) {s f g : ℕ → ℕ → EReal}
    (hs : Fn (a := 512) (b := 1024) acc s) (hf : Fn (a := 512) (b := 512) x f) (hg : Fn (a := 1024) (b := 512) y g) :
    Fn (a := 512) (b := 1024) (k10_pay3 (F := Ideal) acc x y) fun i j => s i j + nt 512 f g i j := Fn.of fun i j => by
  unfold k10_pay3; simp only [shapeCast_self]
  exact congrArg₂ (· + ·) (hs.at i j) ((mm_nt (M := 512) (K := 512) (N := 1024) _ none x y i j).trans
    (Finset.sum_congr rfl fun k _ => congrArg₂ (· * ·) (hf.at i k) (hg.at j k)))

theorem dh_adds2 (acc : Vec Ideal S512x1024 .f32) (x : Vec Ideal S512x768 .bf16) (y : Vec Ideal S1024x768 .bf16) {s f g : ℕ → ℕ → EReal}
    (hs : Fn (a := 512) (b := 1024) acc s) (hf : Fn (a := 512) (b := 768) x f) (hg : Fn (a := 1024) (b := 768) y g) :
    Fn (a := 512) (b := 1024) (k10_pay4 (F := Ideal) acc x y) fun i j => s i j + nt 768 f g i j := Fn.of fun i j => by
  unfold k10_pay4; simp only [shapeCast_self]
  exact congrArg₂ (· + ·) (hs.at i j) ((mm_nt (M := 512) (K := 768) (N := 1024) _ none x y i j).trans
    (Finset.sum_congr rfl fun k _ => congrArg₂ (· * ·) (hf.at i k) (hg.at j k)))

theorem dh_adds3 (acc : Vec Ideal S512x1024 .f32) (x : Vec Ideal S512x512 .bf16) (y : Vec Ideal S1024x512 .bf16) {s f g : ℕ → ℕ → EReal}
    (hs : Fn (a := 512) (b := 1024) acc s) (hf : Fn (a := 512) (b := 512) x f) (hg : Fn (a := 1024) (b := 512) y g) :
    Fn (a := 512) (b := 1024) (k10_pay5 (F := Ideal) acc x y) fun i j => s i j + nt 512 f g i j := Fn.of fun i j => by
  unfold k10_pay5; simp only [shapeCast_self]
  exact congrArg₂ (· + ·) (hs.at i j) ((mm_nt (M := 512) (K := 512) (N := 1024) _ none x y i j).trans
    (Finset.sum_congr rfl fun k _ => congrArg₂ (· * ·) (hf.at i k) (hg.at j k)))

theorem dh_adds4 (acc : Vec Ideal S512x1024 .f32) (x : Vec Ideal S512x896 .bf16) (y : Vec Ideal S1024x896 .bf16) {s f g : ℕ → ℕ → EReal}
    (hs : Fn (a := 512) (b := 1024) acc s) (hf : Fn (a := 512) (b := 896) x f) (hg : Fn (a := 1024) (b := 896) y g) :
    Fn (a := 512) (b := 1024) (k10_pay6 (F := Ideal) acc x y) fun i j => s i j + nt 896 f g i j := Fn.of fun i j => by
  unfold k10_pay6; simp only [shapeCast_self]
  exact congrArg₂ (· + ·) (hs.at i j) ((mm_nt (M := 512) (K := 896) (N := 1024) _ none x y i j).trans
    (Finset.sum_congr rfl fun k _ => congrArg₂ (· * ·) (hf.at i k) (hg.at j k)))

theorem dh_in0 {f} (h : Fn (a := 8192) (b := 4096) (W.at c main_arg6) f) (t : Fin cfg10.N) :
    Fn (a := 512) (b := 1024) (block cfg10 W c 0 t) fun i j => f (t.val / 8 * 512 + i) (min (t.val % 8) 3 * 1024 + j) := fun y => by
  have e : win10_0.index t = ![t.val / 8, min (t.val % 8) 3] := (by decide +kernel : ∀ t : Fin grid10.N, win10_0.index t = ![t.val / 8, min (t.val % 8) 3]) t
  show (W.at c main_arg6 : (Mat 8192 4096).Idx → EReal) ((win10_0.blk t).view.emb y) = _
  rw [h]
  blk_simp [e]

theorem dh_in1 {f} (h : Fn (a := 1024) (b := 4096) (W.at c main_arg1) f) (t : Fin cfg10.N) :
    Fn (a := 1024) (b := 1024) (block cfg10 W c 1 t) fun i j => f i (min (t.val % 8) 3 * 1024 + j) := fun y => by
  have e : win10_1.index t = ![0, min (t.val % 8) 3] := (by decide +kernel : ∀ t : Fin grid10.N, win10_1.index t = ![0, min (t.val % 8) 3]) t
  show (W.at c main_arg1 : (Mat 1024 4096).Idx → EReal) ((win10_1.blk t).view.emb y) = _
  rw [h]
  blk_simp [e]

theorem dh_in2 {f} (h : Fn (a := 8192) (b := 512) (W.at c main_arg7) f) (t : Fin cfg10.N) :
    Fn (a := 512) (b := 512) (block cfg10 W c 2 t) fun i j => f (t.val / 8 * 512 + i) j := fun y => by
  have e : win10_2.index t = ![t.val / 8, 0] := (by decide +kernel : ∀ t : Fin grid10.N, win10_2.index t = ![t.val / 8, 0]) t
  show (W.at c main_arg7 : (Mat 8192 512).Idx → EReal) ((win10_2.blk t).view.emb y) = _
  rw [h]
  blk_simp [e]

theorem dh_in3 {f} (h : Fn (a := 1024) (b := 512) (W.at c main_arg2) f) (t : Fin cfg10.N) :
    Fn (a := 1024) (b := 512) (block cfg10 W c 3 t) fun i j => f i j := fun y => by
  have e : win10_3.index t = ![0, 0] := (by decide +kernel : ∀ t : Fin grid10.N, win10_3.index t = ![0, 0]) t
  show (W.at c main_arg2 : (Mat 1024 512).Idx → EReal) ((win10_3.blk t).view.emb y) = _
  rw [h]
  blk_simp [e]

theorem dh_in4 {f} (h : Fn (a := 8192) (b := 768) (W.at c main_arg8) f) (t : Fin cfg10.N) :
    Fn (a := 512) (b := 768) (block cfg10 W c 4 t) fun i j => f (t.val / 8 * 512 + i) j := fun y => by
  have e : win10_4.index t = ![t.val / 8, 0] := (by decide +kernel : ∀ t : Fin grid10.N, win10_4.index t = ![t.val / 8, 0]) t
  show (W.at c main_arg8 : (Mat 8192 768).Idx → EReal) ((win10_4.blk t).view.emb y) = _
  rw [h]
  blk_simp [e]

theorem dh_in5 {f} (h : Fn (a := 1024) (b := 768) (W.at c main_arg3) f) (t : Fin cfg10.N) :
    Fn (a := 1024) (b := 768) (block cfg10 W c 5 t) fun i j => f i j := fun y => by
  have e : win10_5.index t = ![0, 0] := (by decide +kernel : ∀ t : Fin grid10.N, win10_5.index t = ![0, 0]) t
  show (W.at c main_arg3 : (Mat 1024 768).Idx → EReal) ((win10_5.blk t).view.emb y) = _
  rw [h]
  blk_simp [e]

theorem dh_in6 {f} (h : Fn (a := 8192) (b := 512) (W.at c main_arg9) f) (t : Fin cfg10.N) :
    Fn (a := 512) (b := 512) (block cfg10 W c 6 t) fun i j => f (t.val / 8 * 512 + i) j := fun y => by
  have e : win10_6.index t = ![t.val / 8, 0] := (by decide +kernel : ∀ t : Fin grid10.N, win10_6.index t = ![t.val / 8, 0]) t
  show (W.at c main_arg9 : (Mat 8192 512).Idx → EReal) ((win10_6.blk t).view.emb y) = _
  rw [h]
  blk_simp [e]

theorem dh_in7 {f} (h : Fn (a := 1024) (b := 512) (W.at c main_arg4) f) (t : Fin cfg10.N) :
    Fn (a := 1024) (b := 512) (block cfg10 W c 7 t) fun i j => f i j := fun y => by
  have e : win10_7.index t = ![0, 0] := (by decide +kernel : ∀ t : Fin grid10.N, win10_7.index t = ![0, 0]) t
  show (W.at c main_arg4 : (Mat 1024 512).Idx → EReal) ((win10_7.blk t).view.emb y) = _
  rw [h]
  blk_simp [e]

theorem dh_in8 {f} (h : Fn (a := 8192) (b := 896) (W.at c main_arg10) f) (t : Fin cfg10.N) :
    Fn (a := 512) (b := 896) (block cfg10 W c 8 t) fun i j => f (t.val / 8 * 512 + i) j := fun y => by
  have e : win10_8.index t = ![t.val / 8, 0] := (by decide +kernel : ∀ t : Fin grid10.N, win10_8.index t = ![t.val / 8, 0]) t
  show (W.at c main_arg10 : (Mat 8192 896).Idx → EReal) ((win10_8.blk t).view.emb y) = _
  rw [h]
  blk_simp [e]

theorem dh_in9 {f} (h : Fn (a := 1024) (b := 896) (W.at c main_arg5) f) (t : Fin cfg10.N) :
    Fn (a := 1024) (b := 896) (block cfg10 W c 9 t) fun i j => f i j := fun y => by
  have e : win10_9.index t = ![0, 0] := (by decide +kernel : ∀ t : Fin grid10.N, win10_9.index t = ![0, 0]) t
  show (W.at c main_arg5 : (Mat 1024 896).Idx → EReal) ((win10_9.blk t).view.emb y) = _
  rw [h]
  blk_simp [e]

/-- The sum after a point among the first four of eight, -/
theorem dh_low {f g s : ℕ → ℕ → EReal} (hf : Fn (a := 8192) (b := 4096) (W.at c main_arg6) f) (hg : Fn (a := 1024) (b := 4096) (W.at c main_arg1) g)
    (n q k : ℕ) (hn : n = q * 8 + k) (hk : k < 4) (hq : q < 16)
    (hs : Fn (a := 512) (b := 1024) (if k = 0 then k10_pay1 (F := Ideal) else dhSums W c n) s) :
    Fn (a := 512) (b := 1024) (dhSums W c (n + 1)) fun i j =>
      s i j + nt 1024 (sh 0 (k * 1024) fun i k => f (q * 512 + i) k) (sh 0 (k * 1024) g) i j := by
  have hv : (dhPt n).val = n := Nat.mod_eq_of_lt (by omega)
  have hm : n % 8 = k := by omega
  have hd : n / 8 = q := by omega
  have hc : min k 3 = k := by omega
  rw [dhSums, dhNext, dhStep, hv, hm]
  simp only [if_pos hk, if_neg (show ¬ k = 4 by omega), if_neg (show ¬ k = 5 by omega), if_neg (show ¬ k = 6 by omega), if_neg (show ¬ k = 7 by omega)]
  refine dh_adds0 _ _ _ hs ((dh_in0 W c hf (dhPt n)).congr fun a b => ?_) ((dh_in1 W c hg (dhPt n)).congr fun a b => ?_)
  · show _ = _; rw [hv, hm, hd, hc]; simp only [sh, Nat.zero_add]
  · show _ = _; rw [hv, hm, hc]; simp only [sh, Nat.zero_add]

/-- and after each of the others. -/
theorem dh_high1 {f g s : ℕ → ℕ → EReal} (hf : Fn (a := 8192) (b := 512) (W.at c main_arg7) f) (hg : Fn (a := 1024) (b := 512) (W.at c main_arg2) g)
    (q : ℕ) (hq : q < 16) (hs : Fn (a := 512) (b := 1024) (dhSums W c (q * 8 + 4)) s) :
    Fn (a := 512) (b := 1024) (dhSums W c (q * 8 + 4 + 1)) fun i j => s i j + nt 512 (fun i k => f (q * 512 + i) k) g i j := by
  have hv : (dhPt (q * 8 + 4)).val = q * 8 + 4 := Nat.mod_eq_of_lt (by omega)
  have hm : (q * 8 + 4) % 8 = 4 := by omega
  have hd : (q * 8 + 4) / 8 = q := by omega
  rw [dhSums, dhNext, dhStep, hv, hm]
  refine dh_adds1 _ _ _ hs ((dh_in2 W c hf (dhPt (q * 8 + 4))).congr fun a b => ?_) (dh_in3 W c hg (dhPt (q * 8 + 4)))
  show _ = _; rw [hv, hd]

theorem dh_high2 {f g s : ℕ → ℕ → EReal} (hf : Fn (a := 8192) (b := 768) (W.at c main_arg8) f) (hg : Fn (a := 1024) (b := 768) (W.at c main_arg3) g)
    (q : ℕ) (hq : q < 16) (hs : Fn (a := 512) (b := 1024) (dhSums W c (q * 8 + 5)) s) :
    Fn (a := 512) (b := 1024) (dhSums W c (q * 8 + 5 + 1)) fun i j => s i j + nt 768 (fun i k => f (q * 512 + i) k) g i j := by
  have hv : (dhPt (q * 8 + 5)).val = q * 8 + 5 := Nat.mod_eq_of_lt (by omega)
  have hm : (q * 8 + 5) % 8 = 5 := by omega
  have hd : (q * 8 + 5) / 8 = q := by omega
  rw [dhSums, dhNext, dhStep, hv, hm]
  refine dh_adds2 _ _ _ hs ((dh_in4 W c hf (dhPt (q * 8 + 5))).congr fun a b => ?_) (dh_in5 W c hg (dhPt (q * 8 + 5)))
  show _ = _; rw [hv, hd]

theorem dh_high3 {f g s : ℕ → ℕ → EReal} (hf : Fn (a := 8192) (b := 512) (W.at c main_arg9) f) (hg : Fn (a := 1024) (b := 512) (W.at c main_arg4) g)
    (q : ℕ) (hq : q < 16) (hs : Fn (a := 512) (b := 1024) (dhSums W c (q * 8 + 6)) s) :
    Fn (a := 512) (b := 1024) (dhSums W c (q * 8 + 6 + 1)) fun i j => s i j + nt 512 (fun i k => f (q * 512 + i) k) g i j := by
  have hv : (dhPt (q * 8 + 6)).val = q * 8 + 6 := Nat.mod_eq_of_lt (by omega)
  have hm : (q * 8 + 6) % 8 = 6 := by omega
  have hd : (q * 8 + 6) / 8 = q := by omega
  rw [dhSums, dhNext, dhStep, hv, hm]
  refine dh_adds3 _ _ _ hs ((dh_in6 W c hf (dhPt (q * 8 + 6))).congr fun a b => ?_) (dh_in7 W c hg (dhPt (q * 8 + 6)))
  show _ = _; rw [hv, hd]

theorem dh_high4 {f g s : ℕ → ℕ → EReal} (hf : Fn (a := 8192) (b := 896) (W.at c main_arg10) f) (hg : Fn (a := 1024) (b := 896) (W.at c main_arg5) g)
    (q : ℕ) (hq : q < 16) (hs : Fn (a := 512) (b := 1024) (dhSums W c (q * 8 + 7)) s) :
    Fn (a := 512) (b := 1024) (dhSums W c (q * 8 + 7 + 1)) fun i j => s i j + nt 896 (fun i k => f (q * 512 + i) k) g i j := by
  have hv : (dhPt (q * 8 + 7)).val = q * 8 + 7 := Nat.mod_eq_of_lt (by omega)
  have hm : (q * 8 + 7) % 8 = 7 := by omega
  have hd : (q * 8 + 7) / 8 = q := by omega
  rw [dhSums, dhNext, dhStep, hv, hm]
  refine dh_adds4 _ _ _ hs ((dh_in8 W c hf (dhPt (q * 8 + 7))).congr fun a b => ?_) (dh_in9 W c hg (dhPt (q * 8 + 7)))
  show _ = _; rw [hv, hd]

/-- The sum of the five products. -/
def five (f g f1 g1 f2 g2 f3 g3 f4 g4 : ℕ → ℕ → EReal) : ℕ → ℕ → EReal := fun i j =>
  nt 4096 f g i j + nt 512 f1 g1 i j + nt 768 f2 g2 i j + nt 512 f3 g3 i j + nt 896 f4 g4 i j

theorem dh_out {f g f1 g1 f2 g2 f3 g3 f4 g4 : ℕ → ℕ → EReal}
    (hf : Fn (a := 8192) (b := 4096) (W.at c main_arg6) f) (hg : Fn (a := 1024) (b := 4096) (W.at c main_arg1) g)
    (hf1 : Fn (a := 8192) (b := 512) (W.at c main_arg7) f1) (hg1 : Fn (a := 1024) (b := 512) (W.at c main_arg2) g1)
    (hf2 : Fn (a := 8192) (b := 768) (W.at c main_arg8) f2) (hg2 : Fn (a := 1024) (b := 768) (W.at c main_arg3) g2)
    (hf3 : Fn (a := 8192) (b := 512) (W.at c main_arg9) f3) (hg3 : Fn (a := 1024) (b := 512) (W.at c main_arg4) g3)
    (hf4 : Fn (a := 8192) (b := 896) (W.at c main_arg10) f4) (hg4 : Fn (a := 1024) (b := 896) (W.at c main_arg5) g4) :
    Fn (a := 8192) (b := 1024) ((dhDat W c).arrAt 10 cfg10.N) (five f g f1 g1 f2 g2 f3 g3 f4 g4) := fun x =>
  congrFun ((dhDat W c).arrAt_eq_of_covers 10 (fun x : (Mat 8192 1024).Idx => (five f g f1 g1 f2 g2 f3 g3 f4 g4 : ℕ → ℕ → EReal) (x 0).val (x 1).val) (by decide +kernel) fun t hfl y => by
    have e : win10_10.index t = ![t.val / 8, 0] := (by decide +kernel : ∀ t : Fin grid10.N, win10_10.index t = ![t.val / 8, 0]) t
    have ht : t.val % 8 = 7 := (flush10_10 t).mp hfl
    have hN : t.val < 128 := lt_of_lt_of_eq t.isLt N_10
    obtain ⟨q, hq⟩ : ∃ q, q = t.val / 8 := ⟨_, rfl⟩
    have hq' : q < 16 := by omega
    have hz : Fn (a := 512) (b := 1024) (if 0 = 0 then k10_pay1 (F := Ideal) else dhSums W c (q * 8)) fun _ _ => 0 := by rw [if_pos rfl]; exact dh_zero
    have h0 := dh_low W c hf hg (q * 8) q 0 (by omega) (by decide) hq' hz
    have h1 := dh_low W c hf hg (q * 8 + 1) q 1 (by omega) (by decide) hq' (by rw [if_neg (by decide)]; exact h0)
    have h2 := dh_low W c hf hg (q * 8 + 2) q 2 (by omega) (by decide) hq' (by rw [if_neg (by decide)]; exact h1)
    have h3 := dh_low W c hf hg (q * 8 + 3) q 3 (by omega) (by decide) hq' (by rw [if_neg (by decide)]; exact h2)
    have h4 := dh_high1 W c hf1 hg1 q hq' h3
    have h5 := dh_high2 W c hf2 hg2 q hq' h4
    have h6 := dh_high3 W c hf3 hg3 q hq' h5
    have h7 := dh_high4 W c hf4 hg4 q hq' h6
    rw [show q * 8 + 7 + 1 = t.val + 1 by omega] at h7
    blk_simp [e]
    refine (h7 y).trans ?_
    have l := nt_four (fun i k => f (q * 512 + i) k) g (y 0).val (y 1).val
    unfold five
    rw [← hq]
    refine Eq.trans ?_ (congrArg (fun s : EReal => s + nt 512 (fun i k => f1 (q * 512 + i) k) g1 (y 0).val (y 1).val
      + nt 768 (fun i k => f2 (q * 512 + i) k) g2 (y 0).val (y 1).val + nt 512 (fun i k => f3 (q * 512 + i) k) g3 (y 0).val (y 1).val
      + nt 896 (fun i k => f4 (q * 512 + i) k) g4 (y 0).val (y 1).val) l).symm
    simp only [zero_add, add_assoc]) x

end Cert.Proj

end
-- ==== Proof.ProjMixVal.lean ====
/- The arrays the projection program's last two calls leave, read by row and column: the merged branches, their product with the
   output weight added to what came in, and the output weight's gradient. -/
module

public import proofs.«01_k».proof.Proof.ProjMix
public import proofs.«01_k».proof.Proof.ProjVal

@[expose] public section

set_option maxRecDepth 16384
set_option maxHeartbeats 1000000

noncomputable section

namespace Cert.Proj

open Cert.Kernel3Ideal Cert.Kernel3Ideal.Gen
open Idealize.ShloMosaic Idealize.ShloMosaic.TcCoe Idealize.ShloMosaic.ValueIdx
open Idealize.SL
open Cert.Products
open Cert.Ffn (Fn nn tn zero_f32)
open scoped BigOperators

/-- One branch: its gate, at the branch's columns, times its activations' product with its weight. -/
def branch (a z w : ℕ → ℕ → EReal) (i j : ℕ) : EReal := Ideal.logistic (z i j) * nn 256 a w i j

/-- The four branches merged: the gates of branch `b` are the columns from `1024 b` on. -/
def merge (a0 a1 a2 a3 z : ℕ → ℕ → EReal) (w : ℕ → ℕ → ℕ → EReal) (i j : ℕ) : EReal :=
  branch a0 z (w 0) i j + branch a1 (fun i j => z i (1024 + j)) (w 1) i j + branch a2 (fun i j => z i (2048 + j)) (w 2) i j
    + branch a3 (fun i j => z i (3072 + j)) (w 3) i j

section Block

variable {a0 a1 a2 a3 : Vec Ideal S256x256 .f32} {z : Vec Ideal S256x4096 .f32} {w : Vec Ideal S4x256x1024 .bf16} {wo : Vec Ideal S1024x1024 .bf16}
  {x : Vec Ideal S256x1024 .f32} {A0 A1 A2 A3 Z O X : ℕ → ℕ → EReal} {K : ℕ → ℕ → ℕ → EReal}

/-! The gates of one branch in a block of rows. -/
theorem cut0_fn (h : Fn (a := 256) (b := 4096) z Z) : Fn (a := 256) (b := 1024) (cut0 z) Z := fun y =>
  (h _).trans (congrArg₂ Z (by show 0 + 1 * (y 0).val = _; omega) (by show 0 + 1 * (y 1).val = _; omega))
theorem cut1_fn (h : Fn (a := 256) (b := 4096) z Z) : Fn (a := 256) (b := 1024) (cut1 z) fun i j => Z i (1024 + j) := fun y =>
  (h _).trans (congrArg₂ Z (by show 0 + 1 * (y 0).val = _; omega) (by show 1024 + 1 * (y 1).val = _; omega))
theorem cut2_fn (h : Fn (a := 256) (b := 4096) z Z) : Fn (a := 256) (b := 1024) (cut2 z) fun i j => Z i (2048 + j) := fun y =>
  (h _).trans (congrArg₂ Z (by show 0 + 1 * (y 0).val = _; omega) (by show 2048 + 1 * (y 1).val = _; omega))
theorem cut3_fn (h : Fn (a := 256) (b := 4096) z Z) : Fn (a := 256) (b := 1024) (cut3 z) fun i j => Z i (3072 + j) := fun y =>
  (h _).trans (congrArg₂ Z (by show 0 + 1 * (y 0).val = _; omega) (by show 3072 + 1 * (y 1).val = _; omega))

/-- A slab cast to a matrix, by row and column. -/
theorem flat_fn {v : Vec Ideal S1x256x1024 .bf16} {f : ℕ → ℕ → EReal} (h : ∀ k e, v (ix3 0 k e) = f k.val e.val) :
    Fn (a := 256) (b := 1024) (shapeCast S256x1024 v shapeCasts_S1x256x1024_S256x1024) f := Fn.of fun k e =>
  ((shapeCast_dropUnit_apply ![256, 1024] v shapeCasts_S1x256x1024_S256x1024 (ix2 k e)).trans (congrArg v (eq_ix3 _))).trans (h k e)

/-! The weights of one branch. -/
theorem slab0_fn (h : ∀ y, w y = K (y 0).val (y 1).val (y 2).val) :
    Fn (a := 256) (b := 1024) (shapeCast S256x1024 (slab0 w) shapeCasts_S1x256x1024_S256x1024) (K 0) := flat_fn fun k e =>
  (h _).trans (congr (congrArg₂ K (by show 0 + 1 * 0 = _; omega) (by show 0 + 1 * k.val = _; omega)) (by show 0 + 1 * e.val = _; omega))
theorem slab1_fn (h : ∀ y, w y = K (y 0).val (y 1).val (y 2).val) :
    Fn (a := 256) (b := 1024) (shapeCast S256x1024 (slab1 w) shapeCasts_S1x256x1024_S256x1024) (K 1) := flat_fn fun k e =>
  (h _).trans (congr (congrArg₂ K (by show 1 + 1 * 0 = _; omega) (by show 0 + 1 * k.val = _; omega)) (by show 0 + 1 * e.val = _; omega))
theorem slab2_fn (h : ∀ y, w y = K (y 0).val (y 1).val (y 2).val) :
    Fn (a := 256) (b := 1024) (shapeCast S256x1024 (slab2 w) shapeCasts_S1x256x1024_S256x1024) (K 2) := flat_fn fun k e =>
  (h _).trans (congr (congrArg₂ K (by show 2 + 1 * 0 = _; omega) (by show 0 + 1 * k.val = _; omega)) (by show 0 + 1 * e.val = _; omega))
theorem slab3_fn (h : ∀ y, w y = K (y 0).val (y 1).val (y 2).val) :
    Fn (a := 256) (b := 1024) (shapeCast S256x1024 (slab3 w) shapeCasts_S1x256x1024_S256x1024) (K 3) := flat_fn fun k e =>
  (h _).trans (congr (congrArg₂ K (by show 3 + 1 * 0 = _; omega) (by show 0 + 1 * k.val = _; omega)) (by show 0 + 1 * e.val = _; omega))

/-- One branch of a block, at an element. -/
theorem branch_apply {g : Vec Ideal S256x1024 .f32} {v : Vec Ideal S1x256x1024 .bf16} {G V : ℕ → ℕ → EReal} (hg : Fn (a := 256) (b := 1024) g G)
    (ha : Fn (a := 256) (b := 256) a0 A0) (hv : Fn (a := 256) (b := 1024) (shapeCast S256x1024 v shapeCasts_S1x256x1024_S256x1024) V) (i : Fin 256) (j : Fin 1024) :
    Ideal.logistic (g (ix2 i j)) * matmul (F := Ideal) dot_S256x256_S256x1024_S256x1024_1_0_0_1_n_n none (truncf .bf16 a0 bitsLt_bf16_f32 : FVec Ideal S256x256 .bf16)
      (shapeCast S256x1024 v shapeCasts_S1x256x1024_S256x1024 : FVec Ideal S256x1024 .bf16) (constant S256x1024 .f32 0x00000000#32) (ix2 i j)
    = branch A0 G V i.val j.val :=
  congrArg₂ (· * ·) (congrArg Ideal.logistic (hg.at i j)) ((mm_nn (M := 256) (K := 256) (N := 1024) _ none _ _ i j).trans
    (Finset.sum_congr rfl fun k _ => congrArg₂ (· * ·) (ha.at i k) (hv.at k j)))

/-- What one point of the merge reads of its activations, gates and weights. -/
structure Reads (a0 a1 a2 a3 : Vec Ideal S256x256 .f32) (z : Vec Ideal S256x4096 .f32) (w : Vec Ideal S4x256x1024 .bf16)
    (A0 A1 A2 A3 Z : ℕ → ℕ → EReal) (K : ℕ → ℕ → ℕ → EReal) : Prop where
  r0 : Fn (a := 256) (b := 256) a0 A0
  r1 : Fn (a := 256) (b := 256) a1 A1
  r2 : Fn (a := 256) (b := 256) a2 A2
  r3 : Fn (a := 256) (b := 256) a3 A3
  rz : Fn (a := 256) (b := 4096) z Z
  rw : ∀ y, w y = K (y 0).val (y 1).val (y 2).val

/-- The merged block before its rounding. -/
theorem whole_fn (h : Reads a0 a1 a2 a3 z w A0 A1 A2 A3 Z K) :
    Fn (a := 256) (b := 1024) (k11_pay1 (F := Ideal) (three a0 a1 a2 z w) (k11_pay5 (cut3 z)) a3 (slab3 w)) (merge A0 A1 A2 A3 Z K) := Fn.of fun i j => by
  unfold k11_pay1 three k11_pay4 k11_pay5
  simp only [shapeCast_self]
  exact congrArg₂ (· + ·) (congrArg₂ (· + ·) (congrArg₂ (· + ·) (branch_apply (cut0_fn h.rz) h.r0 (slab0_fn h.rw) i j)
    (branch_apply (cut1_fn h.rz) h.r1 (slab1_fn h.rw) i j)) (branch_apply (cut2_fn h.rz) h.r2 (slab2_fn h.rw) i j))
    (branch_apply (cut3_fn h.rz) h.r3 (slab3_fn h.rw) i j)

theorem mixSum_fn (h : Reads a0 a1 a2 a3 z w A0 A1 A2 A3 Z K) : Fn (a := 256) (b := 1024) (mixSum a0 a1 a2 a3 z w) (merge A0 A1 A2 A3 Z K) := by
  unfold mixSum k11_pay2
  exact whole_fn h

theorem mixOut_fn (h : Reads a0 a1 a2 a3 z w A0 A1 A2 A3 Z K) (ho : Fn (a := 1024) (b := 1024) wo O) (hx : Fn (a := 256) (b := 1024) x X) :
    Fn (a := 256) (b := 1024) (mixOut a0 a1 a2 a3 z w wo x) fun i j => X i j + nn 1024 (merge A0 A1 A2 A3 Z K) O i j := Fn.of fun i j => by
  unfold mixOut k11_pay3
  simp only [shapeCast_self]
  exact congrArg₂ (· + ·) (hx.at i j) ((mm_nn (M := 256) (K := 1024) (N := 1024) _ none _ wo i j).trans
    (Finset.sum_congr rfl fun k _ => congrArg₂ (· * ·) ((whole_fn h).at i k) (ho.at k j)))

end Block

variable (W : Held Ideal) (c : Dev nD) {A0 A1 A2 A3 Z O X : ℕ → ℕ → EReal} {K : ℕ → ℕ → ℕ → EReal}

/-- What the merge's operands hold: the activations, the gates and the stack of weights. -/
structure Mixes (A0 A1 A2 A3 Z : ℕ → ℕ → EReal) (K : ℕ → ℕ → ℕ → EReal) : Prop where
  h0 : Fn (a := 8192) (b := 256) (W.at c main_arg11) A0
  h1 : Fn (a := 8192) (b := 256) (W.at c main_arg12) A1
  h2 : Fn (a := 8192) (b := 256) (W.at c main_arg13) A2
  h3 : Fn (a := 8192) (b := 256) (W.at c main_arg14) A3
  hz : Fn (a := 8192) (b := 4096) (W.at c main_v8) Z
  hw : ∀ y : S4x256x1024.Idx, (W.at c main_v5 : FVec Ideal S4x256x1024 .bf16) y = K (y 0).val (y 1).val (y 2).val

theorem mix_in0 {f} (h : Fn (a := 8192) (b := 256) (W.at c main_arg11) f) (t : Fin cfg11.N) :
    Fn (a := 256) (b := 256) (block cfg11 W c 0 t) fun i j => f (t.val * 256 + i) j := fun y => by
  have e : win11_0.index t = ![t.val, 0] := (by decide +kernel : ∀ t : Fin grid11.N, win11_0.index t = ![t.val, 0]) t
  show (W.at c main_arg11 : (Mat 8192 256).Idx → EReal) ((win11_0.blk t).view.emb y) = _
  rw [h]
  blk_simp [e]

theorem mix_in1 {f} (h : Fn (a := 8192) (b := 256) (W.at c main_arg12) f) (t : Fin cfg11.N) :
    Fn (a := 256) (b := 256) (block cfg11 W c 1 t) fun i j => f (t.val * 256 + i) j := fun y => by
  have e : win11_1.index t = ![t.val, 0] := (by decide +kernel : ∀ t : Fin grid11.N, win11_1.index t = ![t.val, 0]) t
  show (W.at c main_arg12 : (Mat 8192 256).Idx → EReal) ((win11_1.blk t).view.emb y) = _
  rw [h]
  blk_simp [e]

theorem mix_in2 {f} (h : Fn (a := 8192) (b := 256) (W.at c main_arg13) f) (t : Fin cfg11.N) :
    Fn (a := 256) (b := 256) (block cfg11 W c 2 t) fun i j => f (t.val * 256 + i) j := fun y => by
  have e : win11_2.index t = ![t.val, 0] := (by decide +kernel : ∀ t : Fin grid11.N, win11_2.index t = ![t.val, 0]) t
  show (W.at c main_arg13 : (Mat 8192 256).Idx → EReal) ((win11_2.blk t).view.emb y) = _
  rw [h]
  blk_simp [e]

theorem mix_in3 {f} (h : Fn (a := 8192) (b := 256) (W.at c main_arg14) f) (t : Fin cfg11.N) :
    Fn (a := 256) (b := 256) (block cfg11 W c 3 t) fun i j => f (t.val * 256 + i) j := fun y => by
  have e : win11_3.index t = ![t.val, 0] := (by decide +kernel : ∀ t : Fin grid11.N, win11_3.index t = ![t.val, 0]) t
  show (W.at c main_arg14 : (Mat 8192 256).Idx → EReal) ((win11_3.blk t).view.emb y) = _
  rw [h]
  blk_simp [e]

theorem mix_in4 {f} (h : Fn (a := 8192) (b := 4096) (W.at c main_v8) f) (t : Fin cfg11.N) :
    Fn (a := 256) (b := 4096) (block cfg11 W c 4 t) fun i j => f (t.val * 256 + i) j := fun y => by
  have e : win11_4.index t = ![t.val, 0] := (by decide +kernel : ∀ t : Fin grid11.N, win11_4.index t = ![t.val, 0]) t
  show (W.at c main_v8 : (Mat 8192 4096).Idx → EReal) ((win11_4.blk t).view.emb y) = _
  rw [h]
  blk_simp [e]

theorem mix_in7 {f} (h : Fn (a := 8192) (b := 1024) (W.at c main_arg20) f) (t : Fin cfg11.N) :
    Fn (a := 256) (b := 1024) (block cfg11 W c 7 t) fun i j => f (t.val * 256 + i) j := fun y => by
  have e : win11_7.index t = ![t.val, 0] := (by decide +kernel : ∀ t : Fin grid11.N, win11_7.index t = ![t.val, 0]) t
  show (W.at c main_arg20 : (Mat 8192 1024).Idx → EReal) ((win11_7.blk t).view.emb y) = _
  rw [h]
  blk_simp [e]

theorem mix_in6 {f} (h : Fn (a := 1024) (b := 1024) (W.at c main_v6) f) (t : Fin cfg11.N) : Fn (a := 1024) (b := 1024) (block cfg11 W c 6 t) f := fun y => by
  have e : win11_6.index t = ![0, 0] := (by decide +kernel : ∀ t : Fin grid11.N, win11_6.index t = ![0, 0]) t
  show (W.at c main_v6 : (Mat 1024 1024).Idx → EReal) ((win11_6.blk t).view.emb y) = _
  rw [h]
  blk_simp [e]

theorem mix_in5 (h : ∀ y : S4x256x1024.Idx, (W.at c main_v5 : FVec Ideal S4x256x1024 .bf16) y = K (y 0).val (y 1).val (y 2).val) (t : Fin cfg11.N) (y : S4x256x1024.Idx) :
    (block cfg11 W c 5 t : S4x256x1024.Idx → EReal) y = K (y 0).val (y 1).val (y 2).val := by
  have e : win11_5.index t = ![0, 0, 0] := (by decide +kernel : ∀ t : Fin grid11.N, win11_5.index t = ![0, 0, 0]) t
  show (W.at c main_v5 : S4x256x1024.Idx → EReal) ((win11_5.blk t).view.emb y) = _
  rw [h]
  blk_simp [e]

variable {W c}

theorem mix_reads (h : Mixes W c A0 A1 A2 A3 Z K) (t : Fin cfg11.N) :
    Reads (block cfg11 W c 0 t) (block cfg11 W c 1 t) (block cfg11 W c 2 t) (block cfg11 W c 3 t) (block cfg11 W c 4 t) (block cfg11 W c 5 t)
      (fun i j => A0 (t.val * 256 + i) j) (fun i j => A1 (t.val * 256 + i) j) (fun i j => A2 (t.val * 256 + i) j) (fun i j => A3 (t.val * 256 + i) j)
      (fun i j => Z (t.val * 256 + i) j) K :=
  ⟨mix_in0 W c h.h0 t, mix_in1 W c h.h1 t, mix_in2 W c h.h2 t, mix_in3 W c h.h3 t, mix_in4 W c h.hz t, mix_in5 W c h.hw t⟩

variable (W c)

theorem mix_out9 (h : Mixes W c A0 A1 A2 A3 Z K) : Fn (a := 8192) (b := 1024) ((mixDat W c).arrAt 9 cfg11.N) (merge A0 A1 A2 A3 Z K) := fun x =>
  congrFun ((mixDat W c).arrAt_eq_of_covers 9 (fun x : (Mat 8192 1024).Idx => (merge A0 A1 A2 A3 Z K : ℕ → ℕ → EReal) (x 0).val (x 1).val) (by decide +kernel) fun t _ y => by
    have e : win11_9.index t = ![t.val, 0] := (by decide +kernel : ∀ t : Fin grid11.N, win11_9.index t = ![t.val, 0]) t
    blk_simp [e]
    exact mixSum_fn (mix_reads h t) y) x

theorem mix_out8 (h : Mixes W c A0 A1 A2 A3 Z K) (ho : Fn (a := 1024) (b := 1024) (W.at c main_v6) O) (hx : Fn (a := 8192) (b := 1024) (W.at c main_arg20) X) :
    Fn (a := 8192) (b := 1024) ((mixDat W c).arrAt 8 cfg11.N) fun i j => X i j + nn 1024 (merge A0 A1 A2 A3 Z K) O i j := fun x =>
  congrFun ((mixDat W c).arrAt_eq_of_covers 8 (fun x : (Mat 8192 1024).Idx => (X (x 0).val (x 1).val + nn 1024 (merge A0 A1 A2 A3 Z K) O (x 0).val (x 1).val : EReal))
    (by decide +kernel) fun t _ y => by
    have e : win11_8.index t = ![t.val, 0] := (by decide +kernel : ∀ t : Fin grid11.N, win11_8.index t = ![t.val, 0]) t
    blk_simp [e]
    exact mixOut_fn (mix_reads h t) (mix_in6 W c ho t) (mix_in7 W c hx t) y) x

/-! ## The output weight's gradient -/

theorem dwo_zero : Fn (a := 1024) (b := 1024) (k12_pay1 (F := Ideal)) fun _ _ => 0 := fun x => by
  unfold k12_pay1; simp only [shapeCast_self]
  exact zero_f32

theorem dwo_adds : Adds (n := 1024) (k12_pay2 (F := Ideal)) := fun acc x y s f g hs hf hg => Fn.of fun i j => by
  unfold k12_pay2; simp only [shapeCast_self]
  exact congrArg₂ (· + ·) (hs.at i j) ((mm_tn (M := 1024) (K := 2048) (N := 1024) _ none x y i j).trans
    (Finset.sum_congr rfl fun k _ => congrArg₂ (· * ·) (hf.at k i) (hg.at k j)))

theorem dwo_in0 {f} (h : Fn (a := 8192) (b := 1024) (W.at c main_v19_1) f) (t : Fin cfg12.N) :
    Fn (a := 2048) (b := 1024) (block cfg12 W c 0 t) fun i j => f (t.val % 4 * 2048 + i) j := fun y => by
  have e : win12_0.index t = ![t.val % 4, 0] := (by decide +kernel : ∀ t : Fin grid12.N, win12_0.index t = ![t.val % 4, 0]) t
  show (W.at c main_v19_1 : (Mat 8192 1024).Idx → EReal) ((win12_0.blk t).view.emb y) = _
  rw [h]
  blk_simp [e]

theorem dwo_in1 {f} (h : Fn (a := 8192) (b := 1024) (W.at c main_v7) f) (t : Fin cfg12.N) :
    Fn (a := 2048) (b := 1024) (block cfg12 W c 1 t) fun i j => f (t.val % 4 * 2048 + i) (t.val / 4 * 1024 + j) := fun y => by
  have e : win12_1.index t = ![t.val % 4, t.val / 4] := (by decide +kernel : ∀ t : Fin grid12.N, win12_1.index t = ![t.val % 4, t.val / 4]) t
  show (W.at c main_v7 : (Mat 8192 1024).Idx → EReal) ((win12_1.blk t).view.emb y) = _
  rw [h]
  blk_simp [e]

theorem dwo_out {f g : ℕ → ℕ → EReal} (hf : Fn (a := 8192) (b := 1024) (W.at c main_v19_1) f) (hg : Fn (a := 8192) (b := 1024) (W.at c main_v7) g) :
    Fn (a := 1024) (b := 1024) ((dwoDat W c).arrAt 2 cfg12.N) (tn 8192 f g) := fun x =>
  congrFun ((dwoDat W c).arrAt_eq_of_covers 2 (fun x : (Mat 1024 1024).Idx => (tn 8192 f g : ℕ → ℕ → EReal) (x 0).val (x 1).val) (by decide +kernel) fun t hfl y => by
    have e : win12_2.index t = ![0, t.val / 4] := (by decide +kernel : ∀ t : Fin grid12.N, win12_2.index t = ![0, t.val / 4]) t
    blk_simp [e]
    exact sums_four dwo_zero dwo_adds (by decide) (fun t => block cfg12 W c 0 t) (fun t => block cfg12 W c 1 t) f g (dwo_in0 W c hf) (dwo_in1 W c hg) t
      ((flush12_2 t).mp hfl) y) x

end Cert.Proj

end
-- ==== Proof.ProjEnd.lean ====
/- The thirteen results of the projection program at the end of its run, read by row and column from its arguments. -/
module

public import proofs.«01_k».proof.Proof.ProjRun
public import proofs.«01_k».proof.Proof.ProjMixVal
public import proofs.«01_k».proof.Proof.Stack

@[expose] public section

set_option maxRecDepth 16384
set_option maxHeartbeats 1000000

noncomputable section

namespace Cert.Proj

open Cert.Kernel3Ideal Cert.Kernel3Ideal.Gen
open Idealize.ShloMosaic Idealize.ShloMosaic.TcCoe Idealize.ShloMosaic.ValueIdx
open Idealize.SL
open Cert.Products
open Cert.Ffn (Fn nn nt tn ext ext_fn)

variable (m : (ℓ : Loc nD τ sig) → Buf (Elt Ideal) ℓ) (c : Dev nD)

/-! The arguments by row and column: the activations, the five weights, and the gradients that come in for the five products. -/
def eH : ℕ → ℕ → EReal := ext (a := 8192) (b := 1024) (m ((c : Thread nD τ).loc main_arg0))
def eG : ℕ → ℕ → EReal := ext (a := 1024) (b := 4096) (m ((c : Thread nD τ).loc main_arg1))
def eC : ℕ → ℕ → EReal := ext (a := 1024) (b := 512) (m ((c : Thread nD τ).loc main_arg2))
def eS : ℕ → ℕ → EReal := ext (a := 1024) (b := 768) (m ((c : Thread nD τ).loc main_arg3))
def eW : ℕ → ℕ → EReal := ext (a := 1024) (b := 512) (m ((c : Thread nD τ).loc main_arg4))
def eF : ℕ → ℕ → EReal := ext (a := 1024) (b := 896) (m ((c : Thread nD τ).loc main_arg5))
def dG : ℕ → ℕ → EReal := ext (a := 8192) (b := 4096) (m ((c : Thread nD τ).loc main_arg6))
def dC : ℕ → ℕ → EReal := ext (a := 8192) (b := 512) (m ((c : Thread nD τ).loc main_arg7))
def dS : ℕ → ℕ → EReal := ext (a := 8192) (b := 768) (m ((c : Thread nD τ).loc main_arg8))
def dW : ℕ → ℕ → EReal := ext (a := 8192) (b := 512) (m ((c : Thread nD τ).loc main_arg9))
def dF : ℕ → ℕ → EReal := ext (a := 8192) (b := 896) (m ((c : Thread nD τ).loc main_arg10))

/-! The merge's arguments: the branches' activations and weights, the output weight, what the merge is added to, and its gradient. -/
def eA0 : ℕ → ℕ → EReal := ext (a := 8192) (b := 256) (m ((c : Thread nD τ).loc main_arg11))
def eA1 : ℕ → ℕ → EReal := ext (a := 8192) (b := 256) (m ((c : Thread nD τ).loc main_arg12))
def eA2 : ℕ → ℕ → EReal := ext (a := 8192) (b := 256) (m ((c : Thread nD τ).loc main_arg13))
def eA3 : ℕ → ℕ → EReal := ext (a := 8192) (b := 256) (m ((c : Thread nD τ).loc main_arg14))
def eB0 : ℕ → ℕ → EReal := ext (a := 256) (b := 1024) (m ((c : Thread nD τ).loc main_arg15))
def eB1 : ℕ → ℕ → EReal := ext (a := 256) (b := 1024) (m ((c : Thread nD τ).loc main_arg16))
def eB2 : ℕ → ℕ → EReal := ext (a := 256) (b := 1024) (m ((c : Thread nD τ).loc main_arg17))
def eB3 : ℕ → ℕ → EReal := ext (a := 256) (b := 1024) (m ((c : Thread nD τ).loc main_arg18))
def eO : ℕ → ℕ → EReal := ext (a := 1024) (b := 1024) (m ((c : Thread nD τ).loc main_arg19))
def eX : ℕ → ℕ → EReal := ext (a := 8192) (b := 1024) (m ((c : Thread nD τ).loc main_arg20))
def dX : ℕ → ℕ → EReal := ext (a := 8192) (b := 1024) (m ((c : Thread nD τ).loc main_arg21))

/-- The stack of the branches' weights. -/
def eK : ℕ → ℕ → ℕ → EReal
  | 0 => eB0 m c
  | 1 => eB1 m c
  | 2 => eB2 m c
  | _ => eB3 m c

/-- No call writes the buffer. -/
def Unwritten (b : Ref sig .tc) : Prop := ∀ p : Fin 13, ∀ w : Fin (cfgs p).W, Pipeline.arrRef (cfgs p).spec w = b → ((cfgs p).win w).isOut = false

/-- No call from the one given on writes the buffer. -/
def Left (k : ℕ) (b : Ref sig .tc) : Prop :=
  ∀ p : Fin 13, k ≤ p.val → ∀ w : Fin (cfgs p).W, Pipeline.arrRef (cfgs p).spec w = b → ((cfgs p).win w).isOut = false

instance (b : Ref sig .tc) : Decidable (Unwritten b) := by unfold Unwritten; infer_instance
instance (k : ℕ) (b : Ref sig .tc) : Decidable (Left k b) := by unfold Left; infer_instance

variable {b : Ref sig .tc}

/-! What no call writes is at every boundary as after the host's operations, and what those do not write is then as launched. -/

theorem first (h : b ∉ hostOps0_W) : (at0 m).at c b = m ((c : Thread nD τ).loc b) := StableHlo.after_of_writes_sub hostOps0 _ hostOps0_writes h
theorem start0 (_ : Unwritten b) : (at0 m).at c b = (at0 m).at c b := rfl
theorem start1 (h : Unwritten b) : (at1 m).at c b = (at0 m).at c b := (next_of launch0 _ _ (fun _ _ => rfl) c b (h 0)).trans (start0 m c h)
theorem start2 (h : Unwritten b) : (at2 m).at c b = (at0 m).at c b := (next_of launch1 _ _ (fun _ _ => rfl) c b (h 1)).trans (start1 m c h)
theorem start3 (h : Unwritten b) : (at3 m).at c b = (at0 m).at c b := (next_of launch2 _ _ (fun _ _ => rfl) c b (h 2)).trans (start2 m c h)
theorem start4 (h : Unwritten b) : (at4 m).at c b = (at0 m).at c b := (next_of launch3 _ _ (fun _ _ => rfl) c b (h 3)).trans (start3 m c h)
theorem start5 (h : Unwritten b) : (at5 m).at c b = (at0 m).at c b := (next_of launch4 _ _ (fun _ _ => rfl) c b (h 4)).trans (start4 m c h)
theorem start6 (h : Unwritten b) : (at6 m).at c b = (at0 m).at c b := (next_of launch5 _ _ (fun _ _ => rfl) c b (h 5)).trans (start5 m c h)
theorem start7 (h : Unwritten b) : (at7 m).at c b = (at0 m).at c b := (next_of launch6 _ _ (fun _ _ => rfl) c b (h 6)).trans (start6 m c h)
theorem start8 (h : Unwritten b) : (at8 m).at c b = (at0 m).at c b := (next_of launch7 _ _ (fun _ _ => rfl) c b (h 7)).trans (start7 m c h)
theorem start9 (h : Unwritten b) : (at9 m).at c b = (at0 m).at c b := (next_of launch8 _ _ (fun _ _ => rfl) c b (h 8)).trans (start8 m c h)
theorem start10 (h : Unwritten b) : (at10 m).at c b = (at0 m).at c b := (next_of launch9 _ _ (fun _ _ => rfl) c b (h 9)).trans (start9 m c h)
theorem start11 (h : Unwritten b) : (at11 m).at c b = (at0 m).at c b := (next_of launch10 _ _ (fun _ _ => rfl) c b (h 10)).trans (start10 m c h)
theorem start12 (h : Unwritten b) : (at12 m).at c b = (at0 m).at c b := (next_of launch11 _ _ (fun _ _ => rfl) c b (h 11)).trans (start11 m c h)

/-! What no later call writes is after the eleventh call, and at the end, as at the boundary. -/

theorem stays (h : Left 11 b) : (at13 m).at c b = (at11 m).at c b :=
  (next_of launch12 _ _ (fun _ _ => rfl) c b (h 12 (by decide))).trans (next_of launch11 _ _ (fun _ _ => rfl) c b (h 11 (by decide)))

theorem stay11 (_ : Left 11 b) : (at11 m).at c b = (at11 m).at c b := rfl
theorem stay10 (h : Left 10 b) : (at11 m).at c b = (at10 m).at c b :=
  (stay11 m c fun p hp => h p (Nat.le_of_succ_le hp)).trans (next_of launch10 _ _ (fun _ _ => rfl) c b (h 10 (by decide)))
theorem stay9 (h : Left 9 b) : (at11 m).at c b = (at9 m).at c b :=
  (stay10 m c fun p hp => h p (Nat.le_of_succ_le hp)).trans (next_of launch9 _ _ (fun _ _ => rfl) c b (h 9 (by decide)))
theorem stay8 (h : Left 8 b) : (at11 m).at c b = (at8 m).at c b :=
  (stay9 m c fun p hp => h p (Nat.le_of_succ_le hp)).trans (next_of launch8 _ _ (fun _ _ => rfl) c b (h 8 (by decide)))
theorem stay7 (h : Left 7 b) : (at11 m).at c b = (at7 m).at c b :=
  (stay8 m c fun p hp => h p (Nat.le_of_succ_le hp)).trans (next_of launch7 _ _ (fun _ _ => rfl) c b (h 7 (by decide)))
theorem stay6 (h : Left 6 b) : (at11 m).at c b = (at6 m).at c b :=
  (stay7 m c fun p hp => h p (Nat.le_of_succ_le hp)).trans (next_of launch6 _ _ (fun _ _ => rfl) c b (h 6 (by decide)))
theorem stay5 (h : Left 5 b) : (at11 m).at c b = (at5 m).at c b :=
  (stay6 m c fun p hp => h p (Nat.le_of_succ_le hp)).trans (next_of launch5 _ _ (fun _ _ => rfl) c b (h 5 (by decide)))
theorem stay4 (h : Left 4 b) : (at11 m).at c b = (at4 m).at c b :=
  (stay5 m c fun p hp => h p (Nat.le_of_succ_le hp)).trans (next_of launch4 _ _ (fun _ _ => rfl) c b (h 4 (by decide)))
theorem stay3 (h : Left 3 b) : (at11 m).at c b = (at3 m).at c b :=
  (stay4 m c fun p hp => h p (Nat.le_of_succ_le hp)).trans (next_of launch3 _ _ (fun _ _ => rfl) c b (h 3 (by decide)))
theorem stay2 (h : Left 2 b) : (at11 m).at c b = (at2 m).at c b :=
  (stay3 m c fun p hp => h p (Nat.le_of_succ_le hp)).trans (next_of launch2 _ _ (fun _ _ => rfl) c b (h 2 (by decide)))
theorem stay1 (h : Left 1 b) : (at11 m).at c b = (at1 m).at c b :=
  (stay2 m c fun p hp => h p (Nat.le_of_succ_le hp)).trans (next_of launch1 _ _ (fun _ _ => rfl) c b (h 1 (by decide)))

/-! The results. -/

theorem res_zg : Fn (a := 8192) (b := 4096) ((at13 m).at c main_v8) (nn 1024 (eH m c) (eG m c)) := by
  rw [stays m c (b := main_v8) (by decide +kernel), stay1 m c (b := main_v8) (by decide +kernel), show (at1 m).at c main_v8 = _ from next_arr launch0 (at0 m) (zgDat (at0 m)) c 2]
  exact zg_out (at0 m) c (by rw [start0 m c (b := main_arg0) (by decide +kernel), first m c (b := main_arg0) (by decide)]; exact ext_fn _)
    (by rw [start0 m c (b := main_arg1) (by decide +kernel), first m c (b := main_arg1) (by decide)]; exact ext_fn _)
theorem res_zc : Fn (a := 8192) (b := 512) ((at13 m).at c main_v9) (nn 1024 (eH m c) (eC m c)) := by
  rw [stays m c (b := main_v9) (by decide +kernel), stay2 m c (b := main_v9) (by decide +kernel), show (at2 m).at c main_v9 = _ from next_arr launch1 (at1 m) (zcDat (at1 m)) c 2]
  exact zc_out (at1 m) c (by rw [start1 m c (b := main_arg0) (by decide +kernel), first m c (b := main_arg0) (by decide)]; exact ext_fn _)
    (by rw [start1 m c (b := main_arg2) (by decide +kernel), first m c (b := main_arg2) (by decide)]; exact ext_fn _)
theorem res_zs : Fn (a := 8192) (b := 768) ((at13 m).at c main_v10) (nn 1024 (eH m c) (eS m c)) := by
  rw [stays m c (b := main_v10) (by decide +kernel), stay3 m c (b := main_v10) (by decide +kernel), show (at3 m).at c main_v10 = _ from next_arr launch2 (at2 m) (zsDat (at2 m)) c 2]
  exact zs_out (at2 m) c (by rw [start2 m c (b := main_arg0) (by decide +kernel), first m c (b := main_arg0) (by decide)]; exact ext_fn _)
    (by rw [start2 m c (b := main_arg3) (by decide +kernel), first m c (b := main_arg3) (by decide)]; exact ext_fn _)
theorem res_zw : Fn (a := 8192) (b := 512) ((at13 m).at c main_v11) (nn 1024 (eH m c) (eW m c)) := by
  rw [stays m c (b := main_v11) (by decide +kernel), stay4 m c (b := main_v11) (by decide +kernel), show (at4 m).at c main_v11 = _ from next_arr launch3 (at3 m) (zwDat (at3 m)) c 2]
  exact zw_out (at3 m) c (by rw [start3 m c (b := main_arg0) (by decide +kernel), first m c (b := main_arg0) (by decide)]; exact ext_fn _)
    (by rw [start3 m c (b := main_arg4) (by decide +kernel), first m c (b := main_arg4) (by decide)]; exact ext_fn _)
theorem res_zf : Fn (a := 8192) (b := 896) ((at13 m).at c main_v12) (nn 1024 (eH m c) (eF m c)) := by
  rw [stays m c (b := main_v12) (by decide +kernel), stay5 m c (b := main_v12) (by decide +kernel), show (at5 m).at c main_v12 = _ from next_arr launch4 (at4 m) (zfDat (at4 m)) c 2]
  exact zf_out (at4 m) c (by rw [start4 m c (b := main_arg0) (by decide +kernel), first m c (b := main_arg0) (by decide)]; exact ext_fn _)
    (by rw [start4 m c (b := main_arg5) (by decide +kernel), first m c (b := main_arg5) (by decide)]; exact ext_fn _)
theorem res_dwg : Fn (a := 1024) (b := 4096) ((at13 m).at c main_v13) (tn 8192 (eH m c) (dG m c)) := by
  rw [stays m c (b := main_v13) (by decide +kernel), stay6 m c (b := main_v13) (by decide +kernel), show (at6 m).at c main_v13 = _ from next_arr launch5 (at5 m) (dwgDat (at5 m)) c 2]
  exact dwg_out (at5 m) c (by rw [start5 m c (b := main_arg0) (by decide +kernel), first m c (b := main_arg0) (by decide)]; exact ext_fn _)
    (by rw [start5 m c (b := main_arg6) (by decide +kernel), first m c (b := main_arg6) (by decide)]; exact ext_fn _)
theorem res_dwc : Fn (a := 1024) (b := 512) ((at13 m).at c main_v14) (tn 8192 (eH m c) (dC m c)) := by
  rw [stays m c (b := main_v14) (by decide +kernel), stay7 m c (b := main_v14) (by decide +kernel), show (at7 m).at c main_v14 = _ from next_arr launch6 (at6 m) (dwcDat (at6 m)) c 2]
  exact dwc_out (at6 m) c (by rw [start6 m c (b := main_arg0) (by decide +kernel), first m c (b := main_arg0) (by decide)]; exact ext_fn _)
    (by rw [start6 m c (b := main_arg7) (by decide +kernel), first m c (b := main_arg7) (by decide)]; exact ext_fn _)
theorem res_dws : Fn (a := 1024) (b := 768) ((at13 m).at c main_v15) (tn 8192 (eH m c) (dS m c)) := by
  rw [stays m c (b := main_v15) (by decide +kernel), stay8 m c (b := main_v15) (by decide +kernel), show (at8 m).at c main_v15 = _ from next_arr launch7 (at7 m) (dwsDat (at7 m)) c 2]
  exact dws_out (at7 m) c (by rw [start7 m c (b := main_arg0) (by decide +kernel), first m c (b := main_arg0) (by decide)]; exact ext_fn _)
    (by rw [start7 m c (b := main_arg8) (by decide +kernel), first m c (b := main_arg8) (by decide)]; exact ext_fn _)
theorem res_dww : Fn (a := 1024) (b := 512) ((at13 m).at c main_v16) (tn 8192 (eH m c) (dW m c)) := by
  rw [stays m c (b := main_v16) (by decide +kernel), stay9 m c (b := main_v16) (by decide +kernel), show (at9 m).at c main_v16 = _ from next_arr launch8 (at8 m) (dwwDat (at8 m)) c 2]
  exact dww_out (at8 m) c (by rw [start8 m c (b := main_arg0) (by decide +kernel), first m c (b := main_arg0) (by decide)]; exact ext_fn _)
    (by rw [start8 m c (b := main_arg9) (by decide +kernel), first m c (b := main_arg9) (by decide)]; exact ext_fn _)
theorem res_dwf : Fn (a := 1024) (b := 896) ((at13 m).at c main_v17) (tn 8192 (eH m c) (dF m c)) := by
  rw [stays m c (b := main_v17) (by decide +kernel), stay10 m c (b := main_v17) (by decide +kernel), show (at10 m).at c main_v17 = _ from next_arr launch9 (at9 m) (dwfDat (at9 m)) c 2]
  exact dwf_out (at9 m) c (by rw [start9 m c (b := main_arg0) (by decide +kernel), first m c (b := main_arg0) (by decide)]; exact ext_fn _)
    (by rw [start9 m c (b := main_arg10) (by decide +kernel), first m c (b := main_arg10) (by decide)]; exact ext_fn _)
theorem res_dh : Fn (a := 8192) (b := 1024) ((at13 m).at c main_v18) (five (dG m c) (eG m c) (dC m c) (eC m c) (dS m c) (eS m c) (dW m c) (eW m c) (dF m c) (eF m c)) := by
  rw [stays m c (b := main_v18) (by decide +kernel), stay11 m c (b := main_v18) (by decide +kernel), show (at11 m).at c main_v18 = _ from next_arr launch10 (at10 m) (dhDat (at10 m)) c 10]
  exact dh_out (at10 m) c (by rw [start10 m c (b := main_arg6) (by decide +kernel), first m c (b := main_arg6) (by decide)]; exact ext_fn _)
    (by rw [start10 m c (b := main_arg1) (by decide +kernel), first m c (b := main_arg1) (by decide)]; exact ext_fn _)
    (by rw [start10 m c (b := main_arg7) (by decide +kernel), first m c (b := main_arg7) (by decide)]; exact ext_fn _)
    (by rw [start10 m c (b := main_arg2) (by decide +kernel), first m c (b := main_arg2) (by decide)]; exact ext_fn _)
    (by rw [start10 m c (b := main_arg8) (by decide +kernel), first m c (b := main_arg8) (by decide)]; exact ext_fn _)
    (by rw [start10 m c (b := main_arg3) (by decide +kernel), first m c (b := main_arg3) (by decide)]; exact ext_fn _)
    (by rw [start10 m c (b := main_arg9) (by decide +kernel), first m c (b := main_arg9) (by decide)]; exact ext_fn _)
    (by rw [start10 m c (b := main_arg4) (by decide +kernel), first m c (b := main_arg4) (by decide)]; exact ext_fn _)
    (by rw [start10 m c (b := main_arg10) (by decide +kernel), first m c (b := main_arg10) (by decide)]; exact ext_fn _)
    (by rw [start10 m c (b := main_arg5) (by decide +kernel), first m c (b := main_arg5) (by decide)]; exact ext_fn _)

/-! What the host prepares: the stack of the branches' weights, and the output weight and the merge's gradient, whose casts keep the values. -/

theorem made_v6 : Fn (a := 1024) (b := 1024) ((at0 m).at c main_v6) (eO m c) := by
  refine (congrArg (fun v : FVec Ideal S1024x1024 .bf16 => Fn (a := 1024) (b := 1024) v (eO m c)) (?_ : _ = (m ((c : Thread nD τ).loc main_arg19) : FVec Ideal S1024x1024 .f32))).mpr (ext_fn _)
  unfold Held.at at0 hostOps0
  after_results
  rfl

theorem made_v7 : Fn (a := 8192) (b := 1024) ((at0 m).at c main_v7) (dX m c) := by
  refine (congrArg (fun v : FVec Ideal S8192x1024 .bf16 => Fn (a := 8192) (b := 1024) v (dX m c)) (?_ : _ = (m ((c : Thread nD τ).loc main_arg21) : FVec Ideal S8192x1024 .f32))).mpr (ext_fn _)
  unfold Held.at at0 hostOps0
  after_results
  rfl

theorem made_stack : @Eq (FVec Ideal S4x256x1024 .bf16) ((at0 m).at c main_v5)
    (truncf .bf16 (concatenate S4x256x1024 0 [
      ⟨S1x256x1024, (broadcastInDim S1x256x1024 ![1, 2] bcast_S256x1024_S1x256x1024_1_2 (m ((c : Thread nD τ).loc main_arg15) : FVec Ideal S256x1024 .f32) : FVec Ideal S1x256x1024 .f32)⟩,
      ⟨S1x256x1024, (broadcastInDim S1x256x1024 ![1, 2] bcast_S256x1024_S1x256x1024_1_2 (m ((c : Thread nD τ).loc main_arg16) : FVec Ideal S256x1024 .f32) : FVec Ideal S1x256x1024 .f32)⟩,
      ⟨S1x256x1024, (broadcastInDim S1x256x1024 ![1, 2] bcast_S256x1024_S1x256x1024_1_2 (m ((c : Thread nD τ).loc main_arg17) : FVec Ideal S256x1024 .f32) : FVec Ideal S1x256x1024 .f32)⟩,
      ⟨S1x256x1024, (broadcastInDim S1x256x1024 ![1, 2] bcast_S256x1024_S1x256x1024_1_2 (m ((c : Thread nD τ).loc main_arg18) : FVec Ideal S256x1024 .f32) : FVec Ideal S1x256x1024 .f32)⟩]
      concatenates_S1x256x1024_S1x256x1024_S1x256x1024_S1x256x1024_S4x256x1024_d0) bitsLt_bf16_f32) := by
  unfold Held.at at0 hostOps0
  after_results_simp <;> (try dsimp only [Matrix.cons_val]) <;> (try after_results_simp) <;> rfl

/-- One of the arrays put in the stack, at an element. -/
theorem spread_apply (v : FVec Ideal S256x1024 .f32) (k : Fin 256) (e : Fin 1024) :
    (broadcastInDim S1x256x1024 ![1, 2] bcast_S256x1024_S1x256x1024_1_2 v : FVec Ideal S1x256x1024 .f32) (ix3 0 k e) = ext (a := 256) (b := 1024) v k.val e.val :=
  (broadcastInDim_apply _ _ _ _ (ix2 k e) fun a => match a with | ⟨0, _⟩ => rfl | ⟨1, _⟩ => rfl).trans ((ext_fn (a := 256) (b := 1024) v).at k e)

theorem made_v5 (y : S4x256x1024.Idx) : ((at0 m).at c main_v5 : FVec Ideal S4x256x1024 .bf16) y = eK m c (y 0).val (y 1).val (y 2).val := by
  have hy : y = ix3 (y 0) (y 1) (y 2) := eq_ix3 y
  rw [made_stack, hy]
  refine (truncf_apply (φ := .f32) (ψ := .bf16) _ bitsLt_bf16_f32 _).trans ?_
  generalize y 0 = b
  generalize y 1 = k
  generalize y 2 = e
  match b with
  | ⟨0, _⟩ => exact (Cert.Stack.stack0 _ _ _ _ _ k e).trans (spread_apply _ k e)
  | ⟨1, _⟩ => exact (Cert.Stack.stack1 _ _ _ _ _ k e).trans (spread_apply _ k e)
  | ⟨2, _⟩ => exact (Cert.Stack.stack2 _ _ _ _ _ k e).trans (spread_apply _ k e)
  | ⟨3, _⟩ => exact (Cert.Stack.stack3 _ _ _ _ _ k e).trans (spread_apply _ k e)

theorem mix_at : Mixes (at11 m) c (eA0 m c) (eA1 m c) (eA2 m c) (eA3 m c) (nn 1024 (eH m c) (eG m c)) (eK m c) := by
  refine ⟨?_, ?_, ?_, ?_, ?_, ?_⟩
  · rw [start11 m c (b := main_arg11) (by decide +kernel), first m c (b := main_arg11) (by decide)]; exact ext_fn _
  · rw [start11 m c (b := main_arg12) (by decide +kernel), first m c (b := main_arg12) (by decide)]; exact ext_fn _
  · rw [start11 m c (b := main_arg13) (by decide +kernel), first m c (b := main_arg13) (by decide)]; exact ext_fn _
  · rw [start11 m c (b := main_arg14) (by decide +kernel), first m c (b := main_arg14) (by decide)]; exact ext_fn _
  · have h := res_zg m c
    rwa [stays m c (b := main_v8) (by decide +kernel)] at h
  · intro y; rw [start11 m c (b := main_v5) (by decide +kernel)]; exact made_v5 m c y

/-- The merged branches. -/
abbrev eM : ℕ → ℕ → EReal := merge (eA0 m c) (eA1 m c) (eA2 m c) (eA3 m c) (nn 1024 (eH m c) (eG m c)) (eK m c)

theorem res_mid : Fn (a := 8192) (b := 1024) ((at12 m).at c main_v19_1) (eM m c) := by
  rw [show (at12 m).at c main_v19_1 = _ from next_arr launch11 (at11 m) (mixDat (at11 m)) c 9]
  exact mix_out9 (at11 m) c (mix_at m c)

theorem res_x2 : Fn (a := 8192) (b := 1024) ((at13 m).at c main_v19_0) fun i j => eX m c i j + nn 1024 (eM m c) (eO m c) i j := by
  rw [show (at13 m).at c main_v19_0 = (at12 m).at c main_v19_0 from next_of launch12 _ _ (fun _ _ => rfl) c main_v19_0 (by decide +kernel),
    show (at12 m).at c main_v19_0 = _ from next_arr launch11 (at11 m) (mixDat (at11 m)) c 8]
  exact mix_out8 (at11 m) c (mix_at m c) (by rw [start11 m c (b := main_v6) (by decide +kernel)]; exact made_v6 m c)
    (by rw [start11 m c (b := main_arg20) (by decide +kernel), first m c (b := main_arg20) (by decide)]; exact ext_fn _)

theorem res_dwo : Fn (a := 1024) (b := 1024) ((at13 m).at c main_v20) (tn 8192 (eM m c) (dX m c)) := by
  rw [show (at13 m).at c main_v20 = _ from next_arr launch12 (at12 m) (dwoDat (at12 m)) c 2]
  exact dwo_out (at12 m) c (res_mid m c) (by rw [start12 m c (b := main_v7) (by decide +kernel)]; exact made_v7 m c)

end Cert.Proj

end
-- ==== Proof.ProjRef.lean ====
/- The mixer's five input products, their gradients, the merged branches' product with the output weight and that weight's gradient in
   the reference, entry by entry: what `jax.vjp` gives is what the calls compute. -/
module

public import proofs.«01_k».proof.Proof.Gen.Reference3Ideal.Read
public import proofs.«01_k».proof.Proof.ProjEnd
public import proofs.«01_k».proof.Proof.MergeRef
public import Idealize.ShloMosaic.Lib.ValueIdx

@[expose] public section

set_option maxRecDepth 16384
set_option maxHeartbeats 1000000

noncomputable section

open Idealize.ShloMosaic Idealize.ShloMosaic.TcCoe Idealize.ShloMosaic.ValueIdx
open scoped BigOperators

namespace Cert.Proj
open Cert.Products
open Cert.Ffn (Fn nn nt tn)
open Cert.Reference3Ideal Cert.Reference3Ideal.Read

variable {x0 : (⟨S8192x1024, .bf16⟩ : BufTy).Contents (Elt Ideal)} {x1 : (⟨S1024x4096, .bf16⟩ : BufTy).Contents (Elt Ideal)}
  {x2 : (⟨S1024x512, .bf16⟩ : BufTy).Contents (Elt Ideal)}
  {x3 : (⟨S1024x768, .bf16⟩ : BufTy).Contents (Elt Ideal)}
  {x4 : (⟨S1024x512, .bf16⟩ : BufTy).Contents (Elt Ideal)}
  {x5 : (⟨S1024x896, .bf16⟩ : BufTy).Contents (Elt Ideal)}
  {x6 : (⟨S8192x4096, .bf16⟩ : BufTy).Contents (Elt Ideal)}
  {x7 : (⟨S8192x512, .bf16⟩ : BufTy).Contents (Elt Ideal)}
  {x8 : (⟨S8192x768, .bf16⟩ : BufTy).Contents (Elt Ideal)}
  {x9 : (⟨S8192x512, .bf16⟩ : BufTy).Contents (Elt Ideal)}
  {x10 : (⟨S8192x896, .bf16⟩ : BufTy).Contents (Elt Ideal)}
  {x11 x12 x13 x14 : (⟨S8192x256, .f32⟩ : BufTy).Contents (Elt Ideal)} {x15 x16 x17 x18 : (⟨S256x1024, .f32⟩ : BufTy).Contents (Elt Ideal)}
  {x19 : (⟨S1024x1024, .f32⟩ : BufTy).Contents (Elt Ideal)} {x20 x21 : (⟨S8192x1024, .f32⟩ : BufTy).Contents (Elt Ideal)}
  {H G C S W F dG dC dS dW dF : ℕ → ℕ → EReal} {Z A0 A1 A2 A3 O X D : ℕ → ℕ → EReal} {K : ℕ → ℕ → ℕ → EReal}

/-! The products. -/

theorem ref_zg (h0 : Fn (a := 8192) (b := 1024) x0 H) (h1 : Fn (a := 1024) (b := 4096) x1 G) :
    Fn (a := 8192) (b := 4096) (val_main_v6 (F := Ideal) x0 x1) (nn 1024 H G) := fun i =>
  (val_main_v6_apply x0 x1 i).trans (Finset.sum_congr rfl fun k _ => congrArg₂ (fun a b : EReal => a * b) (h0 (lidx_main_v6 i k)) (h1 (ridx_main_v6 i k)))

theorem ref_zc (h0 : Fn (a := 8192) (b := 1024) x0 H) (h1 : Fn (a := 1024) (b := 512) x2 C) :
    Fn (a := 8192) (b := 512) (val_main_v7 (F := Ideal) x0 x2) (nn 1024 H C) := fun i =>
  (val_main_v7_apply x0 x2 i).trans (Finset.sum_congr rfl fun k _ => congrArg₂ (fun a b : EReal => a * b) (h0 (lidx_main_v7 i k)) (h1 (ridx_main_v7 i k)))

theorem ref_zs (h0 : Fn (a := 8192) (b := 1024) x0 H) (h1 : Fn (a := 1024) (b := 768) x3 S) :
    Fn (a := 8192) (b := 768) (val_main_v8 (F := Ideal) x0 x3) (nn 1024 H S) := fun i =>
  (val_main_v8_apply x0 x3 i).trans (Finset.sum_congr rfl fun k _ => congrArg₂ (fun a b : EReal => a * b) (h0 (lidx_main_v8 i k)) (h1 (ridx_main_v8 i k)))

theorem ref_zw (h0 : Fn (a := 8192) (b := 1024) x0 H) (h1 : Fn (a := 1024) (b := 512) x4 W) :
    Fn (a := 8192) (b := 512) (val_main_v9 (F := Ideal) x0 x4) (nn 1024 H W) := fun i =>
  (val_main_v9_apply x0 x4 i).trans (Finset.sum_congr rfl fun k _ => congrArg₂ (fun a b : EReal => a * b) (h0 (lidx_main_v9 i k)) (h1 (ridx_main_v9 i k)))

theorem ref_zf (h0 : Fn (a := 8192) (b := 1024) x0 H) (h1 : Fn (a := 1024) (b := 896) x5 F) :
    Fn (a := 8192) (b := 896) (val_main_v10 (F := Ideal) x0 x5) (nn 1024 H F) := fun i =>
  (val_main_v10_apply x0 x5 i).trans (Finset.sum_congr rfl fun k _ => congrArg₂ (fun a b : EReal => a * b) (h0 (lidx_main_v10 i k)) (h1 (ridx_main_v10 i k)))

/-! The weights' gradients: the reference has each product transposed, with its factors in the other order. -/

theorem ref_dwg (h0 : Fn (a := 8192) (b := 1024) x0 H) (h1 : Fn (a := 8192) (b := 4096) x6 dG) :
    Fn (a := 1024) (b := 4096) (val_main_v62 (F := Ideal) x0 x6) (tn 8192 H dG) := fun i => by
  refine (val_main_v62_apply (F := Ideal) x0 x6 i).trans ?_
  show val_main_v32 (F := Ideal) x0 x6 i = _
  rw [val_main_v32_apply, val_main_v31_apply]
  exact Finset.sum_congr rfl fun k _ => (congrArg₂ (fun a b : EReal => a * b) (h1 (lidx_main_v31 (idx_main_v32 i) k)) (h0 (ridx_main_v31 (idx_main_v32 i) k))).trans (mul_comm _ _)

theorem ref_dwc (h0 : Fn (a := 8192) (b := 1024) x0 H) (h1 : Fn (a := 8192) (b := 512) x7 dC) :
    Fn (a := 1024) (b := 512) (val_main_v63 (F := Ideal) x0 x7) (tn 8192 H dC) := fun i => by
  refine (val_main_v63_apply (F := Ideal) x0 x7 i).trans ?_
  show val_main_v28 (F := Ideal) x0 x7 i = _
  rw [val_main_v28_apply, val_main_v27_apply]
  exact Finset.sum_congr rfl fun k _ => (congrArg₂ (fun a b : EReal => a * b) (h1 (lidx_main_v27 (idx_main_v28 i) k)) (h0 (ridx_main_v27 (idx_main_v28 i) k))).trans (mul_comm _ _)

theorem ref_dws (h0 : Fn (a := 8192) (b := 1024) x0 H) (h1 : Fn (a := 8192) (b := 768) x8 dS) :
    Fn (a := 1024) (b := 768) (val_main_v64 (F := Ideal) x0 x8) (tn 8192 H dS) := fun i => by
  refine (val_main_v64_apply (F := Ideal) x0 x8 i).trans ?_
  show val_main_v24 (F := Ideal) x0 x8 i = _
  rw [val_main_v24_apply, val_main_v23_apply]
  exact Finset.sum_congr rfl fun k _ => (congrArg₂ (fun a b : EReal => a * b) (h1 (lidx_main_v23 (idx_main_v24 i) k)) (h0 (ridx_main_v23 (idx_main_v24 i) k))).trans (mul_comm _ _)

theorem ref_dww (h0 : Fn (a := 8192) (b := 1024) x0 H) (h1 : Fn (a := 8192) (b := 512) x9 dW) :
    Fn (a := 1024) (b := 512) (val_main_v65 (F := Ideal) x0 x9) (tn 8192 H dW) := fun i => by
  refine (val_main_v65_apply (F := Ideal) x0 x9 i).trans ?_
  show val_main_v20 (F := Ideal) x0 x9 i = _
  rw [val_main_v20_apply, val_main_v19_apply]
  exact Finset.sum_congr rfl fun k _ => (congrArg₂ (fun a b : EReal => a * b) (h1 (lidx_main_v19 (idx_main_v20 i) k)) (h0 (ridx_main_v19 (idx_main_v20 i) k))).trans (mul_comm _ _)

theorem ref_dwf (h0 : Fn (a := 8192) (b := 1024) x0 H) (h1 : Fn (a := 8192) (b := 896) x10 dF) :
    Fn (a := 1024) (b := 896) (val_main_v66 (F := Ideal) x0 x10) (tn 8192 H dF) := fun i => by
  refine (val_main_v66_apply (F := Ideal) x0 x10 i).trans ?_
  show val_main_v17 (F := Ideal) x0 x10 i = _
  rw [val_main_v17_apply, val_main_v16_apply]
  exact Finset.sum_congr rfl fun k _ => (congrArg₂ (fun a b : EReal => a * b) (h1 (lidx_main_v16 (idx_main_v17 i) k)) (h0 (ridx_main_v16 (idx_main_v17 i) k))).trans (mul_comm _ _)

/-! The activations' gradient: the five products, which the reference sums in the opposite order. -/

theorem ref_dh0 (h0 : Fn (a := 8192) (b := 4096) x6 dG) (h1 : Fn (a := 1024) (b := 4096) x1 G) :
    Fn (a := 8192) (b := 1024) (val_main_v33 (F := Ideal) x1 x6) (nt 4096 dG G) := fun i =>
  (val_main_v33_apply x1 x6 i).trans (Finset.sum_congr rfl fun k _ => congrArg₂ (fun a b : EReal => a * b) (h0 (lidx_main_v33 i k)) (h1 (ridx_main_v33 i k)))

theorem ref_dh1 (h0 : Fn (a := 8192) (b := 512) x7 dC) (h1 : Fn (a := 1024) (b := 512) x2 C) :
    Fn (a := 8192) (b := 1024) (val_main_v29 (F := Ideal) x2 x7) (nt 512 dC C) := fun i =>
  (val_main_v29_apply x2 x7 i).trans (Finset.sum_congr rfl fun k _ => congrArg₂ (fun a b : EReal => a * b) (h0 (lidx_main_v29 i k)) (h1 (ridx_main_v29 i k)))

theorem ref_dh2 (h0 : Fn (a := 8192) (b := 768) x8 dS) (h1 : Fn (a := 1024) (b := 768) x3 S) :
    Fn (a := 8192) (b := 1024) (val_main_v25 (F := Ideal) x3 x8) (nt 768 dS S) := fun i =>
  (val_main_v25_apply x3 x8 i).trans (Finset.sum_congr rfl fun k _ => congrArg₂ (fun a b : EReal => a * b) (h0 (lidx_main_v25 i k)) (h1 (ridx_main_v25 i k)))

theorem ref_dh3 (h0 : Fn (a := 8192) (b := 512) x9 dW) (h1 : Fn (a := 1024) (b := 512) x4 W) :
    Fn (a := 8192) (b := 1024) (val_main_v21 (F := Ideal) x4 x9) (nt 512 dW W) := fun i =>
  (val_main_v21_apply x4 x9 i).trans (Finset.sum_congr rfl fun k _ => congrArg₂ (fun a b : EReal => a * b) (h0 (lidx_main_v21 i k)) (h1 (ridx_main_v21 i k)))

theorem ref_dh4 (h0 : Fn (a := 8192) (b := 896) x10 dF) (h1 : Fn (a := 1024) (b := 896) x5 F) :
    Fn (a := 8192) (b := 1024) (val_main_v18 (F := Ideal) x5 x10) (nt 896 dF F) := fun i =>
  (val_main_v18_apply x5 x10 i).trans (Finset.sum_congr rfl fun k _ => congrArg₂ (fun a b : EReal => a * b) (h0 (lidx_main_v18 i k)) (h1 (ridx_main_v18 i k)))

theorem ref_dh (h0 : Fn (a := 1024) (b := 4096) x1 G) (k0 : Fn (a := 8192) (b := 4096) x6 dG)
    (h1 : Fn (a := 1024) (b := 512) x2 C) (k1 : Fn (a := 8192) (b := 512) x7 dC)
    (h2 : Fn (a := 1024) (b := 768) x3 S) (k2 : Fn (a := 8192) (b := 768) x8 dS)
    (h3 : Fn (a := 1024) (b := 512) x4 W) (k3 : Fn (a := 8192) (b := 512) x9 dW)
    (h4 : Fn (a := 1024) (b := 896) x5 F) (k4 : Fn (a := 8192) (b := 896) x10 dF) :
    Fn (a := 8192) (b := 1024) (val_main_v34 (F := Ideal) x1 x2 x3 x4 x5 x6 x7 x8 x9 x10) (five dG G dC C dS S dW W dF F) := fun i => by
  rw [val_main_v34_apply, val_main_v30_apply, val_main_v26_apply, val_main_v22_apply, ref_dh0 k0 h0 i, ref_dh1 k1 h1 i, ref_dh2 k2 h2 i, ref_dh3 k3 h3 i, ref_dh4 k4 h4 i]
  show (_ + _ + _ + _ + _ : EReal) = _ + _ + _ + _ + _
  ac_rfl

/-! The merge. -/

/-- The quotient 1 / (1 + exp (-z)) is the sigmoid of the gates' product. -/
theorem ref_gates (i : S8192x4096.Idx) : val_main_v44 (F := Ideal) x0 x1 i = Ideal.logistic (val_main_v6 (F := Ideal) x0 x1 i) := by
  rw [val_main_v44_apply, val_main_v43_apply, val_main_cst_0_apply, val_main_v42_apply, val_main_v41_apply, val_main_cst_apply,
    val_main_v40_apply, val_main_v39_apply]
  generalize val_main_v6 (F := Ideal) x0 x1 i = z
  show Ideal.div (Ideal.ofBits .f32 0x3F800000#32) (Ideal.ofBits .f32 0x3F800000#32 + Ideal.exp (-z)) = _
  rw [Cert.ReferenceIdeal.Merge.one_word]
  rfl

/-! The gates of each branch: the reshape and the slice take the branch's columns. -/

theorem ref_gate0 (hz : Fn (a := 8192) (b := 4096) (val_main_v6 (F := Ideal) x0 x1) Z) :
    Fn (a := 8192) (b := 1024) (val_main_v47 (F := Ideal) x0 x1) fun i j => Ideal.logistic (Z i j) := fun i => by
  rw [val_main_v47_apply, val_main_v46_apply, val_main_v45_apply, ref_gates, hz]
  have h : (i 1).val < 1024 := (i 1).isLt
  refine congrArg Ideal.logistic (congrArg₂ Z ?_ ?_)
  · show (((((i 0).val * 1024 + (i 1).val) / 1024) * 4 + (0 + 0)) * 1024 + ((i 0).val * 1024 + (i 1).val) % 1024) / 4096 = (i 0).val
    omega
  · show (((((i 0).val * 1024 + (i 1).val) / 1024) * 4 + (0 + 0)) * 1024 + ((i 0).val * 1024 + (i 1).val) % 1024) % 4096 = (i 1).val
    omega

theorem ref_gate1 (hz : Fn (a := 8192) (b := 4096) (val_main_v6 (F := Ideal) x0 x1) Z) :
    Fn (a := 8192) (b := 1024) (val_main_v50 (F := Ideal) x0 x1) fun i j => Ideal.logistic (Z i (1024 + j)) := fun i => by
  rw [val_main_v50_apply, val_main_v49_apply, val_main_v45_apply, ref_gates, hz]
  have h : (i 1).val < 1024 := (i 1).isLt
  refine congrArg Ideal.logistic (congrArg₂ Z ?_ ?_)
  · show (((((i 0).val * 1024 + (i 1).val) / 1024) * 4 + (1 + 0)) * 1024 + ((i 0).val * 1024 + (i 1).val) % 1024) / 4096 = (i 0).val
    omega
  · show (((((i 0).val * 1024 + (i 1).val) / 1024) * 4 + (1 + 0)) * 1024 + ((i 0).val * 1024 + (i 1).val) % 1024) % 4096 = 1024 + (i 1).val
    omega

theorem ref_gate2 (hz : Fn (a := 8192) (b := 4096) (val_main_v6 (F := Ideal) x0 x1) Z) :
    Fn (a := 8192) (b := 1024) (val_main_v54 (F := Ideal) x0 x1) fun i j => Ideal.logistic (Z i (2048 + j)) := fun i => by
  rw [val_main_v54_apply, val_main_v53_apply, val_main_v45_apply, ref_gates, hz]
  have h : (i 1).val < 1024 := (i 1).isLt
  refine congrArg Ideal.logistic (congrArg₂ Z ?_ ?_)
  · show (((((i 0).val * 1024 + (i 1).val) / 1024) * 4 + (2 + 0)) * 1024 + ((i 0).val * 1024 + (i 1).val) % 1024) / 4096 = (i 0).val
    omega
  · show (((((i 0).val * 1024 + (i 1).val) / 1024) * 4 + (2 + 0)) * 1024 + ((i 0).val * 1024 + (i 1).val) % 1024) % 4096 = 2048 + (i 1).val
    omega

theorem ref_gate3 (hz : Fn (a := 8192) (b := 4096) (val_main_v6 (F := Ideal) x0 x1) Z) :
    Fn (a := 8192) (b := 1024) (val_main_v58 (F := Ideal) x0 x1) fun i j => Ideal.logistic (Z i (3072 + j)) := fun i => by
  rw [val_main_v58_apply, val_main_v57_apply, val_main_v45_apply, ref_gates, hz]
  have h : (i 1).val < 1024 := (i 1).isLt
  refine congrArg Ideal.logistic (congrArg₂ Z ?_ ?_)
  · show (((((i 0).val * 1024 + (i 1).val) / 1024) * 4 + (3 + 0)) * 1024 + ((i 0).val * 1024 + (i 1).val) % 1024) / 4096 = (i 0).val
    omega
  · show (((((i 0).val * 1024 + (i 1).val) / 1024) * 4 + (3 + 0)) * 1024 + ((i 0).val * 1024 + (i 1).val) % 1024) % 4096 = 3072 + (i 1).val
    omega

/-! The branches' products. -/

theorem ref_prod0 (h0 : Fn (a := 8192) (b := 256) x11 A0) (h1 : Fn (a := 256) (b := 1024) x15 (K 0)) :
    Fn (a := 8192) (b := 1024) (val_main_v35 (F := Ideal) x11 x15) (nn 256 A0 (K 0)) := fun i =>
  (val_main_v35_apply x11 x15 i).trans (Finset.sum_congr rfl fun k _ => congrArg₂ (fun a b : EReal => a * b) (h0 (lidx_main_v35 i k)) (h1 (ridx_main_v35 i k)))

theorem ref_prod1 (h0 : Fn (a := 8192) (b := 256) x12 A1) (h1 : Fn (a := 256) (b := 1024) x16 (K 1)) :
    Fn (a := 8192) (b := 1024) (val_main_v36 (F := Ideal) x12 x16) (nn 256 A1 (K 1)) := fun i =>
  (val_main_v36_apply x12 x16 i).trans (Finset.sum_congr rfl fun k _ => congrArg₂ (fun a b : EReal => a * b) (h0 (lidx_main_v36 i k)) (h1 (ridx_main_v36 i k)))

theorem ref_prod2 (h0 : Fn (a := 8192) (b := 256) x13 A2) (h1 : Fn (a := 256) (b := 1024) x17 (K 2)) :
    Fn (a := 8192) (b := 1024) (val_main_v37 (F := Ideal) x13 x17) (nn 256 A2 (K 2)) := fun i =>
  (val_main_v37_apply x13 x17 i).trans (Finset.sum_congr rfl fun k _ => congrArg₂ (fun a b : EReal => a * b) (h0 (lidx_main_v37 i k)) (h1 (ridx_main_v37 i k)))

theorem ref_prod3 (h0 : Fn (a := 8192) (b := 256) x14 A3) (h1 : Fn (a := 256) (b := 1024) x18 (K 3)) :
    Fn (a := 8192) (b := 1024) (val_main_v38 (F := Ideal) x14 x18) (nn 256 A3 (K 3)) := fun i =>
  (val_main_v38_apply x14 x18 i).trans (Finset.sum_congr rfl fun k _ => congrArg₂ (fun a b : EReal => a * b) (h0 (lidx_main_v38 i k)) (h1 (ridx_main_v38 i k)))

theorem ref_merge (hz : Fn (a := 8192) (b := 4096) (val_main_v6 (F := Ideal) x0 x1) Z)
    (h0 : Fn (a := 8192) (b := 256) x11 A0) (h1 : Fn (a := 8192) (b := 256) x12 A1) (h2 : Fn (a := 8192) (b := 256) x13 A2) (h3 : Fn (a := 8192) (b := 256) x14 A3)
    (k0 : Fn (a := 256) (b := 1024) x15 (K 0)) (k1 : Fn (a := 256) (b := 1024) x16 (K 1)) (k2 : Fn (a := 256) (b := 1024) x17 (K 2)) (k3 : Fn (a := 256) (b := 1024) x18 (K 3)) :
    Fn (a := 8192) (b := 1024) (val_main_v60 (F := Ideal) x0 x1 x11 x12 x13 x14 x15 x16 x17 x18) (merge A0 A1 A2 A3 Z K) := fun i => by
  rw [val_main_v60_apply, val_main_v59_apply, val_main_v56_apply, val_main_v55_apply, val_main_v52_apply, val_main_v51_apply, val_main_v48_apply,
    ref_gate0 hz i, ref_gate1 hz i, ref_gate2 hz i, ref_gate3 hz i, ref_prod0 h0 k0 i, ref_prod1 h1 k1 i, ref_prod2 h2 k2 i, ref_prod3 h3 k3 i]
  rfl

theorem ref_x2 (hm : Fn (a := 8192) (b := 1024) (val_main_v60 (F := Ideal) x0 x1 x11 x12 x13 x14 x15 x16 x17 x18) Z) (ho : Fn (a := 1024) (b := 1024) x19 O)
    (hx : Fn (a := 8192) (b := 1024) x20 X) :
    Fn (a := 8192) (b := 1024) (val_main_v67 (F := Ideal) x0 x1 x11 x12 x13 x14 x15 x16 x17 x18 x19 x20) fun i j => X i j + nn 1024 Z O i j := fun i => by
  rw [val_main_v67_apply, val_main_v61_apply, hx]
  exact congrArg (fun q : EReal => X (i 0).val (i 1).val + q) (Finset.sum_congr rfl fun k _ =>
    congrArg₂ (fun a b : EReal => a * b) (hm (lidx_main_v61 i k)) (ho (ridx_main_v61 i k)))

theorem ref_dwo (hm : Fn (a := 8192) (b := 1024) (val_main_v60 (F := Ideal) x0 x1 x11 x12 x13 x14 x15 x16 x17 x18) Z) (hd : Fn (a := 8192) (b := 1024) x21 D) :
    Fn (a := 1024) (b := 1024) (val_main_v70 (F := Ideal) x0 x1 x11 x12 x13 x14 x15 x16 x17 x18 x21) (tn 8192 Z D) := fun i => by
  refine (val_main_v70_apply (F := Ideal) x0 x1 x11 x12 x13 x14 x15 x16 x17 x18 x21 i).trans ?_
  show val_main_v69 (F := Ideal) x0 x1 x11 x12 x13 x14 x15 x16 x17 x18 x21 i = _
  rw [val_main_v69_apply, val_main_v68_apply]
  exact Finset.sum_congr rfl fun k _ => (congrArg₂ (fun a b : EReal => a * b) (hd (lidx_main_v68 (idx_main_v69 i) k)) (hm (ridx_main_v68 (idx_main_v69 i) k))).trans (mul_comm _ _)

end Cert.Proj

end
-- ==== Proof.ProjClaims.lean ====
/- The mixer's five input products and their gradients, the merge and the output weight's gradient: the thirteen calls run, and their
   results are the reference's. -/
module

public import proofs.«01_k».proof.Defs
public import proofs.«01_k».proof.Proof.ProjRef
public import proofs.«01_k».proof.Proof.Gen.Reference3Ideal.Run
public import Idealize.ShloMosaic.Lib.StableHlo.Run
public import Idealize.ShloMosaic.Lib.IdealHost

@[expose] public section

set_option maxRecDepth 16384
set_option maxHeartbeats 1000000

noncomputable section

open Idealize.ShloMosaic Idealize.ShloMosaic.TcCoe Idealize.ShloMosaic.ValueIdx Idealize.SL.Sem

namespace Cert.Proj
open Cert.Kernel3Ideal Cert.Kernel3Ideal.Gen
open Cert.Products
open Cert.Ffn (ext_fn)

/-- The kernel runs in extended reals, its arguments end unchanged and every counter is zero. -/
theorem frame_ideal : Cert.quiescent_Kernel3Ideal := fun m ρ _ => run_args (F := Ideal) m ρ

/-- The reference runs, its arguments end unchanged and every counter is zero. -/
theorem frame_reference : Cert.quiescent_Reference3Ideal := fun m ρ _ =>
  (θ_run Cert.Reference3Ideal.defs _ _).mono (fun r h => ⟨fun c => (h c).2.2.2.2.2.2.2.2.2.2.2.2.2, sem_eq_zero_of_no_sems (by decide) r.2⟩)
    (Cert.Reference3Ideal.Value.run (F := Ideal) m ρ)

/-- From memories that agree on the arguments the kernel and the reference end with equal results. -/
theorem algebraic : Cert.algebraic_Kernel3Ideal_Reference3Ideal := by
  intro m g m' g' _ hag
  refine ⟨fun c => (at13 m).at c main_v8, fun c => (at13 m).at c main_v9, fun c => (at13 m).at c main_v10, fun c => (at13 m).at c main_v11, fun c => (at13 m).at c main_v12, fun c => (at13 m).at c main_v13, fun c => (at13 m).at c main_v14, fun c => (at13 m).at c main_v15, fun c => (at13 m).at c main_v16, fun c => (at13 m).at c main_v17, fun c => (at13 m).at c main_v18, fun c => (at13 m).at c main_v19_0, fun c => (at13 m).at c main_v20, ?_, ?_⟩
  · refine (θ_run defs _ _).mono (fun r h c => ?_) (run_all (F := Ideal) m g)
    refine ⟨h.1 c main_v8 ?_, h.1 c main_v9 ?_, h.1 c main_v10 ?_, h.1 c main_v11 ?_, h.1 c main_v12 ?_, h.1 c main_v13 ?_, h.1 c main_v14 ?_, h.1 c main_v15 ?_, h.1 c main_v16 ?_, h.1 c main_v17 ?_, h.1 c main_v18 ?_, h.1 c main_v19_0 ?_, h.1 c main_v20 ?_, args_end m h.1 c⟩
    all_goals exact Finset.mem_filter.mpr ⟨StableHlo.devRef_mem_tcRefs _, by decide⟩
  · refine (θ_run Cert.Reference3Ideal.defs _ _).mono (fun r h c => ?_) (Cert.Reference3Ideal.Value.run (F := Ideal) m' g')
    obtain ⟨h0, h1, h2, h3, h4, h5, h6, h7, h8, h9, h10, h11, h12, hargs⟩ := h c
    obtain ⟨e0, e1, e2, e3, e4, e5, e6, e7, e8, e9, e10, e11, e12, e13, e14, e15, e16, e17, e18, e19, e20, e21⟩ := hag c
    have k0 := h0.trans (Cert.Reference3Ideal.Read.val_main_v6_eq (F := Ideal) _ _)
    rw [e0, e1] at k0
    have k1 := h1.trans (Cert.Reference3Ideal.Read.val_main_v7_eq (F := Ideal) _ _)
    rw [e0, e2] at k1
    have k2 := h2.trans (Cert.Reference3Ideal.Read.val_main_v8_eq (F := Ideal) _ _)
    rw [e0, e3] at k2
    have k3 := h3.trans (Cert.Reference3Ideal.Read.val_main_v9_eq (F := Ideal) _ _)
    rw [e0, e4] at k3
    have k4 := h4.trans (Cert.Reference3Ideal.Read.val_main_v10_eq (F := Ideal) _ _)
    rw [e0, e5] at k4
    have k5 := h5.trans (Cert.Reference3Ideal.Read.val_main_v62_eq (F := Ideal) _ _)
    rw [e0, e6] at k5
    have k6 := h6.trans (Cert.Reference3Ideal.Read.val_main_v63_eq (F := Ideal) _ _)
    rw [e0, e7] at k6
    have k7 := h7.trans (Cert.Reference3Ideal.Read.val_main_v64_eq (F := Ideal) _ _)
    rw [e0, e8] at k7
    have k8 := h8.trans (Cert.Reference3Ideal.Read.val_main_v65_eq (F := Ideal) _ _)
    rw [e0, e9] at k8
    have k9 := h9.trans (Cert.Reference3Ideal.Read.val_main_v66_eq (F := Ideal) _ _)
    rw [e0, e10] at k9
    have k10 := h10.trans (Cert.Reference3Ideal.Read.val_main_v34_eq (F := Ideal) _ _ _ _ _ _ _ _ _ _)
    rw [e1, e2, e3, e4, e5, e6, e7, e8, e9, e10] at k10
    have k11 := h11.trans (Cert.Reference3Ideal.Read.val_main_v67_eq (F := Ideal) _ _ _ _ _ _ _ _ _ _ _ _)
    rw [e0, e1, e11, e12, e13, e14, e15, e16, e17, e18, e19, e20] at k11
    have k12 := h12.trans (Cert.Reference3Ideal.Read.val_main_v70_eq (F := Ideal) _ _ _ _ _ _ _ _ _ _ _)
    rw [e0, e1, e11, e12, e13, e14, e15, e16, e17, e18, e21] at k12
    have mid := ref_merge (K := eK m c) (ref_zg (x0 := m ((c : Thread nD τ).loc main_arg0)) (x1 := m ((c : Thread nD τ).loc main_arg1)) (ext_fn _) (ext_fn _))
      (ext_fn (a := 8192) (b := 256) (m ((c : Thread nD τ).loc main_arg11))) (ext_fn (a := 8192) (b := 256) (m ((c : Thread nD τ).loc main_arg12)))
      (ext_fn (a := 8192) (b := 256) (m ((c : Thread nD τ).loc main_arg13))) (ext_fn (a := 8192) (b := 256) (m ((c : Thread nD τ).loc main_arg14)))
      (ext_fn (a := 256) (b := 1024) (m ((c : Thread nD τ).loc main_arg15))) (ext_fn (a := 256) (b := 1024) (m ((c : Thread nD τ).loc main_arg16)))
      (ext_fn (a := 256) (b := 1024) (m ((c : Thread nD τ).loc main_arg17))) (ext_fn (a := 256) (b := 1024) (m ((c : Thread nD τ).loc main_arg18)))
    exact ⟨k0.trans ((ref_zg (ext_fn _) (ext_fn _)).eq (res_zg m c)),
      k1.trans ((ref_zc (ext_fn _) (ext_fn _)).eq (res_zc m c)),
      k2.trans ((ref_zs (ext_fn _) (ext_fn _)).eq (res_zs m c)),
      k3.trans ((ref_zw (ext_fn _) (ext_fn _)).eq (res_zw m c)),
      k4.trans ((ref_zf (ext_fn _) (ext_fn _)).eq (res_zf m c)),
      k5.trans ((ref_dwg (ext_fn _) (ext_fn _)).eq (res_dwg m c)),
      k6.trans ((ref_dwc (ext_fn _) (ext_fn _)).eq (res_dwc m c)),
      k7.trans ((ref_dws (ext_fn _) (ext_fn _)).eq (res_dws m c)),
      k8.trans ((ref_dww (ext_fn _) (ext_fn _)).eq (res_dww m c)),
      k9.trans ((ref_dwf (ext_fn _) (ext_fn _)).eq (res_dwf m c)),
      k10.trans ((ref_dh (ext_fn _) (ext_fn _) (ext_fn _) (ext_fn _) (ext_fn _) (ext_fn _) (ext_fn _) (ext_fn _) (ext_fn _) (ext_fn _)).eq (res_dh m c)),
      k11.trans ((ref_x2 mid (ext_fn _) (ext_fn _)).eq (res_x2 m c)),
      k12.trans ((ref_dwo mid (ext_fn _)).eq (res_dwo m c)), hargs⟩

end Cert.Proj

end
-- ==== Proof.ProjBits.lean ====
/- The projection program's calls in bits: the program has the text of its idealization, so that run is its run. -/
module

public import proofs.«01_k».proof.Defs
public import proofs.«01_k».proof.Proof.ProjRun
public import proofs.«01_k».proof.Proof.Gen.Kernel3

@[expose] public section

set_option maxRecDepth 16384
set_option maxHeartbeats 10000000

noncomputable section

open Idealize.ShloMosaic Idealize.ShloMosaic.TcCoe Idealize.SL.Sem

namespace Cert.Proj

/-- The calls' bodies are the same. -/
theorem bodies : Cert.Kernel3.defs₀ (F := Bits) = Cert.Kernel3Ideal.defs₀ (F := Bits) := by
  funext p l a
  cases p with
  | tc =>
    match l, a with
    | (0 : Fin 13), (t, s) => exact (rfl)
    | (1 : Fin 13), (t, s) => exact (rfl)
    | (2 : Fin 13), (t, s) => exact (rfl)
    | (3 : Fin 13), (t, s) => exact (rfl)
    | (4 : Fin 13), (t, s) => exact (rfl)
    | (5 : Fin 13), (t, s) => exact (rfl)
    | (6 : Fin 13), (t, s) => exact (rfl)
    | (7 : Fin 13), (t, s) => exact (rfl)
    | (8 : Fin 13), (t, s) => exact (rfl)
    | (9 : Fin 13), (t, s) => exact (rfl)
    | (10 : Fin 13), (t, s) => exact (rfl)
    | (11 : Fin 13), (t, s) => exact (rfl)
    | (12 : Fin 13), (t, s) => exact (rfl)
    | ⟨_ + 13, h⟩, _ => exact absurd h (Nat.not_lt.2 (Nat.le_add_left _ _))
  | _ => exact (rfl)

/-- So are the calls. -/
theorem calls : Cert.Kernel3.defs (F := Bits) = Cert.Kernel3Ideal.defs (F := Bits) :=
  congrArg (Pipeline.defs (Cert.Kernel3Ideal.pcfgs (F := Bits))) bodies

/-- The kernel runs in bits, its arguments end unchanged and every counter is zero. -/
theorem frame_kernel : Cert.quiescent_Kernel3 := fun m ρ _ => by
  have h := run_args (F := Bits) m ρ
  rw [← calls] at h
  exact h

end Cert.Proj

end
-- ==== Proof.Adam.lean ====
/- One step of AdamW on the output weight: the three arrays that the call leaves are the reference's. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.Run

@[expose] public section

set_option maxHeartbeats 1000000
set_option maxRecDepth 16384

noncomputable section

open Idealize.ShloMosaic Idealize.ShloMosaic.TcCoe Idealize.ShloMosaic.ValueIdx Idealize.SL.Sem

namespace Cert.Adam
open Cert.Kernel4Ideal Cert.Kernel4Ideal.Gen Cert.Kernel4Ideal.Value

variable (m : (ℓ : Loc nD τ sig) → Buf (Elt Ideal) ℓ)

/-- Point t reads and writes the t-th layer's matrix. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The step of the weight after the run. -/
theorem final4 (c : Dev nD) : (dats m 0 c).arrAt 4 cfg0.N = Reference4Ideal.Read.val_main_v23 (F := Ideal)
    (m ((c.tc : Thread nD τ).loc main_arg0)) (m ((c.tc : Thread nD τ).loc main_arg1)) (m ((c.tc : Thread nD τ).loc main_arg2)) (m ((c.tc : Thread nD τ).loc main_arg3)) := by
  rw [← Reference4Ideal.Read.val_main_v23_eq]
  refine (dats m 0 c).arrAt_eq_of_covers 4 _ (by decide +kernel) fun t hf y => ?_
  blk_simp
  rw [after0_4]
  frame_out
  pointwise [k0_pay1, k0_pay4, k0_pay5, k0_pay6, k0_pay7]
  blk_point [iblk, V, idx t]

/-- The first moment after the run. -/
theorem final5 (c : Dev nD) : (dats m 0 c).arrAt 5 cfg0.N = Reference4Ideal.Read.val_main_v4 (F := Ideal)
    (m ((c.tc : Thread nD τ).loc main_arg1)) (m ((c.tc : Thread nD τ).loc main_arg2)) := by
  rw [← Reference4Ideal.Read.val_main_v4_eq]
  refine (dats m 0 c).arrAt_eq_of_covers 5 _ (by decide +kernel) fun t hf y => ?_
  blk_simp
  rw [after0_5]
  frame_out
  pointwise [k0_pay2, k0_pay4, k0_pay5]
  blk_point [iblk, V, idx t]

/-- The second moment after the run. -/
theorem final6 (c : Dev nD) : (dats m 0 c).arrAt 6 cfg0.N = Reference4Ideal.Read.val_main_v10 (F := Ideal)
    (m ((c.tc : Thread nD τ).loc main_arg1)) (m ((c.tc : Thread nD τ).loc main_arg3)) := by
  rw [← Reference4Ideal.Read.val_main_v10_eq]
  refine (dats m 0 c).arrAt_eq_of_covers 6 _ (by decide +kernel) fun t hf y => ?_
  blk_simp
  rw [after0_6]
  frame_out
  pointwise [k0_pay3, k0_pay4, k0_pay6]
  blk_point [iblk, V, idx t]

end Cert.Adam

end
-- ==== Proof.Norm.lean ====
/- The norm before the mixers: the rows that the call leaves are the reference's. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.Run

@[expose] public section

set_option maxHeartbeats 1000000
set_option maxRecDepth 16384

noncomputable section

open Idealize.ShloMosaic Idealize.ShloMosaic.TcCoe Idealize.ShloMosaic.ValueIdx Idealize.SL.Sem

namespace Cert.Norm
open Cert.Kernel5Ideal Cert.Kernel5Ideal.Gen Cert.Kernel5Ideal.Value

variable (m : (ℓ : Loc nD τ sig) → Buf (Elt Ideal) ℓ)

/-- Point t reads and writes the t-th block of rows; the gain is the same at every point. -/
theorem idx : ∀ t : Fin cfg0.N, win0_0.index t = ![t.val, 0] ∧ win0_1.index t = ![0, 0] ∧ win0_2.index t = ![t.val, 0] :=
  (by decide +kernel : ∀ t : Fin grid0.N, _)

/-- The normalised rows after the run. -/
theorem final (c : Dev nD) : (dats m 0 c).arrAt 2 cfg0.N = Reference5Ideal.Read.val_main_v14 (F := Ideal)
    (m ((c.tc : Thread nD τ).loc main_arg0)) (m ((c.tc : Thread nD τ).loc main_arg1)) := by
  rw [← Reference5Ideal.Read.val_main_v14_eq]
  refine (dats m 0 c).arrAt_eq_of_covers 2 _ (by decide +kernel) fun t hf y => ?_
  blk_simp
  rw [after0_2]
  frame_out
  pointwise [k0_pay1]
  blk_point [iblk, V, idx t]

end Cert.Norm

end
-- ==== Proof.Loss.lean ====
/- The loss and its gradient: the three arrays that the call leaves are the reference's. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.StableHlo.Run

@[expose] public section

set_option maxHeartbeats 1000000
set_option maxRecDepth 16384

noncomputable section

open Idealize.ShloMosaic Idealize.ShloMosaic.TcCoe  Idealize.SL.Sem

namespace Cert.Loss
open Cert.Kernel6Ideal Cert.Kernel6Ideal.Gen Cert.Kernel6Ideal.Value

variable (m : (ℓ : Loc nD τ sig) → Buf (Elt Ideal) ℓ)

/-- Point t reads and writes the t-th block of rows; the loss is one number that all points add to. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The word of one half. -/
theorem half : Ideal.ofBits .f32 0x3F000000#32 = ((1 / 2 : ℝ) : EReal) := by
  simp [Ideal.ofBits, Ideal.ieee, -EReal.coe_mul]; norm_num

/-- The kernel multiplies a difference by 1/1024; the reference's two factors, (1/2)/1024 and 2, are that number. -/
theorem scale (d : EReal) : d * Ideal.ofBits .f32 0x3A800000#32
    = Ideal.div (Ideal.ofBits .f32 0x3F000000#32) (Ideal.ofBits .f32 0x44800000#32) * (Ideal.ofBits .f32 0x40000000#32 * d) := by
  have h2 : Ideal.ofBits .f32 0x40000000#32 = ((2 : ℝ) : EReal) := by simp [Ideal.ofBits, Ideal.ieee, -EReal.coe_mul]; norm_num
  have hk : Ideal.ofBits .f32 0x44800000#32 = ((1024 : ℝ) : EReal) := by simp [Ideal.ofBits, Ideal.ieee, -EReal.coe_mul]; norm_num
  have hi : Ideal.ofBits .f32 0x3A800000#32 = ((1 / 1024 : ℝ) : EReal) := by simp [Ideal.ofBits, Ideal.ieee, -EReal.coe_mul]; norm_num
  have hne : ((1024 : ℝ) : EReal) ≠ 0 := by exact_mod_cast (by norm_num : (1024 : ℝ) ≠ 0)
  rw [half, h2, hk, hi, Ideal.div, if_neg hne, ← EReal.coe_inv, ← EReal.coe_mul, ← mul_assoc, ← EReal.coe_mul, mul_comm]
  congr 2
  norm_num

/-- A half of a sum is the sum of the halves. -/
theorem half_sum {ι : Type} [DecidableEq ι] (s : Finset ι) (f : ι → EReal) :
    ∑ i ∈ s, Ideal.ofBits .f32 0x3F000000#32 * f i = Ideal.ofBits .f32 0x3F000000#32 * ∑ i ∈ s, f i := by
  induction s using Finset.induction_on with
  | empty => simp
  | insert a s ha ih =>
    rw [Finset.sum_insert ha, Finset.sum_insert ha, ih, half,
      EReal.left_distrib_of_nonneg_of_ne_top (by exact_mod_cast (by norm_num : (0 : ℝ) ≤ 1 / 2)) (EReal.coe_ne_top _)]

/-- What one point adds to the loss: half the sum over its rows of the mean square of the difference. -/
def part (a b : FVec Ideal S512x1024 .f32) : EReal := Ideal.ofBits .f32 0x3F000000#32 * ∑ r : Fin 512,
  Ideal.div (∑ e : Fin 1024, (a (Idealize.ShloMosaic.ix2 r e) - b (Idealize.ShloMosaic.ix2 r e)) * (a (Idealize.ShloMosaic.ix2 r e) - b (Idealize.ShloMosaic.ix2 r e)))
    (Ideal.ofBits .f32 0x44800000#32)

/-- The gradient's block at a point is one formula, whichever way the point goes. -/
theorem out2 (c : Dev nD) (t : Fin cfg0.N) : (outsAt0 m c t.val t.isLt).1 = k0_pay3 (F := Ideal) (iblk m c 0 t) (iblk m c 1 t) := by
  by_cases h0 : t.val % 16 = 0
  · rw [outsAt0_A m c t h0]; frame_out
  · rw [outsAt0_B m c t h0]; frame_out

/-- The rounded gradient's block at a point. -/
theorem out4 (c : Dev nD) (t : Fin cfg0.N) : (outsAt0 m c t.val t.isLt).2.2 = k0_pay4 (F := Ideal) (iblk m c 0 t) (iblk m c 1 t) := by
  by_cases h0 : t.val % 16 = 0
  · rw [outsAt0_A m c t h0]; frame_out
  · rw [outsAt0_B m c t h0]; frame_out

/-- The gradient after the run. -/
theorem final2 (c : Dev nD) : (dats m 0 c).arrAt 2 cfg0.N = Reference6Ideal.Read.val_main_v14 (F := Ideal)
    (m ((c.tc : Thread nD τ).loc main_arg0)) (m ((c.tc : Thread nD τ).loc main_arg1)) := by
  rw [← Reference6Ideal.Read.val_main_v14_eq]
  refine (dats m 0 c).arrAt_eq_of_covers 2 _ (by decide +kernel) fun t hf y => ?_
  blk_simp
  rw [after0_2, out2]
  pointwise [k0_pay3, k0_pay2]
  rw [← scale]
  blk_point [iblk, V, idx t]

/-- The rounded gradient after the run. -/
theorem final4 (c : Dev nD) : (dats m 0 c).arrAt 4 cfg0.N = Reference6Ideal.Read.val_main_v16 (F := Ideal)
    (m ((c.tc : Thread nD τ).loc main_arg0)) (m ((c.tc : Thread nD τ).loc main_arg1)) := by
  rw [← Reference6Ideal.Read.val_main_v16_eq]
  refine (dats m 0 c).arrAt_eq_of_covers 4 _ (by decide +kernel) fun t hf y => ?_
  blk_simp
  rw [after0_4, out4]
  pointwise [k0_pay4, k0_pay3, k0_pay2]
  rw [← scale]
  blk_point [iblk, V, idx t]

/-- The loss after the run. -/
theorem final3 (c : Dev nD) : (dats m 0 c).arrAt 3 cfg0.N = Reference6Ideal.Read.val_main_v15 (F := Ideal)
    (m ((c.tc : Thread nD τ).loc main_arg0)) (m ((c.tc : Thread nD τ).loc main_arg1)) := by
  rw [← Reference6Ideal.Read.val_main_v15_eq]
  refine (dats m 0 c).arrAt_eq_of_after_last 3 t0_15 (by decide +kernel) _ fun j => ?_
  blk_simp
  rw [after0_3, Pipeline.eq_sum_fin_of_reset_step_apply_last (fun n h => (outsAt0 m c n h).2.1) 16 (fun _ => 0)
    (fun t _ => part (iblk m c 0 t) (iblk m c 1 t))
    (fun t h i => by rw [outsAt0_A m c t h]; frame_out; pointwise [k0_pay5, k0_pay2, k0_pay1]; rfl)
    (fun t h i => by rw [outsAt0_B m c t h]; frame_out; pointwise [k0_pay5, k0_pay2]; rfl) (by decide) t0_15 rfl]
  pointwise
  refine (half_sum Finset.univ _).trans (congrArg (Ideal.ofBits .f32 0x3F000000#32 * ·) ?_)
  refine Fin.sum_mul_add_congr fun s k hl => ?_
  blk_point [iblk, V, idx s]

end Cert.Loss

end
-- ==== Proof.NormBack.lean ====
/- The norm's backward pass: the three arrays that the call leaves are the reference's. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.StableHlo.Run

@[expose] public section

set_option maxHeartbeats 1000000
set_option maxRecDepth 16384

noncomputable section

open Idealize.ShloMosaic Idealize.ShloMosaic.TcCoe Idealize.SL.Sem

namespace Cert.NormBack
open Cert.Kernel7Ideal Cert.Kernel7Ideal.Gen Cert.Kernel7Ideal.Value

variable (m : (ℓ : Loc nD τ sig) → Buf (Elt Ideal) ℓ)

/-- Point t reads and writes the t-th block of rows; the gain and its gradient are the same at every point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0] :=
  (by decide +kernel : ∀ t : Fin grid0.N, _)

/-- The rows' gradient at a point is one formula, whichever way the point goes. -/
theorem out4 (c : Dev nD) (t : Fin cfg0.N) : (outsAt0 m c t.val t.isLt).1 = k0_pay4 (F := Ideal) (iblk m c 1 t) (iblk m c 0 t) (iblk m c 2 t) (iblk m c 3 t) := by
  by_cases h0 : t.val % 16 = 0
  · rw [outsAt0_A m c t h0]; frame_out
  · rw [outsAt0_B m c t h0]; frame_out

/-- The rounded gradient at a point is one formula, whichever way the point goes. -/
theorem out6 (c : Dev nD) (t : Fin cfg0.N) : (outsAt0 m c t.val t.isLt).2.2 = k0_pay5 (F := Ideal) (iblk m c 1 t) (iblk m c 0 t) (iblk m c 2 t) (iblk m c 3 t) := by
  by_cases h0 : t.val % 16 = 0
  · rw [outsAt0_A m c t h0]; frame_out
  · rw [outsAt0_B m c t h0]; frame_out

/-- A negative half of a number, twice, is its negative. -/
theorem twice (z : EReal) : Ideal.ofBits .f32 0xBF000000#32 * z + Ideal.ofBits .f32 0xBF000000#32 * z = -z := by
  have h : Ideal.ofBits .f32 0xBF000000#32 = ((-(1 / 2) : ℝ) : EReal) := by simp [Ideal.ofBits, Ideal.ieee, -EReal.coe_mul]; norm_num
  rw [h]
  induction z using EReal.rec with
  | bot => rw [EReal.coe_mul_bot_of_neg (by norm_num)]; rfl
  | top => rw [EReal.coe_mul_top_of_neg (by norm_num)]; rfl
  | coe z => rw [← EReal.coe_mul, ← EReal.coe_add, ← EReal.coe_neg]; congr 1; ring

/-- The cube of a number's inverse root is that root over the number. -/
theorem cube (a : EReal) (h : 0 < a) : Ideal.div (Ideal.rsqrt a) a = Ideal.rsqrt a * Ideal.rsqrt a * Ideal.rsqrt a := by
  rw [Ideal.div, if_neg h.ne']
  induction a using EReal.rec with
  | bot => simp at h
  | top => exact (congrArg (· * (⊤ : EReal)⁻¹) (rfl : Ideal.rsqrt ⊤ = 0)).trans ((zero_mul _).trans (mul_zero _).symm)
  | coe a =>
    have ha : 0 < a := by exact_mod_cast h
    have hr : Ideal.rsqrt (a : EReal) = ((Real.sqrt a)⁻¹ : ℝ) := by
      rw [show Ideal.rsqrt (a : EReal) = if a < 0 then ⊥ else if a = 0 then ⊤ else (((Real.sqrt a)⁻¹ : ℝ) : EReal) from rfl, if_neg ha.le.not_gt, if_neg ha.ne']
    rw [hr, ← EReal.coe_inv, ← EReal.coe_mul, ← EReal.coe_mul, ← EReal.coe_mul]
    congr 1
    have := Real.mul_self_sqrt ha.le
    rw [show a⁻¹ = (Real.sqrt a)⁻¹ * (Real.sqrt a)⁻¹ by rw [← mul_inv, this], mul_assoc]

/-- The two equal terms through which the reference's mean reaches an element are the kernel's one. -/
theorem fold (x s a : EReal) (h : 0 < a) :
    x * Ideal.div (s * (Ideal.ofBits .f32 0xBF000000#32 * Ideal.div (Ideal.rsqrt a) a)) (Ideal.ofBits .f32 0x44800000#32)
      + Ideal.div (s * (Ideal.ofBits .f32 0xBF000000#32 * Ideal.div (Ideal.rsqrt a) a)) (Ideal.ofBits .f32 0x44800000#32) * x
    = -(x * (Ideal.rsqrt a * Ideal.rsqrt a * Ideal.rsqrt a) * Ideal.div s (Ideal.ofBits .f32 0x44800000#32)) := by
  have hk : Ideal.ofBits .f32 0x44800000#32 = ((1024 : ℝ) : EReal) := by simp [Ideal.ofBits, Ideal.ieee, -EReal.coe_mul]; norm_num
  have hne : Ideal.ofBits .f32 0x44800000#32 ≠ 0 := by rw [hk]; exact_mod_cast (by norm_num : (1024 : ℝ) ≠ 0)
  rw [cube a h, Ideal.div, Ideal.div, if_neg hne, if_neg hne, ← twice]
  congr 1 <;> ac_rfl

/-- A mean of squares and the norm's small number are together above zero. -/
theorem pos (f : Fin 1024 → EReal) : 0 < Ideal.div (∑ e, f e * f e) (Ideal.ofBits .f32 0x44800000#32) + Ideal.ofBits .f32 0x358637BD#32 := by
  have hk : Ideal.ofBits .f32 0x44800000#32 = ((1024 : ℝ) : EReal) := by simp [Ideal.ofBits, Ideal.ieee, -EReal.coe_mul]; norm_num
  have he : 0 < Ideal.ofBits .f32 0x358637BD#32 := by
    simp [Ideal.ofBits, Ideal.ieee, -EReal.coe_mul]
  have hne : Ideal.ofBits .f32 0x44800000#32 ≠ 0 := by rw [hk]; exact_mod_cast (by norm_num : (1024 : ℝ) ≠ 0)
  have hs : ∀ y : EReal, 0 ≤ y * y := fun y => by
    rcases le_total 0 y with h | h
    · exact mul_nonneg h h
    · rw [← neg_mul_neg]; exact mul_nonneg (by simpa using h) (by simpa using h)
  rw [Ideal.div, if_neg hne, hk, ← EReal.coe_inv]
  exact lt_of_lt_of_le he (le_add_of_nonneg_left (mul_nonneg (Finset.sum_nonneg fun e _ => hs _) (by exact_mod_cast (by norm_num : (0 : ℝ) ≤ 1024⁻¹))))

/-- A row's gradient: the reference's sum at an element is the kernel's. The row is f, its incoming gradient times the gain is u. -/
theorem law (f u : Fin 1024 → EReal) (d w x : EReal) :
    d + w * Ideal.rsqrt (Ideal.div (∑ e, f e * f e) (Ideal.ofBits .f32 0x44800000#32) + Ideal.ofBits .f32 0x358637BD#32)
      + x * Ideal.div ((∑ e, f e * u e) * (Ideal.ofBits .f32 0xBF000000#32 * Ideal.div
          (Ideal.rsqrt (Ideal.div (∑ e, f e * f e) (Ideal.ofBits .f32 0x44800000#32) + Ideal.ofBits .f32 0x358637BD#32))
          (Ideal.div (∑ e, f e * f e) (Ideal.ofBits .f32 0x44800000#32) + Ideal.ofBits .f32 0x358637BD#32))) (Ideal.ofBits .f32 0x44800000#32)
      + Ideal.div ((∑ e, f e * u e) * (Ideal.ofBits .f32 0xBF000000#32 * Ideal.div
          (Ideal.rsqrt (Ideal.div (∑ e, f e * f e) (Ideal.ofBits .f32 0x44800000#32) + Ideal.ofBits .f32 0x358637BD#32))
          (Ideal.div (∑ e, f e * f e) (Ideal.ofBits .f32 0x44800000#32) + Ideal.ofBits .f32 0x358637BD#32))) (Ideal.ofBits .f32 0x44800000#32) * x
    = d + (Ideal.rsqrt (Ideal.div (∑ e, f e * f e) (Ideal.ofBits .f32 0x44800000#32) + Ideal.ofBits .f32 0x358637BD#32) * w
      - x * (Ideal.rsqrt (Ideal.div (∑ e, f e * f e) (Ideal.ofBits .f32 0x44800000#32) + Ideal.ofBits .f32 0x358637BD#32)
          * Ideal.rsqrt (Ideal.div (∑ e, f e * f e) (Ideal.ofBits .f32 0x44800000#32) + Ideal.ofBits .f32 0x358637BD#32)
          * Ideal.rsqrt (Ideal.div (∑ e, f e * f e) (Ideal.ofBits .f32 0x44800000#32) + Ideal.ofBits .f32 0x358637BD#32))
        * Ideal.div (∑ e, u e * f e) (Ideal.ofBits .f32 0x44800000#32)) := by
  rw [add_assoc, fold _ _ _ (pos f), sub_eq_add_neg, add_assoc, mul_comm w, Finset.sum_congr rfl fun e _ => mul_comm (f e) (u e)]

open Cert.Reference7Ideal.Read in
/-- The rows' gradient after the run. -/
theorem final4 (c : Dev nD) : (dats m 0 c).arrAt 4 cfg0.N = Reference7Ideal.Read.val_main_v37 (F := Ideal)
    (m ((c.tc : Thread nD τ).loc main_arg0)) (m ((c.tc : Thread nD τ).loc main_arg1)) (m ((c.tc : Thread nD τ).loc main_arg2)) (m ((c.tc : Thread nD τ).loc main_arg3)) := by
  simp only [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  refine (dats m 0 c).arrAt_eq_of_covers 4 _ (by decide +kernel) fun t hf y => ?_
  blk_simp
  rw [after0_4, out4]
  pointwise [k0_pay4, k0_pay3]
  simp only [Fin.sum_univ_one]
  rw [law]
  blk_point [iblk, V, idx t]

open Cert.Reference7Ideal.Read in
/-- The rounded gradient of the rows after the run. -/
theorem final6 (c : Dev nD) : (dats m 0 c).arrAt 6 cfg0.N = Reference7Ideal.Read.val_main_v39 (F := Ideal)
    (m ((c.tc : Thread nD τ).loc main_arg0)) (m ((c.tc : Thread nD τ).loc main_arg1)) (m ((c.tc : Thread nD τ).loc main_arg2)) (m ((c.tc : Thread nD τ).loc main_arg3)) := by
  simp only [val_main_v39, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  refine (dats m 0 c).arrAt_eq_of_covers 6 _ (by decide +kernel) fun t hf y => ?_
  blk_simp
  rw [after0_6, out6]
  pointwise [k0_pay5, k0_pay4, k0_pay3]
  simp only [Fin.sum_univ_one]
  rw [law]
  blk_point [iblk, V, idx t]

/-- The reference multiplies by the incoming gradient last. -/
theorem swap (a x r : EReal) : a * x * r = x * r * a := by rw [mul_assoc, mul_comm]

/-- What one point adds to the gain's gradient: over its rows the sum of the incoming gradient, the row and the inverse root. -/
def part (a x : FVec Ideal S512x1024 .f32) (j : Fin 1024) : EReal := ∑ r : Fin 512,
  a (ix2 r j) * x (ix2 r j) * Ideal.rsqrt (Ideal.div (∑ e : Fin 1024, x (ix2 r e) * x (ix2 r e)) (Ideal.ofBits .f32 0x44800000#32) + Ideal.ofBits .f32 0x358637BD#32)

open Cert.Reference7Ideal.Read in
/-- The gain's gradient after the run. -/
theorem final5 (c : Dev nD) : (dats m 0 c).arrAt 5 cfg0.N = Reference7Ideal.Read.val_main_v38 (F := Ideal)
    (m ((c.tc : Thread nD τ).loc main_arg0)) (m ((c.tc : Thread nD τ).loc main_arg1)) := by
  rw [← Reference7Ideal.Read.val_main_v38_eq]
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0)
    (fun t i => part (iblk m c 0 t) (iblk m c 1 t) (i 1))
    (fun t h i => by rw [outsAt0_A m c t h]; frame_out; pointwise [k0_pay1, k0_pay3, k0_pay2]; rfl)
    (fun t h i => by rw [outsAt0_B m c t h]; frame_out; pointwise [k0_pay1, k0_pay3]; rfl) (by decide) t0_15 rfl]
  pointwise
  simp only [Fin.sum_univ_one]
  refine Fin.sum_mul_add_congr fun s k hl => ?_
  refine (swap _ _ _).trans ?_
  blk_point [iblk, V, idx s]

end Cert.NormBack

end
-- ==== Proof.Short.lean ====
/- The short convolution's forward pass: the rows that the call leaves are the reference's. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.StableHlo.Run

@[expose] public section

set_option maxHeartbeats 1000000
set_option maxRecDepth 16384

noncomputable section

open Idealize.ShloMosaic Idealize.ShloMosaic.TcCoe Idealize.SL.Sem

namespace Cert.Short
open Cert.Kernel8Ideal Cert.Kernel8Ideal.Gen Cert.Kernel8Ideal.Value

variable (m : (ℓ : Loc nD τ sig) → Buf (Elt Ideal) ℓ)

/-- Point t reads and writes the t-th block of rows, and reads the eight rows before it; the weights are the same at every point. -/
theorem idx : ∀ t : Fin cfg0.N, win0_0.index t = ![t.val, 0] ∧ win0_1.index t = ![t.val * 64 - 1, 0] ∧ win0_2.index t = ![0, 0]
    ∧ win0_3.index t = ![t.val, 0] :=
  (by decide +kernel : ∀ t : Fin grid0.N, _)

/-- The product of the two gated parts at row r of the rows with eight empty rows before them. -/
def gated (x : FVec Ideal S8192x768 .f32) (r : Nat) (j : Fin 256) : EReal :=
  if h : 8 ≤ r ∧ r - 8 < 8192 then x (ix2 ⟨r - 8, h.2⟩ ⟨256 + j.val, by omega⟩) * x (ix2 ⟨r - 8, h.2⟩ ⟨512 + j.val, by omega⟩) else 0

/-- The reference has two empty rows, not eight. -/
theorem gated_two (x : FVec Ideal S8192x768 .f32) (n : Nat) (j : Fin 256) : gated x (n + 6) j
    = if h : 2 ≤ n ∧ n - 2 < 8192 then x (ix2 ⟨n - 2, h.2⟩ ⟨256 + j.val, by omega⟩) * x (ix2 ⟨n - 2, h.2⟩ ⟨512 + j.val, by omega⟩)
      else FloatOps.sitofp (F := Ideal) .f32 0#32 := by
  have hz : FloatOps.sitofp (F := Ideal) .f32 0#32 = 0 := by show (((0#32).toInt : ℝ) : EReal) = 0; simp
  have hn : n + 6 - 8 = n - 2 := by omega
  unfold gated
  by_cases h : 2 ≤ n ∧ n - 2 < 8192
  · rw [dif_pos h, dif_pos (by omega)]; simp only [hn]
  · rw [dif_neg h, dif_neg (by omega), hz]

/-- A row that is there. -/
theorem gated_in (x : FVec Ideal S8192x768 .f32) (n : Fin 8192) (j : Fin 256) : gated x (n.val + 8) j
    = x (ix2 n ⟨256 + j.val, by omega⟩) * x (ix2 n ⟨512 + j.val, by omega⟩) := by
  unfold gated
  rw [dif_pos ⟨by omega, by omega⟩]
  simp only [Nat.add_sub_cancel]

/-- The reference at an element: three taps. -/
theorem ref_apply (x : FVec Ideal S8192x768 .f32) (w : FVec Ideal S8x256 .f32) (R : Fin 8192) (j : Fin 256) :
    Reference8Ideal.Read.val_main_v28 (F := Ideal) x w (ix2 R j) = x (ix2 R ⟨j.val, by omega⟩) *
      (w (ix2 0 j) * gated x (R.val + 6) j + w (ix2 1 j) * gated x (1 + R.val + 6) j + w (ix2 2 j) * gated x (R.val + 8) j) := by
  rw [gated_two, gated_two, gated_in, ← Reference8Ideal.Read.val_main_v28_eq]
  pointwise

/-- Only the first point has no rows before its own. -/
theorem first : ∀ t : Fin cfg0.N, Scalar.cmpi .sgt (BitVec.ofNat 32 ((grid0.coords t) 0).val) 0#32 = if t.val = 0 then 0#1 else 1#1 :=
  (by decide +kernel : ∀ t : Fin grid0.N, _)

/-- What the body stores of its own rows. -/
theorem own (c : Dev nD) (t : Fin cfg0.N) (ht : t.val < 16) (x : S512x256.Idx) (h0 : (x 0).val < 512) (h1 : (x 1).val < 256) :
    k0_pay2 (F := Ideal) (iblk m c 0 t) x = gated (m ((c.tc : Thread nD τ).loc main_arg0)) (t.val * 512 + (x 0).val + 8) ⟨(x 1).val, h1⟩ := by
  rw [gated_in _ ⟨t.val * 512 + (x 0).val, by omega⟩]
  pointwise [k0_pay2]
  blk_point [iblk, V, idx t]

/-- What it stores of the eight rows before them. -/
theorem before (c : Dev nD) (t : Fin cfg0.N) (ht : t.val < 16) (x : S8x256.Idx) (h0 : (x 0).val < 8) (h1 : (x 1).val < 256) :
    k0_pay3 (F := Ideal) (grid0.coords t) (iblk m c 1 t) x = gated (m ((c.tc : Thread nD τ).loc main_arg0)) (t.val * 512 + (x 0).val) ⟨(x 1).val, h1⟩ := by
  by_cases hz : t.val = 0
  · unfold gated
    rw [dif_neg (by omega)]
    pointwise [k0_pay3]
    simp [first t, hz, Scalar.select]
  · have e : t.val * 512 + (x 0).val = (⟨(t.val * 64 - 1) * 8 + (x 0).val, by omega⟩ : Fin 8192).val + 8 := by
      show _ = (t.val * 64 - 1) * 8 + (x 0).val + 8
      omega
    rw [e, gated_in]
    pointwise [k0_pay3]
    simp only [first t, if_neg hz]
    rw [show ∀ a b : EReal, Scalar.select 1#1 a b = a from fun _ _ => rfl]
    blk_point [iblk, V, idx t]

/-- What the body loads of its scratch rows: from row o of the point's rows with the eight before them. -/
theorem ext (c : Dev nD) (t : Fin cfg0.N) (o : Nat) (ho : o ≤ 8)
    (inb : ∀ a, (![o, 0] : Fin 2 → Nat) a + (![512, 256] : Fin 2 → Nat) a ≤ S520x256.size a) (y : S512x256.Idx) :
    (View.whole cc0_scratch0).readCov (Val := Elt Ideal) [⟨Rect.unit ![0, 0] ![8, 256] inb_S520x256_S8x256_0_0, k0_pay3 (F := Ideal) (grid0.coords t) (iblk m c 1 t)⟩,
        ⟨Rect.unit ![8, 0] ![512, 256] inb_S520x256_S512x256_8_0, k0_pay2 (F := Ideal) (iblk m c 0 t)⟩]
      (Rect.unit (s := S520x256) ![o, 0] ![512, 256] inb).toLoadRect y
    = gated (m ((c.tc : Thread nD τ).loc main_arg0)) (t.val * 512 + (o + (y 0).val)) (y 1) := by
  have ht : t.val < 16 := t.isLt
  have hy0 : (y 0).val < 512 := (y 0).isLt
  have hy1 : (y 1).val < 256 := (y 1).isLt
  rw [View.readCov_eq_canon']
  refine (View.canon_apply_of_pieces (fun i : S520x256.Idx => gated (m ((c.tc : Thread nD τ).loc main_arg0)) (t.val * 512 + (i 0).val) (i 1)) _ ?_ _ ?_).trans ?_
  · intro p hp x
    simp only [List.mem_cons, List.not_mem_nil, or_false] at hp
    rcases hp with rfl | rfl
    · have h0 : (x 0).val < 8 := (x 0).isLt
      have h1 : (x 1).val < 256 := (x 1).isLt
      refine (before m c t ht x h0 h1).trans ?_
      show _ = gated _ (t.val * 512 + (0 + 1 * (x 0).val)) ⟨0 + 1 * (x 1).val, _⟩
      simp only [one_mul, Nat.zero_add]
    · have h0 : (x 0).val < 512 := (x 0).isLt
      have h1 : (x 1).val < 256 := (x 1).isLt
      refine (own m c t ht x h0 h1).trans ?_
      show _ = gated _ (t.val * 512 + (8 + 1 * (x 0).val)) ⟨0 + 1 * (x 1).val, _⟩
      rw [show t.val * 512 + (8 + 1 * (x 0).val) = t.val * 512 + (x 0).val + 8 by omega]
      simp only [one_mul, Nat.zero_add]
  · by_cases h : o + (y 0).val < 8
    · refine ⟨_, List.mem_cons_self, (Rect.mem_set_unit (inb := inb_S520x256_S8x256_0_0)).mpr fun a => ?_⟩
      fin_cases a
      · exact ⟨Nat.zero_le _, by show o + 1 * (y 0).val < 0 + 8; omega⟩
      · exact ⟨Nat.zero_le _, by show 0 + 1 * (y 1).val < 0 + 256; omega⟩
    · refine ⟨_, List.mem_cons_of_mem _ List.mem_cons_self, (Rect.mem_set_unit (inb := inb_S520x256_S512x256_8_0)).mpr fun a => ?_⟩
      fin_cases a
      · exact ⟨by show 8 ≤ o + 1 * (y 0).val; omega, by show o + 1 * (y 0).val < 8 + 512; omega⟩
      · exact ⟨Nat.zero_le _, by show 0 + 1 * (y 1).val < 0 + 256; omega⟩
  · show gated _ (t.val * 512 + (o + 1 * (y 0).val)) ⟨0 + 1 * (y 1).val, _⟩ = _
    simp only [one_mul, Nat.zero_add]
    rfl

/-- The rows after the run. -/
theorem final (c : Dev nD) : (dats m 0 c).arrAt 3 cfg0.N = Reference8Ideal.Read.val_main_v28 (F := Ideal)
    (m ((c.tc : Thread nD τ).loc main_arg0)) (m ((c.tc : Thread nD τ).loc main_arg1)) := by
  refine (dats m 0 c).arrAt_eq_of_covers 3 _ (by decide +kernel) fun t hf y => ?_
  blk_simp
  rw [after0_3, outsAt0]
  frame_out
  pointwise [k0_pay1, k0_pay4, k0_pay5]
  rw [ext m c t 6 (by omega), ext m c t 7 (by omega), ext m c t 8 (by omega)]
  have ht : t.val < 16 := t.isLt
  have hy0 : (y 0).val < 512 := (y 0).isLt
  have hy1 : (y 1).val < 256 := (y 1).isLt
  have he : ((View.whole main_v0).slice (win0_3.rect t)).emb y = ix2 (⟨t.val * 512 + (y 0).val, by omega⟩ : Fin 8192) (⟨(y 1).val, hy1⟩ : Fin 256) := by
    funext a
    refine Fin.ext ?_
    fin_cases a
    · refine (Pipeline.Window.rect_emb_val win0_3 t y 0 rfl).trans ?_
      rw [(idx t).2.2.2]
      rfl
    · refine (Pipeline.Window.rect_emb_val win0_3 t y 1 rfl).trans ?_
      rw [(idx t).2.2.2]
      exact Nat.zero_add _
  rw [he, ref_apply]
  rw [show t.val * 512 + (6 + (y 0).val) = t.val * 512 + (y 0).val + 6 by omega,
    show t.val * 512 + (7 + (y 0).val) = 1 + (t.val * 512 + (y 0).val) + 6 by omega,
    show t.val * 512 + (8 + (y 0).val) = t.val * 512 + (y 0).val + 8 by omega]
  blk_point [iblk, V, idx t]

end Cert.Short

end
-- ==== Proof.SmallClaims.lean ====
/- The claims about the step of AdamW, the norm and its backward pass, the loss and the short convolution: each call's results are the reference's. -/
module

public import proofs.«01_k».proof.Proof.Adam
public import proofs.«01_k».proof.Proof.Norm
public import proofs.«01_k».proof.Proof.Loss
public import proofs.«01_k».proof.Proof.NormBack
public import proofs.«01_k».proof.Proof.Short

@[expose] public section

set_option maxHeartbeats 1000000

noncomputable section

open Idealize.ShloMosaic Idealize.ShloMosaic.TcCoe Idealize.SL.Sem

namespace Cert.Adam

/-- The reference of the optimiser's step runs, its arguments end unchanged and every semaphore is zero. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- From memories that agree on the arguments the call and its reference end with the same step and the same moments. -/
theorem algebraic : Cert.algebraic_Kernel4Ideal_Reference4Ideal := by
  intro m g m' g' _ hag
  refine ⟨_, _, _, (θ_run Cert.Kernel4Ideal.defs _ _).mono (fun r h c => ⟨(h c).1.trans (final4 m c), (h c).2.1.trans (final5 m c), (h c).2.2.1.trans (final6 m c), (h c).2.2.2⟩)
    (Cert.Kernel4Ideal.Value.run_blocks m g), ?_⟩
  refine (θ_run Cert.Reference4Ideal.defs _ _).mono (fun r h c => ?_) (Cert.Reference4Ideal.Value.run (F := Ideal) m' g')
  obtain ⟨h0, h1, h2, hargs⟩ := h c
  obtain ⟨e0, e1, e2, e3⟩ := hag c
  have k0 := h0.trans (Reference4Ideal.Read.val_main_v23_eq (F := Ideal) _ _ _ _)
  rw [e0, e1, e2, e3] at k0
  have k1 := h1.trans (Reference4Ideal.Read.val_main_v4_eq (F := Ideal) _ _)
  rw [e1, e2] at k1
  have k2 := h2.trans (Reference4Ideal.Read.val_main_v10_eq (F := Ideal) _ _)
  rw [e1, e3] at k2
  exact ⟨k0, k1, k2, hargs⟩

end Cert.Adam

namespace Cert.Norm

/-- The norm's reference runs, its arguments end unchanged and every semaphore is zero. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From memories that agree on the arguments the call and its reference end with the same rows. -/
theorem algebraic : Cert.algebraic_Kernel5Ideal_Reference5Ideal := by
  intro m g m' g' _ hag
  refine ⟨_, (θ_run Cert.Kernel5Ideal.defs _ _).mono (fun r h c => ⟨(h c).1.trans (final m c), (h c).2⟩)
    (Cert.Kernel5Ideal.Value.run_blocks m g), ?_⟩
  refine (θ_run Cert.Reference5Ideal.defs _ _).mono (fun r h c => ?_) (Cert.Reference5Ideal.Value.run (F := Ideal) m' g')
  obtain ⟨h0, hargs⟩ := h c
  obtain ⟨e0, e1⟩ := hag c
  have k0 := h0.trans (Reference5Ideal.Read.val_main_v14_eq (F := Ideal) _ _)
  rw [e0, e1] at k0
  exact ⟨k0, hargs⟩

end Cert.Norm

namespace Cert.Loss

/-- The loss's reference runs, its arguments end unchanged and every semaphore is zero. -/
theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- From memories that agree on the arguments the call and its reference end with the same gradient and the same loss. -/
theorem algebraic : Cert.algebraic_Kernel6Ideal_Reference6Ideal := by
  intro m g m' g' _ hag
  refine ⟨_, _, _, (θ_run Cert.Kernel6Ideal.defs _ _).mono (fun r h c => ⟨(h c).1.trans (final2 m c), (h c).2.1.trans (final3 m c), (h c).2.2.1.trans (final4 m c), (h c).2.2.2⟩)
    (Cert.Kernel6Ideal.Value.run_blocks m g), ?_⟩
  refine (θ_run Cert.Reference6Ideal.defs _ _).mono (fun r h c => ?_) (Cert.Reference6Ideal.Value.run (F := Ideal) m' g')
  obtain ⟨h0, h1, h2, hargs⟩ := h c
  obtain ⟨e0, e1⟩ := hag c
  have k0 := h0.trans (Reference6Ideal.Read.val_main_v14_eq (F := Ideal) _ _)
  have k1 := h1.trans (Reference6Ideal.Read.val_main_v15_eq (F := Ideal) _ _)
  have k2 := h2.trans (Reference6Ideal.Read.val_main_v16_eq (F := Ideal) _ _)
  rw [e0, e1] at k0 k1 k2
  exact ⟨k0, k1, k2, hargs⟩

end Cert.Loss

namespace Cert.NormBack

/-- The reference of the norm's backward pass runs, its arguments end unchanged and every semaphore is zero. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- From memories that agree on the arguments the call and its reference end with the same gradients. -/
theorem algebraic : Cert.algebraic_Kernel7Ideal_Reference7Ideal := by
  intro m g m' g' _ hag
  refine ⟨_, _, _, (θ_run Cert.Kernel7Ideal.defs _ _).mono (fun r h c => ⟨(h c).1.trans (final4 m c), (h c).2.1.trans (final5 m c), (h c).2.2.1.trans (final6 m c), (h c).2.2.2⟩)
    (Cert.Kernel7Ideal.Value.run_blocks m g), ?_⟩
  refine (θ_run Cert.Reference7Ideal.defs _ _).mono (fun r h c => ?_) (Cert.Reference7Ideal.Value.run (F := Ideal) m' g')
  obtain ⟨h0, h1, h2, hargs⟩ := h c
  obtain ⟨e0, e1, e2, e3⟩ := hag c
  have k0 := h0.trans (Reference7Ideal.Read.val_main_v37_eq (F := Ideal) m' c)
  rw [e0, e1, e2, e3] at k0
  have k1 := h1.trans (Reference7Ideal.Read.val_main_v38_eq (F := Ideal) _ _)
  rw [e0, e1] at k1
  have k2 := h2.trans (Reference7Ideal.Read.val_main_v39_eq (F := Ideal) m' c)
  rw [e0, e1, e2, e3] at k2
  exact ⟨k0, k1, k2, hargs⟩

end Cert.NormBack

namespace Cert.Short

/-- The short convolution's reference runs, its arguments end unchanged and every semaphore is zero. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From memories that agree on the arguments the call and its reference end with the same rows. -/
theorem algebraic : Cert.algebraic_Kernel8Ideal_Reference8Ideal := by
  intro m g m' g' _ hag
  refine ⟨_, (θ_run Cert.Kernel8Ideal.defs _ _).mono (fun r h c => ⟨(h c).1.trans (final m c), (h c).2⟩)
    (Cert.Kernel8Ideal.Value.run_blocks m g), ?_⟩
  refine (θ_run Cert.Reference8Ideal.defs _ _).mono (fun r h c => ?_) (Cert.Reference8Ideal.Value.run (F := Ideal) m' g')
  obtain ⟨h0, hargs⟩ := h c
  obtain ⟨e0, e1⟩ := hag c
  have k0 := h0.trans (Reference8Ideal.Read.val_main_v28_eq (F := Ideal) _ _)
  rw [e0, e1] at k0
  exact ⟨k0, hargs⟩

end Cert.Short

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MergeClaims
public import proofs.«01_k».proof.Proof.FfnClaims
public import proofs.«01_k».proof.Proof.FfnBits
public import proofs.«01_k».proof.Proof.ProjClaims
public import proofs.«01_k».proof.Proof.ProjBits
public import proofs.«01_k».proof.Proof.SmallClaims
public import Idealize.ShloMosaic.Adequacy
public import Idealize.ShloMosaic.Init

@[expose] public section

noncomputable section

namespace Cert.Proof

open Idealize.ShloMosaic Idealize.SL.Sem Cert.Kernel

/-- The frames of the kernels, their idealizations and the references, the idealizations' ledgers, and the equality with the references of
    the merge's backward pass, of the feed-forward block's passes, of the input products' passes, of the output weight's step of AdamW,
    of the norm and its backward pass, of the loss and of the short convolution. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Ffn.pre_facts,
  fun m ρ _ => Cert.Kernel.Gen.frame m ρ, fun m ρ _ => Cert.KernelIdeal.Gen.frame m ρ, Cert.MergeClaims.frame_reference,
  Cert.Ffn.frame_kernel, Cert.Ffn.frame_ideal, Cert.Ffn.frame_ideal_pre, Cert.Ffn.frame_reference, Cert.Ffn.frame_reference_pre,
  Cert.Proj.frame_kernel, Cert.Proj.frame_ideal, Cert.Proj.frame_reference,
  fun m ρ _ => Cert.Kernel4.Gen.frame m ρ, fun m ρ _ => Cert.Kernel4Ideal.Gen.frame m ρ, Cert.Adam.frame_reference,
  fun m ρ _ => Cert.Kernel5.Gen.frame m ρ, fun m ρ _ => Cert.Kernel5Ideal.Gen.frame m ρ, Cert.Norm.frame_reference,
  fun m ρ _ => Cert.Kernel6.Gen.frame m ρ, fun m ρ _ => Cert.Kernel6Ideal.Gen.frame m ρ, Cert.Loss.frame_reference,
  fun m ρ _ => Cert.Kernel7.Gen.frame m ρ, fun m ρ _ => Cert.Kernel7Ideal.Gen.frame m ρ, Cert.NormBack.frame_reference,
  fun m ρ _ => Cert.Kernel8.Gen.frame m ρ, fun m ρ _ => Cert.Kernel8Ideal.Gen.frame m ρ, Cert.Short.frame_reference,
  trivial, Cert.MergeClaims.algebraic, trivial, Cert.Ffn.algebraic, trivial, Cert.Proj.algebraic,
  trivial, Cert.Adam.algebraic, trivial, Cert.Norm.algebraic, trivial, Cert.Loss.algebraic,
  trivial, Cert.NormBack.algebraic, trivial, Cert.Short.algebraic⟩

end Cert.Proof

end
